-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v55) = v0 c
          ∧ r.2.mem ((c.tc : Thread Cert.Reference31Ideal.nD Cert.Reference31Ideal.τ).loc Cert.Reference31Ideal.main_v31) = v1 c
          ∧ r.2.mem ((c.tc : Thread Cert.Reference31Ideal.nD Cert.Reference31Ideal.τ).loc Cert.Reference31Ideal.main_v28) = v2 c
          ∧ r.2.mem ((c.tc : Thread Cert.Reference31Ideal.nD Cert.Reference31Ideal.τ).loc Cert.Reference31Ideal.main_v56) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)) (v4 : (c : Dev Cert.Kernel32Ideal.nD) → Buf (Elt Ideal) ((c.tc : Thread Cert.Kernel32Ideal.nD Cert.Kernel32Ideal.τ).loc Cert.Kernel32Ideal.main_v0_4)) (v5 : (c : Dev Cert.Kernel32Ideal.nD) → Buf (Elt Ideal) ((c.tc : Thread Cert.Kernel32Ideal.nD Cert.Kernel32Ideal.τ).loc Cert.Kernel32Ideal.main_v0_5)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_v0_4) = v4 c
          ∧ r.2.mem ((c.tc : Thread Cert.Kernel32Ideal.nD Cert.Kernel32Ideal.τ).loc Cert.Kernel32Ideal.main_v0_5) = v5 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v65) = v0 c
          ∧ r.2.mem ((c.tc : Thread Cert.Reference32Ideal.nD Cert.Reference32Ideal.τ).loc Cert.Reference32Ideal.main_v67) = v1 c
          ∧ r.2.mem ((c.tc : Thread Cert.Reference32Ideal.nD Cert.Reference32Ideal.τ).loc Cert.Reference32Ideal.main_v64) = v2 c
          ∧ r.2.mem ((c.tc : Thread Cert.Reference32Ideal.nD Cert.Reference32Ideal.τ).loc Cert.Reference32Ideal.main_v34) = v3 c
          ∧ r.2.mem ((c.tc : Thread Cert.Reference32Ideal.nD Cert.Reference32Ideal.τ).loc Cert.Reference32Ideal.main_v31) = v4 c
          ∧ r.2.mem ((c.tc : Thread Cert.Reference32Ideal.nD Cert.Reference32Ideal.τ).loc Cert.Reference32Ideal.main_v68) = v5 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)) (v2 : (c : Dev Cert.Kernel33Ideal.nD) → Buf (Elt Ideal) ((c.tc : Thread Cert.Kernel33Ideal.nD Cert.Kernel33Ideal.τ).loc Cert.Kernel33Ideal.main_v1_2)) (v3 : (c : Dev Cert.Kernel33Ideal.nD) → Buf (Elt Ideal) ((c.tc : Thread Cert.Kernel33Ideal.nD Cert.Kernel33Ideal.τ).loc Cert.Kernel33Ideal.main_v1_3)) (v4 : (c : Dev Cert.Kernel33Ideal.nD) → Buf (Elt Ideal) ((c.tc : Thread Cert.Kernel33Ideal.nD Cert.Kernel33Ideal.τ).loc Cert.Kernel33Ideal.main_v1_4)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_v1_2) = v2 c
          ∧ r.2.mem ((c.tc : Thread Cert.Kernel33Ideal.nD Cert.Kernel33Ideal.τ).loc Cert.Kernel33Ideal.main_v1_3) = v3 c
          ∧ r.2.mem ((c.tc : Thread Cert.Kernel33Ideal.nD Cert.Kernel33Ideal.τ).loc Cert.Kernel33Ideal.main_v1_4) = v4 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v83) = v0 c
          ∧ r.2.mem ((c.tc : Thread Cert.Reference33Ideal.nD Cert.Reference33Ideal.τ).loc Cert.Reference33Ideal.main_v85) = v1 c
          ∧ r.2.mem ((c.tc : Thread Cert.Reference33Ideal.nD Cert.Reference33Ideal.τ).loc Cert.Reference33Ideal.main_v62) = v2 c
          ∧ r.2.mem ((c.tc : Thread Cert.Reference33Ideal.nD Cert.Reference33Ideal.τ).loc Cert.Reference33Ideal.main_v86) = v3 c
          ∧ r.2.mem ((c.tc : Thread Cert.Reference33Ideal.nD Cert.Reference33Ideal.τ).loc Cert.Reference33Ideal.main_v82) = v4 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)) →
    ∃ (v0 : (c : Dev Cert.Kernel34Ideal.nD) → Buf (Elt Ideal) ((c.tc : Thread Cert.Kernel34Ideal.nD Cert.Kernel34Ideal.τ).loc Cert.Kernel34Ideal.main_v8_0)) (v1 : (c : Dev Cert.Kernel34Ideal.nD) → Buf (Elt Ideal) ((c.tc : Thread Cert.Kernel34Ideal.nD Cert.Kernel34Ideal.τ).loc Cert.Kernel34Ideal.main_v8_1)) (v2 : (c : Dev Cert.Kernel34Ideal.nD) → Buf (Elt Ideal) ((c.tc : Thread Cert.Kernel34Ideal.nD Cert.Kernel34Ideal.τ).loc Cert.Kernel34Ideal.main_v8_2)) (v3 : (c : Dev Cert.Kernel34Ideal.nD) → Buf (Elt Ideal) ((c.tc : Thread Cert.Kernel34Ideal.nD Cert.Kernel34Ideal.τ).loc Cert.Kernel34Ideal.main_v8_3)) (v4 : (c : Dev Cert.Kernel34Ideal.nD) → Buf (Elt Ideal) ((c.tc : Thread Cert.Kernel34Ideal.nD Cert.Kernel34Ideal.τ).loc Cert.Kernel34Ideal.main_v8_4)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v8_0) = v0 c
          ∧ r.2.mem ((c.tc : Thread Cert.Kernel34Ideal.nD Cert.Kernel34Ideal.τ).loc Cert.Kernel34Ideal.main_v8_1) = v1 c
          ∧ r.2.mem ((c.tc : Thread Cert.Kernel34Ideal.nD Cert.Kernel34Ideal.τ).loc Cert.Kernel34Ideal.main_v8_2) = v2 c
          ∧ r.2.mem ((c.tc : Thread Cert.Kernel34Ideal.nD Cert.Kernel34Ideal.τ).loc Cert.Kernel34Ideal.main_v8_3) = v3 c
          ∧ r.2.mem ((c.tc : Thread Cert.Kernel34Ideal.nD Cert.Kernel34Ideal.τ).loc Cert.Kernel34Ideal.main_v8_4) = v4 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v136) = v0 c
          ∧ r.2.mem ((c.tc : Thread Cert.Reference34Ideal.nD Cert.Reference34Ideal.τ).loc Cert.Reference34Ideal.main_v129) = v1 c
          ∧ r.2.mem ((c.tc : Thread Cert.Reference34Ideal.nD Cert.Reference34Ideal.τ).loc Cert.Reference34Ideal.main_v139) = v2 c
          ∧ r.2.mem ((c.tc : Thread Cert.Reference34Ideal.nD Cert.Reference34Ideal.τ).loc Cert.Reference34Ideal.main_v140) = v3 c
          ∧ r.2.mem ((c.tc : Thread Cert.Reference34Ideal.nD Cert.Reference34Ideal.τ).loc Cert.Reference34Ideal.main_v141) = v4 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Kernel.lean ====
abbrev S8192x512 : Shape := ⟨2, ![8192, 512]⟩
abbrev S1x512 : Shape := ⟨2, ![1, 512]⟩
abbrev S32x64 : Shape := ⟨2, ![32, 64]⟩
abbrev S32x1024 : Shape := ⟨2, ![32, 1024]⟩
abbrev S32x16x64 : Shape := ⟨3, ![32, 16, 64]⟩
abbrev S8x8 : Shape := ⟨2, ![8, 8]⟩
abbrev S_ : Shape := ⟨0, ![]⟩
abbrev S4x8x64x16 : Shape := ⟨4, ![4, 8, 64, 16]⟩
abbrev S1x8x1x8x1 : Shape := ⟨5, ![1, 8, 1, 8, 1]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S2048 : Shape := ⟨1, ![2048]⟩
abbrev S1x2048 : Shape := ⟨2, ![1, 2048]⟩
abbrev S2x2048 : Shape := ⟨2, ![2, 2048]⟩
abbrev S4x8x2x2048 : Shape := ⟨4, ![4, 8, 2, 2048]⟩
abbrev S8192x4096 : Shape := ⟨2, ![8192, 4096]⟩
abbrev S256x512 : Shape := ⟨2, ![256, 512]⟩
abbrev S1x1x2x2048 : Shape := ⟨4, ![1, 1, 2, 2048]⟩
abbrev S256x4096 : Shape := ⟨2, ![256, 4096]⟩
abbrev S8x2048 : Shape := ⟨2, ![8, 2048]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S8x512 : Shape := ⟨2, ![8, 512]⟩
abbrev S1x1024x128 : Shape := ⟨3, ![1, 1024, 128]⟩
abbrev S1024x128 : Shape := ⟨2, ![1024, 128]⟩
abbrev S512 : Shape := ⟨1, ![512]⟩
abbrev S8x4096 : Shape := ⟨2, ![8, 4096]⟩
abbrev S1x4096 : Shape := ⟨2, ![1, 4096]⟩
abbrev S1x1x1x512 : Shape := ⟨4, ![1, 1, 1, 512]⟩

abbrev nBuf : Space → Nat
  | .hbm => 110
  | .vmem => 37
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S32x64, .f32⟩
  | .hbm, ⟨4, _⟩ => ⟨S32x64, .f32⟩
  | .hbm, ⟨5, _⟩ => ⟨S32x1024, .f32⟩
  | .hbm, ⟨6, _⟩ => ⟨S32x1024, .f32⟩
  | .hbm, ⟨7, _⟩ => ⟨S32x16x64, .f32⟩
  | .hbm, ⟨8, _⟩ => ⟨S32x16x64, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S4x8x64x16, .f32⟩
  | .hbm, ⟨17, _⟩ => ⟨S1x8x1x8x1, .f32⟩
  | .hbm, ⟨18, _⟩ => ⟨S4x8x16x64, .f32⟩
  | .hbm, ⟨19, _⟩ => ⟨S4x8x16x1x64, .f32⟩
  | .hbm, ⟨20, _⟩ => ⟨S4x8x16x8x64, .f32⟩
  | .hbm, ⟨21, _⟩ => ⟨S4x8x16x8x64, .f32⟩
  | .hbm, ⟨22, _⟩ => ⟨S4x8x16x8x64, .f32⟩
  | .hbm, ⟨23, _⟩ => ⟨S4x128x512, .f32⟩
  | .hbm, ⟨24, _⟩ => ⟨S4x8x64x16, .f32⟩
  | .hbm, ⟨25, _⟩ => ⟨S1x8x1x8x1, .f32⟩
  | .hbm, ⟨26, _⟩ => ⟨S4x8x16x64, .f32⟩
  | .hbm, ⟨27, _⟩ => ⟨S4x8x16x1x64, .f32⟩
  | .hbm, ⟨28, _⟩ => ⟨S4x8x16x8x64, .f32⟩
  | .hbm, ⟨29, _⟩ => ⟨S4x8x16x8x64, .f32⟩
  | .hbm, ⟨30, _⟩ => ⟨S4x8x16x8x64, .f32⟩
  | .hbm, ⟨31, _⟩ => ⟨S4x128x512, .f32⟩
  | .hbm, ⟨32, _⟩ => ⟨S4x128x1024, .f32⟩
  | .hbm, ⟨33, _⟩ => ⟨S4x128x1024, .bf16⟩
  | .hbm, ⟨34, _⟩ => ⟨S4x8x16x64, .f32⟩
  | .hbm, ⟨35, _⟩ => ⟨S1x8x1x8x1, .f32⟩
  | .hbm, ⟨36, _⟩ => ⟨S4x8x64x16, .f32⟩
  | .hbm, ⟨37, _⟩ => ⟨S4x8x64x1x16, .f32⟩
  | .hbm, ⟨38, _⟩ => ⟨S4x8x64x8x16, .f32⟩
  | .hbm, ⟨39, _⟩ => ⟨S4x8x64x8x16, .f32⟩
  | .hbm, ⟨40, _⟩ => ⟨S4x8x64x8x16, .f32⟩
  | .hbm, ⟨41, _⟩ => ⟨S4x512x128, .f32⟩
  | .hbm, ⟨42, _⟩ => ⟨S4x8x16x64, .f32⟩
  | .hbm, ⟨43, _⟩ => ⟨S1x8x1x8x1, .f32⟩
  | .hbm, ⟨44, _⟩ => ⟨S4x8x64x16, .f32⟩
  | .hbm, ⟨45, _⟩ => ⟨S4x8x64x1x16, .f32⟩
  | .hbm, ⟨46, _⟩ => ⟨S4x8x64x8x16, .f32⟩
  | .hbm, ⟨47, _⟩ => ⟨S4x8x64x8x16, .f32⟩
  | .hbm, ⟨48, _⟩ => ⟨S4x8x64x8x16, .f32⟩
  | .hbm, ⟨49, _⟩ => ⟨S4x512x128, .f32⟩
  | .hbm, ⟨50, _⟩ => ⟨S4x512x128, .f32⟩
  | .hbm, ⟨51, _⟩ => ⟨S4x1024x128, .f32⟩
  | .hbm, ⟨52, _⟩ => ⟨S4x1024x128, .bf16⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S1x2048, .f32⟩
  | .hbm, ⟨57, _⟩ => ⟨S2x2048, .f32⟩
  | .hbm, ⟨58, _⟩ => ⟨S8192x512, .f32⟩
  | .hbm, ⟨59, _⟩ => ⟨S4x8x2x2048, .f32⟩
  | .hbm, ⟨60, _⟩ => ⟨S8192x4096, .f32⟩
  | .hbm, ⟨61, _⟩ => ⟨S8192x512, .bf16⟩
  | .hbm, ⟨62, _⟩ => ⟨S8192x512, .bf16⟩
  | .hbm, ⟨63, _⟩ => ⟨S4x128x1024, .f32⟩
  | .hbm, ⟨64, _⟩ => ⟨S4x1024x128, .f32⟩
  | .hbm, ⟨65, _⟩ => ⟨S2x2048, .f32⟩
  | .hbm, ⟨66, _⟩ => ⟨S1x512, .f32⟩
  | .hbm, ⟨67, _⟩ => ⟨S4x512x128, .f32⟩
  | .hbm, ⟨68, _⟩ => ⟨S4x8x64x8x16, .f32⟩
  | .hbm, ⟨69, _⟩ => ⟨S1x8x1x8x1, .f32⟩
  | .hbm, ⟨70, _⟩ => ⟨S4x8x64x8x16, .f32⟩
  | .hbm, ⟨71, _⟩ => ⟨S4x8x64x8x16, .f32⟩
  | .hbm, ⟨72, _⟩ => ⟨S_, .f32⟩
  | .hbm, ⟨73, _⟩ => ⟨S4x8x64x16, .f32⟩
  | .hbm, ⟨74, _⟩ => ⟨S4x8x16x64, .f32⟩
  | .hbm, ⟨75, _⟩ => ⟨S32x16x64, .f32⟩
  | .hbm, ⟨76, _⟩ => ⟨S4x512x128, .f32⟩
  | .hbm, ⟨77, _⟩ => ⟨S4x8x64x8x16, .f32⟩
  | .hbm, ⟨78, _⟩ => ⟨S1x8x1x8x1, .f32⟩
  | .hbm, ⟨79, _⟩ => ⟨S4x8x64x8x16, .f32⟩
  | .hbm, ⟨80, _⟩ => ⟨S4x8x64x8x16, .f32⟩
  | .hbm, ⟨81, _⟩ => ⟨S_, .f32⟩
  | .hbm, ⟨82, _⟩ => ⟨S4x8x64x16, .f32⟩
  | .hbm, ⟨83, _⟩ => ⟨S4x8x16x64, .f32⟩
  | .hbm, ⟨84, _⟩ => ⟨S32x16x64, .f32⟩
  | .hbm, ⟨85, _⟩ => ⟨S32x16x64, .f32⟩
  | .hbm, ⟨86, _⟩ => ⟨S1x2048, .f32⟩
  | .hbm, ⟨87, _⟩ => ⟨S2048, .f32⟩
  | .hbm, ⟨88, _⟩ => ⟨S32x64, .f32⟩
  | .hbm, ⟨89, _⟩ => ⟨S1x2048, .f32⟩
  | .hbm, ⟨90, _⟩ => ⟨S2048, .f32⟩
  | .hbm, ⟨91, _⟩ => ⟨S32x64, .f32⟩
  | .hbm, ⟨92, _⟩ => ⟨S4x128x512, .f32⟩
  | .hbm, ⟨93, _⟩ => ⟨S4x8x16x8x64, .f32⟩
  | .hbm, ⟨94, _⟩ => ⟨S1x8x1x8x1, .f32⟩
  | .hbm, ⟨95, _⟩ => ⟨S4x8x16x8x64, .f32⟩
  | .hbm, ⟨96, _⟩ => ⟨S4x8x16x8x64, .f32⟩
  | .hbm, ⟨97, _⟩ => ⟨S_, .f32⟩
  | .hbm, ⟨98, _⟩ => ⟨S4x8x16x64, .f32⟩
  | .hbm, ⟨99, _⟩ => ⟨S4x8x64x16, .f32⟩
  | .hbm, ⟨100, _⟩ => ⟨S32x1024, .f32⟩
  | .hbm, ⟨101, _⟩ => ⟨S4x128x512, .f32⟩
  | .hbm, ⟨102, _⟩ => ⟨S4x8x16x8x64, .f32⟩
  | .hbm, ⟨103, _⟩ => ⟨S1x8x1x8x1, .f32⟩
  | .hbm, ⟨104, _⟩ => ⟨S4x8x16x8x64, .f32⟩
  | .hbm, ⟨105, _⟩ => ⟨S4x8x16x8x64, .f32⟩
  | .hbm, ⟨106, _⟩ => ⟨S_, .f32⟩
  | .hbm, ⟨107, _⟩ => ⟨S4x8x16x64, .f32⟩
  | .hbm, ⟨108, _⟩ => ⟨S4x8x64x16, .f32⟩
  | .hbm, ⟨109, _⟩ => ⟨S32x1024, .f32⟩
  | .local _ .vmem, ⟨0, _⟩ => ⟨S256x512, .f32⟩
  | .local _ .vmem, ⟨1, _⟩ => ⟨S256x512, .f32⟩
  | .local _ .vmem, ⟨2, _⟩ => ⟨S4x128x1024, .bf16⟩
  | .local _ .vmem, ⟨3, _⟩ => ⟨S4x1024x128, .bf16⟩
  | .local _ .vmem, ⟨4, _⟩ => ⟨S2x2048, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x1x2x2048, .f32⟩
  | .local _ .vmem, ⟨9, _⟩ => ⟨S1x1x2x2048, .f32⟩
  | .local _ .vmem, ⟨10, _⟩ => ⟨S256x4096, .f32⟩
  | .local _ .vmem, ⟨11, _⟩ => ⟨S256x4096, .f32⟩
  | .local _ .vmem, ⟨12, _⟩ => ⟨S256x512, .bf16⟩
  | .local _ .vmem, ⟨13, _⟩ => ⟨S256x512, .bf16⟩
  | .local _ .vmem, ⟨14, _⟩ => ⟨S2x2048, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1x512, .f32⟩
  | .local _ .vmem, ⟨22, _⟩ => ⟨S4x128x1024, .bf16⟩
  | .local _ .vmem, ⟨23, _⟩ => ⟨S4x1024x128, .bf16⟩
  | .local _ .vmem, ⟨24, _⟩ => ⟨S2x2048, .f32⟩
  | .local _ .vmem, ⟨25, _⟩ => ⟨S1x1x2x2048, .f32⟩
  | .local _ .vmem, ⟨26, _⟩ => ⟨S1x1x2x2048, .f32⟩
  | .local _ .vmem, ⟨27, _⟩ => ⟨S256x4096, .f32⟩
  | .local _ .vmem, ⟨28, _⟩ => ⟨S256x4096, .f32⟩
  | .local _ .vmem, ⟨29, _⟩ => ⟨S256x512, .bf16⟩
  | .local _ .vmem, ⟨30, _⟩ => ⟨S256x512, .bf16⟩
  | .local _ .vmem, ⟨31, _⟩ => ⟨S4x128x1024, .f32⟩
  | .local _ .vmem, ⟨32, _⟩ => ⟨S4x1024x128, .f32⟩
  | .local _ .vmem, ⟨33, _⟩ => ⟨S2x2048, .f32⟩
  | .local _ .vmem, ⟨34, _⟩ => ⟨S1x512, .f32⟩
  | .local _ .vmem, ⟨35, _⟩ => ⟨S256x4096, .f32⟩
  | .local _ .vmem, ⟨36, _⟩ => ⟨S2x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_1 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_2 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_scratch0 : Ref sig .tc := ⟨.vmem, 35, rfl⟩
abbrev cc1_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31
abbrev cc1_sem12_0 : DmaSem sig := 32
abbrev cc1_sem13_0 : DmaSem sig := 33

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_56 : BitVec 32 := 0#32
  let c32_i32 : BitVec 32 := 32#32
  let v192 : BitVec 32 := Scalar.addi c0_i32_56 c32_i32
  let c1_i32_57 : BitVec 32 := 1#32
  ⟨c0_i32_56, v192, c1_i32_57⟩
def k0_mult1 (k0_t1 : Fin k0_t1_loop.trips) : BitVec 32 :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  v250
def k0_off1 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v252 : Index := Scalar.indexCast v251
  let c0_107 : Index := 0#32
  ![v252.toNat, 0]
def k0_off2 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v255 : Index := Scalar.indexCast v251
  let c512 : Index := 512#32
  ![v255.toNat, 512]
def k0_off3 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v316 : Index := Scalar.indexCast v251
  let c1024_116 : Index := 1024#32
  ![v316.toNat, 1024]
def k0_off4 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v319 : Index := Scalar.indexCast v251
  let c1536 : Index := 1536#32
  ![v319.toNat, 1536]
def k0_off5 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v380 : Index := Scalar.indexCast v251
  let c2048_125 : Index := 2048#32
  ![v380.toNat, 2048]
def k0_off6 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v383 : Index := Scalar.indexCast v251
  let c2560 : Index := 2560#32
  ![v383.toNat, 2560]
def k0_off7 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v444 : Index := Scalar.indexCast v251
  let c3072_134 : Index := 3072#32
  ![v444.toNat, 3072]
def k0_off8 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v447 : Index := Scalar.indexCast v251
  let c3584 : Index := 3584#32
  ![v447.toNat, 3584]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 8], ![false, false]⟩

@[reducible] def k1_t1_loop : Scf.Loop 32 :=
  let c0_i32_72 : BitVec 32 := 0#32
  let c32_i32 : BitVec 32 := 32#32
  let v253 : BitVec 32 := Scalar.addi c0_i32_72 c32_i32
  let c1_i32_73 : BitVec 32 := 1#32
  ⟨c0_i32_72, v253, c1_i32_73⟩
def k1_mult1 (k1_t1 : Fin k1_t1_loop.trips) : BitVec 32 :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  v388
def k1_off1 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v390 : Index := Scalar.indexCast v389
  let c0_184 : Index := 0#32
  ![v390.toNat, 0]
def k1_off2 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v392 : Index := Scalar.indexCast v389
  let c512 : Index := 512#32
  ![v392.toNat, 512]
def k1_off3 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v456 : Index := Scalar.indexCast v389
  let c1024_193 : Index := 1024#32
  ![v456.toNat, 1024]
def k1_off4 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v458 : Index := Scalar.indexCast v389
  let c1536 : Index := 1536#32
  ![v458.toNat, 1536]
def k1_off5 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v522 : Index := Scalar.indexCast v389
  let c2048_202 : Index := 2048#32
  ![v522.toNat, 2048]
def k1_off6 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v524 : Index := Scalar.indexCast v389
  let c2560 : Index := 2560#32
  ![v524.toNat, 2560]
def k1_off7 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v588 : Index := Scalar.indexCast v389
  let c3072_211 : Index := 3072#32
  ![v588.toNat, 3072]
def k1_off8 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v590 : Index := Scalar.indexCast v389
  let c3584 : Index := 3584#32
  ![v590.toNat, 3584]
def k1_mult2 (k1_t1 : Fin k1_t1_loop.trips) : BitVec 32 :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c1_i32_220 : BitVec 32 := 1#32
  let v654 : BitVec 32 := Scalar.subi v387 c1_i32_220
  let c0_i32_221 : BitVec 32 := 0#32
  let v655 : BitVec 32 := Scalar.maxsi v654 c0_i32_221
  let c8_i32_222 : BitVec 32 := 8#32
  let v656 : BitVec 32 := Scalar.muli v655 c8_i32_222
  v656
def k1_off9 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c1_i32_220 : BitVec 32 := 1#32
  let v654 : BitVec 32 := Scalar.subi v387 c1_i32_220
  let c0_i32_221 : BitVec 32 := 0#32
  let v655 : BitVec 32 := Scalar.maxsi v654 c0_i32_221
  let c8_i32_222 : BitVec 32 := 8#32
  let v656 : BitVec 32 := Scalar.muli v655 c8_i32_222
  let v657 : BitVec 32 := v656
  let v658 : Index := Scalar.indexCast v657
  let c0_223 : Index := 0#32
  ![v658.toNat, 0]
def k1_mult3 (k1_t1 : Fin k1_t1_loop.trips) : BitVec 32 :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32_224 : BitVec 32 := 8#32
  let v662 : BitVec 32 := Scalar.muli v387 c8_i32_224
  v662
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_9 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4x128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4x1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1x2x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 1 → Memref sig .tc .vmem S4x128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S4x1024x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S2x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== KernelIdeal.lean ====
abbrev S8192x512 : Shape := ⟨2, ![8192, 512]⟩
abbrev S1x512 : Shape := ⟨2, ![1, 512]⟩
abbrev S32x64 : Shape := ⟨2, ![32, 64]⟩
abbrev S32x1024 : Shape := ⟨2, ![32, 1024]⟩
abbrev S32x16x64 : Shape := ⟨3, ![32, 16, 64]⟩
abbrev S8x8 : Shape := ⟨2, ![8, 8]⟩
abbrev S_ : Shape := ⟨0, ![]⟩
abbrev S4x8x64x16 : Shape := ⟨4, ![4, 8, 64, 16]⟩
abbrev S1x8x1x8x1 : Shape := ⟨5, ![1, 8, 1, 8, 1]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S2048 : Shape := ⟨1, ![2048]⟩
abbrev S1x2048 : Shape := ⟨2, ![1, 2048]⟩
abbrev S2x2048 : Shape := ⟨2, ![2, 2048]⟩
abbrev S4x8x2x2048 : Shape := ⟨4, ![4, 8, 2, 2048]⟩
abbrev S8192x4096 : Shape := ⟨2, ![8192, 4096]⟩
abbrev S256x512 : Shape := ⟨2, ![256, 512]⟩
abbrev S1x1x2x2048 : Shape := ⟨4, ![1, 1, 2, 2048]⟩
abbrev S256x4096 : Shape := ⟨2, ![256, 4096]⟩
abbrev S8x2048 : Shape := ⟨2, ![8, 2048]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S8x512 : Shape := ⟨2, ![8, 512]⟩
abbrev S1x1024x128 : Shape := ⟨3, ![1, 1024, 128]⟩
abbrev S1024x128 : Shape := ⟨2, ![1024, 128]⟩
abbrev S512 : Shape := ⟨1, ![512]⟩
abbrev S8x4096 : Shape := ⟨2, ![8, 4096]⟩
abbrev S1x4096 : Shape := ⟨2, ![1, 4096]⟩
abbrev S1x1x1x512 : Shape := ⟨4, ![1, 1, 1, 512]⟩

abbrev nBuf : Space → Nat
  | .hbm => 110
  | .vmem => 37
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S32x64, .f32⟩
  | .hbm, ⟨4, _⟩ => ⟨S32x64, .f32⟩
  | .hbm, ⟨5, _⟩ => ⟨S32x1024, .f32⟩
  | .hbm, ⟨6, _⟩ => ⟨S32x1024, .f32⟩
  | .hbm, ⟨7, _⟩ => ⟨S32x16x64, .f32⟩
  | .hbm, ⟨8, _⟩ => ⟨S32x16x64, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S4x8x64x16, .f32⟩
  | .hbm, ⟨17, _⟩ => ⟨S1x8x1x8x1, .f32⟩
  | .hbm, ⟨18, _⟩ => ⟨S4x8x16x64, .f32⟩
  | .hbm, ⟨19, _⟩ => ⟨S4x8x16x1x64, .f32⟩
  | .hbm, ⟨20, _⟩ => ⟨S4x8x16x8x64, .f32⟩
  | .hbm, ⟨21, _⟩ => ⟨S4x8x16x8x64, .f32⟩
  | .hbm, ⟨22, _⟩ => ⟨S4x8x16x8x64, .f32⟩
  | .hbm, ⟨23, _⟩ => ⟨S4x128x512, .f32⟩
  | .hbm, ⟨24, _⟩ => ⟨S4x8x64x16, .f32⟩
  | .hbm, ⟨25, _⟩ => ⟨S1x8x1x8x1, .f32⟩
  | .hbm, ⟨26, _⟩ => ⟨S4x8x16x64, .f32⟩
  | .hbm, ⟨27, _⟩ => ⟨S4x8x16x1x64, .f32⟩
  | .hbm, ⟨28, _⟩ => ⟨S4x8x16x8x64, .f32⟩
  | .hbm, ⟨29, _⟩ => ⟨S4x8x16x8x64, .f32⟩
  | .hbm, ⟨30, _⟩ => ⟨S4x8x16x8x64, .f32⟩
  | .hbm, ⟨31, _⟩ => ⟨S4x128x512, .f32⟩
  | .hbm, ⟨32, _⟩ => ⟨S4x128x1024, .f32⟩
  | .hbm, ⟨33, _⟩ => ⟨S4x128x1024, .bf16⟩
  | .hbm, ⟨34, _⟩ => ⟨S4x8x16x64, .f32⟩
  | .hbm, ⟨35, _⟩ => ⟨S1x8x1x8x1, .f32⟩
  | .hbm, ⟨36, _⟩ => ⟨S4x8x64x16, .f32⟩
  | .hbm, ⟨37, _⟩ => ⟨S4x8x64x1x16, .f32⟩
  | .hbm, ⟨38, _⟩ => ⟨S4x8x64x8x16, .f32⟩
  | .hbm, ⟨39, _⟩ => ⟨S4x8x64x8x16, .f32⟩
  | .hbm, ⟨40, _⟩ => ⟨S4x8x64x8x16, .f32⟩
  | .hbm, ⟨41, _⟩ => ⟨S4x512x128, .f32⟩
  | .hbm, ⟨42, _⟩ => ⟨S4x8x16x64, .f32⟩
  | .hbm, ⟨43, _⟩ => ⟨S1x8x1x8x1, .f32⟩
  | .hbm, ⟨44, _⟩ => ⟨S4x8x64x16, .f32⟩
  | .hbm, ⟨45, _⟩ => ⟨S4x8x64x1x16, .f32⟩
  | .hbm, ⟨46, _⟩ => ⟨S4x8x64x8x16, .f32⟩
  | .hbm, ⟨47, _⟩ => ⟨S4x8x64x8x16, .f32⟩
  | .hbm, ⟨48, _⟩ => ⟨S4x8x64x8x16, .f32⟩
  | .hbm, ⟨49, _⟩ => ⟨S4x512x128, .f32⟩
  | .hbm, ⟨50, _⟩ => ⟨S4x512x128, .f32⟩
  | .hbm, ⟨51, _⟩ => ⟨S4x1024x128, .f32⟩
  | .hbm, ⟨52, _⟩ => ⟨S4x1024x128, .bf16⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S1x2048, .f32⟩
  | .hbm, ⟨57, _⟩ => ⟨S2x2048, .f32⟩
  | .hbm, ⟨58, _⟩ => ⟨S8192x512, .f32⟩
  | .hbm, ⟨59, _⟩ => ⟨S4x8x2x2048, .f32⟩
  | .hbm, ⟨60, _⟩ => ⟨S8192x4096, .f32⟩
  | .hbm, ⟨61, _⟩ => ⟨S8192x512, .bf16⟩
  | .hbm, ⟨62, _⟩ => ⟨S8192x512, .bf16⟩
  | .hbm, ⟨63, _⟩ => ⟨S4x128x1024, .f32⟩
  | .hbm, ⟨64, _⟩ => ⟨S4x1024x128, .f32⟩
  | .hbm, ⟨65, _⟩ => ⟨S2x2048, .f32⟩
  | .hbm, ⟨66, _⟩ => ⟨S1x512, .f32⟩
  | .hbm, ⟨67, _⟩ => ⟨S4x512x128, .f32⟩
  | .hbm, ⟨68, _⟩ => ⟨S4x8x64x8x16, .f32⟩
  | .hbm, ⟨69, _⟩ => ⟨S1x8x1x8x1, .f32⟩
  | .hbm, ⟨70, _⟩ => ⟨S4x8x64x8x16, .f32⟩
  | .hbm, ⟨71, _⟩ => ⟨S4x8x64x8x16, .f32⟩
  | .hbm, ⟨72, _⟩ => ⟨S_, .f32⟩
  | .hbm, ⟨73, _⟩ => ⟨S4x8x64x16, .f32⟩
  | .hbm, ⟨74, _⟩ => ⟨S4x8x16x64, .f32⟩
  | .hbm, ⟨75, _⟩ => ⟨S32x16x64, .f32⟩
  | .hbm, ⟨76, _⟩ => ⟨S4x512x128, .f32⟩
  | .hbm, ⟨77, _⟩ => ⟨S4x8x64x8x16, .f32⟩
  | .hbm, ⟨78, _⟩ => ⟨S1x8x1x8x1, .f32⟩
  | .hbm, ⟨79, _⟩ => ⟨S4x8x64x8x16, .f32⟩
  | .hbm, ⟨80, _⟩ => ⟨S4x8x64x8x16, .f32⟩
  | .hbm, ⟨81, _⟩ => ⟨S_, .f32⟩
  | .hbm, ⟨82, _⟩ => ⟨S4x8x64x16, .f32⟩
  | .hbm, ⟨83, _⟩ => ⟨S4x8x16x64, .f32⟩
  | .hbm, ⟨84, _⟩ => ⟨S32x16x64, .f32⟩
  | .hbm, ⟨85, _⟩ => ⟨S32x16x64, .f32⟩
  | .hbm, ⟨86, _⟩ => ⟨S1x2048, .f32⟩
  | .hbm, ⟨87, _⟩ => ⟨S2048, .f32⟩
  | .hbm, ⟨88, _⟩ => ⟨S32x64, .f32⟩
  | .hbm, ⟨89, _⟩ => ⟨S1x2048, .f32⟩
  | .hbm, ⟨90, _⟩ => ⟨S2048, .f32⟩
  | .hbm, ⟨91, _⟩ => ⟨S32x64, .f32⟩
  | .hbm, ⟨92, _⟩ => ⟨S4x128x512, .f32⟩
  | .hbm, ⟨93, _⟩ => ⟨S4x8x16x8x64, .f32⟩
  | .hbm, ⟨94, _⟩ => ⟨S1x8x1x8x1, .f32⟩
  | .hbm, ⟨95, _⟩ => ⟨S4x8x16x8x64, .f32⟩
  | .hbm, ⟨96, _⟩ => ⟨S4x8x16x8x64, .f32⟩
  | .hbm, ⟨97, _⟩ => ⟨S_, .f32⟩
  | .hbm, ⟨98, _⟩ => ⟨S4x8x16x64, .f32⟩
  | .hbm, ⟨99, _⟩ => ⟨S4x8x64x16, .f32⟩
  | .hbm, ⟨100, _⟩ => ⟨S32x1024, .f32⟩
  | .hbm, ⟨101, _⟩ => ⟨S4x128x512, .f32⟩
  | .hbm, ⟨102, _⟩ => ⟨S4x8x16x8x64, .f32⟩
  | .hbm, ⟨103, _⟩ => ⟨S1x8x1x8x1, .f32⟩
  | .hbm, ⟨104, _⟩ => ⟨S4x8x16x8x64, .f32⟩
  | .hbm, ⟨105, _⟩ => ⟨S4x8x16x8x64, .f32⟩
  | .hbm, ⟨106, _⟩ => ⟨S_, .f32⟩
  | .hbm, ⟨107, _⟩ => ⟨S4x8x16x64, .f32⟩
  | .hbm, ⟨108, _⟩ => ⟨S4x8x64x16, .f32⟩
  | .hbm, ⟨109, _⟩ => ⟨S32x1024, .f32⟩
  | .local _ .vmem, ⟨0, _⟩ => ⟨S256x512, .f32⟩
  | .local _ .vmem, ⟨1, _⟩ => ⟨S256x512, .f32⟩
  | .local _ .vmem, ⟨2, _⟩ => ⟨S4x128x1024, .bf16⟩
  | .local _ .vmem, ⟨3, _⟩ => ⟨S4x1024x128, .bf16⟩
  | .local _ .vmem, ⟨4, _⟩ => ⟨S2x2048, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x1x2x2048, .f32⟩
  | .local _ .vmem, ⟨9, _⟩ => ⟨S1x1x2x2048, .f32⟩
  | .local _ .vmem, ⟨10, _⟩ => ⟨S256x4096, .f32⟩
  | .local _ .vmem, ⟨11, _⟩ => ⟨S256x4096, .f32⟩
  | .local _ .vmem, ⟨12, _⟩ => ⟨S256x512, .bf16⟩
  | .local _ .vmem, ⟨13, _⟩ => ⟨S256x512, .bf16⟩
  | .local _ .vmem, ⟨14, _⟩ => ⟨S2x2048, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1x512, .f32⟩
  | .local _ .vmem, ⟨22, _⟩ => ⟨S4x128x1024, .bf16⟩
  | .local _ .vmem, ⟨23, _⟩ => ⟨S4x1024x128, .bf16⟩
  | .local _ .vmem, ⟨24, _⟩ => ⟨S2x2048, .f32⟩
  | .local _ .vmem, ⟨25, _⟩ => ⟨S1x1x2x2048, .f32⟩
  | .local _ .vmem, ⟨26, _⟩ => ⟨S1x1x2x2048, .f32⟩
  | .local _ .vmem, ⟨27, _⟩ => ⟨S256x4096, .f32⟩
  | .local _ .vmem, ⟨28, _⟩ => ⟨S256x4096, .f32⟩
  | .local _ .vmem, ⟨29, _⟩ => ⟨S256x512, .bf16⟩
  | .local _ .vmem, ⟨30, _⟩ => ⟨S256x512, .bf16⟩
  | .local _ .vmem, ⟨31, _⟩ => ⟨S4x128x1024, .f32⟩
  | .local _ .vmem, ⟨32, _⟩ => ⟨S4x1024x128, .f32⟩
  | .local _ .vmem, ⟨33, _⟩ => ⟨S2x2048, .f32⟩
  | .local _ .vmem, ⟨34, _⟩ => ⟨S1x512, .f32⟩
  | .local _ .vmem, ⟨35, _⟩ => ⟨S256x4096, .f32⟩
  | .local _ .vmem, ⟨36, _⟩ => ⟨S2x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_1 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_2 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_scratch0 : Ref sig .tc := ⟨.vmem, 35, rfl⟩
abbrev cc1_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31
abbrev cc1_sem12_0 : DmaSem sig := 32
abbrev cc1_sem13_0 : DmaSem sig := 33

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_56 : BitVec 32 := 0#32
  let c32_i32 : BitVec 32 := 32#32
  let v192 : BitVec 32 := Scalar.addi c0_i32_56 c32_i32
  let c1_i32_57 : BitVec 32 := 1#32
  ⟨c0_i32_56, v192, c1_i32_57⟩
def k0_mult1 (k0_t1 : Fin k0_t1_loop.trips) : BitVec 32 :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  v250
def k0_off1 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v252 : Index := Scalar.indexCast v251
  let c0_107 : Index := 0#32
  ![v252.toNat, 0]
def k0_off2 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v255 : Index := Scalar.indexCast v251
  let c512 : Index := 512#32
  ![v255.toNat, 512]
def k0_off3 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v316 : Index := Scalar.indexCast v251
  let c1024_116 : Index := 1024#32
  ![v316.toNat, 1024]
def k0_off4 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v319 : Index := Scalar.indexCast v251
  let c1536 : Index := 1536#32
  ![v319.toNat, 1536]
def k0_off5 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v380 : Index := Scalar.indexCast v251
  let c2048_125 : Index := 2048#32
  ![v380.toNat, 2048]
def k0_off6 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v383 : Index := Scalar.indexCast v251
  let c2560 : Index := 2560#32
  ![v383.toNat, 2560]
def k0_off7 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v444 : Index := Scalar.indexCast v251
  let c3072_134 : Index := 3072#32
  ![v444.toNat, 3072]
def k0_off8 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c8_i32 : BitVec 32 := 8#32
  let v250 : BitVec 32 := Scalar.muli arg12 c8_i32
  let v251 : BitVec 32 := v250
  let v447 : Index := Scalar.indexCast v251
  let c3584 : Index := 3584#32
  ![v447.toNat, 3584]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 8], ![false, false]⟩

@[reducible] def k1_t1_loop : Scf.Loop 32 :=
  let c0_i32_72 : BitVec 32 := 0#32
  let c32_i32 : BitVec 32 := 32#32
  let v253 : BitVec 32 := Scalar.addi c0_i32_72 c32_i32
  let c1_i32_73 : BitVec 32 := 1#32
  ⟨c0_i32_72, v253, c1_i32_73⟩
def k1_mult1 (k1_t1 : Fin k1_t1_loop.trips) : BitVec 32 :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  v388
def k1_off1 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v390 : Index := Scalar.indexCast v389
  let c0_184 : Index := 0#32
  ![v390.toNat, 0]
def k1_off2 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v392 : Index := Scalar.indexCast v389
  let c512 : Index := 512#32
  ![v392.toNat, 512]
def k1_off3 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v456 : Index := Scalar.indexCast v389
  let c1024_193 : Index := 1024#32
  ![v456.toNat, 1024]
def k1_off4 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v458 : Index := Scalar.indexCast v389
  let c1536 : Index := 1536#32
  ![v458.toNat, 1536]
def k1_off5 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v522 : Index := Scalar.indexCast v389
  let c2048_202 : Index := 2048#32
  ![v522.toNat, 2048]
def k1_off6 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v524 : Index := Scalar.indexCast v389
  let c2560 : Index := 2560#32
  ![v524.toNat, 2560]
def k1_off7 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v588 : Index := Scalar.indexCast v389
  let c3072_211 : Index := 3072#32
  ![v588.toNat, 3072]
def k1_off8 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32 : BitVec 32 := 8#32
  let v388 : BitVec 32 := Scalar.muli v387 c8_i32
  let v389 : BitVec 32 := v388
  let v590 : Index := Scalar.indexCast v389
  let c3584 : Index := 3584#32
  ![v590.toNat, 3584]
def k1_mult2 (k1_t1 : Fin k1_t1_loop.trips) : BitVec 32 :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c1_i32_220 : BitVec 32 := 1#32
  let v654 : BitVec 32 := Scalar.subi v387 c1_i32_220
  let c0_i32_221 : BitVec 32 := 0#32
  let v655 : BitVec 32 := Scalar.maxsi v654 c0_i32_221
  let c8_i32_222 : BitVec 32 := 8#32
  let v656 : BitVec 32 := Scalar.muli v655 c8_i32_222
  v656
def k1_off9 (k1_t1 : Fin k1_t1_loop.trips) : Fin 2 → Nat :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c1_i32_220 : BitVec 32 := 1#32
  let v654 : BitVec 32 := Scalar.subi v387 c1_i32_220
  let c0_i32_221 : BitVec 32 := 0#32
  let v655 : BitVec 32 := Scalar.maxsi v654 c0_i32_221
  let c8_i32_222 : BitVec 32 := 8#32
  let v656 : BitVec 32 := Scalar.muli v655 c8_i32_222
  let v657 : BitVec 32 := v656
  let v658 : Index := Scalar.indexCast v657
  let c0_223 : Index := 0#32
  ![v658.toNat, 0]
def k1_mult3 (k1_t1 : Fin k1_t1_loop.trips) : BitVec 32 :=
  let c31_i32 : BitVec 32 := 31#32
  let c0_i32_72 : BitVec 32 := 0#32
  let c1_i32_73 : BitVec 32 := 1#32
  let arg18 : BitVec 32 := Scf.iv c0_i32_72 c1_i32_73 k1_t1
  let v387 : BitVec 32 := Scalar.subi c31_i32 arg18
  let c8_i32_224 : BitVec 32 := 8#32
  let v662 : BitVec 32 := Scalar.muli v387 c8_i32_224
  v662
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_9 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4x128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4x1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1x2x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 1 → Memref sig .tc .vmem S4x128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S4x1024x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S2x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== ReferenceIdeal.lean ====
abbrev S8192x512 : Shape := ⟨2, ![8192, 512]⟩
abbrev S1x512 : Shape := ⟨2, ![1, 512]⟩
abbrev S32x64 : Shape := ⟨2, ![32, 64]⟩
abbrev S32x1024 : Shape := ⟨2, ![32, 1024]⟩
abbrev S32x16x64 : Shape := ⟨3, ![32, 16, 64]⟩
abbrev S4x2048x512 : Shape := ⟨3, ![4, 2048, 512]⟩
abbrev S32x64x16 : Shape := ⟨3, ![32, 64, 16]⟩
abbrev S4x2048x32x16 : Shape := ⟨4, ![4, 2048, 32, 16]⟩
abbrev S32x64x4x2048 : Shape := ⟨4, ![32, 64, 4, 2048]⟩
abbrev S4x2048x32x64 : Shape := ⟨4, ![4, 2048, 32, 64]⟩
abbrev S_ : Shape := ⟨0, ![]⟩
abbrev S4x32x64 : Shape := ⟨3, ![4, 32, 64]⟩
abbrev S2048x4x32x64 : Shape := ⟨4, ![2048, 4, 32, 64]⟩
abbrev S1x32x64 : Shape := ⟨3, ![1, 32, 64]⟩
abbrev S1x4x32x64 : Shape := ⟨4, ![1, 4, 32, 64]⟩
abbrev S32x16x4x2048 : Shape := ⟨4, ![32, 16, 4, 2048]⟩
abbrev S1x1x512 : Shape := ⟨3, ![1, 1, 512]⟩
abbrev S512 : Shape := ⟨1, ![512]⟩
abbrev S32x4x2048x64 : Shape := ⟨4, ![32, 4, 2048, 64]⟩
abbrev S32x4x2048x16 : Shape := ⟨4, ![32, 4, 2048, 16]⟩

abbrev nBuf : Space → Nat
  | .hbm => 300
  | .vmem => 0
  | .smem => 0
  | _ => 0

abbrev hbmTy0_0 (i : Nat) : BufTy := match i % 128 with
  | 0 => ⟨S8192x512, .f32⟩
  | 1 => ⟨S8192x512, .f32⟩
  | 2 => ⟨S1x512, .f32⟩
  | 3 => ⟨S32x64, .f32⟩
  | 4 => ⟨S32x64, .f32⟩
  | 5 => ⟨S32x1024, .f32⟩
  | 6 => ⟨S32x1024, .f32⟩
  | 7 => ⟨S32x16x64, .f32⟩
  | 8 => ⟨S32x16x64, .f32⟩
  | 9 => ⟨S4x2048x512, .f32⟩
  | 10 => ⟨S4x2048x512, .f32⟩
  | 11 => ⟨S32x64x16, .f32⟩
  | 12 => ⟨S32x64x16, .f32⟩
  | 13 => ⟨S4x2048x32x16, .f32⟩
  | 14 => ⟨S32x64x4x2048, .f32⟩
  | 15 => ⟨S4x2048x32x64, .f32⟩
  | 16 => ⟨S32x64x4x2048, .f32⟩
  | 17 => ⟨S4x2048x32x64, .f32⟩
  | 18 => ⟨S_, .f32⟩
  | 19 => ⟨S4x32x64, .f32⟩
  | 20 => ⟨S2048x4x32x64, .f32⟩
  | 21 => ⟨S2048x4x32x64, .f32⟩
  | 22 => ⟨S1x32x64, .f32⟩
  | 23 => ⟨S1x32x64, .f32⟩
  | 24 => ⟨S1x32x64, .f32⟩
  | 25 => ⟨S1x32x64, .f32⟩
  | 26 => ⟨S_, .f32⟩
  | 27 => ⟨S2048x4x32x64, .f32⟩
  | 28 => ⟨S_, .f32⟩
  | 29 => ⟨S2048x4x32x64, .f32⟩
  | 30 => ⟨S_, .f32⟩
  | 31 => ⟨S2048x4x32x64, .f32⟩
  | 32 => ⟨S_, .f32⟩
  | 33 => ⟨S2048x4x32x64, .f32⟩
  | 34 => ⟨S_, .i32⟩
  | 35 => ⟨S2048x4x32x64, .f32⟩
  | 36 => ⟨S2048x4x32x64, .f32⟩
  | 37 => ⟨S1x32x64, .f32⟩
  | 38 => ⟨S1x32x64, .f32⟩
  | 39 => ⟨S1x32x64, .f32⟩
  | 40 => ⟨S1x32x64, .f32⟩
  | 41 => ⟨S_, .i32⟩
  | 42 => ⟨S4x32x64, .f32⟩
  | 43 => ⟨S4x32x64, .f32⟩
  | 44 => ⟨S2048x4x32x64, .f32⟩
  | 45 => ⟨S2048x4x32x64, .f32⟩
  | 46 => ⟨S2048x4x32x64, .f32⟩
  | 47 => ⟨S2048x4x32x64, .f32⟩
  | 48 => ⟨S_, .i32⟩
  | 49 => ⟨S_, .i1⟩
  | 50 => ⟨S_, .i32⟩
  | 51 => ⟨S_, .i32⟩
  | 52 => ⟨S_, .i32⟩
  | 53 => ⟨S1x4x32x64, .f32⟩
  | 54 => ⟨S4x32x64, .f32⟩
  | 55 => ⟨S_, .i32⟩
  | 56 => ⟨S_, .i32⟩
  | 57 => ⟨S_, .i32⟩
  | 58 => ⟨S1x4x32x64, .f32⟩
  | 59 => ⟨S4x32x64, .f32⟩
  | 60 => ⟨S4x32x64, .f32⟩
  | 61 => ⟨S4x32x64, .f32⟩
  | 62 => ⟨S4x32x64, .f32⟩
  | 63 => ⟨S4x32x64, .f32⟩
  | 64 => ⟨S4x32x64, .f32⟩
  | 65 => ⟨S4x32x64, .f32⟩
  | 66 => ⟨S4x32x64, .f32⟩
  | 67 => ⟨S4x32x64, .f32⟩
  | 68 => ⟨S4x32x64, .f32⟩
  | 69 => ⟨S4x32x64, .f32⟩
  | 70 => ⟨S4x32x64, .f32⟩
  | 71 => ⟨S4x32x64, .f32⟩
  | 72 => ⟨S1x4x32x64, .f32⟩
  | 73 => ⟨S_, .i32⟩
  | 74 => ⟨S_, .i32⟩
  | 75 => ⟨S_, .i32⟩
  | 76 => ⟨S2048x4x32x64, .f32⟩
  | 77 => ⟨S1x4x32x64, .f32⟩
  | 78 => ⟨S_, .i32⟩
  | 79 => ⟨S_, .i32⟩
  | 80 => ⟨S_, .i32⟩
  | 81 => ⟨S2048x4x32x64, .f32⟩
  | 82 => ⟨S1x4x32x64, .f32⟩
  | 83 => ⟨S_, .i32⟩
  | 84 => ⟨S_, .i32⟩
  | 85 => ⟨S_, .i32⟩
  | 86 => ⟨S2048x4x32x64, .f32⟩
  | 87 => ⟨S1x4x32x64, .f32⟩
  | 88 => ⟨S_, .i32⟩
  | 89 => ⟨S_, .i32⟩
  | 90 => ⟨S_, .i32⟩
  | 91 => ⟨S2048x4x32x64, .f32⟩
  | 92 => ⟨S_, .i32⟩
  | 93 => ⟨S_, .i32⟩
  | 94 => ⟨S4x2048x32x64, .f32⟩
  | 95 => ⟨S4x2048x32x64, .f32⟩
  | 96 => ⟨S32x16x4x2048, .f32⟩
  | 97 => ⟨S4x2048x32x16, .f32⟩
  | 98 => ⟨S32x16x4x2048, .f32⟩
  | 99 => ⟨S4x2048x32x16, .f32⟩
  | 100 => ⟨S4x2048x32x16, .f32⟩
  | 101 => ⟨S4x2048x512, .f32⟩
  | 102 => ⟨S1x1x512, .f32⟩
  | 103 => ⟨S4x2048x512, .f32⟩
  | 104 => ⟨S4x2048x512, .f32⟩
  | 105 => ⟨S4x2048x512, .f32⟩
  | 106 => ⟨S4x2048x512, .f32⟩
  | 107 => ⟨S4x2048x512, .f32⟩
  | 108 => ⟨S4x2048x512, .f32⟩
  | 109 => ⟨S_, .f32⟩
  | 110 => ⟨S4x2048x512, .f32⟩
  | 111 => ⟨S4x2048x512, .f32⟩
  | 112 => ⟨S_, .f32⟩
  | 113 => ⟨S4x2048x512, .f32⟩
  | 114 => ⟨S4x2048x512, .f32⟩
  | 115 => ⟨S4x2048x512, .f32⟩
  | 116 => ⟨S_, .f32⟩
  | 117 => ⟨S4x2048x512, .f32⟩
  | 118 => ⟨S4x2048x512, .f32⟩
  | 119 => ⟨S4x2048x512, .f32⟩
  | 120 => ⟨S_, .f32⟩
  | 121 => ⟨S4x2048x512, .f32⟩
  | 122 => ⟨S4x2048x512, .f32⟩
  | 123 => ⟨S_, .f32⟩
  | 124 => ⟨S4x2048x512, .f32⟩
  | 125 => ⟨S4x2048x512, .f32⟩
  | 126 => ⟨S4x2048x512, .f32⟩
  | 127 => ⟨S_, .f32⟩
  | _ => ⟨S8192x512, .f32⟩

abbrev hbmTy0_1 (i : Nat) : BufTy := match i % 128 with
  | 0 => ⟨S4x2048x512, .f32⟩
  | 1 => ⟨S4x2048x512, .f32⟩
  | 2 => ⟨S_, .f32⟩
  | 3 => ⟨S4x2048x512, .f32⟩
  | 4 => ⟨S4x2048x512, .f32⟩
  | 5 => ⟨S4x2048x512, .f32⟩
  | 6 => ⟨S_, .f32⟩
  | 7 => ⟨S4x32x64, .f32⟩
  | 8 => ⟨S_, .f32⟩
  | 9 => ⟨S4x32x64, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S4x2048x512, .f32⟩
  | 16 => ⟨S_, .f32⟩
  | 17 => ⟨S4x2048x512, .f32⟩
  | 18 => ⟨S4x2048x512, .f32⟩
  | 19 => ⟨S4x2048x512, .f32⟩
  | 20 => ⟨S_, .f32⟩
  | 21 => ⟨S4x2048x512, .f32⟩
  | 22 => ⟨S4x2048x512, .f32⟩
  | 23 => ⟨S4x2048x512, .f32⟩
  | 24 => ⟨S4x2048x512, .f32⟩
  | 25 => ⟨S4x2048x512, .f32⟩
  | 26 => ⟨S4x2048x512, .f32⟩
  | 27 => ⟨S4x2048x512, .f32⟩
  | 28 => ⟨S_, .f32⟩
  | 29 => ⟨S512, .f32⟩
  | 30 => ⟨S1x1x512, .f32⟩
  | 31 => ⟨S_, .f32⟩
  | 32 => ⟨S512, .f32⟩
  | 33 => ⟨S1x512, .f32⟩
  | 34 => ⟨S4x2048x32x16, .f32⟩
  | 35 => ⟨S4x2048x32x16, .f32⟩
  | 36 => ⟨S32x16x4x2048, .f32⟩
  | 37 => ⟨S32x4x2048x64, .f32⟩
  | 38 => ⟨S4x2048x32x64, .f32⟩
  | 39 => ⟨S32x16x64, .f32⟩
  | 40 => ⟨S32x16x4x2048, .f32⟩
  | 41 => ⟨S32x4x2048x64, .f32⟩
  | 42 => ⟨S4x2048x32x64, .f32⟩
  | 43 => ⟨S32x16x64, .f32⟩
  | 44 => ⟨S2048x4x32x64, .f32⟩
  | 45 => ⟨S2048x4x32x64, .f32⟩
  | 46 => ⟨S_, .f32⟩
  | 47 => ⟨S4x32x64, .f32⟩
  | 48 => ⟨S_, .f32⟩
  | 49 => ⟨S4x32x64, .f32⟩
  | 50 => ⟨S_, .f32⟩
  | 51 => ⟨S32x64, .f32⟩
  | 52 => ⟨S_, .f32⟩
  | 53 => ⟨S32x64, .f32⟩
  | 54 => ⟨S_, .f32⟩
  | 55 => ⟨S2048x4x32x64, .f32⟩
  | 56 => ⟨S_, .f32⟩
  | 57 => ⟨S2048x4x32x64, .f32⟩
  | 58 => ⟨S_, .i32⟩
  | 59 => ⟨S2048x4x32x64, .f32⟩
  | 60 => ⟨S2048x4x32x64, .f32⟩
  | 61 => ⟨S2048x4x32x64, .f32⟩
  | 62 => ⟨S2048x4x32x64, .f32⟩
  | 63 => ⟨S1x32x64, .f32⟩
  | 64 => ⟨S1x32x64, .f32⟩
  | 65 => ⟨S1x32x64, .f32⟩
  | 66 => ⟨S1x32x64, .f32⟩
  | 67 => ⟨S_, .i32⟩
  | 68 => ⟨S32x64, .f32⟩
  | 69 => ⟨S32x64, .f32⟩
  | 70 => ⟨S4x32x64, .f32⟩
  | 71 => ⟨S4x32x64, .f32⟩
  | 72 => ⟨S2048x4x32x64, .f32⟩
  | 73 => ⟨S2048x4x32x64, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x4x32x64, .f32⟩
  | 84 => ⟨S4x32x64, .f32⟩
  | 85 => ⟨S_, .i32⟩
  | 86 => ⟨S_, .i32⟩
  | 87 => ⟨S_, .i32⟩
  | 88 => ⟨S1x4x32x64, .f32⟩
  | 89 => ⟨S4x32x64, .f32⟩
  | 90 => ⟨S_, .i32⟩
  | 91 => ⟨S_, .i32⟩
  | 92 => ⟨S_, .i32⟩
  | 93 => ⟨S1x4x32x64, .f32⟩
  | 94 => ⟨S4x32x64, .f32⟩
  | 95 => ⟨S_, .i32⟩
  | 96 => ⟨S_, .i32⟩
  | 97 => ⟨S_, .i32⟩
  | 98 => ⟨S1x4x32x64, .f32⟩
  | 99 => ⟨S4x32x64, .f32⟩
  | 100 => ⟨S4x32x64, .f32⟩
  | 101 => ⟨S4x32x64, .f32⟩
  | 102 => ⟨S4x32x64, .f32⟩
  | 103 => ⟨S4x32x64, .f32⟩
  | 104 => ⟨S4x32x64, .f32⟩
  | 105 => ⟨S_, .f32⟩
  | 106 => ⟨S32x64, .f32⟩
  | 107 => ⟨S1x32x64, .f32⟩
  | 108 => ⟨S_, .f32⟩
  | 109 => ⟨S32x64, .f32⟩
  | 110 => ⟨S32x64, .f32⟩
  | 111 => ⟨S4x32x64, .f32⟩
  | 112 => ⟨S4x32x64, .f32⟩
  | 113 => ⟨S4x32x64, .f32⟩
  | 114 => ⟨S_, .f32⟩
  | 115 => ⟨S32x64, .f32⟩
  | 116 => ⟨S1x32x64, .f32⟩
  | 117 => ⟨S_, .f32⟩
  | 118 => ⟨S32x64, .f32⟩
  | 119 => ⟨S32x64, .f32⟩
  | 120 => ⟨S4x32x64, .f32⟩
  | 121 => ⟨S4x32x64, .f32⟩
  | 122 => ⟨S4x32x64, .f32⟩
  | 123 => ⟨S4x32x64, .f32⟩
  | 124 => ⟨S4x32x64, .f32⟩
  | 125 => ⟨S_, .f32⟩
  | 126 => ⟨S32x64, .f32⟩
  | 127 => ⟨S1x32x64, .f32⟩
  | _ => ⟨S8192x512, .f32⟩

abbrev hbmTy0_2 (i : Nat) : BufTy := match i % 128 with
  | 0 => ⟨S_, .f32⟩
  | 1 => ⟨S32x64, .f32⟩
  | 2 => ⟨S32x64, .f32⟩
  | 3 => ⟨S4x32x64, .f32⟩
  | 4 => ⟨S4x32x64, .f32⟩
  | 5 => ⟨S4x32x64, .f32⟩
  | 6 => ⟨S4x32x64, .f32⟩
  | 7 => ⟨S_, .f32⟩
  | 8 => ⟨S32x64, .f32⟩
  | 9 => ⟨S1x32x64, .f32⟩
  | 10 => ⟨S_, .f32⟩
  | 11 => ⟨S32x64, .f32⟩
  | 12 => ⟨S32x64, .f32⟩
  | 13 => ⟨S1x4x32x64, .f32⟩
  | 14 => ⟨S_, .i32⟩
  | 15 => ⟨S_, .i32⟩
  | 16 => ⟨S_, .i32⟩
  | 17 => ⟨S2048x4x32x64, .f32⟩
  | 18 => ⟨S1x4x32x64, .f32⟩
  | 19 => ⟨S_, .i32⟩
  | 20 => ⟨S_, .i32⟩
  | 21 => ⟨S_, .i32⟩
  | 22 => ⟨S2048x4x32x64, .f32⟩
  | 23 => ⟨S_, .i32⟩
  | 24 => ⟨S_, .i32⟩
  | 25 => ⟨S4x2048x32x64, .f32⟩
  | 26 => ⟨S4x2048x32x64, .f32⟩
  | 27 => ⟨S32x64x4x2048, .f32⟩
  | 28 => ⟨S32x4x2048x16, .f32⟩
  | 29 => ⟨S4x2048x32x16, .f32⟩
  | 30 => ⟨S32x64x16, .f32⟩
  | 31 => ⟨S32x64x4x2048, .f32⟩
  | 32 => ⟨S32x4x2048x16, .f32⟩
  | 33 => ⟨S4x2048x32x16, .f32⟩
  | 34 => ⟨S4x2048x32x16, .f32⟩
  | 35 => ⟨S32x64x16, .f32⟩
  | 36 => ⟨S4x2048x512, .f32⟩
  | 37 => ⟨S4x2048x512, .f32⟩
  | 38 => ⟨S8192x512, .f32⟩
  | 39 => ⟨S8192x512, .bf16⟩
  | 40 => ⟨S8192x512, .f32⟩
  | 41 => ⟨S8192x512, .bf16⟩
  | 42 => ⟨S32x1024, .f32⟩
  | 43 => ⟨S32x1024, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_c : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v20_4 : Ref sig .tc := ⟨.hbm, 39, rfl⟩
abbrev main_v20_5 : Ref sig .tc := ⟨.hbm, 40, rfl⟩
abbrev main_v20_6 : Ref sig .tc := ⟨.hbm, 41, rfl⟩
abbrev main_v20_7 : Ref sig .tc := ⟨.hbm, 42, rfl⟩
abbrev main_v20_8 : Ref sig .tc := ⟨.hbm, 43, rfl⟩
abbrev main_v20_9 : Ref sig .tc := ⟨.hbm, 44, rfl⟩
abbrev main_v20_10 : Ref sig .tc := ⟨.hbm, 45, rfl⟩
abbrev main_v20_11 : Ref sig .tc := ⟨.hbm, 46, rfl⟩
abbrev main_v20_12 : Ref sig .tc := ⟨.hbm, 47, rfl⟩
abbrev main_while0c_c_37 : Ref sig .tc := ⟨.hbm, 48, rfl⟩
abbrev main_while0c_v113 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_v0 : Ref sig .tc := ⟨.hbm, 53, rfl⟩
abbrev main_while0b_v113 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_v0 : Ref sig .tc := ⟨.hbm, 58, rfl⟩
abbrev main_while0b_v114 : Ref sig .tc := ⟨.hbm, 59, rfl⟩
abbrev main_while0b_v115 : Ref sig .tc := ⟨.hbm, 60, rfl⟩
abbrev main_while0b_v116 : Ref sig .tc := ⟨.hbm, 61, rfl⟩
abbrev main_while0b_v117 : Ref sig .tc := ⟨.hbm, 62, rfl⟩
abbrev main_while0b_v118 : Ref sig .tc := ⟨.hbm, 63, rfl⟩
abbrev main_while0b_v119 : Ref sig .tc := ⟨.hbm, 64, rfl⟩
abbrev main_while0b_v120 : Ref sig .tc := ⟨.hbm, 65, rfl⟩
abbrev main_while0b_v121 : Ref sig .tc := ⟨.hbm, 66, rfl⟩
abbrev main_while0b_v122 : Ref sig .tc := ⟨.hbm, 67, rfl⟩
abbrev main_while0b_v123 : Ref sig .tc := ⟨.hbm, 68, rfl⟩
abbrev main_while0b_v124 : Ref sig .tc := ⟨.hbm, 69, rfl⟩
abbrev main_while0b_v125 : Ref sig .tc := ⟨.hbm, 70, rfl⟩
abbrev main_while0b_v126 : Ref sig .tc := ⟨.hbm, 71, rfl⟩
abbrev main_while0b_call2_v0 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_v127 : Ref sig .tc := ⟨.hbm, 76, rfl⟩
abbrev main_while0b_call3_v0 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_v128 : Ref sig .tc := ⟨.hbm, 81, rfl⟩
abbrev main_while0b_call4_v0 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_v129 : Ref sig .tc := ⟨.hbm, 86, rfl⟩
abbrev main_while0b_call5_v0 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_v130 : Ref sig .tc := ⟨.hbm, 91, rfl⟩
abbrev main_while0b_c_37 : Ref sig .tc := ⟨.hbm, 92, rfl⟩
abbrev main_while0b_v131 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_cst_4 : Ref sig .tc := ⟨.hbm, 109, rfl⟩
abbrev main_v36 : Ref sig .tc := ⟨.hbm, 110, rfl⟩
abbrev main_v37 : Ref sig .tc := ⟨.hbm, 111, rfl⟩
abbrev main_cst_5 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_cst_6 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_cst_7 : Ref sig .tc := ⟨.hbm, 120, rfl⟩
abbrev main_v44 : Ref sig .tc := ⟨.hbm, 121, rfl⟩
abbrev main_v45 : Ref sig .tc := ⟨.hbm, 122, rfl⟩
abbrev main_cst_8 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_cst_9 : Ref sig .tc := ⟨.hbm, 127, rfl⟩
abbrev main_v49 : Ref sig .tc := ⟨.hbm, 128, rfl⟩
abbrev main_v50 : Ref sig .tc := ⟨.hbm, 129, rfl⟩
abbrev main_cst_10 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_cst_11 : Ref sig .tc := ⟨.hbm, 134, rfl⟩
abbrev main_v54 : Ref sig .tc := ⟨.hbm, 135, rfl⟩
abbrev main_cst_12 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_cst_13 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_cst_14 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_15 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_cst_16 : Ref sig .tc := ⟨.hbm, 156, rfl⟩
abbrev main_v71 : Ref sig .tc := ⟨.hbm, 157, rfl⟩
abbrev main_v72 : Ref sig .tc := ⟨.hbm, 158, rfl⟩
abbrev main_cst_17 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_cst_18 : Ref sig .tc := ⟨.hbm, 174, rfl⟩
abbrev main_v87 : Ref sig .tc := ⟨.hbm, 175, rfl⟩
abbrev main_cst_19 : Ref sig .tc := ⟨.hbm, 176, rfl⟩
abbrev main_v88 : Ref sig .tc := ⟨.hbm, 177, rfl⟩
abbrev main_cst_20 : Ref sig .tc := ⟨.hbm, 178, rfl⟩
abbrev main_v89 : Ref sig .tc := ⟨.hbm, 179, rfl⟩
abbrev main_cst_21 : Ref sig .tc := ⟨.hbm, 180, rfl⟩
abbrev main_v90 : Ref sig .tc := ⟨.hbm, 181, rfl⟩
abbrev main_cst_22 : Ref sig .tc := ⟨.hbm, 182, rfl⟩
abbrev main_v91 : Ref sig .tc := ⟨.hbm, 183, rfl⟩
abbrev main_cst_23 : Ref sig .tc := ⟨.hbm, 184, rfl⟩
abbrev main_v92 : Ref sig .tc := ⟨.hbm, 185, rfl⟩
abbrev main_c_24 : Ref sig .tc := ⟨.hbm, 186, rfl⟩
abbrev main_v93_0 : Ref sig .tc := ⟨.hbm, 187, rfl⟩
abbrev main_v93_1 : Ref sig .tc := ⟨.hbm, 188, rfl⟩
abbrev main_v93_2 : Ref sig .tc := ⟨.hbm, 189, rfl⟩
abbrev main_v93_3 : Ref sig .tc := ⟨.hbm, 190, rfl⟩
abbrev main_v93_4 : Ref sig .tc := ⟨.hbm, 191, rfl⟩
abbrev main_v93_5 : Ref sig .tc := ⟨.hbm, 192, rfl⟩
abbrev main_v93_6 : Ref sig .tc := ⟨.hbm, 193, rfl⟩
abbrev main_v93_7 : Ref sig .tc := ⟨.hbm, 194, rfl⟩
abbrev main_v93_8 : Ref sig .tc := ⟨.hbm, 195, rfl⟩
abbrev main_v93_9 : Ref sig .tc := ⟨.hbm, 196, rfl⟩
abbrev main_v93_10 : Ref sig .tc := ⟨.hbm, 197, rfl⟩
abbrev main_v93_11 : Ref sig .tc := ⟨.hbm, 198, rfl⟩
abbrev main_v93_12 : Ref sig .tc := ⟨.hbm, 199, rfl⟩
abbrev main_v93_13 : Ref sig .tc := ⟨.hbm, 200, rfl⟩
abbrev main_v93_14 : Ref sig .tc := ⟨.hbm, 201, rfl⟩
abbrev main_while1c_c_39 : Ref sig .tc := ⟨.hbm, 202, rfl⟩
abbrev main_while1c_v113 : Ref sig .tc := ⟨.hbm, 203, rfl⟩
abbrev main_while1b_c_39 : Ref sig .tc := ⟨.hbm, 204, rfl⟩
abbrev main_while1b_v113 : Ref sig .tc := ⟨.hbm, 205, rfl⟩
abbrev main_while1b_c_40 : Ref sig .tc := ⟨.hbm, 206, rfl⟩
abbrev main_while1b_v114 : Ref sig .tc := ⟨.hbm, 207, rfl⟩
abbrev main_while1b_call6_c : Ref sig .tc := ⟨.hbm, 208, rfl⟩
abbrev main_while1b_call6_c_0 : Ref sig .tc := ⟨.hbm, 209, rfl⟩
abbrev main_while1b_call6_c_1 : Ref sig .tc := ⟨.hbm, 210, rfl⟩
abbrev main_while1b_call6_v0 : Ref sig .tc := ⟨.hbm, 211, rfl⟩
abbrev main_while1b_v115 : Ref sig .tc := ⟨.hbm, 212, rfl⟩
abbrev main_while1b_call7_c : Ref sig .tc := ⟨.hbm, 213, rfl⟩
abbrev main_while1b_call7_c_0 : Ref sig .tc := ⟨.hbm, 214, rfl⟩
abbrev main_while1b_call7_c_1 : Ref sig .tc := ⟨.hbm, 215, rfl⟩
abbrev main_while1b_call7_v0 : Ref sig .tc := ⟨.hbm, 216, rfl⟩
abbrev main_while1b_v116 : Ref sig .tc := ⟨.hbm, 217, rfl⟩
abbrev main_while1b_call8_c : Ref sig .tc := ⟨.hbm, 218, rfl⟩
abbrev main_while1b_call8_c_0 : Ref sig .tc := ⟨.hbm, 219, rfl⟩
abbrev main_while1b_call8_c_1 : Ref sig .tc := ⟨.hbm, 220, rfl⟩
abbrev main_while1b_call8_v0 : Ref sig .tc := ⟨.hbm, 221, rfl⟩
abbrev main_while1b_v117 : Ref sig .tc := ⟨.hbm, 222, rfl⟩
abbrev main_while1b_call9_c : Ref sig .tc := ⟨.hbm, 223, rfl⟩
abbrev main_while1b_call9_c_0 : Ref sig .tc := ⟨.hbm, 224, rfl⟩
abbrev main_while1b_call9_c_1 : Ref sig .tc := ⟨.hbm, 225, rfl⟩
abbrev main_while1b_call9_v0 : Ref sig .tc := ⟨.hbm, 226, rfl⟩
abbrev main_while1b_v118 : Ref sig .tc := ⟨.hbm, 227, rfl⟩
abbrev main_while1b_v119 : Ref sig .tc := ⟨.hbm, 228, rfl⟩
abbrev main_while1b_v120 : Ref sig .tc := ⟨.hbm, 229, rfl⟩
abbrev main_while1b_v121 : Ref sig .tc := ⟨.hbm, 230, rfl⟩
abbrev main_while1b_v122 : Ref sig .tc := ⟨.hbm, 231, rfl⟩
abbrev main_while1b_v123 : Ref sig .tc := ⟨.hbm, 232, rfl⟩
abbrev main_while1b_cst_41 : Ref sig .tc := ⟨.hbm, 233, rfl⟩
abbrev main_while1b_v124 : Ref sig .tc := ⟨.hbm, 234, rfl⟩
abbrev main_while1b_v125 : Ref sig .tc := ⟨.hbm, 235, rfl⟩
abbrev main_while1b_cst_42 : Ref sig .tc := ⟨.hbm, 236, rfl⟩
abbrev main_while1b_v126 : Ref sig .tc := ⟨.hbm, 237, rfl⟩
abbrev main_while1b_v127 : Ref sig .tc := ⟨.hbm, 238, rfl⟩
abbrev main_while1b_v128 : Ref sig .tc := ⟨.hbm, 239, rfl⟩
abbrev main_while1b_v129 : Ref sig .tc := ⟨.hbm, 240, rfl⟩
abbrev main_while1b_v130 : Ref sig .tc := ⟨.hbm, 241, rfl⟩
abbrev main_while1b_cst_43 : Ref sig .tc := ⟨.hbm, 242, rfl⟩
abbrev main_while1b_v131 : Ref sig .tc := ⟨.hbm, 243, rfl⟩
abbrev main_while1b_v132 : Ref sig .tc := ⟨.hbm, 244, rfl⟩
abbrev main_while1b_cst_44 : Ref sig .tc := ⟨.hbm, 245, rfl⟩
abbrev main_while1b_v133 : Ref sig .tc := ⟨.hbm, 246, rfl⟩
abbrev main_while1b_v134 : Ref sig .tc := ⟨.hbm, 247, rfl⟩
abbrev main_while1b_v135 : Ref sig .tc := ⟨.hbm, 248, rfl⟩
abbrev main_while1b_v136 : Ref sig .tc := ⟨.hbm, 249, rfl⟩
abbrev main_while1b_v137 : Ref sig .tc := ⟨.hbm, 250, rfl⟩
abbrev main_while1b_v138 : Ref sig .tc := ⟨.hbm, 251, rfl⟩
abbrev main_while1b_v139 : Ref sig .tc := ⟨.hbm, 252, rfl⟩
abbrev main_while1b_cst_45 : Ref sig .tc := ⟨.hbm, 253, rfl⟩
abbrev main_while1b_v140 : Ref sig .tc := ⟨.hbm, 254, rfl⟩
abbrev main_while1b_v141 : Ref sig .tc := ⟨.hbm, 255, rfl⟩
abbrev main_while1b_cst_46 : Ref sig .tc := ⟨.hbm, 256, rfl⟩
abbrev main_while1b_v142 : Ref sig .tc := ⟨.hbm, 257, rfl⟩
abbrev main_while1b_v143 : Ref sig .tc := ⟨.hbm, 258, rfl⟩
abbrev main_while1b_v144 : Ref sig .tc := ⟨.hbm, 259, rfl⟩
abbrev main_while1b_v145 : Ref sig .tc := ⟨.hbm, 260, rfl⟩
abbrev main_while1b_v146 : Ref sig .tc := ⟨.hbm, 261, rfl⟩
abbrev main_while1b_v147 : Ref sig .tc := ⟨.hbm, 262, rfl⟩
abbrev main_while1b_cst_47 : Ref sig .tc := ⟨.hbm, 263, rfl⟩
abbrev main_while1b_v148 : Ref sig .tc := ⟨.hbm, 264, rfl⟩
abbrev main_while1b_v149 : Ref sig .tc := ⟨.hbm, 265, rfl⟩
abbrev main_while1b_cst_48 : Ref sig .tc := ⟨.hbm, 266, rfl⟩
abbrev main_while1b_v150 : Ref sig .tc := ⟨.hbm, 267, rfl⟩
abbrev main_while1b_v151 : Ref sig .tc := ⟨.hbm, 268, rfl⟩
abbrev main_while1b_call10_v0 : Ref sig .tc := ⟨.hbm, 269, rfl⟩
abbrev main_while1b_call10_c : Ref sig .tc := ⟨.hbm, 270, rfl⟩
abbrev main_while1b_call10_c_0 : Ref sig .tc := ⟨.hbm, 271, rfl⟩
abbrev main_while1b_call10_c_1 : Ref sig .tc := ⟨.hbm, 272, rfl⟩
abbrev main_while1b_v152 : Ref sig .tc := ⟨.hbm, 273, rfl⟩
abbrev main_while1b_call11_v0 : Ref sig .tc := ⟨.hbm, 274, rfl⟩
abbrev main_while1b_call11_c : Ref sig .tc := ⟨.hbm, 275, rfl⟩
abbrev main_while1b_call11_c_0 : Ref sig .tc := ⟨.hbm, 276, rfl⟩
abbrev main_while1b_call11_c_1 : Ref sig .tc := ⟨.hbm, 277, rfl⟩
abbrev main_while1b_v153 : Ref sig .tc := ⟨.hbm, 278, rfl⟩
abbrev main_while1b_c_49 : Ref sig .tc := ⟨.hbm, 279, rfl⟩
abbrev main_while1b_v154 : Ref sig .tc := ⟨.hbm, 280, rfl⟩
abbrev main_v94 : Ref sig .tc := ⟨.hbm, 281, rfl⟩
abbrev main_v95 : Ref sig .tc := ⟨.hbm, 282, rfl⟩
abbrev main_v96 : Ref sig .tc := ⟨.hbm, 283, rfl⟩
abbrev main_v97 : Ref sig .tc := ⟨.hbm, 284, rfl⟩
abbrev main_v98 : Ref sig .tc := ⟨.hbm, 285, rfl⟩
abbrev main_v99 : Ref sig .tc := ⟨.hbm, 286, rfl⟩
abbrev main_v100 : Ref sig .tc := ⟨.hbm, 287, rfl⟩
abbrev main_v101 : Ref sig .tc := ⟨.hbm, 288, rfl⟩
abbrev main_v102 : Ref sig .tc := ⟨.hbm, 289, rfl⟩
abbrev main_v103 : Ref sig .tc := ⟨.hbm, 290, rfl⟩
abbrev main_v104 : Ref sig .tc := ⟨.hbm, 291, rfl⟩
abbrev main_v105 : Ref sig .tc := ⟨.hbm, 292, rfl⟩
abbrev main_v106 : Ref sig .tc := ⟨.hbm, 293, rfl⟩
abbrev main_v107 : Ref sig .tc := ⟨.hbm, 294, rfl⟩
abbrev main_v108 : Ref sig .tc := ⟨.hbm, 295, rfl⟩
abbrev main_v109 : Ref sig .tc := ⟨.hbm, 296, rfl⟩
abbrev main_v110 : Ref sig .tc := ⟨.hbm, 297, rfl⟩
abbrev main_v111 : Ref sig .tc := ⟨.hbm, 298, rfl⟩
abbrev main_v112 : Ref sig .tc := ⟨.hbm, 299, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1792 : Shape := ⟨2, ![8192, 1792]⟩
abbrev S8192x512 : Shape := ⟨2, ![8192, 512]⟩
abbrev S8192x2048 : Shape := ⟨2, ![8192, 2048]⟩
abbrev S1024x4352 : Shape := ⟨2, ![1024, 4352]⟩
abbrev S1024x1792 : Shape := ⟨2, ![1024, 1792]⟩
abbrev S1024x512 : Shape := ⟨2, ![1024, 512]⟩
abbrev S1024x2048 : Shape := ⟨2, ![1024, 2048]⟩
abbrev S8192x1024 : Shape := ⟨2, ![8192, 1024]⟩
abbrev S512x1792 : Shape := ⟨2, ![512, 1792]⟩
abbrev S512x512 : Shape := ⟨2, ![512, 512]⟩
abbrev S512x2048 : Shape := ⟨2, ![512, 2048]⟩
abbrev S512x1024 : Shape := ⟨2, ![512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1792, .bf16⟩
  | .hbm, ⟨1, _⟩ => ⟨S8192x512, .bf16⟩
  | .hbm, ⟨2, _⟩ => ⟨S8192x2048, .bf16⟩
  | .hbm, ⟨3, _⟩ => ⟨S1024x4352, .bf16⟩
  | .hbm, ⟨4, _⟩ => ⟨S1024x1792, .bf16⟩
  | .hbm, ⟨5, _⟩ => ⟨S1024x512, .bf16⟩
  | .hbm, ⟨6, _⟩ => ⟨S1024x2048, .bf16⟩
  | .hbm, ⟨7, _⟩ => ⟨S8192x1024, .f32⟩
  | .local _ .vmem, ⟨0, _⟩ => ⟨S512x1792, .bf16⟩
  | .local _ .vmem, ⟨1, _⟩ => ⟨S512x1792, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S1024x1792, .bf16⟩
  | .local _ .vmem, ⟨7, _⟩ => ⟨S1024x512, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1792 : Shape := ⟨2, ![8192, 1792]⟩
abbrev S8192x512 : Shape := ⟨2, ![8192, 512]⟩
abbrev S8192x2048 : Shape := ⟨2, ![8192, 2048]⟩
abbrev S1024x4352 : Shape := ⟨2, ![1024, 4352]⟩
abbrev S_ : Shape := ⟨0, ![]⟩
abbrev S8192x1024 : Shape := ⟨2, ![8192, 1024]⟩
abbrev S8192x4352 : Shape := ⟨2, ![8192, 4352]⟩

abbrev nBuf : Space → Nat
  | .hbm => 16
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x512, .bf16⟩
  | .hbm, ⟨2, _⟩ => ⟨S8192x2048, .bf16⟩
  | .hbm, ⟨3, _⟩ => ⟨S1024x4352, .bf16⟩
  | .hbm, ⟨4, _⟩ => ⟨S_, .f32⟩
  | .hbm, ⟨5, _⟩ => ⟨S8192x1024, .f32⟩
  | .hbm, ⟨6, _⟩ => ⟨S8192x1792, .f32⟩
  | .hbm, ⟨7, _⟩ => ⟨S8192x512, .f32⟩
  | .hbm, ⟨8, _⟩ => ⟨S8192x2048, .f32⟩
  | .hbm, ⟨9, _⟩ => ⟨S1024x4352, .f32⟩
  | .hbm, ⟨10, _⟩ => ⟨S8192x4352, .f32⟩
  | .hbm, ⟨11, _⟩ => ⟨S8192x1792, .f32⟩
  | .hbm, ⟨12, _⟩ => ⟨S8192x512, .f32⟩
  | .hbm, ⟨13, _⟩ => ⟨S8192x2048, .f32⟩
  | .hbm, ⟨14, _⟩ => ⟨S8192x4352, .f32⟩
  | .hbm, ⟨15, _⟩ => ⟨S8192x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S8192x1024 : Shape := ⟨2, ![8192, 1024]⟩
abbrev S8192x1792 : Shape := ⟨2, ![8192, 1792]⟩
abbrev S1024x1792 : Shape := ⟨2, ![1024, 1792]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S_, .f32⟩
  | .hbm, ⟨3, _⟩ => ⟨S1024x1792, .f32⟩
  | .hbm, ⟨4, _⟩ => ⟨S8192x1024, .f32⟩
  | .hbm, ⟨5, _⟩ => ⟨S8192x1792, .f32⟩
  | .hbm, ⟨6, _⟩ => ⟨S8192x1792, .f32⟩
  | .hbm, ⟨7, _⟩ => ⟨S1792x1024, .f32⟩
  | .hbm, ⟨8, _⟩ => ⟨S1024x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x2048 : Shape := ⟨2, ![8192, 2048]⟩
abbrev S512x2048 : Shape := ⟨2, ![512, 2048]⟩
abbrev S8192x512 : Shape := ⟨2, ![8192, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x512, .f32⟩
  | .local _ .vmem, ⟨4, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S192x1024 : Shape := ⟨2, ![192, 1024]⟩

abbrev nBuf : Space → Nat
  | .hbm => 7
  | .vmem => 7
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S192x1024 : Shape := ⟨2, ![192, 1024]⟩

abbrev nBuf : Space → Nat
  | .hbm => 7
  | .vmem => 7
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S192x1024 : Shape := ⟨2, ![192, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S_, .f32⟩
  | .hbm, ⟨5, _⟩ => ⟨S192x1024, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S192x1024, .f32⟩
  | .hbm, ⟨11, _⟩ => ⟨S_, .f32⟩
  | .hbm, ⟨12, _⟩ => ⟨S192x1024, .f32⟩
  | .hbm, ⟨13, _⟩ => ⟨S192x1024, .f32⟩
  | .hbm, ⟨14, _⟩ => ⟨S192x1024, .f32⟩
  | .hbm, ⟨15, _⟩ => ⟨S_, .f32⟩
  | .hbm, ⟨16, _⟩ => ⟨S192x1024, .f32⟩
  | .hbm, ⟨17, _⟩ => ⟨S192x1024, .f32⟩
  | .hbm, ⟨18, _⟩ => ⟨S192x1024, .f32⟩
  | .hbm, ⟨19, _⟩ => ⟨S_, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S192x1024, .f32⟩
  | .hbm, ⟨26, _⟩ => ⟨S_, .f32⟩
  | .hbm, ⟨27, _⟩ => ⟨S192x1024, .f32⟩
  | .hbm, ⟨28, _⟩ => ⟨S192x1024, .f32⟩
  | .hbm, ⟨29, _⟩ => ⟨S192x1024, .f32⟩
  | .hbm, ⟨30, _⟩ => ⟨S_, .f32⟩
  | .hbm, ⟨31, _⟩ => ⟨S192x1024, .f32⟩
  | .hbm, ⟨32, _⟩ => ⟨S192x1024, .f32⟩
  | .hbm, ⟨33, _⟩ => ⟨S192x1024, .f32⟩
  | .hbm, ⟨34, _⟩ => ⟨S_, .f32⟩
  | .hbm, ⟨35, _⟩ => ⟨S192x1024, .f32⟩
  | .hbm, ⟨36, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S32x1024 : Shape := ⟨2, ![32, 1024]⟩
abbrev S32x1536 : Shape := ⟨2, ![32, 1536]⟩
abbrev S32x6144 : Shape := ⟨2, ![32, 6144]⟩
abbrev S1024x1536 : Shape := ⟨2, ![1024, 1536]⟩
abbrev S1x6144 : Shape := ⟨2, ![1, 6144]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S32x6144, .f32⟩
  | .hbm, ⟨3, _⟩ => ⟨S1024x1536, .f32⟩
  | .hbm, ⟨4, _⟩ => ⟨S1x6144, .f32⟩
  | .local _ .vmem, ⟨0, _⟩ => ⟨S32x1024, .f32⟩
  | .local _ .vmem, ⟨1, _⟩ => ⟨S32x1536, .f32⟩
  | .local _ .vmem, ⟨2, _⟩ => ⟨S32x6144, .f32⟩
  | .local _ .vmem, ⟨3, _⟩ => ⟨S1024x1536, .f32⟩
  | .local _ .vmem, ⟨4, _⟩ => ⟨S1x6144, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference17Ideal.lean ====
abbrev S32x1024 : Shape := ⟨2, ![32, 1024]⟩
abbrev S32x1536 : Shape := ⟨2, ![32, 1536]⟩
abbrev S32x6144 : Shape := ⟨2, ![32, 6144]⟩
abbrev S_ : Shape := ⟨0, ![]⟩
abbrev S1024x1536 : Shape := ⟨2, ![1024, 1536]⟩
abbrev S1x6144 : Shape := ⟨2, ![1, 6144]⟩
abbrev S1536x1024 : Shape := ⟨2, ![1536, 1024]⟩
abbrev S6144 : Shape := ⟨1, ![6144]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S32x6144, .f32⟩
  | .hbm, ⟨3, _⟩ => ⟨S_, .f32⟩
  | .hbm, ⟨4, _⟩ => ⟨S1024x1536, .f32⟩
  | .hbm, ⟨5, _⟩ => ⟨S_, .f32⟩
  | .hbm, ⟨6, _⟩ => ⟨S1x6144, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1536, .f32⟩
  | .hbm, ⟨17, _⟩ => ⟨S1536x1024, .f32⟩
  | .hbm, ⟨18, _⟩ => ⟨S1024x1536, .f32⟩
  | .hbm, ⟨19, _⟩ => ⟨S_, .f32⟩
  | .hbm, ⟨20, _⟩ => ⟨S32x6144, .f32⟩
  | .hbm, ⟨21, _⟩ => ⟨S6144, .f32⟩
  | .hbm, ⟨22, _⟩ => ⟨S1x6144, .f32⟩
  | .hbm, ⟨23, _⟩ => ⟨S32x6144, .f32⟩
  | .hbm, ⟨24, _⟩ => ⟨S32x6144, .f32⟩
  | .hbm, ⟨25, _⟩ => ⟨S_, .f32⟩
  | .hbm, ⟨26, _⟩ => ⟨S6144, .f32⟩
  | .hbm, ⟨27, _⟩ => ⟨S1x6144, .f32⟩
  | .hbm, ⟨28, _⟩ => ⟨S_, .f32⟩
  | .hbm, ⟨29, _⟩ => ⟨S6144, .f32⟩
  | .hbm, ⟨30, _⟩ => ⟨S1x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩

abbrev nD : Nat := 1
abbrev τ : Topo := Topo.v7x

variable {F : FTy → Type} [FloatOps F]
-- ==== Kernel18.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1024x1088 : Shape := ⟨2, ![1024, 1088]⟩
abbrev S256x1088 : Shape := ⟨2, ![256, 1088]⟩

abbrev nBuf : Space → Nat
  | .hbm => 7
  | .vmem => 14
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1024x1088, .f32⟩
  | .hbm, ⟨5, _⟩ => ⟨S1024x1088, .f32⟩
  | .hbm, ⟨6, _⟩ => ⟨S1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S1024x1088 : Shape := ⟨2, ![1024, 1088]⟩
abbrev S256x1088 : Shape := ⟨2, ![256, 1088]⟩

abbrev nBuf : Space → Nat
  | .hbm => 7
  | .vmem => 14
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1024x1088, .f32⟩
  | .hbm, ⟨5, _⟩ => ⟨S1024x1088, .f32⟩
  | .hbm, ⟨6, _⟩ => ⟨S1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1024x1088 : Shape := ⟨2, ![1024, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S_, .f32⟩
  | .hbm, ⟨5, _⟩ => ⟨S1024x1088, .f32⟩
  | .hbm, ⟨6, _⟩ => ⟨S1024x1088, .f32⟩
  | .hbm, ⟨7, _⟩ => ⟨S_, .f32⟩
  | .hbm, ⟨8, _⟩ => ⟨S1024x1088, .f32⟩
  | .hbm, ⟨9, _⟩ => ⟨S1024x1088, .f32⟩
  | .hbm, ⟨10, _⟩ => ⟨S1024x1088, .f32⟩
  | .hbm, ⟨11, _⟩ => ⟨S_, .f32⟩
  | .hbm, ⟨12, _⟩ => ⟨S1024x1088, .f32⟩
  | .hbm, ⟨13, _⟩ => ⟨S1024x1088, .f32⟩
  | .hbm, ⟨14, _⟩ => ⟨S1024x1088, .f32⟩
  | .hbm, ⟨15, _⟩ => ⟨S_, .f32⟩
  | .hbm, ⟨16, _⟩ => ⟨S1024x1088, .f32⟩
  | .hbm, ⟨17, _⟩ => ⟨S1024x1088, .f32⟩
  | .hbm, ⟨18, _⟩ => ⟨S1024x1088, .f32⟩
  | .hbm, ⟨19, _⟩ => ⟨S_, .f32⟩
  | .hbm, ⟨20, _⟩ => ⟨S1024x1088, .f32⟩
  | .hbm, ⟨21, _⟩ => ⟨S1024x1088, .f32⟩
  | .hbm, ⟨22, _⟩ => ⟨S_, .f32⟩
  | .hbm, ⟨23, _⟩ => ⟨S1024x1088, .f32⟩
  | .hbm, ⟨24, _⟩ => ⟨S1024x1088, .f32⟩
  | .hbm, ⟨25, _⟩ => ⟨S1024x1088, .f32⟩
  | .hbm, ⟨26, _⟩ => ⟨S_, .f32⟩
  | .hbm, ⟨27, _⟩ => ⟨S1024x1088, .f32⟩
  | .hbm, ⟨28, _⟩ => ⟨S1024x1088, .f32⟩
  | .hbm, ⟨29, _⟩ => ⟨S1024x1088, .f32⟩
  | .hbm, ⟨30, _⟩ => ⟨S_, .f32⟩
  | .hbm, ⟨31, _⟩ => ⟨S1024x1088, .f32⟩
  | .hbm, ⟨32, _⟩ => ⟨S1024x1088, .f32⟩
  | .hbm, ⟨33, _⟩ => ⟨S1024x1088, .f32⟩
  | .hbm, ⟨34, _⟩ => ⟨S_, .f32⟩
  | .hbm, ⟨35, _⟩ => ⟨S1024x1088, .f32⟩
  | .hbm, ⟨36, _⟩ => ⟨S1024x1088, .f32⟩
  | _, _ => ⟨S1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x512, .f32⟩
  | .hbm, ⟨3, _⟩ => ⟨S512x2048, .f32⟩
  | .hbm, ⟨4, _⟩ => ⟨S8192x2048, .f32⟩
  | .hbm, ⟨5, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S8192x1024 : Shape := ⟨2, ![8192, 1024]⟩
abbrev S1024x4352 : Shape := ⟨2, ![1024, 4352]⟩
abbrev S8192x1792 : Shape := ⟨2, ![8192, 1792]⟩
abbrev S8192x512 : Shape := ⟨2, ![8192, 512]⟩
abbrev S8192x2048 : Shape := ⟨2, ![8192, 2048]⟩
abbrev S512x1024 : Shape := ⟨2, ![512, 1024]⟩
abbrev S512x1792 : Shape := ⟨2, ![512, 1792]⟩
abbrev S512x512 : Shape := ⟨2, ![512, 512]⟩
abbrev S512x2048 : Shape := ⟨2, ![512, 2048]⟩
abbrev S1024x1792 : Shape := ⟨2, ![1024, 1792]⟩
abbrev S1024x512 : Shape := ⟨2, ![1024, 512]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x4352, .bf16⟩
  | .hbm, ⟨2, _⟩ => ⟨S8192x1792, .f32⟩
  | .hbm, ⟨3, _⟩ => ⟨S8192x512, .f32⟩
  | .hbm, ⟨4, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x4352, .bf16⟩
  | .local _ .vmem, ⟨3, _⟩ => ⟨S512x1792, .f32⟩
  | .local _ .vmem, ⟨4, _⟩ => ⟨S512x1792, .f32⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | .local _ .vmem, ⟨8, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S8192x1024 : Shape := ⟨2, ![8192, 1024]⟩
abbrev S1024x4352 : Shape := ⟨2, ![1024, 4352]⟩
abbrev S8192x4352 : Shape := ⟨2, ![8192, 4352]⟩
abbrev S8192x1792 : Shape := ⟨2, ![8192, 1792]⟩
abbrev S8192x512 : Shape := ⟨2, ![8192, 512]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4352, .bf16⟩
  | .hbm, ⟨2, _⟩ => ⟨S8192x1024, .f32⟩
  | .hbm, ⟨3, _⟩ => ⟨S1024x4352, .f32⟩
  | .hbm, ⟨4, _⟩ => ⟨S8192x4352, .f32⟩
  | .hbm, ⟨5, _⟩ => ⟨S8192x1792, .f32⟩
  | .hbm, ⟨6, _⟩ => ⟨S8192x512, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel31.lean ====
abbrev S8192x1024 : Shape := ⟨2, ![8192, 1024]⟩
abbrev S4x1x6144 : Shape := ⟨3, ![4, 1, 6144]⟩
abbrev S1x1024 : Shape := ⟨2, ![1, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1x6144, .f32⟩
  | .hbm, ⟨4, _⟩ => ⟨S1x1024, .f32⟩
  | .hbm, ⟨5, _⟩ => ⟨S8192x1024, .f32⟩
  | .hbm, ⟨6, _⟩ => ⟨S4x1x1024, .f32⟩
  | .hbm, ⟨7, _⟩ => ⟨S4x1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference31Ideal.lean ====
abbrev S8192x1024 : Shape := ⟨2, ![8192, 1024]⟩
abbrev S4x1x6144 : Shape := ⟨3, ![4, 1, 6144]⟩
abbrev S1x1024 : Shape := ⟨2, ![1, 1024]⟩
abbrev S4x1x1024 : Shape := ⟨3, ![4, 1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1x6144, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x1024, .f32⟩
  | .hbm, ⟨39, _⟩ => ⟨S4x1x1024, .f32⟩
  | .hbm, ⟨40, _⟩ => ⟨S4x2048x1024, .f32⟩
  | .hbm, ⟨41, _⟩ => ⟨S_, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S8192x1024, .f32⟩
  | .hbm, ⟨72, _⟩ => ⟨S8192x1024, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel32.lean ====
abbrev S8192x1024 : Shape := ⟨2, ![8192, 1024]⟩
abbrev S4x1x6144 : Shape := ⟨3, ![4, 1, 6144]⟩
abbrev S1x1024 : Shape := ⟨2, ![1, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x1x6144, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference32Ideal.lean ====
abbrev S8192x1024 : Shape := ⟨2, ![8192, 1024]⟩
abbrev S4x1x6144 : Shape := ⟨3, ![4, 1, 6144]⟩
abbrev S1x1024 : Shape := ⟨2, ![1, 1024]⟩
abbrev S4x1x1024 : Shape := ⟨3, ![4, 1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x1x6144, .f32⟩
  | .hbm, ⟨5, _⟩ => ⟨S1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S1024, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S1024, .f32⟩
  | .hbm, ⟨58, _⟩ => ⟨S4x2048x1024, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S4x2048x1024, .f32⟩
  | .hbm, ⟨63, _⟩ => ⟨S4x2048x1024, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S_, .f32⟩
  | .hbm, ⟨69, _⟩ => ⟨S4x2048, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S_, .f32⟩
  | .hbm, ⟨82, _⟩ => ⟨S4x1024, .f32⟩
  | .hbm, ⟨83, _⟩ => ⟨S4x1x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel33.lean ====
abbrev S8192x1024 : Shape := ⟨2, ![8192, 1024]⟩
abbrev S4x1x6144 : Shape := ⟨3, ![4, 1, 6144]⟩
abbrev S1024 : Shape := ⟨1, ![1024]⟩
abbrev S1x1024 : Shape := ⟨2, ![1, 1024]⟩
abbrev S4x1x1024 : Shape := ⟨3, ![4, 1, 1024]⟩
abbrev S1x128 : Shape := ⟨2, ![1, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1x6144, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S4x1x1024, .f32⟩
  | .hbm, ⟨9, _⟩ => ⟨S1x1024, .f32⟩
  | .hbm, ⟨10, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference33Ideal.lean ====
abbrev S8192x1024 : Shape := ⟨2, ![8192, 1024]⟩
abbrev S4x1x6144 : Shape := ⟨3, ![4, 1, 6144]⟩
abbrev S1024 : Shape := ⟨1, ![1024]⟩
abbrev S4x2048x1024 : Shape := ⟨3, ![4, 2048, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S1x128 : Shape := ⟨2, ![1, 128]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1x6144, .f32⟩
  | .hbm, ⟨4, _⟩ => ⟨S1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048, .f32⟩
  | .hbm, ⟨39, _⟩ => ⟨S_, .f32⟩
  | .hbm, ⟨40, _⟩ => ⟨S4x2048, .f32⟩
  | .hbm, ⟨41, _⟩ => ⟨S4x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x2048, .f32⟩
  | .hbm, ⟨50, _⟩ => ⟨S_, .f32⟩
  | .hbm, ⟨51, _⟩ => ⟨S4x2048, .f32⟩
  | .hbm, ⟨52, _⟩ => ⟨S4x2048, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S4x2048x1024, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1024, .f32⟩
  | .hbm, ⟨68, _⟩ => ⟨S4x2048x1024, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S_, .f32⟩
  | .hbm, ⟨84, _⟩ => ⟨S4x1024, .f32⟩
  | .hbm, ⟨85, _⟩ => ⟨S4x1x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x2048, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S_, .f32⟩
  | .hbm, ⟨97, _⟩ => ⟨S4x2048x1, .f32⟩
  | .hbm, ⟨98, _⟩ => ⟨S4x2048x1, .f32⟩
  | .hbm, ⟨99, _⟩ => ⟨S4x2048x1, .f32⟩
  | .hbm, ⟨100, _⟩ => ⟨S4x2048x1024, .f32⟩
  | .hbm, ⟨101, _⟩ => ⟨S4x2048x1024, .f32⟩
  | .hbm, ⟨102, _⟩ => ⟨S1x1x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S4x2048x1024, .f32⟩
  | .hbm, ⟨107, _⟩ => ⟨S_, .f32⟩
  | .hbm, ⟨108, _⟩ => ⟨S_, .f32⟩
  | .hbm, ⟨109, _⟩ => ⟨S1x128, .f32⟩
  | .hbm, ⟨110, _⟩ => ⟨S8192x1024, .f32⟩
  | .hbm, ⟨111, _⟩ => ⟨S8192x1024, .f32⟩
  | .hbm, ⟨112, _⟩ => ⟨S8192x1024, .bf16⟩
  | .hbm, ⟨113, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩
abbrev main_cst_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Kernel34.lean ====
abbrev S32x64 : Shape := ⟨2, ![32, 64]⟩
abbrev S32x1 : Shape := ⟨2, ![32, 1]⟩
abbrev S32x1024 : Shape := ⟨2, ![32, 1024]⟩
abbrev S64x64 : Shape := ⟨2, ![64, 64]⟩
abbrev S_ : Shape := ⟨0, ![]⟩
abbrev S1x16 : Shape := ⟨2, ![1, 16]⟩
abbrev S64x1x64x1 : Shape := ⟨4, ![64, 1, 64, 1]⟩
abbrev S1x1x1x16 : Shape := ⟨4, ![1, 1, 1, 16]⟩
abbrev S64x1x64x16 : Shape := ⟨4, ![64, 1, 64, 16]⟩
abbrev S64x1024 : Shape := ⟨2, ![64, 1024]⟩
abbrev S32 : Shape := ⟨1, ![32]⟩

abbrev nBuf : Space → Nat
  | .hbm => 29
  | .vmem => 15
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S32x1024, .f32⟩
  | .hbm, ⟨4, _⟩ => ⟨S32x1024, .f32⟩
  | .hbm, ⟨5, _⟩ => ⟨S32x64, .f32⟩
  | .hbm, ⟨6, _⟩ => ⟨S32x64, .f32⟩
  | .hbm, ⟨7, _⟩ => ⟨S32x1024, .f32⟩
  | .hbm, ⟨8, _⟩ => ⟨S32x1024, .f32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S64x64, .f32⟩
  | .hbm, ⟨16, _⟩ => ⟨S_, .f32⟩
  | .hbm, ⟨17, _⟩ => ⟨S1x16, .f32⟩
  | .hbm, ⟨18, _⟩ => ⟨S64x1x64x1, .f32⟩
  | .hbm, ⟨19, _⟩ => ⟨S1x1x1x16, .f32⟩
  | .hbm, ⟨20, _⟩ => ⟨S64x1x64x16, .f32⟩
  | .hbm, ⟨21, _⟩ => ⟨S64x1x64x16, .f32⟩
  | .hbm, ⟨22, _⟩ => ⟨S64x1x64x16, .f32⟩
  | .hbm, ⟨23, _⟩ => ⟨S64x1024, .f32⟩
  | .hbm, ⟨24, _⟩ => ⟨S32x64, .f32⟩
  | .hbm, ⟨25, _⟩ => ⟨S32x64, .f32⟩
  | .hbm, ⟨26, _⟩ => ⟨S32x1, .f32⟩
  | .hbm, ⟨27, _⟩ => ⟨S32x1024, .f32⟩
  | .hbm, ⟨28, _⟩ => ⟨S32x1024, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x1024, .f32⟩
  | .local _ .vmem, ⟨4, _⟩ => ⟨S32x1024, .f32⟩
  | .local _ .vmem, ⟨5, _⟩ => ⟨S64x1024, .f32⟩
  | .local _ .vmem, ⟨6, _⟩ => ⟨S32x64, .f32⟩
  | .local _ .vmem, ⟨7, _⟩ => ⟨S32x64, .f32⟩
  | .local _ .vmem, ⟨8, _⟩ => ⟨S32x1024, .f32⟩
  | .local _ .vmem, ⟨9, _⟩ => ⟨S32x1024, .f32⟩
  | .local _ .vmem, ⟨10, _⟩ => ⟨S32x64, .f32⟩
  | .local _ .vmem, ⟨11, _⟩ => ⟨S32x64, .f32⟩
  | .local _ .vmem, ⟨12, _⟩ => ⟨S32x1, .f32⟩
  | .local _ .vmem, ⟨13, _⟩ => ⟨S32x1024, .f32⟩
  | .local _ .vmem, ⟨14, _⟩ => ⟨S32x1024, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference34Ideal.lean ====
abbrev S32x64 : Shape := ⟨2, ![32, 64]⟩
abbrev S32x1 : Shape := ⟨2, ![32, 1]⟩
abbrev S32x1024 : Shape := ⟨2, ![32, 1024]⟩
abbrev S32 : Shape := ⟨1, ![32]⟩
abbrev S32x64x16 : Shape := ⟨3, ![32, 64, 16]⟩
abbrev S_ : Shape := ⟨0, ![]⟩
abbrev S32x64x1 : Shape := ⟨3, ![32, 64, 1]⟩

abbrev nBuf : Space → Nat
  | .hbm => 166
  | .vmem => 0
  | .smem => 0
  | _ => 0

abbrev hbmTy0_0 (i : Nat) : BufTy := match i % 128 with
  | 0 => ⟨S32x64, .f32⟩
  | 1 => ⟨S32x64, .f32⟩
  | 2 => ⟨S32x1, .f32⟩
  | 3 => ⟨S32x1024, .f32⟩
  | 4 => ⟨S32x1024, .f32⟩
  | 5 => ⟨S32x64, .f32⟩
  | 6 => ⟨S32x64, .f32⟩
  | 7 => ⟨S32x1024, .f32⟩
  | 8 => ⟨S32x1024, .f32⟩
  | 9 => ⟨S32, .f32⟩
  | 10 => ⟨S32x64x16, .f32⟩
  | 11 => ⟨S32x64x16, .f32⟩
  | 12 => ⟨S32, .f32⟩
  | 13 => ⟨S32x1, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S_, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S_, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S_, .f32⟩
  | 70 => ⟨S32x64, .f32⟩
  | 71 => ⟨S32x64x1, .f32⟩
  | 72 => ⟨S_, .f32⟩
  | 73 => ⟨S32x64, .f32⟩
  | 74 => ⟨S32x64x16, .f32⟩
  | 75 => ⟨S32x64x16, .f32⟩
  | 76 => ⟨S32x64x16, .f32⟩
  | 77 => ⟨S_, .f32⟩
  | 78 => ⟨S32x64, .f32⟩
  | 79 => ⟨S32x64x1, .f32⟩
  | 80 => ⟨S_, .f32⟩
  | 81 => ⟨S32x64, .f32⟩
  | 82 => ⟨S32x64x16, .f32⟩
  | 83 => ⟨S32x64x16, .f32⟩
  | 84 => ⟨S32x64x16, .f32⟩
  | 85 => ⟨S32x64x16, .f32⟩
  | 86 => ⟨S32x64x16, .f32⟩
  | 87 => ⟨S_, .f32⟩
  | 88 => ⟨S32x64, .f32⟩
  | 89 => ⟨S32x64x1, .f32⟩
  | 90 => ⟨S_, .f32⟩
  | 91 => ⟨S32x64, .f32⟩
  | 92 => ⟨S32x64, .f32⟩
  | 93 => ⟨S32x64x16, .f32⟩
  | 94 => ⟨S32x64x16, .f32⟩
  | 95 => ⟨S32x64x16, .f32⟩
  | 96 => ⟨S32x64x16, .f32⟩
  | 97 => ⟨S_, .f32⟩
  | 98 => ⟨S32x64, .f32⟩
  | 99 => ⟨S32x64x1, .f32⟩
  | 100 => ⟨S_, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S_, .f32⟩
  | 19 => ⟨S32, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S_, .f32⟩
  | 26 => ⟨S32, .f32⟩
  | 27 => ⟨S32x1, .f32⟩
  | 28 => ⟨S32x1, .f32⟩
  | 29 => ⟨S32x64, .f32⟩
  | 30 => ⟨S32x64, .f32⟩
  | 31 => ⟨S32x64, .f32⟩
  | 32 => ⟨S_, .f32⟩
  | 33 => ⟨S32, .f32⟩
  | 34 => ⟨S32, .f32⟩
  | 35 => ⟨S32x1, .f32⟩
  | 36 => ⟨S32x1024, .f32⟩
  | 37 => ⟨S32x1024, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_11 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_12 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_cst_13 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩

abbrev nD : Nat := 1
abbrev τ : Topo := Topo.v7x

variable {F : FTy → Type} [FloatOps F]
-- ==== Proof.S5.FwdRun.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward body's condition: the point is the first of its row of eight, where the carry is reset. -/
abbrev first0 (i : grid0.Coords) : Prop :=
  (Scalar.cmpi .ne (Scalar.extui (Scalar.cmpi .eq (BitVec.ofNat 32 (i 1).val) 0#32)) 0#32) = 1#1

/-- It holds at the points whose number is a multiple of eight. -/
theorem first0_iff : ∀ t : Fin cfg0.N, first0 (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [first0, e1]
    word_cmp
   : ∀ t : Fin grid0.N, first0 (grid0.coords t) ↔ t.val % 8 = 0)

/-- The reset of the forward carry: whichever way the condition goes, the carry buffer holds `xs` afterwards, when
    `xs` is the zero array at a first point and what the buffer held at any other. -/
theorem reset0 (c : Dev nD) (i : grid0.Coords) (arg11 : Memref sig .tc .vmem S2x2048 .f32) (harg11 : arg11.IsWhole)
    (xs d : Vec F S2x2048 .f32) (hf : first0 i → xs = k0_pay107) (hn : ¬first0 i → d = xs) (E : Set ℕ)
    {α : Type} (R : Prog (TpuEff nD τ sig (Elt F) Λ₀ .tc) α) (K : α → sProp 𝕄) :
    iprop(owns (c : Thread nD τ) arg11 fullShare d
        ∗ (owns (c : Thread nD τ) arg11 fullShare xs -∗ wp frame (wpE (defs₀ (F := F)) Variants.none c none) E R K))
      ⊢ wp frame (wpE (defs₀ (F := F)) Variants.none c none) E
          (if k0_h1 : (Scalar.cmpi .ne (Scalar.extui (Scalar.cmpi .eq (BitVec.ofNat 32 (i 1).val) 0#32)) 0#32) = 1#1 then do
            let v251 : Vec F S2x2048 .f32 ← Prog.lift (.load arg11 (Rect.unit (s := S2x2048) ![0, 0] S2x2048.size inb_S2x2048_S2x2048_0_0).toLoadRect (View.loadsAt_vmem h_S2x2048))
            Prog.lift (.store arg11 (Rect.unit (s := S2x2048) ![0, 0] S2x2048.size inb_S2x2048_S2x2048_0_0) (k0_pay107 (F := F)) Finset.univ (View.stores_vmem_bits_univ h_S2x2048 rfl) (.inl rfl))
            R
          else R) K := by
  by_cases hc : first0 i
  · rw [dif_pos hc]
    unfold owns
    iintro ⟨⟨%f, -, H⟩, Hk⟩
    sl_exec
    iapply Hk
    iexists _; isplitr
    swap; · iexact H
    ipureintro
    rw [hf hc]
    exact (View.read_writes_eq_canon _ _ _ (View.cover_of_wholeMem _ (by sl_whole_mem))).trans (View.canon_cons_unit_lit _ _ _ (by decide))
  · rw [dif_neg hc, hn hc]
    iintro ⟨H, Hk⟩
    iapply Hk
    iexact H

-- (the run's proof term is large)
set_option maxHeartbeats 1000000 in
/-- The forward body on whole buffers. The five inputs hold `x0 … x4`, the carry buffer holds `xs` once the body's
    conditional is past, and each output ends with the listed pieces written. -/
def run0 (c : Dev nD) (i : grid0.Coords) (arg2 : Memref sig .tc .vmem S256x512 .f32) (harg2 : arg2.IsWhole) (arg3 : Memref sig .tc .vmem S4x128x1024 .bf16) (harg3 : arg3.IsWhole) (arg4 : Memref sig .tc .vmem S4x1024x128 .bf16) (harg4 : arg4.IsWhole) (arg5 : Memref sig .tc .vmem S2x2048 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x1x2x2048 .f32) (harg8 : arg8.IsWhole) (arg9 : Memref sig .tc .vmem S256x4096 .f32) (harg9 : arg9.IsWhole) (arg10 : Memref sig .tc .vmem S256x512 .bf16) (harg10 : arg10.IsWhole) (arg11 : Memref sig .tc .vmem S2x2048 .f32) (harg11 : arg11.IsWhole)
    (x0 : Vec F S256x512 .f32) (x1 : Vec F S4x128x1024 .bf16) (x2 : Vec F S4x1024x128 .bf16) (x3 : Vec F S2x2048 .f32) (x4 : Vec F S1x512 .f32) (xs : Vec F S2x2048 .f32) :
    Σ' (L5 : List (View.Piece (Elt F) S256x512 .f32)), Σ' (L6 : List (View.Piece (Elt F) S1x1x2x2048 .f32)), Σ' (L7 : List (View.Piece (Elt F) S256x4096 .f32)), Σ' (L8 : List (View.Piece (Elt F) S256x512 .bf16)), { LS : List (View.Piece (Elt F) S2x2048 .f32) //
      ∀ (d : Vec F S2x2048 .f32) (_ : first0 i → xs = k0_pay107) (_ : ¬first0 i → d = xs) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_s5_fwd i arg2 harg2 arg3 harg3 arg4 harg4 arg5 harg5 arg6 harg6 arg7 harg7 arg8 harg8 arg9 harg9 arg10 harg10 arg11 harg11) K } := by
  refine ⟨?_, ?_, ?_, ?_, ?_, fun d hf hn E K => ?run⟩
  case run =>
    simp only [cc0_s5_fwd_eq_skeleton]; unfold cc0_s5_fwd_skel
    simp only [k0_part6_eq_skeleton, k0_part7_eq_skeleton, k0_part8_eq_skeleton, k0_part9_eq_skeleton, k0_part10_eq_skeleton, k0_part11_eq_skeleton]
    iintro ⟨H0, H1, H2, H3, H4, H5, H6, H7, H8, HS0, Hk⟩
    unfold k0_part6_skel
    dsimp only
    rw [wp_bind]
    iapply (reset0 c i arg11 harg11 xs d hf hn)
    isplitl [HS0]; · iexact HS0
    iintro HS0
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%d5, %f5, -, H5⟩
    icases H6 with ⟨%d6, %f6, -, H6⟩
    icases H7 with ⟨%d7, %f7, -, H7⟩
    icases H8 with ⟨%d8, %f8, -, H8⟩
    icases HS0 with ⟨%fs0, %hfs0, HS0⟩
    obtain rfl := harg2.eq_unread hf0; obtain rfl := harg3.eq_unread hf1; obtain rfl := harg4.eq_unread hf2; obtain rfl := harg5.eq_unread hf3; obtain rfl := harg6.eq_unread hf4; obtain rfl := harg11.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    iexists _; iexact HS0

end Cert.S5

end
-- ==== Proof.S5.FwdFrame.lean ====
module

public import proofs.«01_k».proof.Proof.S5.FwdRun

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .bf16 := win0_8.stage (cfg0.slots t 8)
abbrev hs0_8 (t : Fin cfg0.N) : (ms0_8 t).IsWhole := hstage0_8 ((cfg0.slots t 8).cast nbuf0_8)
abbrev scM0_0 : Memref sig .tc .vmem S2x2048 .f32 := Memref.whole cc0_scratch0
/-- The scoped buffers that this region's body does not touch. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
theorem PhiA0_eq (c : Dev nD) :
    (Pipeline.ΦA spec0 c : sProp 𝕄) = iprop(((∃ d, owns (c : Thread nD τ) scM0_0 fullShare d) ∗ rest0 c) ∗ (∃ r, prngReg c r)) := by
  unfold Pipeline.ΦA
  rw [show (Pipeline.scopedRest spec0 c : sProp 𝕄) = _ from Pipeline.scopedRest_eq_of_list spec0 c [cc0_scratch0, cc1_stg0_0, cc1_stg0_1, cc1_stg1_0, cc1_stg1_1, cc1_stg2_0, cc1_stg2_1, cc1_stg3_0, cc1_stg4_0, cc1_stg5_0, cc1_stg6_0, cc1_stg7_0, cc1_stg7_1, cc1_stg8_0, cc1_stg8_1, cc1_stg9_0, cc1_stg9_1, cc1_stg10_0, cc1_stg11_0, cc1_stg12_0, cc1_stg13_0, cc1_scratch0, cc1_scratch1] (by decide) (by decide)]
  simp only [scM0_0, owns_whole]
  rfl

/-- The forward body's run at point `t`, entered with the carry `xs`. -/
abbrev pt0 (c : Dev nD) (t : Fin cfg0.N) (xs : Vec F S2x2048 .f32) := run0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) xs

theorem cover0_y (c : Dev nD) (t : Fin cfg0.N) (xs : Vec F S2x2048 .f32) (y : S256x512.Idx) :
    ∃ pc ∈ (pt0 V c t xs).1, y ∈ pc.1.set :=
  View.cover_of_tiledBy _ ![256, 128] (by sl_kernel_rfl) y
/-- What the body leaves there at point `t`, entered with the carry `xs`. -/
def out0_y (c : Dev nD) (t : Fin cfg0.N) (xs : Vec F S2x2048 .f32) : Vec F S256x512 .f32 := View.canon (pt0 V c t xs).1
theorem cover0_st (c : Dev nD) (t : Fin cfg0.N) (xs : Vec F S2x2048 .f32) (y : S1x1x2x2048.Idx) :
    ∃ pc ∈ (pt0 V c t xs).2.1, y ∈ pc.1.set :=
  View.cover_of_tiledL _ S1x1x2x2048.size (by sl_kernel_rfl) y
/-- What the body leaves there at point `t`, entered with the carry `xs`. -/
def out0_st (c : Dev nD) (t : Fin cfg0.N) (xs : Vec F S2x2048 .f32) : Vec F S1x1x2x2048 .f32 := View.canon (pt0 V c t xs).2.1
theorem cover0_X (c : Dev nD) (t : Fin cfg0.N) (xs : Vec F S2x2048 .f32) (y : S256x4096.Idx) :
    ∃ pc ∈ (pt0 V c t xs).2.2.1, y ∈ pc.1.set :=
  View.cover_of_tiledBy _ ![8, 512] (by sl_kernel_rfl) y
/-- What the body leaves there at point `t`, entered with the carry `xs`. -/
def out0_X (c : Dev nD) (t : Fin cfg0.N) (xs : Vec F S2x2048 .f32) : Vec F S256x4096 .f32 := View.canon (pt0 V c t xs).2.2.1
theorem cover0_o (c : Dev nD) (t : Fin cfg0.N) (xs : Vec F S2x2048 .f32) (y : S256x512.Idx) :
    ∃ pc ∈ (pt0 V c t xs).2.2.2.1, y ∈ pc.1.set :=
  View.cover_of_tiledL _ S256x512.size (by sl_kernel_rfl) y
/-- What the body leaves there at point `t`, entered with the carry `xs`. -/
def out0_o (c : Dev nD) (t : Fin cfg0.N) (xs : Vec F S2x2048 .f32) : Vec F S256x512 .bf16 := View.canon (pt0 V c t xs).2.2.2.1
theorem cover0_car (c : Dev nD) (t : Fin cfg0.N) (xs : Vec F S2x2048 .f32) (y : S2x2048.Idx) :
    ∃ pc ∈ (pt0 V c t xs).2.2.2.2.1, y ∈ pc.1.set :=
  View.cover_of_tiledBy _ ![1, 2048] (by sl_kernel_rfl) y
/-- What the body leaves there at point `t`, entered with the carry `xs`. -/
def out0_car (c : Dev nD) (t : Fin cfg0.N) (xs : Vec F S2x2048 .f32) : Vec F S2x2048 .f32 := View.canon (pt0 V c t xs).2.2.2.2.1

/-- The carry that the body computes with at point `n`: zero at the first point of a row of eight, and what the point
    before left at any other. -/
def carIn0 (c : Dev nD) : ℕ → Vec F S2x2048 .f32
  | 0 => k0_pay107
  | n + 1 => if h : (n + 1) % 8 ≠ 0 ∧ n < cfg0.N then out0_car V c ⟨n, h.2⟩ (carIn0 c n) else k0_pay107

theorem carIn0_first (c : Dev nD) (n : ℕ) (h : n % 8 = 0) : carIn0 V c n = k0_pay107 := by
  cases n with
  | zero => rfl
  | succ n => exact dif_neg fun hn => hn.1 h

theorem carIn0_next (c : Dev nD) (t : Fin cfg0.N) (h : (t.val + 1) % 8 ≠ 0) :
    carIn0 V c (t.val + 1) = out0_car V c t (carIn0 V c t.val) := dif_pos ⟨h, t.isLt⟩

/-- Between points: the carry buffer holds what the next point is to find, unless that point resets it. -/
def Phi0 (c : Dev nD) (n : ℕ) : sProp 𝕄 :=
  iprop(((∃ d, ⌜n % 8 ≠ 0 → d = carIn0 V c n⌝ ∗ owns (c : Thread nD τ) scM0_0 fullShare d) ∗ rest0 c) ∗ (∃ r, prngReg c r))

/-- The forward pipeline's proof data: each input's buffer keeps its block, each output's holds what the body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_y V c t (carIn0 V c t.val)
    | ⟨6, _⟩ => out0_st V c t (carIn0 V c t.val)
    | ⟨7, _⟩ => out0_X V c t (carIn0 V c t.val)
    | ⟨8, _⟩ => out0_o V c t (carIn0 V c t.val)
  Φ t := Phi0 V c t.val
  q _ := fullShare
  owed _ := 0

theorem A_eq0 (c : Dev nD) (w : Fin cfg0.W) : (dat0 V c).A w = V c (Pipeline.arrRef spec0 w) := by dsimp only [dat0]
theorem Phi0_eq (c : Dev nD) (t : Fin (cfg0.N + 1)) : (dat0 V c).Φ t = Phi0 V c t.val := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_y V c t (carIn0 V c t.val) := by dsimp only [dat0]
theorem after0_6 (c : Dev nD) (t : Fin cfg0.N) : (dat0 V c).after 6 t = out0_st V c t (carIn0 V c t.val) := by dsimp only [dat0]
theorem after0_7 (c : Dev nD) (t : Fin cfg0.N) : (dat0 V c).after 7 t = out0_X V c t (carIn0 V c t.val) := by dsimp only [dat0]
theorem after0_8 (c : Dev nD) (t : Fin cfg0.N) : (dat0 V c).after 8 t = out0_o V c t (carIn0 V c t.val) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl, after0_0, after0_1, after0_2, after0_3, after0_4, after0_5, after0_6, after0_7, after0_8,
    Phi0_eq, Phi0_eq, Fin.val_succ, Fin.coe_castSucc]
  unfold Phi0
  iintro ⟨⟨⟨⟨%d, %hd, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((pt0 V c t (carIn0 V c t.val)).2.2.2.2.2 d (fun h => carIn0_first V c _ ((first0_iff t).mp h)) (fun h => hd fun h' => h ((first0_iff t).mpr h')) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS]; · iexact HS
  iintro ⟨H0, H1, H2, H3, H4, ⟨%e5, H5⟩, ⟨%e6, H6⟩, ⟨%e7, H7⟩, ⟨%e8, H8⟩, ⟨%es, HS⟩⟩
  isplitl [HS Hr Hg]
  · isplitl [HS Hr]
    · isplitl [HS]
      · iexists out0_car V c t (carIn0 V c t.val)
        isplitr; · ipureintro; exact fun h => (carIn0_next V c t h).symm
        unfold owns; iexists _; isplitr
        swap; · iexact HS
        ipureintro; exact View.read_writes_eq_canon _ _ _ (cover0_car V c t _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover0_y V c t _)
  isplitl [H6]
  · unfold owns; iexists _; isplitr
    swap; · iexact H6
    ipureintro; exact View.read_writes_eq_canon _ _ _ (cover0_st V c t _)
  isplitl [H7]
  · unfold owns; iexists _; isplitr
    swap; · iexact H7
    ipureintro; exact View.read_writes_eq_canon _ _ _ (cover0_X V c t _)
  unfold owns; iexists _; isplitr
  swap; · iexact H8
  ipureintro; exact View.read_writes_eq_canon _ _ _ (cover0_o V c t _)

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point, -/
theorem hin0 (c : Dev nD) : Pipeline.ΦA spec0 c ⊢ (dat0 V c).Φ 0 := by
  rw [Phi0_eq, PhiA0_eq]; unfold Phi0
  iintro ⟨⟨⟨%d, HS⟩, Hr⟩, Hg⟩
  isplitl [HS Hr]
  · isplitl [HS]
    · iexists d; isplitr; · ipureintro; exact fun h => absurd rfl h
      iexact HS
    iexact Hr
  iexact Hg

/-- and the invariant after the last gives it back. -/
theorem hout0 (c : Dev nD) : (dat0 V c).Φ (Fin.last cfg0.N) ⊢ Pipeline.ΦA spec0 c := by
  rw [Phi0_eq, PhiA0_eq]; unfold Phi0
  iintro ⟨⟨⟨%d, -, HS⟩, Hr⟩, Hg⟩
  isplitl [HS Hr]
  · isplitl [HS]
    · iexists d; iexact HS
    iexact Hr
  iexact Hg

end Cert.S5

end
-- ==== Proof.S5.BwdRun.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The backward body's first condition: the very first point, where the four accumulators are zeroed. -/
abbrev start1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The backward body's second condition: the first point of a row of eight, where the carry is reset. -/
abbrev first1 (i : grid1.Coords) : Prop :=
  (Scalar.cmpi .ne (Scalar.extui (Scalar.cmpi .eq (BitVec.ofNat 32 (i 1).val) 0#32)) 0#32) = 1#1

/-- The first condition holds at point 0 only. -/
theorem start1_iff : ∀ t : Fin cfg1.N, start1 (grid1.coords t) ↔ t.val = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [start1, e0, e1]
    word_cmp
   : ∀ t : Fin grid1.N, start1 (grid1.coords t) ↔ t.val = 0)

/-- The second condition holds at the points whose number is a multiple of eight. -/
theorem first1_iff : ∀ t : Fin cfg1.N, first1 (grid1.coords t) ↔ t.val % 8 = 0 :=
  (fun t => by
    have ht : t.val < 32 := Nat.lt_of_lt_of_eq t.isLt N_1
    have e1 : (grid1.coords t 1).val = t.val / 1 % 8 := Pipeline.Grid.coords_val t 1 (by decide) rfl
    simp only [first1, e1]
    word_cmp
   : ∀ t : Fin grid1.N, first1 (grid1.coords t) ↔ t.val % 8 = 0)

/-- The zeroing of the accumulators: whichever way the condition goes, each holds `xs·` afterwards, when `xs·` is the
    zero array at the start and what the buffer held at any other point. -/
theorem resetAcc1 (c : Dev nD) (i : grid1.Coords) (arg12 : Memref sig .tc .vmem S4x128x1024 .f32) (harg12 : arg12.IsWhole) (arg13 : Memref sig .tc .vmem S4x1024x128 .f32) (harg13 : arg13.IsWhole) (arg14 : Memref sig .tc .vmem S2x2048 .f32) (harg14 : arg14.IsWhole) (arg15 : Memref sig .tc .vmem S1x512 .f32) (harg15 : arg15.IsWhole)
    (xs12 d12 : Vec F S4x128x1024 .f32) (xs13 d13 : Vec F S4x1024x128 .f32) (xs14 d14 : Vec F S2x2048 .f32) (xs15 d15 : Vec F S1x512 .f32) (hf12 : start1 i → xs12 = k1_pay141) (hn12 : ¬start1 i → d12 = xs12) (hf13 : start1 i → xs13 = k1_pay142) (hn13 : ¬start1 i → d13 = xs13) (hf14 : start1 i → xs14 = k1_pay143) (hn14 : ¬start1 i → d14 = xs14) (hf15 : start1 i → xs15 = k1_pay144) (hn15 : ¬start1 i → d15 = xs15) (E : Set ℕ)
    {α : Type} (R : Prog (TpuEff nD τ sig (Elt F) Λ₀ .tc) α) (K : α → sProp 𝕄) :
    iprop(owns (c : Thread nD τ) arg12 fullShare d12 ∗ owns (c : Thread nD τ) arg13 fullShare d13 ∗ owns (c : Thread nD τ) arg14 fullShare d14 ∗ owns (c : Thread nD τ) arg15 fullShare d15
        ∗ (owns (c : Thread nD τ) arg12 fullShare xs12 -∗ owns (c : Thread nD τ) arg13 fullShare xs13 -∗ owns (c : Thread nD τ) arg14 fullShare xs14 -∗ owns (c : Thread nD τ) arg15 fullShare xs15 -∗ wp frame (wpE (defs₀ (F := F)) Variants.none c none) E R K))
      ⊢ wp frame (wpE (defs₀ (F := F)) Variants.none c none) E
          (if _h : Scalar.cmpi .ne (Scalar.extui (Scalar.andi (Scalar.cmpi .eq (BitVec.ofNat 32 (i 0).val) 0#32) (Scalar.cmpi .eq (BitVec.ofNat 32 (i 1).val) 0#32))) 0#32 = 1#1 then do
            let _ : Vec F S4x128x1024 .f32 ← Prog.lift (.load arg12 (Rect.unit (s := S4x128x1024) ![0, 0, 0] S4x128x1024.size inb_S4x128x1024_S4x128x1024_0_0_0).toLoadRect (View.loadsAt_vmem h_S4x128x1024))
            Prog.lift (.store arg12 (Rect.unit (s := S4x128x1024) ![0, 0, 0] S4x128x1024.size inb_S4x128x1024_S4x128x1024_0_0_0) (k1_pay141 (F := F)) Finset.univ (View.stores_vmem_bits_univ h_S4x128x1024 rfl) (.inl rfl))
            let _ : Vec F S4x1024x128 .f32 ← Prog.lift (.load arg13 (Rect.unit (s := S4x1024x128) ![0, 0, 0] S4x1024x128.size inb_S4x1024x128_S4x1024x128_0_0_0).toLoadRect (View.loadsAt_vmem h_S4x1024x128))
            Prog.lift (.store arg13 (Rect.unit (s := S4x1024x128) ![0, 0, 0] S4x1024x128.size inb_S4x1024x128_S4x1024x128_0_0_0) (k1_pay142 (F := F)) Finset.univ (View.stores_vmem_bits_univ h_S4x1024x128 rfl) (.inl rfl))
            let _ : Vec F S2x2048 .f32 ← Prog.lift (.load arg14 (Rect.unit (s := S2x2048) ![0, 0] S2x2048.size inb_S2x2048_S2x2048_0_0).toLoadRect (View.loadsAt_vmem h_S2x2048))
            Prog.lift (.store arg14 (Rect.unit (s := S2x2048) ![0, 0] S2x2048.size inb_S2x2048_S2x2048_0_0) (k1_pay143 (F := F)) Finset.univ (View.stores_vmem_bits_univ h_S2x2048 rfl) (.inl rfl))
            let _ : Vec F S1x512 .f32 ← Prog.lift (.load arg15 (Rect.unit (s := S1x512) ![0, 0] S1x512.size inb_S1x512_S1x512_0_0).toLoadRect (View.loadsAt_vmem h_S1x512))
            Prog.lift (.store arg15 (Rect.unit (s := S1x512) ![0, 0] S1x512.size inb_S1x512_S1x512_0_0) (k1_pay144 (F := F)) Finset.univ (View.stores_vmem_bits_univ h_S1x512 rfl) (.inl rfl))
            R
          else R) K := by
  by_cases hc : start1 i
  · rw [dif_pos hc, hf12 hc, hf13 hc, hf14 hc, hf15 hc]
    unfold owns
    iintro ⟨⟨%f12, -, H12⟩, ⟨%f13, -, H13⟩, ⟨%f14, -, H14⟩, ⟨%f15, -, H15⟩, Hk⟩
    sl_exec
    ispecialize Hk $$ [H12]
    · iexists _; isplitr
      swap; · iexact H12
      ipureintro
      exact (View.read_writes_eq_canon _ _ _ (View.cover_of_wholeMem _ (by sl_whole_mem))).trans (View.canon_cons_unit_lit _ _ _ (by decide))
    ispecialize Hk $$ [H13]
    · iexists _; isplitr
      swap; · iexact H13
      ipureintro
      exact (View.read_writes_eq_canon _ _ _ (View.cover_of_wholeMem _ (by sl_whole_mem))).trans (View.canon_cons_unit_lit _ _ _ (by decide))
    ispecialize Hk $$ [H14]
    · iexists _; isplitr
      swap; · iexact H14
      ipureintro
      exact (View.read_writes_eq_canon _ _ _ (View.cover_of_wholeMem _ (by sl_whole_mem))).trans (View.canon_cons_unit_lit _ _ _ (by decide))
    ispecialize Hk $$ [H15]
    · iexists _; isplitr
      swap; · iexact H15
      ipureintro
      exact (View.read_writes_eq_canon _ _ _ (View.cover_of_wholeMem _ (by sl_whole_mem))).trans (View.canon_cons_unit_lit _ _ _ (by decide))
    iexact Hk
  · rw [dif_neg hc, hn12 hc, hn13 hc, hn14 hc, hn15 hc]
    iintro ⟨H12, H13, H14, H15, Hk⟩
    ispecialize Hk $$ [H12]
    · iexact H12
    ispecialize Hk $$ [H13]
    · iexact H13
    ispecialize Hk $$ [H14]
    · iexact H14
    ispecialize Hk $$ [H15]
    · iexact H15
    iexact Hk

/-- The reset of the backward carry, in the same form. -/
theorem resetCar1 (c : Dev nD) (i : grid1.Coords) (arg17 : Memref sig .tc .vmem S2x2048 .f32) (harg17 : arg17.IsWhole)
    (xs17 d17 : Vec F S2x2048 .f32) (hf17 : first1 i → xs17 = k1_pay145) (hn17 : ¬first1 i → d17 = xs17) (E : Set ℕ)
    {α : Type} (R : Prog (TpuEff nD τ sig (Elt F) Λ₀ .tc) α) (K : α → sProp 𝕄) :
    iprop(owns (c : Thread nD τ) arg17 fullShare d17
        ∗ (owns (c : Thread nD τ) arg17 fullShare xs17 -∗ wp frame (wpE (defs₀ (F := F)) Variants.none c none) E R K))
      ⊢ wp frame (wpE (defs₀ (F := F)) Variants.none c none) E
          (if _h : Scalar.cmpi .ne (Scalar.extui (Scalar.cmpi .eq (BitVec.ofNat 32 (i 1).val) 0#32)) 0#32 = 1#1 then do
            let _ : Vec F S2x2048 .f32 ← Prog.lift (.load arg17 (Rect.unit (s := S2x2048) ![0, 0] S2x2048.size inb_S2x2048_S2x2048_0_0).toLoadRect (View.loadsAt_vmem h_S2x2048))
            Prog.lift (.store arg17 (Rect.unit (s := S2x2048) ![0, 0] S2x2048.size inb_S2x2048_S2x2048_0_0) (k1_pay145 (F := F)) Finset.univ (View.stores_vmem_bits_univ h_S2x2048 rfl) (.inl rfl))
            R
          else R) K := by
  by_cases hc : first1 i
  · rw [dif_pos hc, hf17 hc]
    unfold owns
    iintro ⟨⟨%f17, -, H17⟩, Hk⟩
    sl_exec
    ispecialize Hk $$ [H17]
    · iexists _; isplitr
      swap; · iexact H17
      ipureintro
      exact (View.read_writes_eq_canon _ _ _ (View.cover_of_wholeMem _ (by sl_whole_mem))).trans (View.canon_cons_unit_lit _ _ _ (by decide))
    iexact Hk
  · rw [dif_neg hc, hn17 hc]
    iintro ⟨H17, Hk⟩
    ispecialize Hk $$ [H17]
    · iexact H17
    iexact Hk

-- (the run's proof term is large)
set_option maxHeartbeats 4000000 in
/-- The backward body on whole buffers. The nine inputs hold `x2 … x10`, the four accumulators and the carry hold `xs12 …
    xs15` and `xs17` once the body's conditionals are past, and each output and scratch buffer ends with the listed pieces
    written. -/
def run1 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S4x128x1024 .bf16) (harg6 : arg6.IsWhole) (arg7 : Memref sig .tc .vmem S4x1024x128 .bf16) (harg7 : arg7.IsWhole) (arg8 : Memref sig .tc .vmem S2x2048 .f32) (harg8 : arg8.IsWhole) (arg9 : Memref sig .tc .vmem S1x1x2x2048 .f32) (harg9 : arg9.IsWhole) (arg10 : Memref sig .tc .vmem S256x4096 .f32) (harg10 : arg10.IsWhole) (arg11 : Memref sig .tc .vmem S256x512 .bf16) (harg11 : arg11.IsWhole) (arg12 : Memref sig .tc .vmem S4x128x1024 .f32) (harg12 : arg12.IsWhole) (arg13 : Memref sig .tc .vmem S4x1024x128 .f32) (harg13 : arg13.IsWhole) (arg14 : Memref sig .tc .vmem S2x2048 .f32) (harg14 : arg14.IsWhole) (arg15 : Memref sig .tc .vmem S1x512 .f32) (harg15 : arg15.IsWhole) (arg16 : Memref sig .tc .vmem S256x4096 .f32) (harg16 : arg16.IsWhole) (arg17 : Memref sig .tc .vmem S2x2048 .f32) (harg17 : arg17.IsWhole)
    (x2 : Vec F S256x512 .f32) (x3 : Vec F S256x512 .f32) (x4 : Vec F S256x512 .f32) (x5 : Vec F S1x512 .f32) (x6 : Vec F S4x128x1024 .bf16) (x7 : Vec F S4x1024x128 .bf16) (x8 : Vec F S2x2048 .f32) (x9 : Vec F S1x1x2x2048 .f32) (x10 : Vec F S256x4096 .f32) (xs12 : Vec F S4x128x1024 .f32) (xs13 : Vec F S4x1024x128 .f32) (xs14 : Vec F S2x2048 .f32) (xs15 : Vec F S1x512 .f32) (xs17 : Vec F S2x2048 .f32) :
    Σ' (L11 : List (View.Piece (Elt F) S256x512 .bf16)), Σ' (L12 : List (View.Piece (Elt F) S4x128x1024 .f32)), Σ' (L13 : List (View.Piece (Elt F) S4x1024x128 .f32)), Σ' (L14 : List (View.Piece (Elt F) S2x2048 .f32)), Σ' (L15 : List (View.Piece (Elt F) S1x512 .f32)), Σ' (L16 : List (View.Piece (Elt F) S256x4096 .f32)), { L17 : List (View.Piece (Elt F) S2x2048 .f32) //
      ∀ (d12 : Vec F S4x128x1024 .f32) (d13 : Vec F S4x1024x128 .f32) (d14 : Vec F S2x2048 .f32) (d15 : Vec F S1x512 .f32) (d17 : Vec F S2x2048 .f32) (_ : start1 i → xs12 = k1_pay141) (_ : ¬start1 i → d12 = xs12) (_ : start1 i → xs13 = k1_pay142) (_ : ¬start1 i → d13 = xs13) (_ : start1 i → xs14 = k1_pay143) (_ : ¬start1 i → d14 = xs14) (_ : start1 i → xs15 = k1_pay144) (_ : ¬start1 i → d15 = xs15) (_ : first1 i → xs17 = k1_pay145) (_ : ¬first1 i → d17 = xs17) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13 ∗ owns (c : Thread nD τ) arg14 fullShare d14 ∗ owns (c : Thread nD τ) arg15 fullShare d15 ∗ (∃ d, owns (c : Thread nD τ) arg16 fullShare d) ∗ owns (c : Thread nD τ) arg17 fullShare d17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc1_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun d12 d13 d14 d15 d17 hf12 hn12 hf13 hn13 hf14 hn14 hf15 hn15 hf17 hn17 E K => ?run⟩
  case run =>
    simp only [cc1_s5_bwd_eq_skeleton]; unfold cc1_s5_bwd_skel
    simp only [k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    iintro ⟨H2, H3, H4, H5, H6, H7, H8, H9, H10, H11, H12, H13, H14, H15, H16, H17, Hk⟩
    unfold k1_part10_skel
    dsimp only
    rw [wp_bind]
    iapply (resetAcc1 c i arg12 harg12 arg13 harg13 arg14 harg14 arg15 harg15 xs12 d12 xs13 d13 xs14 d14 xs15 d15 hf12 hn12 hf13 hn13 hf14 hn14 hf15 hn15)
    isplitl [H12]; · iexact H12
    isplitl [H13]; · iexact H13
    isplitl [H14]; · iexact H14
    isplitl [H15]; · iexact H15
    iintro H12 H13 H14 H15
    iapply (resetCar1 c i arg17 harg17 xs17 d17 hf17 hn17)
    isplitl [H17]; · iexact H17
    iintro H17
    unfold owns
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, %e8, H8⟩
    icases H9 with ⟨%f9, %e9, H9⟩
    icases H10 with ⟨%f10, %e10, H10⟩
    icases H12 with ⟨%f12, %e12, H12⟩
    icases H13 with ⟨%f13, %e13, H13⟩
    icases H14 with ⟨%f14, %e14, H14⟩
    icases H15 with ⟨%f15, %e15, H15⟩
    icases H17 with ⟨%f17, %e17, H17⟩
    icases H11 with ⟨%d11, %f11, -, H11⟩
    icases H16 with ⟨%d16, %f16, -, H16⟩
    obtain rfl := harg2.eq_unread e2
    obtain rfl := harg3.eq_unread e3
    obtain rfl := harg4.eq_unread e4
    obtain rfl := harg5.eq_unread e5
    obtain rfl := harg6.eq_unread e6
    obtain rfl := harg7.eq_unread e7
    obtain rfl := harg8.eq_unread e8
    obtain rfl := harg9.eq_unread e9
    obtain rfl := harg10.eq_unread e10
    obtain rfl := harg12.eq_unread e12
    obtain rfl := harg13.eq_unread e13
    obtain rfl := harg14.eq_unread e14
    obtain rfl := harg15.eq_unread e15
    obtain rfl := harg17.eq_unread e17
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.S5

end
-- ==== Proof.S5.BwdFrame.lean ====
module

public import proofs.«01_k».proof.Proof.S5.BwdRun

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x128x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x1024x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x2x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x4096 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4x128x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4x1024x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2x2048 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x512 .f32 := win1_13.stage (cfg1.slots t 13)
abbrev hs1_13 (t : Fin cfg1.N) : (ms1_13 t).IsWhole := hstage1_13 ((cfg1.slots t 13).cast nbuf1_13)
abbrev scM1_0 : Memref sig .tc .vmem S256x4096 .f32 := Memref.whole cc1_scratch0
abbrev scM1_1 : Memref sig .tc .vmem S2x2048 .f32 := Memref.whole cc1_scratch1
/-- The scoped buffers that this region's body does not touch. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f))
theorem PhiA1_eq (c : Dev nD) :
    (Pipeline.ΦA spec1 c : sProp 𝕄) = iprop(((∃ d, owns (c : Thread nD τ) scM1_0 fullShare d) ∗ (∃ d, owns (c : Thread nD τ) scM1_1 fullShare d) ∗ rest1 c) ∗ (∃ r, prngReg c r)) := by
  unfold Pipeline.ΦA
  rw [show (Pipeline.scopedRest spec1 c : sProp 𝕄) = _ from Pipeline.scopedRest_eq_of_list spec1 c [cc1_scratch0, cc1_scratch1, cc0_stg0_0, cc0_stg0_1, cc0_stg1_0, cc0_stg2_0, cc0_stg3_0, cc0_stg4_0, cc0_stg5_0, cc0_stg5_1, cc0_stg6_0, cc0_stg6_1, cc0_stg7_0, cc0_stg7_1, cc0_stg8_0, cc0_stg8_1, cc0_scratch0] (by decide) (by decide)]
  simp only [scM1_0, scM1_1, owns_whole]
  rfl

variable (F) in
/-- What the backward body carries from point to point: the four accumulators and the carry of the recurrence. -/
@[ext] structure Acc1 where
  wb : Vec F S4x128x1024 .f32
  wc : Vec F S4x1024x128 .f32
  ab : Vec F S2x2048 .f32
  d : Vec F S1x512 .f32
  car : Vec F S2x2048 .f32

/-- The backward body's run at point `t`, entered with `a`. -/
abbrev pt1 (c : Dev nD) (t : Fin cfg1.N) (a : Acc1 F) := run1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) a.wb a.wc a.ab a.d a.car

theorem cover1_du (c : Dev nD) (t : Fin cfg1.N) (a : Acc1 F) (y : S256x512.Idx) :
    ∃ pc ∈ (pt1 V c t a).1, y ∈ pc.1.set :=
  View.cover_of_tiledBy _ ![256, 128] (by sl_kernel_rfl) y
/-- What the body leaves there at point `t`, entered with `a`. -/
def out1_du (c : Dev nD) (t : Fin cfg1.N) (a : Acc1 F) : Vec F S256x512 .bf16 := View.canon (pt1 V c t a).1
theorem cover1_wb (c : Dev nD) (t : Fin cfg1.N) (a : Acc1 F) (y : S4x128x1024.Idx) :
    ∃ pc ∈ (pt1 V c t a).2.1, y ∈ pc.1.set :=
  View.cover_of_tiledBy _ ![1, 128, 1024] (by sl_kernel_rfl) y
/-- What the body leaves there at point `t`, entered with `a`. -/
def out1_wb (c : Dev nD) (t : Fin cfg1.N) (a : Acc1 F) : Vec F S4x128x1024 .f32 := View.canon (pt1 V c t a).2.1
theorem cover1_wc (c : Dev nD) (t : Fin cfg1.N) (a : Acc1 F) (y : S4x1024x128.Idx) :
    ∃ pc ∈ (pt1 V c t a).2.2.1, y ∈ pc.1.set :=
  View.cover_of_tiledBy _ ![1, 1024, 128] (by sl_kernel_rfl) y
/-- What the body leaves there at point `t`, entered with `a`. -/
def out1_wc (c : Dev nD) (t : Fin cfg1.N) (a : Acc1 F) : Vec F S4x1024x128 .f32 := View.canon (pt1 V c t a).2.2.1
theorem cover1_ab (c : Dev nD) (t : Fin cfg1.N) (a : Acc1 F) (y : S2x2048.Idx) :
    ∃ pc ∈ (pt1 V c t a).2.2.2.1, y ∈ pc.1.set :=
  View.cover_of_tiledBy _ ![1, 2048] (by sl_kernel_rfl) y
/-- What the body leaves there at point `t`, entered with `a`. -/
def out1_ab (c : Dev nD) (t : Fin cfg1.N) (a : Acc1 F) : Vec F S2x2048 .f32 := View.canon (pt1 V c t a).2.2.2.1
theorem cover1_d (c : Dev nD) (t : Fin cfg1.N) (a : Acc1 F) (y : S1x512.Idx) :
    ∃ pc ∈ (pt1 V c t a).2.2.2.2.1, y ∈ pc.1.set :=
  View.cover_of_tiledL _ S1x512.size (by sl_kernel_rfl) y
/-- What the body leaves there at point `t`, entered with `a`. -/
def out1_d (c : Dev nD) (t : Fin cfg1.N) (a : Acc1 F) : Vec F S1x512 .f32 := View.canon (pt1 V c t a).2.2.2.2.1
theorem cover1_car (c : Dev nD) (t : Fin cfg1.N) (a : Acc1 F) (y : S2x2048.Idx) :
    ∃ pc ∈ (pt1 V c t a).2.2.2.2.2.2.1, y ∈ pc.1.set :=
  View.cover_of_tiledBy _ ![1, 2048] (by sl_kernel_rfl) y
/-- What the body leaves there at point `t`, entered with `a`. -/
def out1_car (c : Dev nD) (t : Fin cfg1.N) (a : Acc1 F) : Vec F S2x2048 .f32 := View.canon (pt1 V c t a).2.2.2.2.2.2.1

/-- What the body computes with at point `n`: zeros at the first point; afterwards what the point before left, the carry
    zeroed at the first point of every row of eight. -/
def in1 (c : Dev nD) : ℕ → Acc1 F
  | 0 => ⟨k1_pay141, k1_pay142, k1_pay143, k1_pay144, k1_pay145⟩
  | n + 1 => if h : n < cfg1.N then
      ⟨out1_wb V c ⟨n, h⟩ (in1 c n), out1_wc V c ⟨n, h⟩ (in1 c n), out1_ab V c ⟨n, h⟩ (in1 c n), out1_d V c ⟨n, h⟩ (in1 c n),
        if (n + 1) % 8 ≠ 0 then out1_car V c ⟨n, h⟩ (in1 c n) else k1_pay145⟩
    else ⟨k1_pay141, k1_pay142, k1_pay143, k1_pay144, k1_pay145⟩

theorem in1_succ (c : Dev nD) (t : Fin cfg1.N) : in1 V c (t.val + 1) =
    ⟨out1_wb V c t (in1 V c t.val), out1_wc V c t (in1 V c t.val), out1_ab V c t (in1 V c t.val), out1_d V c t (in1 V c t.val),
      if (t.val + 1) % 8 ≠ 0 then out1_car V c t (in1 V c t.val) else k1_pay145⟩ := dif_pos t.isLt

theorem in1_pred (c : Dev nD) (t : Fin cfg1.N) (ht : t.val ≠ 0) : in1 V c t.val =
    (let p : Fin cfg1.N := ⟨t.val - 1, Nat.lt_of_le_of_lt (Nat.sub_le _ _) t.isLt⟩
    ⟨out1_wb V c p (in1 V c p.val), out1_wc V c p (in1 V c p.val), out1_ab V c p (in1 V c p.val), out1_d V c p (in1 V c p.val),
      if t.val % 8 ≠ 0 then out1_car V c p (in1 V c p.val) else k1_pay145⟩) := by
  have h := in1_succ V c ⟨t.val - 1, Nat.lt_of_le_of_lt (Nat.sub_le _ _) t.isLt⟩
  simp only [Nat.sub_add_cancel (Nat.one_le_iff_ne_zero.mpr ht)] at h
  exact h

theorem in1_car_first (c : Dev nD) (t : Fin cfg1.N) (h : t.val % 8 = 0) : (in1 V c t.val).car = k1_pay145 := by
  obtain ⟨n, hn⟩ := t
  cases n with
  | zero => rfl
  | succ n => rw [in1_succ V c ⟨n, by omega⟩]; exact if_neg fun h' => h' h

theorem in1_car_next (c : Dev nD) (t : Fin cfg1.N) (h : (t.val + 1) % 8 ≠ 0) :
    (in1 V c (t.val + 1)).car = out1_car V c t (in1 V c t.val) := by
  rw [in1_succ]; exact if_pos h

/-- Between points: the carry buffer holds what the next point is to find, unless that point resets it. -/
def Phi1 (c : Dev nD) (n : ℕ) : sProp 𝕄 :=
  iprop(((∃ d, owns (c : Thread nD τ) scM1_0 fullShare d) ∗ (∃ d, ⌜n % 8 ≠ 0 → d = (in1 V c n).car⌝ ∗ owns (c : Thread nD τ) scM1_1 fullShare d) ∗ rest1 c) ∗ (∃ r, prngReg c r))

/-- The backward pipeline's proof data: each input's buffer keeps its block, each output's holds what the body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_du V c t (in1 V c t.val)
    | ⟨10, _⟩ => out1_wb V c t (in1 V c t.val)
    | ⟨11, _⟩ => out1_wc V c t (in1 V c t.val)
    | ⟨12, _⟩ => out1_ab V c t (in1 V c t.val)
    | ⟨13, _⟩ => out1_d V c t (in1 V c t.val)
  Φ t := Phi1 V c t.val
  q _ := fullShare
  owed _ := 0

theorem A_eq1 (c : Dev nD) (w : Fin cfg1.W) : (dat1 V c).A w = V c (Pipeline.arrRef spec1 w) := by dsimp only [dat1]
theorem Phi1_eq (c : Dev nD) (t : Fin (cfg1.N + 1)) : (dat1 V c).Φ t = Phi1 V c t.val := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_du V c t (in1 V c t.val) := by dsimp only [dat1]
theorem after1_10 (c : Dev nD) (t : Fin cfg1.N) : (dat1 V c).after 10 t = out1_wb V c t (in1 V c t.val) := by dsimp only [dat1]
theorem after1_11 (c : Dev nD) (t : Fin cfg1.N) : (dat1 V c).after 11 t = out1_wc V c t (in1 V c t.val) := by dsimp only [dat1]
theorem after1_12 (c : Dev nD) (t : Fin cfg1.N) : (dat1 V c).after 12 t = out1_ab V c t (in1 V c t.val) := by dsimp only [dat1]
theorem after1_13 (c : Dev nD) (t : Fin cfg1.N) : (dat1 V c).after 13 t = out1_d V c t (in1 V c t.val) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_10 (c : Dev nD) (t : Fin cfg1.N) (ht : t.val ≠ 0) (d) : (dat1 V c).before 10 t d = (in1 V c t.val).wb := by
  rw [Dat.before_out_kept _ 10 rfl t (by omega)
    (Bool.eq_false_iff.mpr fun h => by have := (flush1_10 _).mp h; dsimp only at this; have hN := lt_of_lt_of_eq t.isLt (show cfg1.N = 32 from N_1); omega)
    (fun _ => rfl) (fun _ _ => rfl)]
  rw [after1_10, in1_pred V c t ht]
theorem before1_11 (c : Dev nD) (t : Fin cfg1.N) (ht : t.val ≠ 0) (d) : (dat1 V c).before 11 t d = (in1 V c t.val).wc := by
  rw [Dat.before_out_kept _ 11 rfl t (by omega)
    (Bool.eq_false_iff.mpr fun h => by have := (flush1_11 _).mp h; dsimp only at this; have hN := lt_of_lt_of_eq t.isLt (show cfg1.N = 32 from N_1); omega)
    (fun _ => rfl) (fun _ _ => rfl)]
  rw [after1_11, in1_pred V c t ht]
theorem before1_12 (c : Dev nD) (t : Fin cfg1.N) (ht : t.val ≠ 0) (d) : (dat1 V c).before 12 t d = (in1 V c t.val).ab := by
  rw [Dat.before_out_kept _ 12 rfl t (by omega)
    (Bool.eq_false_iff.mpr fun h => by have := (flush1_12 _).mp h; dsimp only at this; have hN := lt_of_lt_of_eq t.isLt (show cfg1.N = 32 from N_1); omega)
    (fun _ => rfl) (fun _ _ => rfl)]
  rw [after1_12, in1_pred V c t ht]
theorem before1_13 (c : Dev nD) (t : Fin cfg1.N) (ht : t.val ≠ 0) (d) : (dat1 V c).before 13 t d = (in1 V c t.val).d := by
  rw [Dat.before_out_kept _ 13 rfl t (by omega)
    (Bool.eq_false_iff.mpr fun h => by have := (flush1_13 _).mp h; dsimp only at this; have hN := lt_of_lt_of_eq t.isLt (show cfg1.N = 32 from N_1); omega)
    (fun _ => rfl) (fun _ _ => rfl)]
  rw [after1_13, in1_pred V c t ht]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl, after1_0, after1_1, after1_2, after1_3, after1_4, after1_5, after1_6, after1_7, after1_8, after1_9, after1_10, after1_11, after1_12, after1_13,
    Phi1_eq, Phi1_eq, Fin.val_succ, Fin.coe_castSucc]
  unfold Phi1
  iintro ⟨⟨⟨HG, ⟨%d, %hd, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((pt1 V c t (in1 V c t.val)).2.2.2.2.2.2.2 _ _ _ _ d
    (fun h => by rw [(start1_iff t).mp h]; rfl) (fun h => before1_10 V c t (fun h' => h ((start1_iff t).mpr h')) _)
    (fun h => by rw [(start1_iff t).mp h]; rfl) (fun h => before1_11 V c t (fun h' => h ((start1_iff t).mpr h')) _)
    (fun h => by rw [(start1_iff t).mp h]; rfl) (fun h => before1_12 V c t (fun h' => h ((start1_iff t).mpr h')) _)
    (fun h => by rw [(start1_iff t).mp h]; rfl) (fun h => before1_13 V c t (fun h' => h ((start1_iff t).mpr h')) _)
    (fun h => in1_car_first V c _ ((first1_iff t).mp h)) (fun h => hd fun h' => h ((first1_iff t).mpr h')) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [HG]; · iexact HG
  isplitl [HS]; · iexact HS
  iintro ⟨H0, H1, H2, H3, H4, H5, H6, H7, H8, ⟨%e9, H9⟩, ⟨%e10, H10⟩, ⟨%e11, H11⟩, ⟨%e12, H12⟩, ⟨%e13, H13⟩, ⟨%eG, HG⟩, ⟨%es, HS⟩⟩
  isplitl [HG HS Hr Hg]
  · isplitl [HG HS Hr]
    · isplitl [HG]
      · iexists _; unfold owns; iexists _; isplitr
        swap; · iexact HG
        ipureintro; rfl
      isplitl [HS]
      · iexists out1_car V c t (in1 V c t.val)
        isplitr; · ipureintro; exact fun h => (in1_car_next V c t h).symm
        unfold owns; iexists _; isplitr
        swap; · iexact HS
        ipureintro; exact View.read_writes_eq_canon _ _ _ (cover1_car V c t _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover1_du V c t _)
  isplitl [H10]
  · unfold owns; iexists _; isplitr
    swap; · iexact H10
    ipureintro; exact View.read_writes_eq_canon _ _ _ (cover1_wb V c t _)
  isplitl [H11]
  · unfold owns; iexists _; isplitr
    swap; · iexact H11
    ipureintro; exact View.read_writes_eq_canon _ _ _ (cover1_wc V c t _)
  isplitl [H12]
  · unfold owns; iexists _; isplitr
    swap; · iexact H12
    ipureintro; exact View.read_writes_eq_canon _ _ _ (cover1_ab V c t _)
  unfold owns; iexists _; isplitr
  swap; · iexact H13
  ipureintro; exact View.read_writes_eq_canon _ _ _ (cover1_d V c t _)

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point, -/
theorem hin1 (c : Dev nD) : Pipeline.ΦA spec1 c ⊢ (dat1 V c).Φ 0 := by
  rw [Phi1_eq, PhiA1_eq]; unfold Phi1
  iintro ⟨⟨HG, ⟨%d, HS⟩, Hr⟩, Hg⟩
  isplitl [HG HS Hr]
  · isplitl [HG]; · iexact HG
    isplitl [HS]
    · iexists d; isplitr; · ipureintro; exact fun h => absurd rfl h
      iexact HS
    iexact Hr
  iexact Hg

/-- and the invariant after the last gives it back. -/
theorem hout1 (c : Dev nD) : (dat1 V c).Φ (Fin.last cfg1.N) ⊢ Pipeline.ΦA spec1 c := by
  rw [Phi1_eq, PhiA1_eq]; unfold Phi1
  iintro ⟨⟨HG, ⟨%d, -, HS⟩, Hr⟩, Hg⟩
  isplitl [HG HS Hr]
  · isplitl [HG]; · iexact HG
    isplitl [HS]
    · iexists d; iexact HS
    iexact Hr
  iexact Hg

end Cert.S5

end
-- ==== Proof.S5.Run.lean ====
module

public import proofs.«01_k».proof.Proof.S5.FwdFrame
public import proofs.«01_k».proof.Proof.S5.BwdFrame
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8]

theorem hostOps0_args : ∀ a ∈ argRefs, a ∉ hostOps0_W := ListAll.forall_mem_of_all_decide (by decide +kernel)
theorem hostOps2_args : ∀ a ∈ argRefs, a ∉ hostOps2_W := ListAll.forall_mem_of_all_decide (by decide +kernel)

/-! ## The buffers at each boundary of the program -/

/-- At launch. -/
abbrev W0 : Dev nD → Valuation τ sig (Elt F) := fun c b => m (c, b)
/-- After the host code before the calls. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => W1_of m c a (hostOps0_args a ha)

/-- After the forward call: its arrays hold what its pipeline leaves, every other buffer is as before. -/
def W2 (c : Dev nD) : Valuation τ sig (Elt F) :=
  Pipeline.withArrays spec0 c (W1 m c) fun w => (dat0 (U1 m) c).arrAt w cfg0.N
abbrev U2 : (c : Dev nD) → (b : Ref sig .tc) → Buf (Elt F) ((c : Thread nD τ).loc b) := fun c b => W2 m c b
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (U1 m) c).arrAt_in w (h w rfl) _).trans (A_eq0 (U1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the backward call: its arrays hold what its pipeline leaves, every other buffer is as before. -/
def W3 (c : Dev nD) : Valuation τ sig (Elt F) :=
  Pipeline.withArrays spec1 c (W2 m c) fun w => (dat1 (U2 m) c).arrAt w cfg1.N
abbrev U3 : (c : Dev nD) → (b : Ref sig .tc) → Buf (Elt F) ((c : Thread nD τ).loc b) := fun c b => W3 m c b
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (U2 m) c).arrAt_in w (h w rfl) _).trans (A_eq1 (U2 m) c w))
  · exact W3_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- After the host code behind the calls. -/
abbrev W4 : Dev nD → Valuation τ sig (Elt F) := fun c => StableHlo.after hostOps2 (W3 m c)
theorem W4_of (c : Dev nD) (r : Ref sig .tc) (h : r ∉ hostOps2_W) : W4 m c (Proc.devRef .tc r) = W3 m c (Proc.devRef .tc r) :=
  StableHlo.after_of_writes_sub hostOps2 _ hostOps2_writes h
theorem W4_args (c : Dev nD) : ∀ a ∈ argRefs, W4 m c (Proc.devRef .tc a) = m ((c : Thread nD τ).loc a) :=
  fun a ha => (W4_of m c a (hostOps2_args a ha)).trans (W3_args m c a ha)

/-! ## The launch -/

/-- Both pipelines' proof data, each at the contents its call finds. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev L : GSem nD τ sig → Finset Unit := fun _ => ∅
abbrev lv : GSem nD τ sig → Unit → ℕ := fun _ _ => 0
/-- What rides beside the buffers: the generator register, and nothing owed. -/
abbrev Side (c : Dev nD) : sProp 𝕄 := iprop((∃ r, prngReg c r) ∗ ∃ W, owes (c : Thread nD τ) (0 : CellTallies nD τ sig Unit) W)
/-- A stretch of host code as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at its final contents. -/
abbrev Tₙ (c : Dev nD) : sProp 𝕄 := iprop(StableHlo.held (c : Thread nD τ) (Pipeline.ucRefs τ sig) (W4 m c) ∗ ∃ r, prngReg c r)

-- (the library's lemmas are stated over the pinned configuration)
set_option backward.isDefEq.respectTransparency.types false in
/-- The forward call as a segment. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ Side c)
  post c := iprop(StableHlo.held (c : Thread nD τ) (Pipeline.ucRefs τ sig) (W2 m c) ∗ Side c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) (A_eq0 (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hi : Pipeline.ΦA spec0 c ⊢ (pdats m 0 c).Φ 0 := hin0 (U1 m) c
    iintro ⟨Hp, -, Hr⟩
    iapply hi
    unfold Pipeline.ΦA
    isplitl [Hr]; · iexact Hr
    iexact Hp
  hout c := by
    have ho : (pdats m 0 c).Φ (Fin.last _) ⊢ Pipeline.ΦA spec0 c := hout0 (U1 m) c
    rw [Pipeline.ownSems0_none]
    iintro H
    ihave H := ho $$ H
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- (the library's lemmas are stated over the pinned configuration)
set_option backward.isDefEq.respectTransparency.types false in
/-- The backward call as a segment. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ Side c)
  post c := iprop(StableHlo.held (c : Thread nD τ) (Pipeline.ucRefs τ sig) (W3 m c) ∗ Side c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) (A_eq1 (U2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hi : Pipeline.ΦA spec1 c ⊢ (pdats m 1 c).Φ 0 := hin1 (U2 m) c
    iintro ⟨Hp, -, Hr⟩
    iapply hi
    unfold Pipeline.ΦA
    isplitl [Hr]; · iexact Hr
    iexact Hp
  hout c := by
    have ho : (pdats m 1 c).Φ (Fin.last _) ⊢ Pipeline.ΦA spec1 c := hout1 (U2 m) c
    rw [Pipeline.ownSems0_none]
    iintro H
    ihave H := ho $$ H
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments. -/
abbrev allSegs : List (Pipeline.Seg (pcfgs (F := F)) adm (pdats m) () defs₀ Variants.none L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (allSegs m) := (main_chain c).trans (by chain_rfl)

set_option backward.isDefEq.respectTransparency.types false in
/-- The run over any float values: the program terminates without fault, every unscoped buffer ends as the fold `W4` says,
    and every counter is zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W4 m c b) ∧ r.2.sem = fun _ => 0) :=
  Pipeline.θ_run_regions_kit_sems (pcfgs (F := F)) adm (pdats m) () cellOf_inj emb₁ defs₀ Variants.none L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Side c)) (Tₙ := Tₙ m)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (regions_no_unscoped g.2))⟩)

/-- An argument array ends as it was launched. -/
theorem arg_end {s : (ℓ : Loc nD τ sig) → Buf (Elt F) ℓ} (h : ∀ c : Dev nD, ∀ b ∈ Pipeline.ucRefs τ sig, s (((c : Thread nD τ)).1, b) = W4 m c b)
    (c : Dev nD) (a : Ref sig .tc) (ha : a ∈ argRefs) (hu : ¬ (Proc.devRef .tc a : DevRef τ sig).isScoped) :
    s ((c : Thread nD τ).loc a) = m ((c : Thread nD τ).loc a) :=
  (h c _ (mem_uc a hu)).trans (W4_args m c a ha)

end Cert.S5

end
-- ==== Proof.S5.RefOps.lean ====
module

public import proofs.«01_k».proof.Proof.Gen.ReferenceIdeal
public import Idealize.ShloMosaic.Lib.StableHlo.RunLoop
public import Idealize.ShloMosaic.Lib.StableHlo.RunRead
public import Idealize.ShloMosaic.Lib.Pipeline.RegionsLoop

@[expose] public section

set_option maxRecDepth 16384

/-! The reference program as lists of host operations: the code before, between and after its two loops, and the loops'
    conditions and bodies, with the equations that say the program is these lists in order. -/

noncomputable section

namespace Cert.S5.Ref

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- The operations of one call of the function `dynamic_index_in_dim`. -/
abbrev idxOps (arg0 : StableHlo.TRef sig ⟨S2048x4x32x64, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x4x32x64 x (fun k => (i k (Shape.Idx.first h_S_)).toInt) sliceFits_S2048x4x32x64_S1x4x32x64),
    StableHlo.TRef.reshape φ.v0 φ.v1 (rfl : (.f32 : EltTy) = .f32) shapeCasts_S1x4x32x64_S4x32x64 ]
theorem idxOps_sub (arg0 : StableHlo.TRef sig ⟨S2048x4x32x64, .f32⟩) (arg1 : StableHlo.TRef sig ⟨S_, .i32⟩) (φ : fn_dynamic_index_in_dim.Bufs) : (idxOps arg0 arg1 φ : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem idxOps_body (arg0 : StableHlo.TRef sig ⟨S2048x4x32x64, .f32⟩) (arg1 : StableHlo.TRef sig ⟨S_, .i32⟩) (φ : fn_dynamic_index_in_dim.Bufs) : fn_dynamic_index_in_dim.body (F := F) arg0 arg1 φ = (Pipeline.chain [StableHlo.seq (idxOps arg0 arg1 φ)] : Prog (TpuEff nD τ sig (Elt F) (HostLoop.Sig (Pipeline.Sig Λ₀ (Fin 0) fun p => (pcfgs (F := F) p).Adm) 2) .tc) PUnit) := by
  rewrite [StableHlo.chain_seq_cons]
  chain_rfl
/-- The operations of one call of the function `dynamic_update_index_in_dim`. -/
abbrev updOps (arg0 : StableHlo.TRef sig ⟨S2048x4x32x64, .f32⟩) (arg1 : StableHlo.TRef sig ⟨S4x32x64, .f32⟩) (arg2 : StableHlo.TRef sig ⟨S_, .i32⟩) (φ : fn_dynamic_update_index_in_dim.Bufs) : List (HloOp τ sig (Elt F)) :=
  [ StableHlo.TRef.unary arg1 φ.v0 (broadcastInDim S1x4x32x64 ![1, 2, 3] bcast_S4x32x64_S1x4x32x64_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S2048x4x32x64_S1x4x32x64) ]
theorem updOps_sub (arg0 : StableHlo.TRef sig ⟨S2048x4x32x64, .f32⟩) (arg1 : StableHlo.TRef sig ⟨S4x32x64, .f32⟩) (arg2 : StableHlo.TRef sig ⟨S_, .i32⟩) (φ : fn_dynamic_update_index_in_dim.Bufs) : (updOps arg0 arg1 arg2 φ : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem updOps_body (arg0 : StableHlo.TRef sig ⟨S2048x4x32x64, .f32⟩) (arg1 : StableHlo.TRef sig ⟨S4x32x64, .f32⟩) (arg2 : StableHlo.TRef sig ⟨S_, .i32⟩) (φ : fn_dynamic_update_index_in_dim.Bufs) : fn_dynamic_update_index_in_dim.body (F := F) arg0 arg1 arg2 φ = (Pipeline.chain [StableHlo.seq (updOps arg0 arg1 arg2 φ)] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The host code before the first loop. -/
abbrev opsA : List (HloOp τ sig (Elt F)) :=
  [ StableHlo.reshape main_arg0 main_v0 (rfl : (.f32 : EltTy) = .f32) shapeCasts_S8192x512_S4x2048x512,
    StableHlo.reshape main_arg1 main_v1 (rfl : (.f32 : EltTy) = .f32) shapeCasts_S8192x512_S4x2048x512,
    StableHlo.reshape main_arg5 main_v2 (rfl : (.f32 : EltTy) = .f32) shapeCasts_S32x1024_S32x64x16,
    StableHlo.reshape main_arg6 main_v3 (rfl : (.f32 : EltTy) = .f32) shapeCasts_S32x1024_S32x64x16,
    StableHlo.reshape main_v0 main_v4 (rfl : (.f32 : EltTy) = .f32) shapeCasts_S4x2048x512_S4x2048x32x16,
    StableHlo.binary main_v2 main_v4 main_v5 ((fun l r => Host.dotGeneral dot_S32x64x16_S4x2048x32x16_S32x64x4x2048_2_3_1_01_0_2 none l r) : (⟨S32x64x16, .f32⟩ : BufTy).Contents (Elt F) → (⟨S4x2048x32x16, .f32⟩ : BufTy).Contents (Elt F) → (⟨S32x64x4x2048, .f32⟩ : BufTy).Contents (Elt F)),
    StableHlo.unary main_v5 main_v6 ((transpose S4x2048x32x64 [2, 3, 0, 1] · transposes_S32x64x4x2048_S4x2048x32x64_2_3_0_1) : (⟨S32x64x4x2048, .f32⟩ : BufTy).Contents (Elt F) → (⟨S4x2048x32x64, .f32⟩ : BufTy).Contents (Elt F)),
    StableHlo.binary main_v3 main_v4 main_v7 ((fun l r => Host.dotGeneral dot_S32x64x16_S4x2048x32x16_S32x64x4x2048_2_3_1_01_0_2 none l r) : (⟨S32x64x16, .f32⟩ : BufTy).Contents (Elt F) → (⟨S4x2048x32x16, .f32⟩ : BufTy).Contents (Elt F) → (⟨S32x64x4x2048, .f32⟩ : BufTy).Contents (Elt F)),
    StableHlo.unary main_v7 main_v8 ((transpose S4x2048x32x64 [2, 3, 0, 1] · transposes_S32x64x4x2048_S4x2048x32x64_2_3_0_1) : (⟨S32x64x4x2048, .f32⟩ : BufTy).Contents (Elt F) → (⟨S4x2048x32x64, .f32⟩ : BufTy).Contents (Elt F)),
    StableHlo.nullary main_cst (constant S_ .f32 0x00000000#32),
    StableHlo.unary main_cst main_v9 (broadcastInDim S4x32x64 ![] bcast_S_S4x32x64 : (⟨S_, .f32⟩ : BufTy).Contents (Elt F) → (⟨S4x32x64, .f32⟩ : BufTy).Contents (Elt F)),
    StableHlo.unary main_v6 main_v10 ((transpose S2048x4x32x64 [1, 0, 2, 3] · transposes_S4x2048x32x64_S2048x4x32x64_1_0_2_3) : (⟨S4x2048x32x64, .f32⟩ : BufTy).Contents (Elt F) → (⟨S2048x4x32x64, .f32⟩ : BufTy).Contents (Elt F)),
    StableHlo.unary main_v8 main_v11 ((transpose S2048x4x32x64 [1, 0, 2, 3] · transposes_S4x2048x32x64_S2048x4x32x64_1_0_2_3) : (⟨S4x2048x32x64, .f32⟩ : BufTy).Contents (Elt F) → (⟨S2048x4x32x64, .f32⟩ : BufTy).Contents (Elt F)),
    StableHlo.unary main_arg3 main_v12 (broadcastInDim S1x32x64 ![1, 2] bcast_S32x64_S1x32x64_1_2 : (⟨S32x64, .f32⟩ : BufTy).Contents (Elt F) → (⟨S1x32x64, .f32⟩ : BufTy).Contents (Elt F)),
    StableHlo.unary main_arg4 main_v13 (broadcastInDim S1x32x64 ![1, 2] bcast_S32x64_S1x32x64_1_2 : (⟨S32x64, .f32⟩ : BufTy).Contents (Elt F) → (⟨S1x32x64, .f32⟩ : BufTy).Contents (Elt F)),
    StableHlo.unary main_arg3 main_v14 (broadcastInDim S1x32x64 ![1, 2] bcast_S32x64_S1x32x64_1_2 : (⟨S32x64, .f32⟩ : BufTy).Contents (Elt F) → (⟨S1x32x64, .f32⟩ : BufTy).Contents (Elt F)),
    StableHlo.unary main_arg4 main_v15 (broadcastInDim S1x32x64 ![1, 2] bcast_S32x64_S1x32x64_1_2 : (⟨S32x64, .f32⟩ : BufTy).Contents (Elt F) → (⟨S1x32x64, .f32⟩ : BufTy).Contents (Elt F)),
    StableHlo.nullary main_cst_0 (constant S_ .f32 0x00000000#32),
    StableHlo.unary main_cst_0 main_v16 (broadcastInDim S2048x4x32x64 ![] bcast_S_S2048x4x32x64 : (⟨S_, .f32⟩ : BufTy).Contents (Elt F) → (⟨S2048x4x32x64, .f32⟩ : BufTy).Contents (Elt F)),
    StableHlo.nullary main_cst_1 (constant S_ .f32 0x00000000#32),
    StableHlo.unary main_cst_1 main_v17 (broadcastInDim S2048x4x32x64 ![] bcast_S_S2048x4x32x64 : (⟨S_, .f32⟩ : BufTy).Contents (Elt F) → (⟨S2048x4x32x64, .f32⟩ : BufTy).Contents (Elt F)),
    StableHlo.nullary main_cst_2 (constant S_ .f32 0x00000000#32),
    StableHlo.unary main_cst_2 main_v18 (broadcastInDim S2048x4x32x64 ![] bcast_S_S2048x4x32x64 : (⟨S_, .f32⟩ : BufTy).Contents (Elt F) → (⟨S2048x4x32x64, .f32⟩ : BufTy).Contents (Elt F)),
    StableHlo.nullary main_cst_3 (constant S_ .f32 0x00000000#32),
    StableHlo.unary main_cst_3 main_v19 (broadcastInDim S2048x4x32x64 ![] bcast_S_S2048x4x32x64 : (⟨S_, .f32⟩ : BufTy).Contents (Elt F) → (⟨S2048x4x32x64, .f32⟩ : BufTy).Contents (Elt F)),
    StableHlo.nullary main_c (constantI S_ 32 0#32),
    StableHlo.unary main_v10 main_v20_0 id,
    StableHlo.unary main_v11 main_v20_1 id,
    StableHlo.unary main_v12 main_v20_2 id,
    StableHlo.unary main_v13 main_v20_3 id,
    StableHlo.unary main_v14 main_v20_4 id,
    StableHlo.unary main_v15 main_v20_5 id,
    StableHlo.unary main_c main_v20_6 id,
    StableHlo.unary main_v9 main_v20_7 id,
    StableHlo.unary main_v9 main_v20_8 id,
    StableHlo.unary main_v16 main_v20_9 id,
    StableHlo.unary main_v17 main_v20_10 id,
    StableHlo.unary main_v18 main_v20_11 id,
    StableHlo.unary main_v19 main_v20_12 id ]
theorem opsA_sub : (opsA : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The host code after the first loop, to the end of its window. -/
abbrev opsB0 : List (HloOp τ sig (Elt F)) :=
  [ StableHlo.unary main_v20_9 main_v21 ((transpose S4x2048x32x64 [1, 0, 2, 3] · transposes_S2048x4x32x64_S4x2048x32x64_1_0_2_3) : (⟨S2048x4x32x64, .f32⟩ : BufTy).Contents (Elt F) → (⟨S4x2048x32x64, .f32⟩ : BufTy).Contents (Elt F)),
    StableHlo.unary main_v20_10 main_v22 ((transpose S4x2048x32x64 [1, 0, 2, 3] · transposes_S2048x4x32x64_S4x2048x32x64_1_0_2_3) : (⟨S2048x4x32x64, .f32⟩ : BufTy).Contents (Elt F) → (⟨S4x2048x32x64, .f32⟩ : BufTy).Contents (Elt F)),
    StableHlo.binary main_arg7 main_v21 main_v23 ((fun l r => Host.dotGeneral dot_S32x16x64_S4x2048x32x64_S32x16x4x2048_2_3_1_01_0_2 none l r) : (⟨S32x16x64, .f32⟩ : BufTy).Contents (Elt F) → (⟨S4x2048x32x64, .f32⟩ : BufTy).Contents (Elt F) → (⟨S32x16x4x2048, .f32⟩ : BufTy).Contents (Elt F)),
    StableHlo.unary main_v23 main_v24 ((transpose S4x2048x32x16 [2, 3, 0, 1] · transposes_S32x16x4x2048_S4x2048x32x16_2_3_0_1) : (⟨S32x16x4x2048, .f32⟩ : BufTy).Contents (Elt F) → (⟨S4x2048x32x16, .f32⟩ : BufTy).Contents (Elt F)),
    StableHlo.binary main_arg8 main_v22 main_v25 ((fun l r => Host.dotGeneral dot_S32x16x64_S4x2048x32x64_S32x16x4x2048_2_3_1_01_0_2 none l r) : (⟨S32x16x64, .f32⟩ : BufTy).Contents (Elt F) → (⟨S4x2048x32x64, .f32⟩ : BufTy).Contents (Elt F) → (⟨S32x16x4x2048, .f32⟩ : BufTy).Contents (Elt F)),
    StableHlo.unary main_v25 main_v26 ((transpose S4x2048x32x16 [2, 3, 0, 1] · transposes_S32x16x4x2048_S4x2048x32x16_2_3_0_1) : (⟨S32x16x4x2048, .f32⟩ : BufTy).Contents (Elt F) → (⟨S4x2048x32x16, .f32⟩ : BufTy).Contents (Elt F)),
    StableHlo.binary main_v24 main_v26 main_v27 (subf : (⟨S4x2048x32x16, .f32⟩ : BufTy).Contents (Elt F) → (⟨S4x2048x32x16, .f32⟩ : BufTy).Contents (Elt F) → (⟨S4x2048x32x16, .f32⟩ : BufTy).Contents (Elt F)),
    StableHlo.reshape main_v27 main_v28 (rfl : (.f32 : EltTy) = .f32) shapeCasts_S4x2048x32x16_S4x2048x512,
    StableHlo.unary main_arg2 main_v29 (broadcastInDim S1x1x512 ![1, 2] bcast_S1x512_S1x1x512_1_2 : (⟨S1x512, .f32⟩ : BufTy).Contents (Elt F) → (⟨S1x1x512, .f32⟩ : BufTy).Contents (Elt F)),
    StableHlo.unary main_v29 main_v30 (broadcastInDim S4x2048x512 ![0, 1, 2] bcast_S1x1x512_S4x2048x512_0_1_2 : (⟨S1x1x512, .f32⟩ : BufTy).Contents (Elt F) → (⟨S4x2048x512, .f32⟩ : BufTy).Contents (Elt F)),
    StableHlo.binary main_v30 main_v0 main_v31 (mulf : (⟨S4x2048x512, .f32⟩ : BufTy).Contents (Elt F) → (⟨S4x2048x512, .f32⟩ : BufTy).Contents (Elt F) → (⟨S4x2048x512, .f32⟩ : BufTy).Contents (Elt F)),
    StableHlo.binary main_v28 main_v31 main_v32 (addf : (⟨S4x2048x512, .f32⟩ : BufTy).Contents (Elt F) → (⟨S4x2048x512, .f32⟩ : BufTy).Contents (Elt F) → (⟨S4x2048x512, .f32⟩ : BufTy).Contents (Elt F)),
    StableHlo.binary main_v32 main_v32 main_v33 (mulf : (⟨S4x2048x512, .f32⟩ : BufTy).Contents (Elt F) → (⟨S4x2048x512, .f32⟩ : BufTy).Contents (Elt F) → (⟨S4x2048x512, .f32⟩ : BufTy).Contents (Elt F)),
    StableHlo.binary main_v33 main_v32 main_v34 (mulf : (⟨S4x2048x512, .f32⟩ : BufTy).Contents (Elt F) → (⟨S4x2048x512, .f32⟩ : BufTy).Contents (Elt F) → (⟨S4x2048x512, .f32⟩ : BufTy).Contents (Elt F)),
    StableHlo.binary main_v32 main_v32 main_v35 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_4 (constant S_ .f32 0x40400000#32),
    StableHlo.unary main_cst_4 main_v36 (broadcastInDim S4x2048x512 ![] bcast_S_S4x2048x512 : (⟨S_, .f32⟩ : BufTy).Contents (Elt F) → (⟨S4x2048x512, .f32⟩ : BufTy).Contents (Elt F)),
    StableHlo.binary main_v36 main_v35 main_v37 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_5 (constant S_ .f32 0x3D372713#32),
    StableHlo.unary main_cst_5 main_v38 (broadcastInDim S4x2048x512 ![] bcast_S_S4x2048x512 : (⟨S_, .f32⟩ : BufTy).Contents (Elt F) → (⟨S4x2048x512, .f32⟩ : BufTy).Contents (Elt F)) ]
theorem opsB0_sub : (opsB0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩

/-- The host code of the second window. -/
abbrev opsB1 : List (HloOp τ sig (Elt F)) :=
  [ StableHlo.binary main_v38 main_v34 main_v39 (mulf : (⟨S4x2048x512, .f32⟩ : BufTy).Contents (Elt F) → (⟨S4x2048x512, .f32⟩ : BufTy).Contents (Elt F) → (⟨S4x2048x512, .f32⟩ : BufTy).Contents (Elt F)),
    StableHlo.binary main_v32 main_v39 main_v40 (addf : (⟨S4x2048x512, .f32⟩ : BufTy).Contents (Elt F) → (⟨S4x2048x512, .f32⟩ : BufTy).Contents (Elt F) → (⟨S4x2048x512, .f32⟩ : BufTy).Contents (Elt F)),
    StableHlo.nullary main_cst_6 (constant S_ .f32 0x3F4C422A#32),
    StableHlo.unary main_cst_6 main_v41 (broadcastInDim S4x2048x512 ![] bcast_S_S4x2048x512 : (⟨S_, .f32⟩ : BufTy).Contents (Elt F) → (⟨S4x2048x512, .f32⟩ : BufTy).Contents (Elt F)),
    StableHlo.binary main_v41 main_v40 main_v42 (mulf : (⟨S4x2048x512, .f32⟩ : BufTy).Contents (Elt F) → (⟨S4x2048x512, .f32⟩ : BufTy).Contents (Elt F) → (⟨S4x2048x512, .f32⟩ : BufTy).Contents (Elt F)),
    StableHlo.unary main_v42 main_v43 (Host.tanh : (⟨S4x2048x512, .f32⟩ : BufTy).Contents (Elt F) → (⟨S4x2048x512, .f32⟩ : BufTy).Contents (Elt F)),
    StableHlo.nullary main_cst_7 (constant S_ .f32 0x3F800000#32),
    StableHlo.unary main_cst_7 main_v44 (broadcastInDim S4x2048x512 ![] bcast_S_S4x2048x512 : (⟨S_, .f32⟩ : BufTy).Contents (Elt F) → (⟨S4x2048x512, .f32⟩ : BufTy).Contents (Elt F)),
    StableHlo.binary main_v44 main_v43 main_v45 (addf : (⟨S4x2048x512, .f32⟩ : BufTy).Contents (Elt F) → (⟨S4x2048x512, .f32⟩ : BufTy).Contents (Elt F) → (⟨S4x2048x512, .f32⟩ : BufTy).Contents (Elt F)),
    StableHlo.nullary main_cst_8 (constant S_ .f32 0x3F800000#32),
    StableHlo.unary main_cst_8 main_v46 (broadcastInDim S4x2048x512 ![] bcast_S_S4x2048x512 : (⟨S_, .f32⟩ : BufTy).Contents (Elt F) → (⟨S4x2048x512, .f32⟩ : BufTy).Contents (Elt F)),
    StableHlo.binary main_v46 main_v43 main_v47 (subf : (⟨S4x2048x512, .f32⟩ : BufTy).Contents (Elt F) → (⟨S4x2048x512, .f32⟩ : BufTy).Contents (Elt F) → (⟨S4x2048x512, .f32⟩ : BufTy).Contents (Elt F)),
    StableHlo.binary main_v45 main_v47 main_v48 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_9 (constant S_ .f32 0x3F800000#32),
    StableHlo.unary main_cst_9 main_v49 (broadcastInDim S4x2048x512 ![] bcast_S_S4x2048x512 : (⟨S_, .f32⟩ : BufTy).Contents (Elt F) → (⟨S4x2048x512, .f32⟩ : BufTy).Contents (Elt F)),
    StableHlo.binary main_v49 main_v43 main_v50 (addf : (⟨S4x2048x512, .f32⟩ : BufTy).Contents (Elt F) → (⟨S4x2048x512, .f32⟩ : BufTy).Contents (Elt F) → (⟨S4x2048x512, .f32⟩ : BufTy).Contents (Elt F)),
    StableHlo.nullary main_cst_10 (constant S_ .f32 0x3F000000#32),
    StableHlo.unary main_cst_10 main_v51 (broadcastInDim S4x2048x512 ![] bcast_S_S4x2048x512 : (⟨S_, .f32⟩ : BufTy).Contents (Elt F) → (⟨S4x2048x512, .f32⟩ : BufTy).Contents (Elt F)),
    StableHlo.binary main_v51 main_v50 main_v52 (mulf : (⟨S4x2048x512, .f32⟩ : BufTy).Contents (Elt F) → (⟨S4x2048x512, .f32⟩ : BufTy).Contents (Elt F) → (⟨S4x2048x512, .f32⟩ : BufTy).Contents (Elt F)),
    StableHlo.binary main_v32 main_v52 main_v53 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_11 (constant S_ .f32 0x00000000#32),
    StableHlo.unary main_cst_11 main_v54 (broadcastInDim S4x32x64 ![] bcast_S_S4x32x64 : (⟨S_, .f32⟩ : BufTy).Contents (Elt F) → (⟨S4x32x64, .f32⟩ : BufTy).Contents (Elt F)),
    StableHlo.nullary main_cst_12 (constant S_ .f32 0x00000000#32),
    StableHlo.unary main_cst_12 main_v55 (broadcastInDim S4x32x64 ![] bcast_S_S4x32x64 : (⟨S_, .f32⟩ : BufTy).Contents (Elt F) → (⟨S4x32x64, .f32⟩ : BufTy).Contents (Elt F)),
    StableHlo.binary main_v32 main_v1 main_v56 (mulf : (⟨S4x2048x512, .f32⟩ : BufTy).Contents (Elt F) → (⟨S4x2048x512, .f32⟩ : BufTy).Contents (Elt F) → (⟨S4x2048x512, .f32⟩ : BufTy).Contents (Elt F)),
    StableHlo.binary main_v1 main_v52 main_v57 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_13 (constant S_ .f32 0x3F000000#32),
    StableHlo.unary main_cst_13 main_v58 (broadcastInDim S4x2048x512 ![] bcast_S_S4x2048x512 : (⟨S_, .f32⟩ : BufTy).Contents (Elt F) → (⟨S4x2048x512, .f32⟩ : BufTy).Contents (Elt F)),
    StableHlo.binary main_v58 main_v56 main_v59 (mulf : (⟨S4x2048x512, .f32⟩ : BufTy).Contents (Elt F) → (⟨S4x2048x512, .f32⟩ : BufTy).Contents (Elt F) → (⟨S4x2048x512, .f32⟩ : BufTy).Contents (Elt F)),
    StableHlo.binary main_v59 main_v48 main_v60 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_14 (constant S_ .f32 0x3F4C422A#32),
    StableHlo.unary main_cst_14 main_v61 (broadcastInDim S4x2048x512 ![] bcast_S_S4x2048x512 : (⟨S_, .f32⟩ : BufTy).Contents (Elt F) → (⟨S4x2048x512, .f32⟩ : BufTy).Contents (Elt F)),
    StableHlo.binary main_v61 main_v60 main_v62 (mulf : (⟨S4x2048x512, .f32⟩ : BufTy).Contents (Elt F) → (⟨S4x2048x512, .f32⟩ : BufTy).Contents (Elt F) → (⟨S4x2048x512, .f32⟩ : BufTy).Contents (Elt F)),
    StableHlo.binary main_v57 main_v62 main_v63 (addf : (⟨S4x2048x512, .f32⟩ : BufTy).Contents (Elt F) → (⟨S4x2048x512, .f32⟩ : BufTy).Contents (Elt F) → (⟨S4x2048x512, .f32⟩ : BufTy).Contents (Elt F)),
    StableHlo.nullary main_cst_15 (constant S_ .f32 0x3D372713#32),
    StableHlo.unary main_cst_15 main_v64 (broadcastInDim S4x2048x512 ![] bcast_S_S4x2048x512 : (⟨S_, .f32⟩ : BufTy).Contents (Elt F) → (⟨S4x2048x512, .f32⟩ : BufTy).Contents (Elt F)),
    StableHlo.binary main_v64 main_v62 main_v65 (mulf : (⟨S4x2048x512, .f32⟩ : BufTy).Contents (Elt F) → (⟨S4x2048x512, .f32⟩ : BufTy).Contents (Elt F) → (⟨S4x2048x512, .f32⟩ : BufTy).Contents (Elt F)),
    StableHlo.binary main_v65 main_v37 main_v66 (mulf : (⟨S4x2048x512, .f32⟩ : BufTy).Contents (Elt F) → (⟨S4x2048x512, .f32⟩ : BufTy).Contents (Elt F) → (⟨S4x2048x512, .f32⟩ : BufTy).Contents (Elt F)),
    StableHlo.binary main_v63 main_v66 main_v67 (addf : (⟨S4x2048x512, .f32⟩ : BufTy).Contents (Elt F) → (⟨S4x2048x512, .f32⟩ : BufTy).Contents (Elt F) → (⟨S4x2048x512, .f32⟩ : BufTy).Contents (Elt F)),
    StableHlo.unary main_v29 main_v68 (broadcastInDim S4x2048x512 ![0, 1, 2] bcast_S1x1x512_S4x2048x512_0_1_2 : (⟨S1x1x512, .f32⟩ : BufTy).Contents (Elt F) → (⟨S4x2048x512, .f32⟩ : BufTy).Contents (Elt F)),
    StableHlo.binary main_v68 main_v67 main_v69 (mulf : (⟨S4x2048x512, .f32⟩ : BufTy).Contents (Elt F) → (⟨S4x2048x512, .f32⟩ : BufTy).Contents (Elt F) → (⟨S4x2048x512, .f32⟩ : BufTy).Contents (Elt F)),
    StableHlo.binary main_v67 main_v0 main_v70 (mulf : (⟨S4x2048x512, .f32⟩ : BufTy).Contents (Elt F) → (⟨S4x2048x512, .f32⟩ : BufTy).Contents (Elt F) → (⟨S4x2048x512, .f32⟩ : BufTy).Contents (Elt F)),
    StableHlo.nullary main_cst_16 (constant S_ .f32 0x00000000#32),
    StableHlo.binary main_v70 main_cst_16 main_v71 ((fun x v => Host.reduceAdd x v reducesTo_S4x2048x512_S512_d0_1 h_S_) : (⟨S4x2048x512, .f32⟩ : BufTy).Contents (Elt F) → (⟨S_, .f32⟩ : BufTy).Contents (Elt F) → (⟨S512, .f32⟩ : BufTy).Contents (Elt F)),
    StableHlo.reshape main_v71 main_v72 (rfl : (.f32 : EltTy) = .f32) shapeCasts_S512_S1x1x512,
    StableHlo.nullary main_cst_17 (constant S_ .f32 0x00000000#32),
    StableHlo.binary main_v72 main_cst_17 main_v73 ((fun x v => Host.reduceAdd x v reducesTo_S1x1x512_S512_d0_1 h_S_) : (⟨S1x1x512, .f32⟩ : BufTy).Contents (Elt F) → (⟨S_, .f32⟩ : BufTy).Contents (Elt F) → (⟨S512, .f32⟩ : BufTy).Contents (Elt F)),
    StableHlo.unary main_v73 main_v74 (broadcastInDim S1x512 ![1] bcast_S512_S1x512_1 : (⟨S512, .f32⟩ : BufTy).Contents (Elt F) → (⟨S1x512, .f32⟩ : BufTy).Contents (Elt F)),
    StableHlo.reshape main_v67 main_v75 (rfl : (.f32 : EltTy) = .f32) shapeCasts_S4x2048x512_S4x2048x32x16,
    StableHlo.unary main_v75 main_v76 (Host.negf : (⟨S4x2048x32x16, .f32⟩ : BufTy).Contents (Elt F) → (⟨S4x2048x32x16, .f32⟩ : BufTy).Contents (Elt F)),
    StableHlo.unary main_v76 main_v77 ((transpose S32x16x4x2048 [2, 3, 0, 1] · transposes_S4x2048x32x16_S32x16x4x2048_2_3_0_1) : (⟨S4x2048x32x16, .f32⟩ : BufTy).Contents (Elt F) → (⟨S32x16x4x2048, .f32⟩ : BufTy).Contents (Elt F)),
    StableHlo.binary main_v77 main_arg8 main_v78 ((fun l r => Host.dotGeneral dot_S32x16x4x2048_S32x16x64_S32x4x2048x64_1_1_23_2_0_0 none l r) : (⟨S32x16x4x2048, .f32⟩ : BufTy).Contents (Elt F) → (⟨S32x16x64, .f32⟩ : BufTy).Contents (Elt F) → (⟨S32x4x2048x64, .f32⟩ : BufTy).Contents (Elt F)),
    StableHlo.unary main_v78 main_v79 ((transpose S4x2048x32x64 [1, 2, 0, 3] · transposes_S32x4x2048x64_S4x2048x32x64_1_2_0_3) : (⟨S32x4x2048x64, .f32⟩ : BufTy).Contents (Elt F) → (⟨S4x2048x32x64, .f32⟩ : BufTy).Contents (Elt F)),
    StableHlo.binary main_v77 main_v22 main_v80 ((fun l r => Host.dotGeneral dot_S32x16x4x2048_S4x2048x32x64_S32x16x64_23_01_1_3_0_2 none l r) : (⟨S32x16x4x2048, .f32⟩ : BufTy).Contents (Elt F) → (⟨S4x2048x32x64, .f32⟩ : BufTy).Contents (Elt F) → (⟨S32x16x64, .f32⟩ : BufTy).Contents (Elt F)),
    StableHlo.unary main_v75 main_v81 ((transpose S32x16x4x2048 [2, 3, 0, 1] · transposes_S4x2048x32x16_S32x16x4x2048_2_3_0_1) : (⟨S4x2048x32x16, .f32⟩ : BufTy).Contents (Elt F) → (⟨S32x16x4x2048, .f32⟩ : BufTy).Contents (Elt F)),
    StableHlo.binary main_v81 main_arg7 main_v82 ((fun l r => Host.dotGeneral dot_S32x16x4x2048_S32x16x64_S32x4x2048x64_1_1_23_2_0_0 none l r) : (⟨S32x16x4x2048, .f32⟩ : BufTy).Contents (Elt F) → (⟨S32x16x64, .f32⟩ : BufTy).Contents (Elt F) → (⟨S32x4x2048x64, .f32⟩ : BufTy).Contents (Elt F)),
    StableHlo.unary main_v82 main_v83 ((transpose S4x2048x32x64 [1, 2, 0, 3] · transposes_S32x4x2048x64_S4x2048x32x64_1_2_0_3) : (⟨S32x4x2048x64, .f32⟩ : BufTy).Contents (Elt F) → (⟨S4x2048x32x64, .f32⟩ : BufTy).Contents (Elt F)),
    StableHlo.binary main_v81 main_v21 main_v84 ((fun l r => Host.dotGeneral dot_S32x16x4x2048_S4x2048x32x64_S32x16x64_23_01_1_3_0_2 none l r) : (⟨S32x16x4x2048, .f32⟩ : BufTy).Contents (Elt F) → (⟨S4x2048x32x64, .f32⟩ : BufTy).Contents (Elt F) → (⟨S32x16x64, .f32⟩ : BufTy).Contents (Elt F)),
    StableHlo.unary main_v79 main_v85 ((transpose S2048x4x32x64 [1, 0, 2, 3] · transposes_S4x2048x32x64_S2048x4x32x64_1_0_2_3) : (⟨S4x2048x32x64, .f32⟩ : BufTy).Contents (Elt F) → (⟨S2048x4x32x64, .f32⟩ : BufTy).Contents (Elt F)),
    StableHlo.unary main_v83 main_v86 ((transpose S2048x4x32x64 [1, 0, 2, 3] · transposes_S4x2048x32x64_S2048x4x32x64_1_0_2_3) : (⟨S4x2048x32x64, .f32⟩ : BufTy).Contents (Elt F) → (⟨S2048x4x32x64, .f32⟩ : BufTy).Contents (Elt F)) ]
theorem opsB1_sub : (opsB1 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub ..⟩

/-- The host code before the second loop. -/
abbrev opsB2 : List (HloOp τ sig (Elt F)) :=
  [ StableHlo.nullary main_cst_18 (constant S_ .f32 0x00000000#32),
    StableHlo.unary main_cst_18 main_v87 (broadcastInDim S4x32x64 ![] bcast_S_S4x32x64 : (⟨S_, .f32⟩ : BufTy).Contents (Elt F) → (⟨S4x32x64, .f32⟩ : BufTy).Contents (Elt F)),
    StableHlo.nullary main_cst_19 (constant S_ .f32 0x00000000#32),
    StableHlo.unary main_cst_19 main_v88 (broadcastInDim S4x32x64 ![] bcast_S_S4x32x64 : (⟨S_, .f32⟩ : BufTy).Contents (Elt F) → (⟨S4x32x64, .f32⟩ : BufTy).Contents (Elt F)),
    StableHlo.nullary main_cst_20 (constant S_ .f32 0x00000000#32),
    StableHlo.unary main_cst_20 main_v89 (broadcastInDim S32x64 ![] bcast_S_S32x64 : (⟨S_, .f32⟩ : BufTy).Contents (Elt F) → (⟨S32x64, .f32⟩ : BufTy).Contents (Elt F)),
    StableHlo.nullary main_cst_21 (constant S_ .f32 0x00000000#32),
    StableHlo.unary main_cst_21 main_v90 (broadcastInDim S32x64 ![] bcast_S_S32x64 : (⟨S_, .f32⟩ : BufTy).Contents (Elt F) → (⟨S32x64, .f32⟩ : BufTy).Contents (Elt F)),
    StableHlo.nullary main_cst_22 (constant S_ .f32 0x00000000#32),
    StableHlo.unary main_cst_22 main_v91 (broadcastInDim S2048x4x32x64 ![] bcast_S_S2048x4x32x64 : (⟨S_, .f32⟩ : BufTy).Contents (Elt F) → (⟨S2048x4x32x64, .f32⟩ : BufTy).Contents (Elt F)),
    StableHlo.nullary main_cst_23 (constant S_ .f32 0x00000000#32),
    StableHlo.unary main_cst_23 main_v92 (broadcastInDim S2048x4x32x64 ![] bcast_S_S2048x4x32x64 : (⟨S_, .f32⟩ : BufTy).Contents (Elt F) → (⟨S2048x4x32x64, .f32⟩ : BufTy).Contents (Elt F)),
    StableHlo.nullary main_c_24 (constantI S_ 32 0#32),
    StableHlo.unary main_v86 main_v93_0 id,
    StableHlo.unary main_v85 main_v93_1 id,
    StableHlo.unary main_v20_11 main_v93_2 id,
    StableHlo.unary main_v20_12 main_v93_3 id,
    StableHlo.unary main_v12 main_v93_4 id,
    StableHlo.unary main_v13 main_v93_5 id,
    StableHlo.unary main_v14 main_v93_6 id,
    StableHlo.unary main_v15 main_v93_7 id,
    StableHlo.unary main_c_24 main_v93_8 id,
    StableHlo.unary main_v89 main_v93_9 id,
    StableHlo.unary main_v90 main_v93_10 id,
    StableHlo.unary main_v87 main_v93_11 id,
    StableHlo.unary main_v88 main_v93_12 id,
    StableHlo.unary main_v91 main_v93_13 id,
    StableHlo.unary main_v92 main_v93_14 id ]
theorem opsB2_sub : (opsB2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The host code after the second loop. -/
abbrev opsC : List (HloOp τ sig (Elt F)) :=
  [ StableHlo.unary main_v93_14 main_v94 ((transpose S4x2048x32x64 [1, 0, 2, 3] · transposes_S2048x4x32x64_S4x2048x32x64_1_0_2_3) : (⟨S2048x4x32x64, .f32⟩ : BufTy).Contents (Elt F) → (⟨S4x2048x32x64, .f32⟩ : BufTy).Contents (Elt F)),
    StableHlo.unary main_v93_13 main_v95 ((transpose S4x2048x32x64 [1, 0, 2, 3] · transposes_S2048x4x32x64_S4x2048x32x64_1_0_2_3) : (⟨S2048x4x32x64, .f32⟩ : BufTy).Contents (Elt F) → (⟨S4x2048x32x64, .f32⟩ : BufTy).Contents (Elt F)),
    StableHlo.unary main_v94 main_v96 ((transpose S32x64x4x2048 [2, 3, 0, 1] · transposes_S4x2048x32x64_S32x64x4x2048_2_3_0_1) : (⟨S4x2048x32x64, .f32⟩ : BufTy).Contents (Elt F) → (⟨S32x64x4x2048, .f32⟩ : BufTy).Contents (Elt F)),
    StableHlo.binary main_v96 main_v3 main_v97 ((fun l r => Host.dotGeneral dot_S32x64x4x2048_S32x64x16_S32x4x2048x16_1_1_23_2_0_0 none l r) : (⟨S32x64x4x2048, .f32⟩ : BufTy).Contents (Elt F) → (⟨S32x64x16, .f32⟩ : BufTy).Contents (Elt F) → (⟨S32x4x2048x16, .f32⟩ : BufTy).Contents (Elt F)),
    StableHlo.unary main_v97 main_v98 ((transpose S4x2048x32x16 [1, 2, 0, 3] · transposes_S32x4x2048x16_S4x2048x32x16_1_2_0_3) : (⟨S32x4x2048x16, .f32⟩ : BufTy).Contents (Elt F) → (⟨S4x2048x32x16, .f32⟩ : BufTy).Contents (Elt F)),
    StableHlo.binary main_v96 main_v4 main_v99 ((fun l r => Host.dotGeneral dot_S32x64x4x2048_S4x2048x32x16_S32x64x16_23_01_1_3_0_2 none l r) : (⟨S32x64x4x2048, .f32⟩ : BufTy).Contents (Elt F) → (⟨S4x2048x32x16, .f32⟩ : BufTy).Contents (Elt F) → (⟨S32x64x16, .f32⟩ : BufTy).Contents (Elt F)),
    StableHlo.unary main_v95 main_v100 ((transpose S32x64x4x2048 [2, 3, 0, 1] · transposes_S4x2048x32x64_S32x64x4x2048_2_3_0_1) : (⟨S4x2048x32x64, .f32⟩ : BufTy).Contents (Elt F) → (⟨S32x64x4x2048, .f32⟩ : BufTy).Contents (Elt F)),
    StableHlo.binary main_v100 main_v2 main_v101 ((fun l r => Host.dotGeneral dot_S32x64x4x2048_S32x64x16_S32x4x2048x16_1_1_23_2_0_0 none l r) : (⟨S32x64x4x2048, .f32⟩ : BufTy).Contents (Elt F) → (⟨S32x64x16, .f32⟩ : BufTy).Contents (Elt F) → (⟨S32x4x2048x16, .f32⟩ : BufTy).Contents (Elt F)),
    StableHlo.unary main_v101 main_v102 ((transpose S4x2048x32x16 [1, 2, 0, 3] · transposes_S32x4x2048x16_S4x2048x32x16_1_2_0_3) : (⟨S32x4x2048x16, .f32⟩ : BufTy).Contents (Elt F) → (⟨S4x2048x32x16, .f32⟩ : BufTy).Contents (Elt F)),
    StableHlo.binary main_v98 main_v102 main_v103 (addf : (⟨S4x2048x32x16, .f32⟩ : BufTy).Contents (Elt F) → (⟨S4x2048x32x16, .f32⟩ : BufTy).Contents (Elt F) → (⟨S4x2048x32x16, .f32⟩ : BufTy).Contents (Elt F)),
    StableHlo.binary main_v100 main_v4 main_v104 ((fun l r => Host.dotGeneral dot_S32x64x4x2048_S4x2048x32x16_S32x64x16_23_01_1_3_0_2 none l r) : (⟨S32x64x4x2048, .f32⟩ : BufTy).Contents (Elt F) → (⟨S4x2048x32x16, .f32⟩ : BufTy).Contents (Elt F) → (⟨S32x64x16, .f32⟩ : BufTy).Contents (Elt F)),
    StableHlo.reshape main_v103 main_v105 (rfl : (.f32 : EltTy) = .f32) shapeCasts_S4x2048x32x16_S4x2048x512,
    StableHlo.binary main_v69 main_v105 main_v106 (addf : (⟨S4x2048x512, .f32⟩ : BufTy).Contents (Elt F) → (⟨S4x2048x512, .f32⟩ : BufTy).Contents (Elt F) → (⟨S4x2048x512, .f32⟩ : BufTy).Contents (Elt F)),
    StableHlo.reshape main_v53 main_v107 (rfl : (.f32 : EltTy) = .f32) shapeCasts_S4x2048x512_S8192x512,
    StableHlo.unary main_v107 main_v108 ((truncf .bf16 · bitsLt_bf16_f32) : (⟨S8192x512, .f32⟩ : BufTy).Contents (Elt F) → (⟨S8192x512, .bf16⟩ : BufTy).Contents (Elt F)),
    StableHlo.reshape main_v106 main_v109 (rfl : (.f32 : EltTy) = .f32) shapeCasts_S4x2048x512_S8192x512,
    StableHlo.unary main_v109 main_v110 ((truncf .bf16 · bitsLt_bf16_f32) : (⟨S8192x512, .f32⟩ : BufTy).Contents (Elt F) → (⟨S8192x512, .bf16⟩ : BufTy).Contents (Elt F)),
    StableHlo.reshape main_v104 main_v111 (rfl : (.f32 : EltTy) = .f32) shapeCasts_S32x64x16_S32x1024,
    StableHlo.reshape main_v99 main_v112 (rfl : (.f32 : EltTy) = .f32) shapeCasts_S32x64x16_S32x1024 ]
theorem opsC_sub : (opsC : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.reshape_bufs_sub .., StableHlo.binary_bufs_sub .., StableHlo.reshape_bufs_sub .., StableHlo.unary_bufs_sub .., StableHlo.reshape_bufs_sub .., StableHlo.unary_bufs_sub .., StableHlo.reshape_bufs_sub .., StableHlo.reshape_bufs_sub ..⟩

/-- A stretch of the loop body. -/
abbrev body0s0 : List (HloOp τ sig (Elt F)) :=
  [ StableHlo.unary main_v20_2 main_while0b_v115 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while0b_v115 main_v20_7 main_while0b_v116 (mulf : (⟨S4x32x64, .f32⟩ : BufTy).Contents (Elt F) → (⟨S4x32x64, .f32⟩ : BufTy).Contents (Elt F) → (⟨S4x32x64, .f32⟩ : BufTy).Contents (Elt F)),
    StableHlo.unary main_v20_3 main_while0b_v117 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while0b_v117 main_v20_8 main_while0b_v118 (mulf : (⟨S4x32x64, .f32⟩ : BufTy).Contents (Elt F) → (⟨S4x32x64, .f32⟩ : BufTy).Contents (Elt F) → (⟨S4x32x64, .f32⟩ : BufTy).Contents (Elt F)),
    StableHlo.binary main_while0b_v116 main_while0b_v118 main_while0b_v119 (subf : (⟨S4x32x64, .f32⟩ : BufTy).Contents (Elt F) → (⟨S4x32x64, .f32⟩ : BufTy).Contents (Elt F) → (⟨S4x32x64, .f32⟩ : BufTy).Contents (Elt F)),
    StableHlo.binary main_while0b_v119 main_while0b_v113 main_while0b_v120 (addf : (⟨S4x32x64, .f32⟩ : BufTy).Contents (Elt F) → (⟨S4x32x64, .f32⟩ : BufTy).Contents (Elt F) → (⟨S4x32x64, .f32⟩ : BufTy).Contents (Elt F)),
    StableHlo.unary main_v20_4 main_while0b_v121 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while0b_v121 main_v20_8 main_while0b_v122 (mulf : (⟨S4x32x64, .f32⟩ : BufTy).Contents (Elt F) → (⟨S4x32x64, .f32⟩ : BufTy).Contents (Elt F) → (⟨S4x32x64, .f32⟩ : BufTy).Contents (Elt F)),
    StableHlo.unary main_v20_5 main_while0b_v123 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while0b_v123 main_v20_7 main_while0b_v124 (mulf : (⟨S4x32x64, .f32⟩ : BufTy).Contents (Elt F) → (⟨S4x32x64, .f32⟩ : BufTy).Contents (Elt F) → (⟨S4x32x64, .f32⟩ : BufTy).Contents (Elt F)),
    StableHlo.binary main_while0b_v122 main_while0b_v124 main_while0b_v125 (addf : (⟨S4x32x64, .f32⟩ : BufTy).Contents (Elt F) → (⟨S4x32x64, .f32⟩ : BufTy).Contents (Elt F) → (⟨S4x32x64, .f32⟩ : BufTy).Contents (Elt F)),
    StableHlo.binary main_while0b_v125 main_while0b_v114 main_while0b_v126 (addf : (⟨S4x32x64, .f32⟩ : BufTy).Contents (Elt F) → (⟨S4x32x64, .f32⟩ : BufTy).Contents (Elt F) → (⟨S4x32x64, .f32⟩ : BufTy).Contents (Elt F)) ]
theorem body0s0_sub : (body0s0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩

/-- A stretch of the loop body. -/
abbrev body0s1 : List (HloOp τ sig (Elt F)) :=
  [ StableHlo.nullary main_while0b_c_37 (constantI S_ 32 1#32),
    StableHlo.binary main_v20_6 main_while0b_c_37 main_while0b_v131 (addi : (⟨S_, .i32⟩ : BufTy).Contents (Elt F) → (⟨S_, .i32⟩ : BufTy).Contents (Elt F) → (⟨S_, .i32⟩ : BufTy).Contents (Elt F)),
    StableHlo.unary main_while0b_v131 main_v20_6 id,
    StableHlo.unary main_while0b_v120 main_v20_7 id,
    StableHlo.unary main_while0b_v126 main_v20_8 id,
    StableHlo.unary main_while0b_v127 main_v20_9 id,
    StableHlo.unary main_while0b_v128 main_v20_10 id,
    StableHlo.unary main_while0b_v129 main_v20_11 id,
    StableHlo.unary main_while0b_v130 main_v20_12 id ]
theorem body0s1_sub : (body0s1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- A stretch of the loop body. -/
abbrev body1s0 : List (HloOp τ sig (Elt F)) :=
  [ StableHlo.nullary main_while1b_c_39 (constantI S_ 32 2048#32),
    StableHlo.binary main_while1b_c_39 main_v93_8 main_while1b_v113 (subi : (⟨S_, .i32⟩ : BufTy).Contents (Elt F) → (⟨S_, .i32⟩ : BufTy).Contents (Elt F) → (⟨S_, .i32⟩ : BufTy).Contents (Elt F)),
    StableHlo.nullary main_while1b_c_40 (constantI S_ 32 1#32),
    StableHlo.binary main_while1b_v113 main_while1b_c_40 main_while1b_v114 (subi : (⟨S_, .i32⟩ : BufTy).Contents (Elt F) → (⟨S_, .i32⟩ : BufTy).Contents (Elt F) → (⟨S_, .i32⟩ : BufTy).Contents (Elt F)) ]
theorem body1s0_sub : (body1s0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- A stretch of the loop body. -/
abbrev body1s1 : List (HloOp τ sig (Elt F)) :=
  [ StableHlo.binary main_v93_11 main_while1b_v115 main_while1b_v119 (addf : (⟨S4x32x64, .f32⟩ : BufTy).Contents (Elt F) → (⟨S4x32x64, .f32⟩ : BufTy).Contents (Elt F) → (⟨S4x32x64, .f32⟩ : BufTy).Contents (Elt F)),
    StableHlo.binary main_v93_12 main_while1b_v116 main_while1b_v120 (addf : (⟨S4x32x64, .f32⟩ : BufTy).Contents (Elt F) → (⟨S4x32x64, .f32⟩ : BufTy).Contents (Elt F) → (⟨S4x32x64, .f32⟩ : BufTy).Contents (Elt F)),
    StableHlo.unary main_v93_7 main_while1b_v121 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while1b_v121 main_while1b_v120 main_while1b_v122 (mulf : (⟨S4x32x64, .f32⟩ : BufTy).Contents (Elt F) → (⟨S4x32x64, .f32⟩ : BufTy).Contents (Elt F) → (⟨S4x32x64, .f32⟩ : BufTy).Contents (Elt F)),
    StableHlo.binary main_while1b_v120 main_while1b_v117 main_while1b_v123 (mulf : (⟨S4x32x64, .f32⟩ : BufTy).Contents (Elt F) → (⟨S4x32x64, .f32⟩ : BufTy).Contents (Elt F) → (⟨S4x32x64, .f32⟩ : BufTy).Contents (Elt F)),
    StableHlo.nullary main_while1b_cst_41 (constant S_ .f32 0x00000000#32),
    StableHlo.binary main_while1b_v123 main_while1b_cst_41 main_while1b_v124 ((fun x v => Host.reduceAdd x v reducesTo_S4x32x64_S32x64_d0 h_S_) : (⟨S4x32x64, .f32⟩ : BufTy).Contents (Elt F) → (⟨S_, .f32⟩ : BufTy).Contents (Elt F) → (⟨S32x64, .f32⟩ : BufTy).Contents (Elt F)),
    StableHlo.reshape main_while1b_v124 main_while1b_v125 (rfl : (.f32 : EltTy) = .f32) shapeCasts_S32x64_S1x32x64,
    StableHlo.nullary main_while1b_cst_42 (constant S_ .f32 0x00000000#32),
    StableHlo.binary main_while1b_v125 main_while1b_cst_42 main_while1b_v126 ((fun x v => Host.reduceAdd x v reducesTo_S1x32x64_S32x64_d0 h_S_) : (⟨S1x32x64, .f32⟩ : BufTy).Contents (Elt F) → (⟨S_, .f32⟩ : BufTy).Contents (Elt F) → (⟨S32x64, .f32⟩ : BufTy).Contents (Elt F)),
    StableHlo.binary main_v93_10 main_while1b_v126 main_while1b_v127 (addf : (⟨S32x64, .f32⟩ : BufTy).Contents (Elt F) → (⟨S32x64, .f32⟩ : BufTy).Contents (Elt F) → (⟨S32x64, .f32⟩ : BufTy).Contents (Elt F)),
    StableHlo.unary main_v93_6 main_while1b_v128 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while1b_v128 main_while1b_v120 main_while1b_v129 (mulf : (⟨S4x32x64, .f32⟩ : BufTy).Contents (Elt F) → (⟨S4x32x64, .f32⟩ : BufTy).Contents (Elt F) → (⟨S4x32x64, .f32⟩ : BufTy).Contents (Elt F)),
    StableHlo.binary main_while1b_v120 main_while1b_v118 main_while1b_v130 (mulf : (⟨S4x32x64, .f32⟩ : BufTy).Contents (Elt F) → (⟨S4x32x64, .f32⟩ : BufTy).Contents (Elt F) → (⟨S4x32x64, .f32⟩ : BufTy).Contents (Elt F)),
    StableHlo.nullary main_while1b_cst_43 (constant S_ .f32 0x00000000#32),
    StableHlo.binary main_while1b_v130 main_while1b_cst_43 main_while1b_v131 ((fun x v => Host.reduceAdd x v reducesTo_S4x32x64_S32x64_d0 h_S_) : (⟨S4x32x64, .f32⟩ : BufTy).Contents (Elt F) → (⟨S_, .f32⟩ : BufTy).Contents (Elt F) → (⟨S32x64, .f32⟩ : BufTy).Contents (Elt F)),
    StableHlo.reshape main_while1b_v131 main_while1b_v132 (rfl : (.f32 : EltTy) = .f32) shapeCasts_S32x64_S1x32x64,
    StableHlo.nullary main_while1b_cst_44 (constant S_ .f32 0x00000000#32),
    StableHlo.binary main_while1b_v132 main_while1b_cst_44 main_while1b_v133 ((fun x v => Host.reduceAdd x v reducesTo_S1x32x64_S32x64_d0 h_S_) : (⟨S1x32x64, .f32⟩ : BufTy).Contents (Elt F) → (⟨S_, .f32⟩ : BufTy).Contents (Elt F) → (⟨S32x64, .f32⟩ : BufTy).Contents (Elt F)),
    StableHlo.binary main_v93_9 main_while1b_v133 main_while1b_v134 (addf : (⟨S32x64, .f32⟩ : BufTy).Contents (Elt F) → (⟨S32x64, .f32⟩ : BufTy).Contents (Elt F) → (⟨S32x64, .f32⟩ : BufTy).Contents (Elt F)),
    StableHlo.unary main_while1b_v119 main_while1b_v135 (Host.negf : (⟨S4x32x64, .f32⟩ : BufTy).Contents (Elt F) → (⟨S4x32x64, .f32⟩ : BufTy).Contents (Elt F)),
    StableHlo.unary main_v93_5 main_while1b_v136 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while1b_v136 main_while1b_v135 main_while1b_v137 (mulf : (⟨S4x32x64, .f32⟩ : BufTy).Contents (Elt F) → (⟨S4x32x64, .f32⟩ : BufTy).Contents (Elt F) → (⟨S4x32x64, .f32⟩ : BufTy).Contents (Elt F)),
    StableHlo.binary main_while1b_v129 main_while1b_v137 main_while1b_v138 (addf : (⟨S4x32x64, .f32⟩ : BufTy).Contents (Elt F) → (⟨S4x32x64, .f32⟩ : BufTy).Contents (Elt F) → (⟨S4x32x64, .f32⟩ : BufTy).Contents (Elt F)),
    StableHlo.binary main_while1b_v135 main_while1b_v118 main_while1b_v139 (mulf : (⟨S4x32x64, .f32⟩ : BufTy).Contents (Elt F) → (⟨S4x32x64, .f32⟩ : BufTy).Contents (Elt F) → (⟨S4x32x64, .f32⟩ : BufTy).Contents (Elt F)),
    StableHlo.nullary main_while1b_cst_45 (constant S_ .f32 0x00000000#32),
    StableHlo.binary main_while1b_v139 main_while1b_cst_45 main_while1b_v140 ((fun x v => Host.reduceAdd x v reducesTo_S4x32x64_S32x64_d0 h_S_) : (⟨S4x32x64, .f32⟩ : BufTy).Contents (Elt F) → (⟨S_, .f32⟩ : BufTy).Contents (Elt F) → (⟨S32x64, .f32⟩ : BufTy).Contents (Elt F)),
    StableHlo.reshape main_while1b_v140 main_while1b_v141 (rfl : (.f32 : EltTy) = .f32) shapeCasts_S32x64_S1x32x64,
    StableHlo.nullary main_while1b_cst_46 (constant S_ .f32 0x00000000#32),
    StableHlo.binary main_while1b_v141 main_while1b_cst_46 main_while1b_v142 ((fun x v => Host.reduceAdd x v reducesTo_S1x32x64_S32x64_d0 h_S_) : (⟨S1x32x64, .f32⟩ : BufTy).Contents (Elt F) → (⟨S_, .f32⟩ : BufTy).Contents (Elt F) → (⟨S32x64, .f32⟩ : BufTy).Contents (Elt F)),
    StableHlo.binary main_while1b_v127 main_while1b_v142 main_while1b_v143 (addf : (⟨S32x64, .f32⟩ : BufTy).Contents (Elt F) → (⟨S32x64, .f32⟩ : BufTy).Contents (Elt F) → (⟨S32x64, .f32⟩ : BufTy).Contents (Elt F)),
    StableHlo.unary main_v93_4 main_while1b_v144 (broadcastInDim S4x32x64 ![0, 1, 2] bcast_S1x32x64_S4x32x64_0_1_2 : (⟨S1x32x64, .f32⟩ : BufTy).Contents (Elt F) → (⟨S4x32x64, .f32⟩ : BufTy).Contents (Elt F)),
    StableHlo.binary main_while1b_v144 main_while1b_v119 main_while1b_v145 (mulf : (⟨S4x32x64, .f32⟩ : BufTy).Contents (Elt F) → (⟨S4x32x64, .f32⟩ : BufTy).Contents (Elt F) → (⟨S4x32x64, .f32⟩ : BufTy).Contents (Elt F)),
    StableHlo.binary main_while1b_v122 main_while1b_v145 main_while1b_v146 (addf : (⟨S4x32x64, .f32⟩ : BufTy).Contents (Elt F) → (⟨S4x32x64, .f32⟩ : BufTy).Contents (Elt F) → (⟨S4x32x64, .f32⟩ : BufTy).Contents (Elt F)),
    StableHlo.binary main_while1b_v119 main_while1b_v117 main_while1b_v147 (mulf : (⟨S4x32x64, .f32⟩ : BufTy).Contents (Elt F) → (⟨S4x32x64, .f32⟩ : BufTy).Contents (Elt F) → (⟨S4x32x64, .f32⟩ : BufTy).Contents (Elt F)),
    StableHlo.nullary main_while1b_cst_47 (constant S_ .f32 0x00000000#32),
    StableHlo.binary main_while1b_v147 main_while1b_cst_47 main_while1b_v148 ((fun x v => Host.reduceAdd x v reducesTo_S4x32x64_S32x64_d0 h_S_) : (⟨S4x32x64, .f32⟩ : BufTy).Contents (Elt F) → (⟨S_, .f32⟩ : BufTy).Contents (Elt F) → (⟨S32x64, .f32⟩ : BufTy).Contents (Elt F)),
    StableHlo.reshape main_while1b_v148 main_while1b_v149 (rfl : (.f32 : EltTy) = .f32) shapeCasts_S32x64_S1x32x64,
    StableHlo.nullary main_while1b_cst_48 (constant S_ .f32 0x00000000#32),
    StableHlo.binary main_while1b_v149 main_while1b_cst_48 main_while1b_v150 ((fun x v => Host.reduceAdd x v reducesTo_S1x32x64_S32x64_d0 h_S_) : (⟨S1x32x64, .f32⟩ : BufTy).Contents (Elt F) → (⟨S_, .f32⟩ : BufTy).Contents (Elt F) → (⟨S32x64, .f32⟩ : BufTy).Contents (Elt F)),
    StableHlo.binary main_while1b_v134 main_while1b_v150 main_while1b_v151 (addf : (⟨S32x64, .f32⟩ : BufTy).Contents (Elt F) → (⟨S32x64, .f32⟩ : BufTy).Contents (Elt F) → (⟨S32x64, .f32⟩ : BufTy).Contents (Elt F)) ]
theorem body1s1_sub : (body1s1 : List (HloOp τ sig (Elt F))).Forall fun op => op.bufs ⊆ StableHlo.tcRefs τ sig :=
  ⟨StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub ..⟩

/-- A stretch of the loop body. -/
abbrev body1s2 : List (HloOp τ sig (Elt F)) :=
  [ StableHlo.nullary main_while1b_c_49 (constantI S_ 32 1#32),
    StableHlo.binary main_v93_8 main_while1b_c_49 main_while1b_v154 (addi : (⟨S_, .i32⟩ : BufTy).Contents (Elt F) → (⟨S_, .i32⟩ : BufTy).Contents (Elt F) → (⟨S_, .i32⟩ : BufTy).Contents (Elt F)) ]
theorem body1s2_sub : (body1s2 : List (HloOp τ sig (Elt F))).Forall fun op => op.bufs ⊆ StableHlo.tcRefs τ sig :=
  ⟨StableHlo.nullary_bufs_sub .., StableHlo.binary_bufs_sub ..⟩

/-- A stretch of the loop body. -/
abbrev body1t0 : List (HloOp τ sig (Elt F)) :=
  [ StableHlo.unary main_while1b_v154 main_v93_8 id,
    StableHlo.unary main_while1b_v151 main_v93_9 id,
    StableHlo.unary main_while1b_v143 main_v93_10 id,
    StableHlo.unary main_while1b_v146 main_v93_11 id,
    StableHlo.unary main_while1b_v138 main_v93_12 id,
    StableHlo.unary main_while1b_v152 main_v93_13 id,
    StableHlo.unary main_while1b_v153 main_v93_14 id ]
theorem body1t0_sub : (body1t0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The condition of the first loop. -/
abbrev cond0 : List (HloOp τ sig (Elt F)) :=
  [ StableHlo.nullary main_while0c_c_37 (constantI S_ 32 2048#32),
    StableHlo.binary main_v20_6 main_while0c_c_37 main_while0c_v113 (cmpi .slt : (⟨S_, .i32⟩ : BufTy).Contents (Elt F) → (⟨S_, .i32⟩ : BufTy).Contents (Elt F) → (⟨S_, .i1⟩ : BufTy).Contents (Elt F)) ]
theorem cond0_sub : (cond0 : List (HloOp τ sig (Elt F))).Forall fun op => op.bufs ⊆ StableHlo.tcRefs τ sig :=
  ⟨StableHlo.nullary_bufs_sub .., StableHlo.binary_bufs_sub ..⟩

/-- The condition of the second loop. -/
abbrev cond1 : List (HloOp τ sig (Elt F)) :=
  [ StableHlo.nullary main_while1c_c_39 (constantI S_ 32 2048#32),
    StableHlo.binary main_v93_8 main_while1c_c_39 main_while1c_v113 (cmpi .slt : (⟨S_, .i32⟩ : BufTy).Contents (Elt F) → (⟨S_, .i32⟩ : BufTy).Contents (Elt F) → (⟨S_, .i1⟩ : BufTy).Contents (Elt F)) ]
theorem cond1_sub : (cond1 : List (HloOp τ sig (Elt F))).Forall fun op => op.bufs ⊆ StableHlo.tcRefs τ sig :=
  ⟨StableHlo.nullary_bufs_sub .., StableHlo.binary_bufs_sub ..⟩

/-- The body of the first loop: one step of the recurrence forward in time. -/
abbrev body0 : List (List (HloOp τ sig (Elt F))) :=
  [ idxOps (.of main_v20_0) (.of main_v20_6) main_while0b_call0,
    idxOps (.of main_v20_1) (.of main_v20_6) main_while0b_call1,
    body0s0,
    updOps (.of main_v20_9) (.of main_while0b_v120) (.of main_v20_6) main_while0b_call2,
    updOps (.of main_v20_10) (.of main_while0b_v126) (.of main_v20_6) main_while0b_call3,
    updOps (.of main_v20_11) (.of main_v20_7) (.of main_v20_6) main_while0b_call4,
    updOps (.of main_v20_12) (.of main_v20_8) (.of main_v20_6) main_while0b_call5,
    body0s1 ]
theorem body0_plain : StableHlo.Plain (body0 (F := F)) :=
  .cons (idxOps_sub ..) <| .cons (idxOps_sub ..) <| .cons body0s0_sub <| .cons (updOps_sub ..) <| .cons (updOps_sub ..) <| .cons (updOps_sub ..) <| .cons (updOps_sub ..) <| .cons body0s1_sub <| .nil
/-- The body of the second loop: one step of the adjoint recurrence, backward in time. -/
abbrev body1 : List (List (HloOp τ sig (Elt F))) :=
  [ body1s0,
    idxOps (.of main_v93_0) (.of main_while1b_v114) main_while1b_call6,
    idxOps (.of main_v93_1) (.of main_while1b_v114) main_while1b_call7,
    idxOps (.of main_v93_2) (.of main_while1b_v114) main_while1b_call8,
    idxOps (.of main_v93_3) (.of main_while1b_v114) main_while1b_call9,
    body1s1,
    updOps (.of main_v93_13) (.of main_while1b_v119) (.of main_while1b_v114) main_while1b_call10,
    updOps (.of main_v93_14) (.of main_while1b_v120) (.of main_while1b_v114) main_while1b_call11,
    body1s2,
    body1t0 ]
theorem body1_plain : StableHlo.Plain (body1 (F := F)) :=
  .cons body1s0_sub <| .cons (idxOps_sub ..) <| .cons (idxOps_sub ..) <| .cons (idxOps_sub ..) <| .cons (idxOps_sub ..) <| .cons body1s1_sub <| .cons (updOps_sub ..) <| .cons (updOps_sub ..) <| .cons body1s2_sub <| .cons body1t0_sub <| .nil
theorem body0_calls : main_while0_body (F := F) = (Pipeline.chain [fn_dynamic_index_in_dim.body (.of main_v20_0) (.of main_v20_6) main_while0b_call0, fn_dynamic_index_in_dim.body (.of main_v20_1) (.of main_v20_6) main_while0b_call1, StableHlo.seq body0s0, fn_dynamic_update_index_in_dim.body (.of main_v20_9) (.of main_while0b_v120) (.of main_v20_6) main_while0b_call2, fn_dynamic_update_index_in_dim.body (.of main_v20_10) (.of main_while0b_v126) (.of main_v20_6) main_while0b_call3, fn_dynamic_update_index_in_dim.body (.of main_v20_11) (.of main_v20_7) (.of main_v20_6) main_while0b_call4, fn_dynamic_update_index_in_dim.body (.of main_v20_12) (.of main_v20_8) (.of main_v20_6) main_while0b_call5, StableHlo.seq body0s1] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl
theorem body1a_calls : main_while1_body_part0 (F := F) = (Pipeline.chainK [StableHlo.seq body1s0, fn_dynamic_index_in_dim.body (.of main_v93_0) (.of main_while1b_v114) main_while1b_call6, fn_dynamic_index_in_dim.body (.of main_v93_1) (.of main_while1b_v114) main_while1b_call7, fn_dynamic_index_in_dim.body (.of main_v93_2) (.of main_while1b_v114) main_while1b_call8, fn_dynamic_index_in_dim.body (.of main_v93_3) (.of main_while1b_v114) main_while1b_call9, StableHlo.seq body1s1, fn_dynamic_update_index_in_dim.body (.of main_v93_13) (.of main_while1b_v119) (.of main_while1b_v114) main_while1b_call10, fn_dynamic_update_index_in_dim.body (.of main_v93_14) (.of main_while1b_v120) (.of main_while1b_v114) main_while1b_call11] (StableHlo.seq body1s2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, Pipeline.chainK_cons, Pipeline.chainK_cons, Pipeline.chainK_cons, StableHlo.chainK_seq_cons, Pipeline.chainK_cons, Pipeline.chainK_cons]
  chain_rfl
theorem body1b_calls : main_while1_body_part1 (F := F) = (Pipeline.chain [StableHlo.seq body1t0] : Prog (TpuEff nD τ sig (Elt F) (HostLoop.Sig (Pipeline.Sig Λ₀ (Fin 0) fun p => (pcfgs (F := F) p).Adm) 2) .tc) PUnit) := by
  rewrite [StableHlo.chain_seq_cons]
  chain_rfl
theorem body0_chain : main_while0_body (F := F) = Pipeline.chain (body0.map fun ops => (StableHlo.seq ops : Prog (TpuEff nD τ sig (Elt F) (HostLoop.Sig (Pipeline.Sig Λ₀ (Fin 0) fun p => (pcfgs (F := F) p).Adm) 2) .tc) PUnit)) := by
  rw [body0_calls]
  simp only [idxOps_body, updOps_body, Pipeline.chain, bind_assoc, pure_bind, List.map]
theorem body1_chain : main_while1_body (F := F) = Pipeline.chain (body1.map fun ops => (StableHlo.seq ops : Prog (TpuEff nD τ sig (Elt F) (HostLoop.Sig (Pipeline.Sig Λ₀ (Fin 0) fun p => (pcfgs (F := F) p).Adm) 2) .tc) PUnit)) := by
  show (main_while1_body_part0 (F := F) >>= fun _ => main_while1_body_part1 (F := F)) = _
  rw [body1a_calls, body1b_calls, Pipeline.chainK_bind_chain]
  simp only [idxOps_body, updOps_body, Pipeline.chain, bind_assoc, pure_bind, List.map, List.cons_append, List.nil_append]
theorem part0_chain (c : Dev nD) : main_part0 (F := F) c = (Pipeline.chainK [StableHlo.seq opsA, HostLoop.enter 0] (StableHlo.seq opsB0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl
theorem part1_chain (c : Dev nD) : main_part1 (F := F) c = (Pipeline.chainK [] (StableHlo.seq opsB1) : Prog (TpuEff nD τ sig (Elt F) (HostLoop.Sig (Pipeline.Sig Λ₀ (Fin 0) fun p => (pcfgs (F := F) p).Adm) 2) .tc) PUnit) := by
  chain_rfl
theorem part2_chain (c : Dev nD) : main_part2 (F := F) c = (Pipeline.chain [StableHlo.seq opsB2, HostLoop.enter 1, StableHlo.seq opsC] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl
/-- The whole program: three runs of host code around its two loops. -/
theorem main_chain (c : Dev nD) : main (F := F) c
    = (Pipeline.chain [StableHlo.seq opsA, HostLoop.enter 0, StableHlo.seq opsB0, StableHlo.seq opsB1, StableHlo.seq opsB2, HostLoop.enter 1, StableHlo.seq opsC] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

end Cert.S5.Ref

end
-- ==== Proof.S5.RefRun.lean ====
module

public import proofs.«01_k».proof.Proof.S5.RefOps
public import Idealize.ShloMosaic.Lib.Scf.Counter
public import Idealize.ShloMosaic.Lib.Scf.ExitTest

@[expose] public section

set_option maxRecDepth 16384

/-! The run of the reference program: host code around two counted loops. It ends with every buffer at the fold of its
    operations, the two loops 2048 times round. -/

noncomputable section

namespace Cert.S5.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)
open Idealize.ShloMosaic.StableHlo (held after afterL atTrip Plain LoopCond segsOf segsOf_chains segsOf_prog segsOf_M_T loopSeg)

variable {F : FTy → Type} [FloatOps F]

local notation "𝕄" => MT nD τ sig Unit (Elt F) ℕ (Option PUnit) ℕ

variable (m : (ℓ : Loc nD τ sig) → Buf (Elt F) ℓ) (ρ : Dev nD → PrngReg)

/-! ## The buffers at each boundary -/

/-- At the first loop's entry. -/
abbrev X1 (c : Dev nD) : Valuation τ sig (Elt F) := after opsA (StableHlo.launchContents m c)
/-- After the first loop. -/
abbrev X2 (c : Dev nD) : Valuation τ sig (Elt F) := after cond0 (atTrip cond0 body0 (X1 m) 2048 c)
/-- The host code between the loops. -/
abbrev opsB : List (List (HloOp τ sig (Elt F))) := [opsB0, opsB1, opsB2]
/-- At the second loop's entry. -/
abbrev X3 (c : Dev nD) : Valuation τ sig (Elt F) := afterL opsB (X2 m c)
/-- After the second loop. -/
abbrev X4 (c : Dev nD) : Valuation τ sig (Elt F) := after cond1 (atTrip cond1 body1 (X3 m) 2048 c)
/-- At the end. -/
abbrev X5 (c : Dev nD) : Valuation τ sig (Elt F) := after opsC (X4 m c)

/-! ## The loops' counters -/

theorem step0_ctr (V : Valuation τ sig (Elt F)) :
    afterL body0 (after cond0 V) (Proc.devRef .tc main_v20_6) = addi (V (Proc.devRef .tc main_v20_6)) (constantI S_ 32 1#32) := by
  rw [StableHlo.afterL_eq_after_flatten]
  after_reads_simp
  rfl

theorem step1_ctr (V : Valuation τ sig (Elt F)) :
    afterL body1 (after cond1 V) (Proc.devRef .tc main_v93_8) = addi (V (Proc.devRef .tc main_v93_8)) (constantI S_ 32 1#32) := by
  rw [StableHlo.afterL_eq_after_flatten]
  after_reads_simp
  rfl

/-- A counter that each trip raises by one from zero holds the trip's number. -/
theorem ctr_eq (condOps : List (HloOp τ sig (Elt F))) (bodyI : List (List (HloOp τ sig (Elt F)))) (W₀ : Dev nD → Valuation τ sig (Elt F))
    (r : Ref sig .tc) (T : r.ty = ⟨S_, .i32⟩) (rd : Valuation τ sig (Elt F) → (⟨S_, .i32⟩ : BufTy).Contents (Elt F))
    (h0 : ∀ c, rd (W₀ c) = fun _ => (0#32 : BitVec 32))
    (hs : ∀ V : Valuation τ sig (Elt F), rd (afterL bodyI (after condOps V)) = addi (rd V) (constantI S_ 32 1#32)) (c : Dev nD) :
    ∀ k : ℕ, rd (atTrip condOps bodyI W₀ k c) = fun _ => Scf.iv 0#32 1#32 k
  | 0 => by rw [StableHlo.atTrip_zero, h0, Scf.iv_zero]
  | k + 1 => by
    rw [StableHlo.atTrip_succ, hs, ctr_eq condOps bodyI W₀ r T rd h0 hs c k]
    funext j
    exact (Scf.iv_succ 0#32 1#32 k).symm

theorem ctr0 (c : Dev nD) (k : ℕ) : atTrip cond0 body0 (X1 m) k c (Proc.devRef .tc main_v20_6) = fun _ => (Scf.iv 0#32 1#32 k : BitVec 32) :=
  ctr_eq cond0 body0 (X1 m) main_v20_6 rfl (fun V => V (Proc.devRef .tc main_v20_6))
    (fun c => by after_reads_simp; rfl) step0_ctr c k

theorem ctr1 (c : Dev nD) (k : ℕ) : atTrip cond1 body1 (X3 m) k c (Proc.devRef .tc main_v93_8) = fun _ => (Scf.iv 0#32 1#32 k : BitVec 32) :=
  ctr_eq cond1 body1 (X3 m) main_v93_8 rfl (fun V => V (Proc.devRef .tc main_v93_8))
    (fun c => by
      show afterL opsB (X2 m c) (Proc.devRef .tc main_v93_8) = _
      rw [StableHlo.afterL_eq_after_flatten]
      after_reads_simp; rfl) step1_ctr c k

/-! ## The loops' conditions -/

/-- What passes beside the buffers: the device owes nothing. -/
abbrev Side (c : Dev nD) : sProp 𝕄 := iprop(∃ W, owes (c : Thread nD τ) (0 : CellTallies nD τ sig Unit) W)

theorem exit_iff (k : ℕ) (hk : k ≤ 2048) : IntOp.cmpi .slt (Scf.iv 0#32 1#32 k) 2048#32 = 1#1 ↔ k < 2048 := by
  have ht : Scf.trips 0#32 2048#32 1#32 = 2048 := by decide
  have h := Scf.cmpi_slt_iv_ub_iff (lb := 0#32) (ub := 2048#32) (st := 1#32) main_while0_ok (k := k) (by rw [ht]; exact hk)
  rwa [ht] at h

theorem loopCond0 : LoopCond (pcfgs (F := F)) defs₀ Variants.none loops Side main_while0_cond cond0 body0 (X1 m) 2048 := fun k hk c bd => by
  have hctr := ctr0 m c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  delta HostLoop.elt; rw [wp_ret]; imodintro
  isplitr
  · ipureintro
    show Iff (IntOp.cmpi .slt (HloOp.result _ (atTrip cond0 body0 (X1 m) k c) main_v20_6 HostLoop.idx0)
        (HloOp.result _ (atTrip cond0 body0 (X1 m) k c) main_while0c_c_37 HostLoop.idx0) = 1#1) (k < 2048)
    rw [StableHlo.nullary_result_ne _ _ _ _ (by decide), StableHlo.nullary_result, hctr]
    exact exit_iff k hk
  isplitl [Hb]; · iexact Hb
  isplitl [Hh]; · iexact Hh
  iexact HR

theorem loopCond1 : LoopCond (pcfgs (F := F)) defs₀ Variants.none loops Side main_while1_cond cond1 body1 (X3 m) 2048 := fun k hk c bd => by
  have hctr := ctr1 m c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  delta HostLoop.elt; rw [wp_ret]; imodintro
  isplitr
  · ipureintro
    show Iff (IntOp.cmpi .slt (HloOp.result _ (atTrip cond1 body1 (X3 m) k c) main_v93_8 HostLoop.idx0)
        (HloOp.result _ (atTrip cond1 body1 (X3 m) k c) main_while1c_c_39 HostLoop.idx0) = 1#1) (k < 2048)
    rw [StableHlo.nullary_result_ne _ _ _ _ (by decide), StableHlo.nullary_result, hctr]
    exact exit_iff k hk
  isplitl [Hb]; · iexact Hb
  isplitl [Hh]; · iexact Hh
  iexact HR

/-! ## The segments -/

theorem opsA_plain : Plain ([opsA] : List (List (HloOp τ sig (Elt F)))) := .cons opsA_sub .nil
theorem opsB_plain : Plain (opsB (F := F)) := .cons opsB0_sub <| .cons opsB1_sub <| .cons opsB2_sub .nil
theorem opsC_plain : Plain ([opsC] : List (List (HloOp τ sig (Elt F)))) := .cons opsC_sub .nil

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cellOf_inj : Function.Injective (Pipeline.cellOf (nD := nD) (τ := τ) (Pipeline.pin (pcfgs (F := F)) adm)) := fun k => k.1.elim0

abbrev CS := CSeg (Ix := Unit) (Name := ℕ) (U := Option PUnit) (Lvl := ℕ) (pcfgs (F := F)) adm defs₀ Variants.none L lv loops tk

def loop0 : CS (F := F) :=
  loopSeg _ _ _ _ _ _ _ _ 0 main_while0_cond main_while0_body rfl cond0 body0 body0_plain body0_chain 2048 (X1 m) Side (loopCond0 m)
def loop1 : CS (F := F) :=
  loopSeg _ _ _ _ _ _ _ _ 1 main_while1_cond main_while1_body rfl cond1 body1 body1_plain body1_chain 2048 (X3 m) Side (loopCond1 m)

/-- The program's segments in order. -/
def allSegs : List (CS (F := F)) :=
  segsOf _ _ _ _ _ _ _ _ Side [opsA] opsA_plain (StableHlo.launchContents m)
    ++ loop0 m :: (segsOf _ _ _ _ _ _ _ _ Side opsB opsB_plain (X2 m)
      ++ loop1 m :: segsOf _ _ _ _ _ _ _ _ Side [opsC] opsC_plain (X4 m))

theorem allSegs_prog : (allSegs m).map CSeg.prog
    = [StableHlo.seq opsA, HostLoop.enter 0, StableHlo.seq opsB0, StableHlo.seq opsB1, StableHlo.seq opsB2, HostLoop.enter 1, StableHlo.seq opsC] := by
  unfold allSegs
  rw [List.map_append, List.map_cons, List.map_append, List.map_cons, segsOf_prog, segsOf_prog, segsOf_prog]
  rfl

theorem allSegs_chains : CSeg.Chains (fun c => iprop(held (c : Thread nD τ) (ucRefs τ sig) (StableHlo.launchContents m c) ∗ Side c)) (allSegs m)
    (fun c => iprop(iprop(held (c : Thread nD τ) (ucRefs τ sig) (X5 m c)) ∗ ∃ W, owes (c : Thread nD τ) (0 : CellTallies nD τ sig Unit) W)) := by
  unfold allSegs
  have hC := segsOf_chains (pcfgs (F := F)) adm defs₀ Variants.none L lv loops tk Side [opsC] opsC_plain (X4 m)
  have hB := segsOf_chains (pcfgs (F := F)) adm defs₀ Variants.none L lv loops tk Side opsB opsB_plain (X2 m)
  have hA := segsOf_chains (pcfgs (F := F)) adm defs₀ Variants.none L lv loops tk Side [opsA] opsA_plain (StableHlo.launchContents m)
  have h1 : CSeg.Chains (fun c => iprop(held (c : Thread nD τ) (ucRefs τ sig) (X3 m c) ∗ Side c))
      (loop1 m :: segsOf _ _ _ _ _ _ _ _ Side [opsC] opsC_plain (X4 m))
      (fun c => iprop(held (c : Thread nD τ) (ucRefs τ sig) (afterL [opsC] (X4 m c)) ∗ Side c)) := ⟨fun _ => .rfl, hC⟩
  have h2 : CSeg.Chains (fun c => iprop(held (c : Thread nD τ) (ucRefs τ sig) (X1 m c) ∗ Side c))
      (loop0 m :: (segsOf _ _ _ _ _ _ _ _ Side opsB opsB_plain (X2 m) ++ loop1 m :: segsOf _ _ _ _ _ _ _ _ Side [opsC] opsC_plain (X4 m)))
      (fun c => iprop(held (c : Thread nD τ) (ucRefs τ sig) (afterL [opsC] (X4 m c)) ∗ Side c)) := ⟨fun _ => .rfl, CSeg.Chains.append hB h1⟩
  exact CSeg.Chains.append hA h2

theorem sems_scoped : ∀ sm : SemLoc sig, sm.isScoped .tc = true := by decide

theorem main_eq (c : Dev nD) : main (F := F) c = Pipeline.chain ((allSegs m).map CSeg.prog) := by
  rw [main_chain c, allSegs_prog]

/-- THE RUN: every buffer of the reference ends at the fold of the program's operations, and every counter at zero. -/
theorem run_main : θ_run defs (onTc (τ := τ) (main (F := F))) ⟨m, fun _ => 0, ρ⟩ (fun r =>
      (∀ c : Dev nD, ∀ b ∈ ucRefs τ sig, r.2.mem (((c : Thread nD τ)).1, b) = X5 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m ρ main (allSegs m)
    (fun c Q => by
      rw [main_eq m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (StableHlo.launchContents m c) ∗ Side c))
    (Tₙ := fun c => iprop(held (c : Thread nD τ) (ucRefs τ sig) (X5 m c)))
    (hch := allSegs_chains m)
    (hinit := by
      refine Pipeline.initEach L lv fun c => ?_
      rw [show unscopedBufs c (fun b => m ((c : Thread nD τ).loc b)) = held (c : Thread nD τ) (ucRefs τ sig) (StableHlo.launchContents m c)
        from Pipeline.unscopedBufs_held c (StableHlo.launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = X5 m c b)
    (hfin := fun c s' => by
      iintro ⟨Hh, HSI⟩
      unfold held
      imodintro
      iapply (pointsTo_read_all (ucRefs τ sig) (fun b => (((c : Thread nD τ)).1, b)) (X5 m c) s')
      isplitl [Hh] <;> iassumption)
    (hQ := fun s h hz => ⟨h, funext fun g => hz g (.inr (sems_scoped g.2))⟩)

/-! ## The arguments -/

/-- The reference's argument arrays. -/
abbrev argRefs : List (Ref sig .tc) := [main_arg0, main_arg1, main_arg2, main_arg3, main_arg4, main_arg5, main_arg6, main_arg7, main_arg8]

/-- What `atTrip` leaves alone: a buffer that neither the condition nor the body writes. -/
theorem atTrip_of (condOps : List (HloOp τ sig (Elt F))) (bodyI : List (List (HloOp τ sig (Elt F)))) (W₀ : Dev nD → Valuation τ sig (Elt F))
    (b : DevRef τ sig) (hs : ∀ V : Valuation τ sig (Elt F), afterL bodyI (after condOps V) b = V b) (c : Dev nD) :
    ∀ k : ℕ, atTrip condOps bodyI W₀ k c b = W₀ c b
  | 0 => rfl
  | k + 1 => by rw [StableHlo.atTrip_succ, hs, atTrip_of condOps bodyI W₀ b hs c k]

theorem of_args {P : Ref sig .tc → Prop} (h0 : P main_arg0) (h1 : P main_arg1) (h2 : P main_arg2) (h3 : P main_arg3) (h4 : P main_arg4)
    (h5 : P main_arg5) (h6 : P main_arg6) (h7 : P main_arg7) (h8 : P main_arg8) : ∀ a ∈ argRefs, P a := by
  intro a ha
  simp only [argRefs, List.mem_cons, List.not_mem_nil, or_false] at ha
  rcases ha with rfl | rfl | rfl | rfl | rfl | rfl | rfl | rfl | rfl <;> assumption

theorem step0_args (V : Valuation τ sig (Elt F)) : ∀ a ∈ argRefs, afterL body0 (after cond0 V) (Proc.devRef .tc a) = V (Proc.devRef .tc a) := by
  rw [StableHlo.afterL_eq_after_flatten]
  apply of_args <;> after_reads_simp

theorem step1_args (V : Valuation τ sig (Elt F)) : ∀ a ∈ argRefs, afterL body1 (after cond1 V) (Proc.devRef .tc a) = V (Proc.devRef .tc a) := by
  rw [StableHlo.afterL_eq_after_flatten]
  apply of_args <;> after_reads_simp

theorem opsA_args (V : Valuation τ sig (Elt F)) : ∀ a ∈ argRefs, after opsA V (Proc.devRef .tc a) = V (Proc.devRef .tc a) := by
  apply of_args <;> after_reads_simp

theorem opsB_args (V : Valuation τ sig (Elt F)) : ∀ a ∈ argRefs, afterL opsB (after cond0 V) (Proc.devRef .tc a) = V (Proc.devRef .tc a) := by
  rw [StableHlo.afterL_eq_after_flatten]
  apply of_args <;> after_reads_simp

theorem opsC_args (V : Valuation τ sig (Elt F)) : ∀ a ∈ argRefs, after opsC (after cond1 V) (Proc.devRef .tc a) = V (Proc.devRef .tc a) := by
  apply of_args <;> after_reads_simp

/-- The arguments are as launched at the second loop's entry, -/
theorem X1_args (c : Dev nD) (a : Ref sig .tc) (ha : a ∈ argRefs) : X1 m c (Proc.devRef .tc a) = m ((c : Thread nD τ).loc a) :=
  opsA_args _ a ha
theorem X3_args (c : Dev nD) (a : Ref sig .tc) (ha : a ∈ argRefs) : X3 m c (Proc.devRef .tc a) = m ((c : Thread nD τ).loc a) :=
  (opsB_args _ a ha).trans <| (atTrip_of cond0 body0 (X1 m) (Proc.devRef .tc a) (fun V => step0_args V a ha) c 2048).trans (X1_args m c a ha)
/-- and at the end. -/
theorem X5_args (c : Dev nD) (a : Ref sig .tc) (ha : a ∈ argRefs) : X5 m c (Proc.devRef .tc a) = m ((c : Thread nD τ).loc a) :=
  (opsC_args _ a ha).trans <| (atTrip_of cond1 body1 (X3 m) (Proc.devRef .tc a) (fun V => step1_args V a ha) c 2048).trans (X3_args m c a ha)

/-- An argument array ends as it was launched. -/
theorem arg_end {s : (ℓ : Loc nD τ sig) → Buf (Elt F) ℓ} (h : ∀ c : Dev nD, ∀ b ∈ ucRefs τ sig, s (((c : Thread nD τ)).1, b) = X5 m c b)
    (c : Dev nD) (a : Ref sig .tc) (ha : a ∈ argRefs) (hu : (Proc.devRef .tc a : DevRef τ sig).isScoped = false) :
    s ((c : Thread nD τ).loc a) = m ((c : Thread nD τ).loc a) :=
  (h c _ (StableHlo.devRef_mem_ucRefs a hu)).trans (X5_args m c a ha)

end Cert.S5.Ref

end
-- ==== Proof.S5.Frames.lean ====
module

public import proofs.«01_k».proof.Defs
public import proofs.«01_k».proof.Proof.Gen.Kernel
public import proofs.«01_k».proof.Proof.S5.Run
public import proofs.«01_k».proof.Proof.S5.RefRun

@[expose] public section

set_option maxRecDepth 16384

noncomputable section

namespace Cert.S5

open Cert
open Idealize.ShloMosaic Idealize.SL.Sem

attribute [local instance] Cert.Kernel.Gen.facts Cert.KernelIdeal.Gen.facts Cert.ReferenceIdeal.Gen.facts

section
open Cert.KernelIdeal

variable {F : FTy → Type} [FloatOps F]

/-- The kernel's run at either instance, read at its arguments and its counters. -/
theorem run_quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run (defs (F := F)) _ _).mono
    (fun r h => ⟨fun c => ⟨arg_end m h.1 c main_arg0 (by decide) (by decide),
      arg_end m h.1 c main_arg1 (by decide) (by decide),
      arg_end m h.1 c main_arg2 (by decide) (by decide),
      arg_end m h.1 c main_arg3 (by decide) (by decide),
      arg_end m h.1 c main_arg4 (by decide) (by decide),
      arg_end m h.1 c main_arg5 (by decide) (by decide),
      arg_end m h.1 c main_arg6 (by decide) (by decide),
      arg_end m h.1 c main_arg7 (by decide) (by decide),
      arg_end m h.1 c main_arg8 (by decide) (by decide)⟩, h.2⟩)
    (run_main (F := F) m ρ)

end

section
variable {F : FTy → Type} [FloatOps F]
set_option maxHeartbeats 1000000

/-- The forward call's body is the same text in both programs. -/
theorem cc0_same : @Kernel.cc0_s5_fwd F _ _ = @KernelIdeal.cc0_s5_fwd F _ _ := rfl

/-- So is the backward call's. -/
theorem cc1_same : @Kernel.cc1_s5_bwd F _ _ = @KernelIdeal.cc1_s5_bwd F _ _ := rfl

/-- The two programs' body tables are one. -/
theorem defs₀_same : Kernel.defs₀ (F := F) = KernelIdeal.defs₀ := by
  refine congrArg Defs.onTc (funext fun l => funext fun a => ?_)
  match l, a with
  | 0, (t, s) =>
    show @Kernel.cc0_s5_fwd F _ _ _ _ _ _ _ _ _ _ _ _ _ _ _ _ _ _ _ _ _ _ _ = @KernelIdeal.cc0_s5_fwd F _ _ _ _ _ _ _ _ _ _ _ _ _ _ _ _ _ _ _ _ _ _ _
    rw [cc0_same]
    rfl
  | 1, (t, s) =>
    show @Kernel.cc1_s5_bwd F _ _ _ _ _ _ _ _ _ _ _ _ _ _ _ _ _ _ _ _ _ _ _ _ _ _ _ _ _ _ _ _ _ _ _ = @KernelIdeal.cc1_s5_bwd F _ _ _ _ _ _ _ _ _ _ _ _ _ _ _ _ _ _ _ _ _ _ _ _ _ _ _ _ _ _ _ _ _ _ _
    rw [cc1_same]
    rfl

/-- The two programs' tables of calls are one. -/
theorem defs_same : Kernel.defs (F := F) = KernelIdeal.defs :=
  congrArg (Pipeline.defs KernelIdeal.pcfgs) defs₀_same

end

set_option maxHeartbeats 1000000 in
/-- The kernel as printed runs to an end, its arguments unchanged and its counters at zero. -/
theorem frame_kernel : Cert.quiescent_Kernel := by
  intro m ρ _
  rw [defs_same]
  exact run_quiet (F := Bits) m ρ

/-- The idealized kernel does the same. -/
theorem frame_kernelIdeal : Cert.quiescent_KernelIdeal := fun m ρ _ => run_quiet (F := Ideal) m ρ

section
open Cert.ReferenceIdeal

/-- The reference runs to an end, its arguments unchanged and its counters at zero. -/
theorem frame_referenceIdeal : Cert.quiescent_ReferenceIdeal := fun m ρ _ =>
  (θ_run Cert.ReferenceIdeal.defs _ _).mono
    (fun _ h => ⟨fun c => ⟨Ref.arg_end m h.1 c main_arg0 (by decide) (by decide), Ref.arg_end m h.1 c main_arg1 (by decide) (by decide),
      Ref.arg_end m h.1 c main_arg2 (by decide) (by decide), Ref.arg_end m h.1 c main_arg3 (by decide) (by decide),
      Ref.arg_end m h.1 c main_arg4 (by decide) (by decide), Ref.arg_end m h.1 c main_arg5 (by decide) (by decide),
      Ref.arg_end m h.1 c main_arg6 (by decide) (by decide), Ref.arg_end m h.1 c main_arg7 (by decide) (by decide),
      Ref.arg_end m h.1 c main_arg8 (by decide) (by decide)⟩, h.2⟩)
    (Ref.run_main (F := Ideal) m ρ)

end

end Cert.S5

end
-- ==== Proof.Mm.Nt.lean ====
/- A product of a left factor's rows with a right factor's rows, and the same product in three column parts. -/
module

public import Idealize.ShloMosaic.Lib.MatmulPlain
public import Idealize.ShloMosaic.Lib.Pipeline.ValueKit

@[expose] public section

set_option maxRecDepth 16384

noncomputable section

namespace Cert.Mm

open Idealize.ShloMosaic
open scoped BigOperators

/-- The gradient of a product's left factor: row `r` of `a` against row `j` of `w`. -/
def left {M K N : ℕ} (a : FVec Ideal ⟨2, ![M, K]⟩ .bf16) (w : FVec Ideal ⟨2, ![N, K]⟩ .bf16) : FVec Ideal ⟨2, ![M, N]⟩ .f32 :=
  fun j => ∑ k : Fin K, a (ValueIdx.ix2 (j 0) k) * w (ValueIdx.ix2 (j 1) k)

/-- One block's product into zeros, entry by entry. -/
theorem nt_block {M K N : ℕ} (a : FVec Ideal ⟨2, ![M, K]⟩ .bf16) (w : FVec Ideal ⟨2, ![N, K]⟩ .bf16) (r : Fin M) (q : Fin N) :
    matmul (DotDims.transposedRhs M K N) none a w (constant ⟨2, ![M, N]⟩ .f32 0x00000000#32) (ValueIdx.ix2 r q)
      = ∑ k : Fin K, a (ValueIdx.ix2 r k) * w (ValueIdx.ix2 q k) := by
  refine (Ideal.matmul_transposedRhs_apply none a w _ r q).trans ?_
  show Ideal.ofBits .f32 0x00000000#32 + _ = _
  rw [Ideal.ofBits_zero_f32, zero_add]

/-- The reference's product, entry by entry. -/
theorem nt_dot {M K N : ℕ} {φ : FTy} (a : FVec Ideal ⟨2, ![M, K]⟩ φ) (w : FVec Ideal ⟨2, ![N, K]⟩ φ) (r : Fin M) (q : Fin N) :
    (Host.dotGeneral (DotDims.transposedRhs M K N) none a w : FVec Ideal ⟨2, ![M, N]⟩ .f32) (ValueIdx.ix2 r q)
      = ∑ k : Fin K, a (ValueIdx.ix2 r k) * w (ValueIdx.ix2 q k) := by
  have e := Ideal.matmul_transposedRhs_apply (φ₁ := φ) (φ₂ := φ) none a w (fun _ => 0) r q
  rw [zero_add] at e
  refine Eq.trans ?_ e
  simp only [Host.dotGeneral]
  rw [Ideal.dotGeneral_apply]
  exact (zero_add _).symm

/-- The reference's product of the widened factors is the gradient of the left factor. -/
theorem left_ref {M K N : ℕ} (a : FVec Ideal ⟨2, ![M, K]⟩ .bf16) (w : FVec Ideal ⟨2, ![N, K]⟩ .bf16)
    (hb : FTy.bits .bf16 < FTy.bits .f32) :
    (Host.dotGeneral (DotDims.transposedRhs M K N) none (extf .f32 a hb) (extf .f32 w hb) : FVec Ideal ⟨2, ![M, N]⟩ .f32) = left a w := by
  funext j
  obtain ⟨r, q, rfl⟩ : ∃ (r : Fin M) (q : Fin N), j = ValueIdx.ix2 r q := ⟨j 0, j 1, ValueIdx.eq_ix2 j⟩
  exact nt_dot (φ := .f32) (extf .f32 a hb) (extf .f32 w hb) r q

/-- The gradient of a left factor that came in three column parts: each part against its columns of `w`. -/
def left3 {M N : ℕ} (a : FVec Ideal ⟨2, ![M, 1792]⟩ .bf16) (b : FVec Ideal ⟨2, ![M, 512]⟩ .bf16) (d : FVec Ideal ⟨2, ![M, 2048]⟩ .bf16)
    (w : FVec Ideal ⟨2, ![N, 4352]⟩ .bf16) : FVec Ideal ⟨2, ![M, N]⟩ .f32 :=
  fun j => (∑ k : Fin 1792, a (ValueIdx.ix2 (j 0) k) * w (ValueIdx.ix2 (j 1) ⟨k.val, by omega⟩))
    + (∑ k : Fin 512, b (ValueIdx.ix2 (j 0) k) * w (ValueIdx.ix2 (j 1) ⟨1792 + k.val, by omega⟩))
    + ∑ k : Fin 2048, d (ValueIdx.ix2 (j 0) k) * w (ValueIdx.ix2 (j 1) ⟨2304 + k.val, by omega⟩)

/-- A sum over 4352 columns is the sum of its three parts. -/
theorem sum_three (f : Fin 4352 → EReal) : ∑ k : Fin 4352, f k = (∑ k : Fin 1792, f ⟨k.val, by omega⟩)
    + (∑ k : Fin 512, f ⟨1792 + k.val, by omega⟩) + ∑ k : Fin 2048, f ⟨2304 + k.val, by omega⟩ :=
  (Fin.sum_univ_add (a := 2304) (b := 2048) f).trans
    (congrArg (· + _) (Fin.sum_univ_add (a := 1792) (b := 512) fun k => f (Fin.castAdd 2048 k)))

/-- The three parts laid side by side, read in the first, the second and the third part. -/
theorem cat3_0 {M : ℕ} (a : (⟨2, ![M, 1792]⟩ : Shape).Idx → EReal) (b : (⟨2, ![M, 512]⟩ : Shape).Idx → EReal)
    (d : (⟨2, ![M, 2048]⟩ : Shape).Idx → EReal)
    (hc : Shape.Concatenates [⟨2, ![M, 1792]⟩, ⟨2, ![M, 512]⟩, ⟨2, ![M, 2048]⟩] ⟨2, ![M, 4352]⟩ 1) (r : Fin M) (k : Fin 1792) :
    concatenate ⟨2, ![M, 4352]⟩ 1 [⟨⟨2, ![M, 1792]⟩, a⟩, ⟨⟨2, ![M, 512]⟩, b⟩, ⟨⟨2, ![M, 2048]⟩, d⟩] hc (ValueIdx.ix2 r ⟨k.val, by omega⟩) = a (ValueIdx.ix2 r k) :=
  concatenate_apply_piece (t := ⟨2, ![M, 4352]⟩) 1 [⟨⟨2, ![M, 1792]⟩, a⟩, ⟨⟨2, ![M, 512]⟩, b⟩, ⟨⟨2, ![M, 2048]⟩, d⟩] hc (ValueIdx.ix2 r ⟨k.val, by omega⟩) 0 (by simp) ⟨2, ![M, 1792]⟩ a rfl rfl 0
    rfl (ValueIdx.ix2 r k) (fun e he => match e with | ⟨0, _⟩ => rfl | ⟨1, _⟩ => absurd rfl he) (Nat.zero_add _)

theorem cat3_1 {M : ℕ} (a : (⟨2, ![M, 1792]⟩ : Shape).Idx → EReal) (b : (⟨2, ![M, 512]⟩ : Shape).Idx → EReal)
    (d : (⟨2, ![M, 2048]⟩ : Shape).Idx → EReal)
    (hc : Shape.Concatenates [⟨2, ![M, 1792]⟩, ⟨2, ![M, 512]⟩, ⟨2, ![M, 2048]⟩] ⟨2, ![M, 4352]⟩ 1) (r : Fin M) (k : Fin 512) :
    concatenate ⟨2, ![M, 4352]⟩ 1 [⟨⟨2, ![M, 1792]⟩, a⟩, ⟨⟨2, ![M, 512]⟩, b⟩, ⟨⟨2, ![M, 2048]⟩, d⟩] hc (ValueIdx.ix2 r ⟨1792 + k.val, by omega⟩) = b (ValueIdx.ix2 r k) :=
  concatenate_apply_piece (t := ⟨2, ![M, 4352]⟩) 1 [⟨⟨2, ![M, 1792]⟩, a⟩, ⟨⟨2, ![M, 512]⟩, b⟩, ⟨⟨2, ![M, 2048]⟩, d⟩] hc (ValueIdx.ix2 r ⟨1792 + k.val, by omega⟩) 1 (by simp) ⟨2, ![M, 512]⟩ b rfl rfl 1792
    rfl (ValueIdx.ix2 r k) (fun e he => match e with | ⟨0, _⟩ => rfl | ⟨1, _⟩ => absurd rfl he) rfl

theorem cat3_2 {M : ℕ} (a : (⟨2, ![M, 1792]⟩ : Shape).Idx → EReal) (b : (⟨2, ![M, 512]⟩ : Shape).Idx → EReal)
    (d : (⟨2, ![M, 2048]⟩ : Shape).Idx → EReal)
    (hc : Shape.Concatenates [⟨2, ![M, 1792]⟩, ⟨2, ![M, 512]⟩, ⟨2, ![M, 2048]⟩] ⟨2, ![M, 4352]⟩ 1) (r : Fin M) (k : Fin 2048) :
    concatenate ⟨2, ![M, 4352]⟩ 1 [⟨⟨2, ![M, 1792]⟩, a⟩, ⟨⟨2, ![M, 512]⟩, b⟩, ⟨⟨2, ![M, 2048]⟩, d⟩] hc (ValueIdx.ix2 r ⟨2304 + k.val, by omega⟩) = d (ValueIdx.ix2 r k) :=
  concatenate_apply_piece (t := ⟨2, ![M, 4352]⟩) 1 [⟨⟨2, ![M, 1792]⟩, a⟩, ⟨⟨2, ![M, 512]⟩, b⟩, ⟨⟨2, ![M, 2048]⟩, d⟩] hc (ValueIdx.ix2 r ⟨2304 + k.val, by omega⟩) 2 (by simp) ⟨2, ![M, 2048]⟩ d rfl rfl 2304
    rfl (ValueIdx.ix2 r k) (fun e he => match e with | ⟨0, _⟩ => rfl | ⟨1, _⟩ => absurd rfl he) rfl

/-- The reference's one product of the three parts laid side by side is the sum of the three parts' products. -/
theorem left3_ref {M N : ℕ} (a : FVec Ideal ⟨2, ![M, 1792]⟩ .bf16) (b : FVec Ideal ⟨2, ![M, 512]⟩ .bf16) (d : FVec Ideal ⟨2, ![M, 2048]⟩ .bf16)
    (w : FVec Ideal ⟨2, ![N, 4352]⟩ .bf16) (hb : FTy.bits .bf16 < FTy.bits .f32)
    (hc : Shape.Concatenates [⟨2, ![M, 1792]⟩, ⟨2, ![M, 512]⟩, ⟨2, ![M, 2048]⟩] ⟨2, ![M, 4352]⟩ 1) :
    (Host.dotGeneral (DotDims.transposedRhs M 4352 N) none
      (concatenate ⟨2, ![M, 4352]⟩ 1 [⟨⟨2, ![M, 1792]⟩, (extf .f32 a hb : FVec Ideal _ .f32)⟩, ⟨⟨2, ![M, 512]⟩, (extf .f32 b hb : FVec Ideal _ .f32)⟩,
        ⟨⟨2, ![M, 2048]⟩, (extf .f32 d hb : FVec Ideal _ .f32)⟩] hc : FVec Ideal ⟨2, ![M, 4352]⟩ .f32)
      (extf .f32 w hb) : FVec Ideal ⟨2, ![M, N]⟩ .f32) = left3 a b d w := by
  funext j
  obtain ⟨r, q, rfl⟩ : ∃ (r : Fin M) (q : Fin N), j = ValueIdx.ix2 r q := ⟨j 0, j 1, ValueIdx.eq_ix2 j⟩
  refine (nt_dot (φ := .f32) _ (extf .f32 w hb) r q).trans ?_
  rw [sum_three]
  refine congrArg₂ (· + ·) (congrArg₂ (· + ·) ?_ ?_) ?_ <;> refine Finset.sum_congr rfl fun k _ => congrArg (· * _) ?_
  · exact cat3_0 _ _ _ hc r k
  · exact cat3_1 _ _ _ hc r k
  · exact cat3_2 _ _ _ hc r k

end Cert.Mm

end
-- ==== Proof.Mm.Dx.lean ====
/- The gradient of a product's left factor: the kernel's blocks of 512 rows against one whole product. -/
module

public import proofs.«01_k».proof.Defs
public import proofs.«01_k».proof.Proof.Gen.Kernel2Ideal.Value
public import proofs.«01_k».proof.Proof.Gen.Reference2Ideal.Run
public import proofs.«01_k».proof.Proof.Mm.Nt
public import Idealize.ShloMosaic.Lib.Pipeline.ValueKit
public import Idealize.ShloMosaic.Lib.Claim

@[expose] public section

set_option maxRecDepth 16384

noncomputable section

namespace Cert.Mm.Dx

open Cert.Kernel2Ideal Cert.Kernel2Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

theorem idx2 : ∀ t : Fin cfg0.N, win0_2.index t = ![t.val, 0] ∧ win0_0.index t = ![t.val, 0] ∧ win0_1.index t = ![0, 0] :=
  (by decide +kernel : ∀ t : Fin grid0.N, win0_2.index t = ![t.val, 0] ∧ win0_0.index t = ![t.val, 0] ∧ win0_1.index t = ![0, 0])

/-- One block's product, entry by entry. -/
theorem out_apply (x0 : Vec Ideal S512x5632 .bf16) (x1 : Vec Ideal S1024x5632 .bf16) (r : Fin 512) (q : Fin 1024) :
    out0_2 x0 x1 (ValueIdx.ix2 r q) = ∑ k : Fin 5632, x0 (ValueIdx.ix2 r k) * x1 (ValueIdx.ix2 q k) := by
  unfold out0_2
  rw [View.canon_unit_zero (S := S512x1024) hz]
  simp only [View.ld_unit_zero (S := S512x5632) hz, View.ld_unit_zero (S := S1024x5632) hz]
  exact nt_block x0 x1 r q

/-- The result array after the run. -/
theorem final (c : Dev nD) : (dats m 0 c).arrAt 2 cfg0.N
    = left (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx2 t
    show out0_2 (iblk m c 0 t) (iblk m c 1 t) ((cfg0.win 2).xinj (grid0.coords t) y)
      = left _ _ (((cfg0.win 2).blk t).view.emb y)
    let r : Fin 512 := ⟨(y 0).val, (y 0).isLt⟩
    let q : Fin 1024 := ⟨(y 1).val, (y 1).isLt⟩
    have hx : ((cfg0.win 2).xinj (grid0.coords t) y : S512x1024.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val * 512 + (y 0).val = win0_2.index t 0 * 512 + 1 * (y 0).val
      rw [e2]; show _ = t.val * 512 + 1 * (y 0).val; omega
    · blk_ext [iblk, V, e2, e0, e1]
      show (y 1).val = win0_2.index t 1 * 1024 + 1 * (y 1).val
      rw [e2]; show _ = 0 * 1024 + 1 * (y 1).val; omega
  · have h0 : (i 0).val < 8192 := (i 0).isLt
    have h1 : (i 1).val < 1024 := (i 1).isLt
    have hN : cfg0.N = 16 := N_0
    have ht : (i 0).val / 512 < cfg0.N := by rw [hN]; omega
    refine ⟨⟨(i 0).val / 512, ht⟩, flush0_2 _, ?_⟩
    show i ∈ ((View.whole main_v0).slice (win0_2.rect ⟨(i 0).val / 512, ht⟩)).set
    rw [View.set_slice_whole, Rect.mem_set_unit]
    have e := (idx2 ⟨(i 0).val / 512, ht⟩).1
    intro a
    match a with
    | ⟨0, _⟩ =>
      show win0_2.index _ 0 * 512 ≤ (i 0).val ∧ (i 0).val < win0_2.index _ 0 * 512 + 512
      rw [congrFun e 0]; show (i 0).val / 512 * 512 ≤ _ ∧ _ < (i 0).val / 512 * 512 + 512; omega
    | ⟨1, _⟩ =>
      show win0_2.index _ 1 * 1024 ≤ (i 1).val ∧ (i 1).val < win0_2.index _ 1 * 1024 + 1024
      rw [congrFun e 1]; show 0 * 1024 ≤ _ ∧ _ < 0 * 1024 + 1024; omega

/-- On the same factors the kernel and the reference end with the same entries. -/
theorem algebraic : algebraic_Kernel2Ideal_Reference2Ideal := by
  intro m g m' g' _ hm
  refine ⟨fun c => left (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference2Ideal.defs _ _).mono (fun r h c => ?_) (Reference2Ideal.Value.run m' g')
    refine ⟨(h c).1.trans ?_, (h c).2⟩
    rw [(hm c).1, (hm c).2]
    exact left_ref _ _ Reference2Ideal.Facts₀.bitsLt_bf16_f32

end Cert.Mm.Dx

end
-- ==== Proof.Mm.Tn.lean ====
/- A product that contracts the leading axis of both factors, read at an entry. -/
module

public import Idealize.ShloMosaic.Lib.MatmulPlain
public import Idealize.ShloMosaic.Lib.Pipeline.ValueKit
public import Idealize.ShloMosaic.Lib.ValueLayout

@[expose] public section

noncomputable section

namespace Cert.Mm

open Idealize.ShloMosaic
open scoped BigOperators

/-- The dimension numbers of `[K,M]ᵀ × [K,N]`: the rows are summed over. -/
abbrev tnDims (K M N : ℕ) (h : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := h

/-- The sum over the contraction's indices is the sum over the rows. -/
theorem tn_sum {K M N : ℕ} (h : DotDims.WF ⟨2, ![K, M]⟩ ⟨2, ![K, N]⟩ ⟨2, ![M, N]⟩ [0] [0] [1] [1] [] [])
    (l : (⟨2, ![K, M]⟩ : Shape).Idx → EReal) (r : (⟨2, ![K, N]⟩ : Shape).Idx → EReal) (p : Fin M) (q : Fin N) :
    ∑ k, l ((tnDims K M N h).lhsIdx (ValueIdx.ix2 p q) k) * r ((tnDims K M N h).rhsIdx (ValueIdx.ix2 p q) k)
      = ∑ k : Fin K, l (ValueIdx.ix2 k p) * r (ValueIdx.ix2 k q) := by
  rw [← Equiv.sum_comp (ValueIdx.contrEquiv1 (tnDims K M N h) K rfl rfl).symm]
  refine Finset.sum_congr rfl fun k _ => ?_
  have hk := ValueIdx.contrEquiv1_symm_val (tnDims K M N h) K rfl rfl k
  refine congrArg₂ (fun x y => l x * r y) (funext fun a => Fin.ext ?_) (funext fun a => Fin.ext ?_)
  · match a with
    | ⟨0, _⟩ => exact hk
    | ⟨1, _⟩ => rfl
  · match a with
    | ⟨0, _⟩ => exact hk
    | ⟨1, _⟩ => rfl

/-- The kernel's product of this kind at an entry. -/
theorem tn_matmul {K M N : ℕ} {φ₁ φ₂ : FTy} (h : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (acc : FVec Ideal ⟨2, ![M, N]⟩ .f32) (p : Fin M) (q : Fin N) :
    FloatOps.matmul (tnDims K M N h) prec l r acc (ValueIdx.ix2 p q)
      = acc (ValueIdx.ix2 p q) + ∑ k : Fin K, l (ValueIdx.ix2 k p) * r (ValueIdx.ix2 k q) := by
  rw [Ideal.matmul_apply]
  exact congrArg _ (tn_sum h l r p q)

/-- The host's product of this kind at an entry. -/
theorem tn_dot {K M N : ℕ} {φ₁ φ₂ φ₃ : FTy} (h : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂) (p : Fin M) (q : Fin N) :
    (Host.dotGeneral (tnDims K M N h) prec l r : FVec Ideal _ φ₃) (ValueIdx.ix2 p q)
      = ∑ k : Fin K, l (ValueIdx.ix2 k p) * r (ValueIdx.ix2 k q) := by
  simp only [Host.dotGeneral]
  rw [Ideal.dotGeneral_apply]
  exact tn_sum h l r p q

/-- The addend of one block in the kernel: the block's product into zeros, added to what was there. -/
theorem tn_step {K M N : ℕ} {φ₁ φ₂ : FTy} (h : DotDims.WF ⟨2, ![K, M]⟩ ⟨2, ![K, N]⟩ ⟨2, ![M, N]⟩ [0] [0] [1] [1] [] [])
    (l : FVec Ideal ⟨2, ![K, M]⟩ φ₁) (r : FVec Ideal ⟨2, ![K, N]⟩ φ₂) (acc : FVec Ideal ⟨2, ![M, N]⟩ .f32) (p : Fin M) (q : Fin N) :
    addf acc (matmul (tnDims K M N h) none l r (constant ⟨2, ![M, N]⟩ .f32 0x00000000#32)) (ValueIdx.ix2 p q)
      = acc (ValueIdx.ix2 p q) + ∑ k : Fin K, l (ValueIdx.ix2 k p) * r (ValueIdx.ix2 k q) := by
  refine congrArg (acc (ValueIdx.ix2 p q) + ·) ((tn_matmul h none l r _ p q : _).trans ?_)
  show Ideal.ofBits .f32 0x00000000#32 + _ = _
  rw [Ideal.ofBits_zero_f32, zero_add]

/-- A product accumulated over a run of row blocks is the product over all the rows. The fold starts from the first
    block's product and adds each later block's; block `s` of the run holds rows `s * K …` of the two whole factors. -/
theorem acc_tn {P K M N L M' N' e : ℕ}
    (a : (n : ℕ) → n < P → (⟨2, ![M, N]⟩ : Shape).Idx → EReal)
    (g : (n : ℕ) → n < P → ((⟨2, ![M, N]⟩ : Shape).Idx → EReal) → (⟨2, ![M, N]⟩ : Shape).Idx → EReal)
    (lb : Fin P → (⟨2, ![K, M]⟩ : Shape).Idx → EReal) (rb : Fin P → (⟨2, ![K, N]⟩ : Shape).Idx → EReal)
    (ha : ∀ n h p q, a n h (ValueIdx.ix2 p q) = 0 + ∑ k : Fin K, lb ⟨n, h⟩ (ValueIdx.ix2 k p) * rb ⟨n, h⟩ (ValueIdx.ix2 k q))
    (hg : ∀ n h acc p q, g n h acc (ValueIdx.ix2 p q)
      = acc (ValueIdx.ix2 p q) + ∑ k : Fin K, lb ⟨n, h⟩ (ValueIdx.ix2 k p) * rb ⟨n, h⟩ (ValueIdx.ix2 k q))
    (A : (⟨2, ![L, M']⟩ : Shape).Idx → EReal) (G : (⟨2, ![L, N']⟩ : Shape).Idx → EReal) (b : ℕ) (hb : b + e < P)
    (hL : L = (e + 1) * K) (p : Fin M) (q : Fin N) (p' : Fin M') (q' : Fin N')
    (hl : ∀ (s : ℕ) (k : Fin K) (hs : b + s < P) (hx : s * K + k.val < L), s ≤ e →
      lb ⟨b + s, hs⟩ (ValueIdx.ix2 k p) = A (ValueIdx.ix2 ⟨s * K + k.val, hx⟩ p'))
    (hr : ∀ (s : ℕ) (k : Fin K) (hs : b + s < P) (hx : s * K + k.val < L), s ≤ e →
      rb ⟨b + s, hs⟩ (ValueIdx.ix2 k q) = G (ValueIdx.ix2 ⟨s * K + k.val, hx⟩ q')) :
    Pipeline.accAt a g b e hb (ValueIdx.ix2 p q) = ∑ k : Fin L, A (ValueIdx.ix2 k p') * G (ValueIdx.ix2 k q') := by
  have split : ∀ i : (⟨2, ![M, N]⟩ : Shape).Idx, ∃ (p : Fin M) (q : Fin N), i = ValueIdx.ix2 p q :=
    fun i => ⟨i 0, i 1, ValueIdx.eq_ix2 i⟩
  rw [Pipeline.accAt_add_apply a g (fun _ => (0 : EReal))
    (fun n i => if h : n < P then ∑ k : Fin K, lb ⟨n, h⟩ (ValueIdx.ix2 k (i 0)) * rb ⟨n, h⟩ (ValueIdx.ix2 k (i 1)) else 0) b e
    (fun h i => by obtain ⟨p, q, rfl⟩ := split i; rw [ha, dif_pos h]; rfl)
    (fun n h acc i _ _ => by obtain ⟨p, q, rfl⟩ := split i; rw [hg, dif_pos h]; rfl) e le_rfl]
  rw [zero_add, Finset.sum_range, ← Fin.sum_mul_add_fin (e + 1) K _ hL]
  refine Finset.sum_congr rfl fun s _ => ?_
  have hs : b + s.val < P := by have := s.isLt; omega
  rw [dif_pos hs]
  exact Finset.sum_congr rfl fun k _ => congrArg₂ (· * ·) (hl s k hs _ (by omega)) (hr s k hs _ (by omega))

/-- The gradient of a product's right factor: column `i` of `a` against column `j` of `g`. -/
def right {K M N : ℕ} (a : FVec Ideal ⟨2, ![K, M]⟩ .bf16) (g : FVec Ideal ⟨2, ![K, N]⟩ .bf16) : FVec Ideal ⟨2, ![M, N]⟩ .f32 :=
  fun j => ∑ k : Fin K, a (ValueIdx.ix2 k (j 0)) * g (ValueIdx.ix2 k (j 1))

/-- What the references compute: the same entries, from one product with its factors exchanged, transposed. -/
theorem right_ref {K M N : ℕ} (h : DotDims.WF ⟨2, ![K, N]⟩ ⟨2, ![K, M]⟩ ⟨2, ![N, M]⟩ [0] [0] [1] [1] [] []) (hb : FTy.bits .bf16 < FTy.bits .f32)
    (ht : Shape.Transposes (⟨2, ![N, M]⟩ : Shape) [1, 0] ⟨2, ![M, N]⟩) (a : FVec Ideal ⟨2, ![K, M]⟩ .bf16) (g : FVec Ideal ⟨2, ![K, N]⟩ .bf16) :
    transpose ⟨2, ![M, N]⟩ [1, 0] (Host.dotGeneral (tnDims K N M h) none (extf .f32 g hb) (extf .f32 a hb)
      : FVec Ideal ⟨2, ![N, M]⟩ .f32) ht = right a g := by
  funext j
  obtain ⟨r, q, rfl⟩ : ∃ (r : Fin M) (q : Fin N), j = ValueIdx.ix2 r q := ⟨j 0, j 1, ValueIdx.eq_ix2 j⟩
  have e := tn_dot (φ₁ := .f32) (φ₂ := .f32) (φ₃ := .f32) h none (extf .f32 g hb) (extf .f32 a hb) q r
  exact (ValueIdx.transpose_ix2_apply _ ht r q).trans (e.trans (Finset.sum_congr rfl fun k _ => mul_comm _ _))

end Cert.Mm

end
-- ==== Proof.Mm.Dw.lean ====
/- The gradient of a product's right factor: the kernel's four partial sums over 2048 rows against one whole product. -/
module

public import proofs.«01_k».proof.Defs
public import proofs.«01_k».proof.Proof.Gen.Kernel3Ideal.Value
public import proofs.«01_k».proof.Proof.Gen.Reference3Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.Dw

open Cert.Kernel3Ideal Cert.Kernel3Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx3 : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

/-- One block's addend, entry by entry. -/
theorem pay_apply (acc : Vec Ideal S1024x1408 .f32) (x0 : Vec Ideal S2048x1024 .bf16) (x1 : Vec Ideal S2048x1408 .bf16)
    (r : Fin 1024) (q : Fin 1408) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x1024_S2048x1408_S1024x1408_0_0_1_1_n_n_wf x0 x1 acc r q

/-- The blocks of the two factors at grid point `t`. -/
def lblk (c : Dev nD) (t : Fin cfg0.N) : Vec Ideal S2048x1024 .bf16 := iblk m c 0 t
def rblk (c : Dev nD) (t : Fin cfg0.N) : Vec Ideal S2048x1408 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 1024 := (j 0).isLt
  have h1 : (j 1).val < 5632 := (j 1).isLt
  have hN : cfg0.N = 16 := N_0
  have hr : Value.run2Of j = (j 1).val / 1408 := by
    show 4 * ((j 0).val / 1024 - 0) + 1 * ((j 1).val / 1408 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx3 ⟨4 * Value.run2Of j + s, hs⟩
    unfold lblk
    blk_ext [iblk, V, e0]
    · show (4 * Value.run2Of j + s) % 4 * 2048 + k.val = s * 2048 + k.val
      omega
    · show (j 0).val % 1024 = (j 0).val
      omega
  · intro s k hs hx hse
    obtain ⟨e0, e1⟩ := idx3 ⟨4 * Value.run2Of j + s, hs⟩
    unfold rblk
    blk_ext [iblk, V, e1]
    · show (4 * Value.run2Of j + s) % 4 * 2048 + k.val = s * 2048 + k.val
      omega
    · show (4 * Value.run2Of j + s) / 4 * 1408 + (j 1).val % 1408 = (j 1).val
      omega

/-- On the same factors the kernel and the reference end with the same entries. -/
theorem algebraic : algebraic_Kernel3Ideal_Reference3Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference3Ideal.defs _ _).mono (fun r h c => ?_) (Reference3Ideal.Value.run m' g')
    refine ⟨(h c).1.trans ?_, (h c).2⟩
    rw [(hm c).1, (hm c).2]
    exact right_ref Reference3Ideal.Facts₀.dot_S8192x5632_S8192x1024_S5632x1024_0_0_1_1_n_n_wf
      Reference3Ideal.Facts₀.bitsLt_bf16_f32 Reference3Ideal.Facts₀.transposes_S5632x1024_S1024x5632_1_0 _ _

end Cert.Mm.Dw

end
-- ==== Proof.Mm.Act.lean ====
/- The gradient of the gated network's activation: the kernel's blocks of 1024 rows and 1408 columns against one product. -/
module

public import proofs.«01_k».proof.Defs
public import proofs.«01_k».proof.Proof.Gen.Kernel4Ideal.Value
public import proofs.«01_k».proof.Proof.Gen.Reference4Ideal.Run
public import proofs.«01_k».proof.Proof.Mm.Nt
public import Idealize.ShloMosaic.Lib.Pipeline.ValueKit
public import Idealize.ShloMosaic.Lib.Claim

@[expose] public section

set_option maxRecDepth 16384

noncomputable section

namespace Cert.Mm.Act

open Cert.Kernel4Ideal Cert.Kernel4Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_2.index t = ![t.val / 2, t.val % 2] ∧ win0_0.index t = ![t.val / 2, 0]
    ∧ win0_1.index t = ![t.val % 2, 0] :=
  (by decide +kernel : ∀ t : Fin grid0.N, win0_2.index t = ![t.val / 2, t.val % 2] ∧ win0_0.index t = ![t.val / 2, 0]
    ∧ win0_1.index t = ![t.val % 2, 0])

/-- One block's product, entry by entry. -/
theorem out_apply (x0 : Vec Ideal S1024x1024 .bf16) (x1 : Vec Ideal S1408x1024 .bf16) (r : Fin 1024) (q : Fin 1408) :
    out0_2 x0 x1 (ValueIdx.ix2 r q) = ∑ k : Fin 1024, x0 (ValueIdx.ix2 r k) * x1 (ValueIdx.ix2 q k) := by
  unfold out0_2
  rw [View.canon_unit_zero (S := S1024x1408) hz]
  simp only [View.ld_unit_zero (S := S1024x1024) hz, View.ld_unit_zero (S := S1408x1024) hz]
  exact nt_block x0 x1 r q

/-- The result array after the run. -/
theorem final (c : Dev nD) : (dats m 0 c).arrAt 2 cfg0.N
    = left (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = left _ _ (((cfg0.win 2).blk t).view.emb y)
    let r : Fin 1024 := ⟨(y 0).val, (y 0).isLt⟩
    let q : Fin 1408 := ⟨(y 1).val, (y 1).isLt⟩
    have hx : ((cfg0.win 2).xinj (grid0.coords t) y : S1024x1408.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val / 2 * 1024 + (y 0).val = win0_2.index t 0 * 1024 + 1 * (y 0).val
      rw [e2]; show _ = t.val / 2 * 1024 + 1 * (y 0).val; omega
    · blk_ext [iblk, V, e2, e0, e1]
      show t.val % 2 * 1408 + (y 1).val = win0_2.index t 1 * 1408 + 1 * (y 1).val
      rw [e2]; show _ = t.val % 2 * 1408 + 1 * (y 1).val; omega
  · have h0 : (i 0).val < 8192 := (i 0).isLt
    have h1 : (i 1).val < 2816 := (i 1).isLt
    have hN : cfg0.N = 16 := N_0
    have ht : (i 0).val / 1024 * 2 + (i 1).val / 1408 < cfg0.N := by rw [hN]; omega
    refine ⟨⟨_, ht⟩, flush0_2 _, ?_⟩
    show i ∈ ((View.whole main_v0).slice (win0_2.rect ⟨_, ht⟩)).set
    rw [View.set_slice_whole, Rect.mem_set_unit]
    have e := (idx ⟨_, ht⟩).1
    intro a
    match a with
    | ⟨0, _⟩ =>
      show win0_2.index _ 0 * 1024 ≤ (i 0).val ∧ (i 0).val < win0_2.index _ 0 * 1024 + 1024
      rw [congrFun e 0]
      show ((i 0).val / 1024 * 2 + (i 1).val / 1408) / 2 * 1024 ≤ _ ∧ _ < ((i 0).val / 1024 * 2 + (i 1).val / 1408) / 2 * 1024 + 1024
      omega
    | ⟨1, _⟩ =>
      show win0_2.index _ 1 * 1408 ≤ (i 1).val ∧ (i 1).val < win0_2.index _ 1 * 1408 + 1408
      rw [congrFun e 1]
      show ((i 0).val / 1024 * 2 + (i 1).val / 1408) % 2 * 1408 ≤ _ ∧ _ < ((i 0).val / 1024 * 2 + (i 1).val / 1408) % 2 * 1408 + 1408
      omega

/-- On the same factors the kernel and the reference end with the same entries. -/
theorem algebraic : algebraic_Kernel4Ideal_Reference4Ideal := by
  intro m g m' g' _ hm
  refine ⟨fun c => left (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference4Ideal.defs _ _).mono (fun r h c => ?_) (Reference4Ideal.Value.run m' g')
    refine ⟨(h c).1.trans ?_, (h c).2⟩
    rw [(hm c).1, (hm c).2]
    exact left_ref _ _ Reference4Ideal.Facts₀.bitsLt_bf16_f32

end Cert.Mm.Act

end
-- ==== Proof.Mm.Down.lean ====
/- The gradient of the second projection of the gated network: its right factor, four partial sums over 2048 rows. -/
module

public import proofs.«01_k».proof.Defs
public import proofs.«01_k».proof.Proof.Gen.Kernel5Ideal.Value
public import proofs.«01_k».proof.Proof.Gen.Reference5Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.Down

open Cert.Kernel5Ideal Cert.Kernel5Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, t.val / 4] ∧ win0_1.index t = ![t.val % 4, 0] :=
  (by decide +kernel : ∀ t : Fin grid0.N, win0_0.index t = ![t.val % 4, t.val / 4] ∧ win0_1.index t = ![t.val % 4, 0])

/-- One block's addend, entry by entry. -/
theorem pay_apply (acc : Vec Ideal S1408x1024 .f32) (x0 : Vec Ideal S2048x1408 .bf16) (x1 : Vec Ideal S2048x1024 .bf16)
    (r : Fin 1408) (q : Fin 1024) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x1408_S2048x1024_S1408x1024_0_0_1_1_n_n_wf x0 x1 acc r q

/-- The blocks of the two factors at grid point `t`. -/
def lblk (c : Dev nD) (t : Fin cfg0.N) : Vec Ideal S2048x1408 .bf16 := iblk m c 0 t
def rblk (c : Dev nD) (t : Fin cfg0.N) : Vec Ideal S2048x1024 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 2816 := (j 0).isLt
  have h1 : (j 1).val < 1024 := (j 1).isLt
  have hN : cfg0.N = 8 := N_0
  have hr : Value.run2Of j = (j 0).val / 1408 := by
    show 1 * ((j 0).val / 1408 - 0) + 1 * ((j 1).val / 1024 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (4 * Value.run2Of j + s) / 4 * 1408 + (j 0).val % 1408 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (j 1).val % 1024 = (j 1).val
      omega

/-- On the same factors the kernel and the reference end with the same entries. -/
theorem algebraic : algebraic_Kernel5Ideal_Reference5Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference5Ideal.defs _ _).mono (fun r h c => ?_) (Reference5Ideal.Value.run m' g')
    refine ⟨(h c).1.trans ?_, (h c).2⟩
    rw [(hm c).1, (hm c).2]
    exact right_ref Reference5Ideal.Facts₀.dot_S8192x1024_S8192x2816_S1024x2816_0_0_1_1_n_n_wf
      Reference5Ideal.Facts₀.bitsLt_bf16_f32 Reference5Ideal.Facts₀.transposes_S1024x2816_S2816x1024_1_0 _ _

end Cert.Mm.Down

end
-- ==== Proof.Mm.Parts.lean ====
/- The gradient of the input projection's input: the kernel adds the products of three column parts, on blocks of 512 rows;
   the reference lays the parts side by side and takes one product. -/
module

public import proofs.«01_k».proof.Defs
public import proofs.«01_k».proof.Proof.Gen.Kernel6Ideal.Value
public import proofs.«01_k».proof.Proof.Gen.Reference6Ideal.Run
public import proofs.«01_k».proof.Proof.Mm.Nt
public import Idealize.ShloMosaic.Lib.Pipeline.ValueKit
public import Idealize.ShloMosaic.Lib.Claim

@[expose] public section

set_option maxRecDepth 16384

noncomputable section

namespace Cert.Mm.Parts

open Cert.Kernel6Ideal Cert.Kernel6Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_6.index t = ![t.val, 0] ∧ win0_0.index t = ![t.val, 0] ∧ win0_1.index t = ![t.val, 0]
    ∧ win0_2.index t = ![t.val, 0] ∧ win0_3.index t = ![0, 0] ∧ win0_4.index t = ![0, 0] ∧ win0_5.index t = ![0, 0] :=
  (by decide +kernel : ∀ t : Fin grid0.N, win0_6.index t = ![t.val, 0] ∧ win0_0.index t = ![t.val, 0] ∧ win0_1.index t = ![t.val, 0]
    ∧ win0_2.index t = ![t.val, 0] ∧ win0_3.index t = ![0, 0] ∧ win0_4.index t = ![0, 0] ∧ win0_5.index t = ![0, 0])

/-- One block's three products, entry by entry. -/
theorem out_apply (x0 : Vec Ideal S512x1792 .bf16) (x1 : Vec Ideal S512x512 .bf16) (x2 : Vec Ideal S512x2048 .bf16)
    (x3 : Vec Ideal S1024x1792 .bf16) (x4 : Vec Ideal S1024x512 .bf16) (x5 : Vec Ideal S1024x2048 .bf16) (r : Fin 512) (q : Fin 1024) :
    out0_6 x0 x1 x2 x3 x4 x5 (ValueIdx.ix2 r q)
      = (∑ k : Fin 1792, x0 (ValueIdx.ix2 r k) * x3 (ValueIdx.ix2 q k)) + (∑ k : Fin 512, x1 (ValueIdx.ix2 r k) * x4 (ValueIdx.ix2 q k))
        + ∑ k : Fin 2048, x2 (ValueIdx.ix2 r k) * x5 (ValueIdx.ix2 q k) := by
  unfold out0_6
  rw [View.canon_unit_zero (S := S512x1024) hz]
  simp only [View.ld_unit_zero (S := S512x1792) hz, View.ld_unit_zero (S := S1024x1792) hz, View.ld_unit_zero (S := S512x512) hz,
    View.ld_unit_zero (S := S1024x512) hz, View.ld_unit_zero (S := S512x2048) hz, View.ld_unit_zero (S := S1024x2048) hz]
  unfold k0_pay1
  simp only [shapeCast_self]
  exact congrArg₂ (· + ·) (congrArg₂ (· + ·) (nt_block x0 x3 r q) (nt_block x1 x4 r q)) (nt_block x2 x5 r q)

/-- The three column parts of the matrix, as the host has cut them before the kernel runs. -/
theorem V0 (c : Dev nD) : V m c main_v0 = extractStridedSlice S1024x1792 ![0, 0] (m ((c : Thread nD τ).loc main_arg3)) Facts₀.slices_S1024x4352_S1024x1792_0_0 := by
  show StableHlo.after hostOps0 (fun b => m (c, b)) (Proc.tc.devRef main_v0) = _
  unfold hostOps0
  after_results
theorem V1 (c : Dev nD) : V m c main_v1 = extractStridedSlice S1024x512 ![0, 1792] (m ((c : Thread nD τ).loc main_arg3)) Facts₀.slices_S1024x4352_S1024x512_0_1792 := by
  show StableHlo.after hostOps0 (fun b => m (c, b)) (Proc.tc.devRef main_v1) = _
  unfold hostOps0
  after_results
theorem V2 (c : Dev nD) : V m c main_v2 = extractStridedSlice S1024x2048 ![0, 2304] (m ((c : Thread nD τ).loc main_arg3)) Facts₀.slices_S1024x4352_S1024x2048_0_2304 := by
  show StableHlo.after hostOps0 (fun b => m (c, b)) (Proc.tc.devRef main_v2) = _
  unfold hostOps0
  after_results

/-- The result array after the run. -/
theorem final (c : Dev nD) : (dats m 0 c).arrAt 6 cfg0.N
    = left3 (m ((c : Thread nD τ).loc main_arg0)) (m ((c : Thread nD τ).loc main_arg1)) (m ((c : Thread nD τ).loc main_arg2))
      (m ((c : Thread nD τ).loc main_arg3)) := by
  refine (dats m 0 c).arrAt_eq_of_cover 6 _ (fun t _ => ?_) (fun i => ?_)
  · rw [Value.flushed6]
    funext y
    obtain ⟨e6, e0, e1, e2, e3, e4, e5⟩ := idx t
    show out0_6 (iblk m c 0 t) (iblk m c 1 t) (iblk m c 2 t) (iblk m c 3 t) (iblk m c 4 t) (iblk m c 5 t)
        ((cfg0.win 6).xinj (grid0.coords t) y)
      = left3 _ _ _ _ (((cfg0.win 6).blk t).view.emb y)
    let r : Fin 512 := ⟨(y 0).val, (y 0).isLt⟩
    let q : Fin 1024 := ⟨(y 1).val, (y 1).isLt⟩
    have hx : ((cfg0.win 6).xinj (grid0.coords t) y : S512x1024.Idx) = ValueIdx.ix2 r q := by
      funext a
      match a with
      | ⟨0, _⟩ => rfl
      | ⟨1, _⟩ => rfl
    have hrow : t.val * 512 + (y 0).val = win0_6.index t 0 * 512 + 1 * (y 0).val := by
      rw [e6]; show _ = t.val * 512 + 1 * (y 0).val; omega
    have hcol : (y 1).val = win0_6.index t 1 * 1024 + 1 * (y 1).val := by
      rw [e6]; show _ = 0 * 1024 + 1 * (y 1).val; omega
    rw [hx]
    refine (out_apply _ _ _ _ _ _ r q).trans ?_
    refine congrArg₂ (· + ·) (congrArg₂ (· + ·) ?_ ?_) ?_ <;>
      refine Finset.sum_congr rfl fun k _ => congrArg₂ (· * ·) ?_ ?_
    · blk_ext [iblk, V, e0]; exact hrow
    · refine (congrFun (V0 m c) _).trans (extractStridedSlice_apply _ _ _ _ _ fun a => ?_)
      match a with
      | ⟨0, _⟩ =>
        show win0_6.index t 1 * 1024 + 1 * (y 1).val = 0 + (win0_3.index t 0 * 1024 + 1 * (y 1).val)
        rw [← hcol, e3]; show _ = 0 + (0 * 1024 + 1 * (y 1).val); omega
      | ⟨1, _⟩ =>
        show k.val = 0 + (win0_3.index t 1 * 1792 + 1 * k.val)
        rw [e3]; show _ = 0 + (0 * 1792 + 1 * k.val); omega
    · blk_ext [iblk, V, e1]; exact hrow
    · refine (congrFun (V1 m c) _).trans (extractStridedSlice_apply _ _ _ _ _ fun a => ?_)
      match a with
      | ⟨0, _⟩ =>
        show win0_6.index t 1 * 1024 + 1 * (y 1).val = 0 + (win0_4.index t 0 * 1024 + 1 * (y 1).val)
        rw [← hcol, e4]; show _ = 0 + (0 * 1024 + 1 * (y 1).val); omega
      | ⟨1, _⟩ =>
        show 1792 + k.val = 1792 + (win0_4.index t 1 * 512 + 1 * k.val)
        rw [e4]; show _ = 1792 + (0 * 512 + 1 * k.val); omega
    · blk_ext [iblk, V, e2]; exact hrow
    · refine (congrFun (V2 m c) _).trans (extractStridedSlice_apply _ _ _ _ _ fun a => ?_)
      match a with
      | ⟨0, _⟩ =>
        show win0_6.index t 1 * 1024 + 1 * (y 1).val = 0 + (win0_5.index t 0 * 1024 + 1 * (y 1).val)
        rw [← hcol, e5]; show _ = 0 + (0 * 1024 + 1 * (y 1).val); omega
      | ⟨1, _⟩ =>
        show 2304 + k.val = 2304 + (win0_5.index t 1 * 2048 + 1 * k.val)
        rw [e5]; show _ = 2304 + (0 * 2048 + 1 * k.val); omega
  · have h0 : (i 0).val < 8192 := (i 0).isLt
    have h1 : (i 1).val < 1024 := (i 1).isLt
    have hN : cfg0.N = 16 := N_0
    have ht : (i 0).val / 512 < cfg0.N := by rw [hN]; omega
    refine ⟨⟨(i 0).val / 512, ht⟩, flush0_6 _, ?_⟩
    show i ∈ ((View.whole main_v3).slice (win0_6.rect ⟨(i 0).val / 512, ht⟩)).set
    rw [View.set_slice_whole, Rect.mem_set_unit]
    have e := (idx ⟨(i 0).val / 512, ht⟩).1
    intro a
    match a with
    | ⟨0, _⟩ =>
      show win0_6.index _ 0 * 512 ≤ (i 0).val ∧ (i 0).val < win0_6.index _ 0 * 512 + 512
      rw [congrFun e 0]; show (i 0).val / 512 * 512 ≤ _ ∧ _ < (i 0).val / 512 * 512 + 512; omega
    | ⟨1, _⟩ =>
      show win0_6.index _ 1 * 1024 ≤ (i 1).val ∧ (i 1).val < win0_6.index _ 1 * 1024 + 1024
      rw [congrFun e 1]; show 0 * 1024 ≤ _ ∧ _ < 0 * 1024 + 1024; omega

/-- On the same parts and the same matrix the kernel and the reference end with the same entries. -/
theorem algebraic : algebraic_Kernel6Ideal_Reference6Ideal := by
  intro m g m' g' _ hm
  refine ⟨fun c => left3 (m ((c : Thread nD τ).loc main_arg0)) (m ((c : Thread nD τ).loc main_arg1))
    (m ((c : Thread nD τ).loc main_arg2)) (m ((c : Thread nD τ).loc main_arg3)), ?_, ?_⟩
  · refine (θ_run defs _ _).mono (fun r h c => ?_) (Value.run_blocks m g)
    exact ⟨(h c).1.trans (final m c), (h c).2⟩
  · refine (θ_run Reference6Ideal.defs _ _).mono (fun r h c => ?_) (Reference6Ideal.Value.run m' g')
    refine ⟨(h c).1.trans ?_, (h c).2⟩
    rw [(hm c).1, (hm c).2.1, (hm c).2.2.1, (hm c).2.2.2]
    exact left3_ref _ _ _ _ Reference6Ideal.Facts₀.bitsLt_bf16_f32
      Reference6Ideal.Facts₀.concatenates_S8192x1792_S8192x512_S8192x2048_S8192x4352_d1

end Cert.Mm.Parts

end
-- ==== Proof.Mm.InP.lean ====
/- The gradient of the first column part of the input projection. -/
module

public import proofs.«01_k».proof.Defs
public import proofs.«01_k».proof.Proof.Gen.Kernel7Ideal.Value
public import proofs.«01_k».proof.Proof.Gen.Reference7Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.InP

open Cert.Kernel7Ideal Cert.Kernel7Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

/-- One block's addend, entry by entry. -/
theorem pay_apply (acc : Vec Ideal S1024x896 .f32) (x0 : Vec Ideal S2048x1024 .bf16) (x1 : Vec Ideal S2048x896 .bf16)
    (r : Fin 1024) (q : Fin 896) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x1024_S2048x896_S1024x896_0_0_1_1_n_n_wf x0 x1 acc r q

/-- The blocks of the two factors at grid point `t`. -/
def lblk (c : Dev nD) (t : Fin cfg0.N) : Vec Ideal S2048x1024 .bf16 := iblk m c 0 t
def rblk (c : Dev nD) (t : Fin cfg0.N) : Vec Ideal S2048x896 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 1024 := (j 0).isLt
  have h1 : (j 1).val < 1792 := (j 1).isLt
  have hN : cfg0.N = 8 := N_0
  have hr : Value.run2Of j = (j 1).val / 896 := by
    show 2 * ((j 0).val / 1024 - 0) + 1 * ((j 1).val / 896 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (j 0).val % 1024 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (4 * Value.run2Of j + s) / 4 * 896 + (j 1).val % 896 = (j 1).val
      omega

/-- On the same factors the kernel and the reference end with the same entries. -/
theorem algebraic : algebraic_Kernel7Ideal_Reference7Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference7Ideal.defs _ _).mono (fun r h c => ?_) (Reference7Ideal.Value.run m' g')
    refine ⟨(h c).1.trans ?_, (h c).2⟩
    rw [(hm c).1, (hm c).2]
    exact right_ref Reference7Ideal.Facts₀.dot_S8192x1792_S8192x1024_S1792x1024_0_0_1_1_n_n_wf
      Reference7Ideal.Facts₀.bitsLt_bf16_f32 Reference7Ideal.Facts₀.transposes_S1792x1024_S1024x1792_1_0 _ _

end Cert.Mm.InP

end
-- ==== Proof.Mm.InU.lean ====
/- The gradient of the second column part of the input projection. -/
module

public import proofs.«01_k».proof.Defs
public import proofs.«01_k».proof.Proof.Gen.Kernel8Ideal.Value
public import proofs.«01_k».proof.Proof.Gen.Reference8Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.InU

open Cert.Kernel8Ideal Cert.Kernel8Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, 0] ∧ win0_1.index t = ![t.val % 4, 0] :=
  (by decide +kernel : ∀ t : Fin grid0.N, win0_0.index t = ![t.val % 4, 0] ∧ win0_1.index t = ![t.val % 4, 0])

/-- One block's addend, entry by entry. -/
theorem pay_apply (acc : Vec Ideal S1024x512 .f32) (x0 : Vec Ideal S2048x1024 .bf16) (x1 : Vec Ideal S2048x512 .bf16)
    (r : Fin 1024) (q : Fin 512) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x1024_S2048x512_S1024x512_0_0_1_1_n_n_wf x0 x1 acc r q

/-- The blocks of the two factors at grid point `t`. -/
def lblk (c : Dev nD) (t : Fin cfg0.N) : Vec Ideal S2048x1024 .bf16 := iblk m c 0 t
def rblk (c : Dev nD) (t : Fin cfg0.N) : Vec Ideal S2048x512 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 1024 := (j 0).isLt
  have h1 : (j 1).val < 512 := (j 1).isLt
  have hN : cfg0.N = 4 := N_0
  have hr : Value.run2Of j = 0 := by
    show 1 * ((j 0).val / 1024 - 0) + 1 * ((j 1).val / 512 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (j 0).val % 1024 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (j 1).val % 512 = (j 1).val
      omega

/-- On the same factors the kernel and the reference end with the same entries. -/
theorem algebraic : algebraic_Kernel8Ideal_Reference8Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference8Ideal.defs _ _).mono (fun r h c => ?_) (Reference8Ideal.Value.run m' g')
    refine ⟨(h c).1.trans ?_, (h c).2⟩
    rw [(hm c).1, (hm c).2]
    exact right_ref Reference8Ideal.Facts₀.dot_S8192x512_S8192x1024_S512x1024_0_0_1_1_n_n_wf
      Reference8Ideal.Facts₀.bitsLt_bf16_f32 Reference8Ideal.Facts₀.transposes_S512x1024_S1024x512_1_0 _ _

end Cert.Mm.InU

end
-- ==== Proof.Mm.InG.lean ====
/- The gradient of the third column part of the input projection. -/
module

public import proofs.«01_k».proof.Defs
public import proofs.«01_k».proof.Proof.Gen.Kernel9Ideal.Value
public import proofs.«01_k».proof.Proof.Gen.Reference9Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.InG

open Cert.Kernel9Ideal Cert.Kernel9Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

/-- One block's addend, entry by entry. -/
theorem pay_apply (acc : Vec Ideal S1024x1024 .f32) (x0 : Vec Ideal S2048x1024 .bf16) (x1 : Vec Ideal S2048x1024 .bf16)
    (r : Fin 1024) (q : Fin 1024) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x1024_S2048x1024_S1024x1024_0_0_1_1_n_n_wf x0 x1 acc r q

/-- The blocks of the two factors at grid point `t`. -/
def lblk (c : Dev nD) (t : Fin cfg0.N) : Vec Ideal S2048x1024 .bf16 := iblk m c 0 t
def rblk (c : Dev nD) (t : Fin cfg0.N) : Vec Ideal S2048x1024 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 1024 := (j 0).isLt
  have h1 : (j 1).val < 2048 := (j 1).isLt
  have hN : cfg0.N = 8 := N_0
  have hr : Value.run2Of j = (j 1).val / 1024 := by
    show 2 * ((j 0).val / 1024 - 0) + 1 * ((j 1).val / 1024 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (j 0).val % 1024 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (4 * Value.run2Of j + s) / 4 * 1024 + (j 1).val % 1024 = (j 1).val
      omega

/-- On the same factors the kernel and the reference end with the same entries. -/
theorem algebraic : algebraic_Kernel9Ideal_Reference9Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference9Ideal.defs _ _).mono (fun r h c => ?_) (Reference9Ideal.Value.run m' g')
    refine ⟨(h c).1.trans ?_, (h c).2⟩
    rw [(hm c).1, (hm c).2]
    exact right_ref Reference9Ideal.Facts₀.dot_S8192x2048_S8192x1024_S2048x1024_0_0_1_1_n_n_wf
      Reference9Ideal.Facts₀.bitsLt_bf16_f32 Reference9Ideal.Facts₀.transposes_S2048x1024_S1024x2048_1_0 _ _

end Cert.Mm.InG

end
-- ==== Proof.Mm.DMix.lean ====
/- The gradient of the mixed branches, written in the narrower format: blocks of 1024 rows against one product. -/
module

public import proofs.«01_k».proof.Defs
public import proofs.«01_k».proof.Proof.Gen.Kernel10Ideal.Value
public import proofs.«01_k».proof.Proof.Gen.Reference10Ideal.Run
public import proofs.«01_k».proof.Proof.Mm.Nt
public import Idealize.ShloMosaic.Lib.Pipeline.ValueKit
public import Idealize.ShloMosaic.Lib.Claim

@[expose] public section

set_option maxRecDepth 16384

noncomputable section

namespace Cert.Mm.DMix

open Cert.Kernel10Ideal Cert.Kernel10Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

theorem idx : ∀ t : Fin cfg0.N, win0_2.index t = ![t.val, 0] ∧ win0_0.index t = ![t.val, 0] ∧ win0_1.index t = ![0, 0] :=
  (by decide +kernel : ∀ t : Fin grid0.N, win0_2.index t = ![t.val, 0] ∧ win0_0.index t = ![t.val, 0] ∧ win0_1.index t = ![0, 0])

/-- One block's product, entry by entry. -/
theorem out_apply (x0 : Vec Ideal S1024x1024 .bf16) (x1 : Vec Ideal S1024x1024 .bf16) (r : Fin 1024) (q : Fin 1024) :
    out0_2 x0 x1 (ValueIdx.ix2 r q) = ∑ k : Fin 1024, x0 (ValueIdx.ix2 r k) * x1 (ValueIdx.ix2 q k) := by
  unfold out0_2
  rw [View.canon_unit_zero (S := S1024x1024) hz]
  simp only [View.ld_unit_zero (S := S1024x1024) hz, View.ld_unit_zero (S := S1024x1024) hz]
  exact nt_block x0 x1 r q

/-- The result array after the run. -/
theorem final (c : Dev nD) : (dats m 0 c).arrAt 2 cfg0.N
    = left (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = left _ _ (((cfg0.win 2).blk t).view.emb y)
    let r : Fin 1024 := ⟨(y 0).val, (y 0).isLt⟩
    let q : Fin 1024 := ⟨(y 1).val, (y 1).isLt⟩
    have hx : ((cfg0.win 2).xinj (grid0.coords t) y : S1024x1024.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val * 1024 + (y 0).val = win0_2.index t 0 * 1024 + 1 * (y 0).val
      rw [e2]; show _ = t.val * 1024 + 1 * (y 0).val; omega
    · blk_ext [iblk, V, e2, e0, e1]
      show (y 1).val = win0_2.index t 1 * 1024 + 1 * (y 1).val
      rw [e2]; show _ = 0 * 1024 + 1 * (y 1).val; omega
  · have h0 : (i 0).val < 8192 := (i 0).isLt
    have h1 : (i 1).val < 1024 := (i 1).isLt
    have hN : cfg0.N = 8 := N_0
    have ht : (i 0).val / 1024 < cfg0.N := by rw [hN]; omega
    refine ⟨⟨(i 0).val / 1024, ht⟩, flush0_2 _, ?_⟩
    show i ∈ ((View.whole main_v0).slice (win0_2.rect ⟨(i 0).val / 1024, ht⟩)).set
    rw [View.set_slice_whole, Rect.mem_set_unit]
    have e := (idx ⟨(i 0).val / 1024, ht⟩).1
    intro a
    match a with
    | ⟨0, _⟩ =>
      show win0_2.index _ 0 * 1024 ≤ (i 0).val ∧ (i 0).val < win0_2.index _ 0 * 1024 + 1024
      rw [congrFun e 0]; show (i 0).val / 1024 * 1024 ≤ _ ∧ _ < (i 0).val / 1024 * 1024 + 1024; omega
    | ⟨1, _⟩ =>
      show win0_2.index _ 1 * 1024 ≤ (i 1).val ∧ (i 1).val < win0_2.index _ 1 * 1024 + 1024
      rw [congrFun e 1]; show 0 * 1024 ≤ _ ∧ _ < 0 * 1024 + 1024; omega

/-- On the same factors the kernel and the reference end with the same entries. -/
theorem algebraic : algebraic_Kernel10Ideal_Reference10Ideal := by
  intro m g m' g' _ hm
  refine ⟨fun c => left (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference10Ideal.defs _ _).mono (fun r h c => ?_) (Reference10Ideal.Value.run m' g')
    refine ⟨(h c).1.trans ?_, (h c).2⟩
    rw [(hm c).1, (hm c).2]
    exact left_ref _ _ Reference10Ideal.Facts₀.bitsLt_bf16_f32

end Cert.Mm.DMix

end
-- ==== Proof.Mm.WOut.lean ====
/- The gradient of the block's output weights. -/
module

public import proofs.«01_k».proof.Defs
public import proofs.«01_k».proof.Proof.Gen.Kernel11Ideal.Value
public import proofs.«01_k».proof.Proof.Gen.Reference11Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.WOut

open Cert.Kernel11Ideal Cert.Kernel11Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, 0] ∧ win0_1.index t = ![t.val % 4, 0] :=
  (by decide +kernel : ∀ t : Fin grid0.N, win0_0.index t = ![t.val % 4, 0] ∧ win0_1.index t = ![t.val % 4, 0])

/-- One block's addend, entry by entry. -/
theorem pay_apply (acc : Vec Ideal S1024x1024 .f32) (x0 : Vec Ideal S2048x1024 .bf16) (x1 : Vec Ideal S2048x1024 .bf16)
    (r : Fin 1024) (q : Fin 1024) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x1024_S2048x1024_S1024x1024_0_0_1_1_n_n_wf x0 x1 acc r q

/-- The blocks of the two factors at grid point `t`. -/
def lblk (c : Dev nD) (t : Fin cfg0.N) : Vec Ideal S2048x1024 .bf16 := iblk m c 0 t
def rblk (c : Dev nD) (t : Fin cfg0.N) : Vec Ideal S2048x1024 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 1024 := (j 0).isLt
  have h1 : (j 1).val < 1024 := (j 1).isLt
  have hN : cfg0.N = 4 := N_0
  have hr : Value.run2Of j = 0 := by
    show 1 * ((j 0).val / 1024 - 0) + 1 * ((j 1).val / 1024 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (j 0).val % 1024 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (j 1).val % 1024 = (j 1).val
      omega

/-- On the same factors the kernel and the reference end with the same entries. -/
theorem algebraic : algebraic_Kernel11Ideal_Reference11Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference11Ideal.defs _ _).mono (fun r h c => ?_) (Reference11Ideal.Value.run m' g')
    refine ⟨(h c).1.trans ?_, (h c).2⟩
    rw [(hm c).1, (hm c).2]
    exact right_ref Reference11Ideal.Facts₀.dot_S8192x1024_S8192x1024_S1024x1024_0_0_1_1_n_n_wf
      Reference11Ideal.Facts₀.bitsLt_bf16_f32 Reference11Ideal.Facts₀.transposes_S1024x1024_S1024x1024_1_0 _ _

end Cert.Mm.WOut

end
-- ==== Proof.Mm.DRwkv.lean ====
/- The gradient of the recurrent branch's output: blocks of 1024 rows against one product. -/
module

public import proofs.«01_k».proof.Defs
public import proofs.«01_k».proof.Proof.Gen.Kernel12Ideal.Value
public import proofs.«01_k».proof.Proof.Gen.Reference12Ideal.Run
public import proofs.«01_k».proof.Proof.Mm.Nt
public import Idealize.ShloMosaic.Lib.Pipeline.ValueKit
public import Idealize.ShloMosaic.Lib.Claim

@[expose] public section

set_option maxRecDepth 16384

noncomputable section

namespace Cert.Mm.DRwkv

open Cert.Kernel12Ideal Cert.Kernel12Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

theorem idx : ∀ t : Fin cfg0.N, win0_2.index t = ![t.val, 0] ∧ win0_0.index t = ![t.val, 0] ∧ win0_1.index t = ![0, 0] :=
  (by decide +kernel : ∀ t : Fin grid0.N, win0_2.index t = ![t.val, 0] ∧ win0_0.index t = ![t.val, 0] ∧ win0_1.index t = ![0, 0])

/-- One block's product, entry by entry. -/
theorem out_apply (x0 : Vec Ideal S1024x1024 .bf16) (x1 : Vec Ideal S512x1024 .bf16) (r : Fin 1024) (q : Fin 512) :
    out0_2 x0 x1 (ValueIdx.ix2 r q) = ∑ k : Fin 1024, x0 (ValueIdx.ix2 r k) * x1 (ValueIdx.ix2 q k) := by
  unfold out0_2
  rw [View.canon_unit_zero (S := S1024x512) hz]
  simp only [View.ld_unit_zero (S := S1024x1024) hz, View.ld_unit_zero (S := S512x1024) hz]
  exact nt_block x0 x1 r q

/-- The result array after the run. -/
theorem final (c : Dev nD) : (dats m 0 c).arrAt 2 cfg0.N
    = left (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = left _ _ (((cfg0.win 2).blk t).view.emb y)
    let r : Fin 1024 := ⟨(y 0).val, (y 0).isLt⟩
    let q : Fin 512 := ⟨(y 1).val, (y 1).isLt⟩
    have hx : ((cfg0.win 2).xinj (grid0.coords t) y : S1024x512.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val * 1024 + (y 0).val = win0_2.index t 0 * 1024 + 1 * (y 0).val
      rw [e2]; show _ = t.val * 1024 + 1 * (y 0).val; omega
    · blk_ext [iblk, V, e2, e0, e1]
      show (y 1).val = win0_2.index t 1 * 512 + 1 * (y 1).val
      rw [e2]; show _ = 0 * 512 + 1 * (y 1).val; omega
  · have h0 : (i 0).val < 8192 := (i 0).isLt
    have h1 : (i 1).val < 512 := (i 1).isLt
    have hN : cfg0.N = 8 := N_0
    have ht : (i 0).val / 1024 < cfg0.N := by rw [hN]; omega
    refine ⟨⟨(i 0).val / 1024, ht⟩, flush0_2 _, ?_⟩
    show i ∈ ((View.whole main_v0).slice (win0_2.rect ⟨(i 0).val / 1024, ht⟩)).set
    rw [View.set_slice_whole, Rect.mem_set_unit]
    have e := (idx ⟨(i 0).val / 1024, ht⟩).1
    intro a
    match a with
    | ⟨0, _⟩ =>
      show win0_2.index _ 0 * 1024 ≤ (i 0).val ∧ (i 0).val < win0_2.index _ 0 * 1024 + 1024
      rw [congrFun e 0]; show (i 0).val / 1024 * 1024 ≤ _ ∧ _ < (i 0).val / 1024 * 1024 + 1024; omega
    | ⟨1, _⟩ =>
      show win0_2.index _ 1 * 512 ≤ (i 1).val ∧ (i 1).val < win0_2.index _ 1 * 512 + 512
      rw [congrFun e 1]; show 0 * 512 ≤ _ ∧ _ < 0 * 512 + 512; omega

/-- On the same factors the kernel and the reference end with the same entries. -/
theorem algebraic : algebraic_Kernel12Ideal_Reference12Ideal := by
  intro m g m' g' _ hm
  refine ⟨fun c => left (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference12Ideal.defs _ _).mono (fun r h c => ?_) (Reference12Ideal.Value.run m' g')
    refine ⟨(h c).1.trans ?_, (h c).2⟩
    rw [(hm c).1, (hm c).2]
    exact left_ref _ _ Reference12Ideal.Facts₀.bitsLt_bf16_f32

end Cert.Mm.DRwkv

end
-- ==== Proof.Mm.WRwkv.lean ====
/- The gradient of the recurrent branch's output weights. -/
module

public import proofs.«01_k».proof.Defs
public import proofs.«01_k».proof.Proof.Gen.Kernel13Ideal.Value
public import proofs.«01_k».proof.Proof.Gen.Reference13Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.WRwkv

open Cert.Kernel13Ideal Cert.Kernel13Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, 0] ∧ win0_1.index t = ![t.val % 4, 0] :=
  (by decide +kernel : ∀ t : Fin grid0.N, win0_0.index t = ![t.val % 4, 0] ∧ win0_1.index t = ![t.val % 4, 0])

/-- One block's addend, entry by entry. -/
theorem pay_apply (acc : Vec Ideal S512x1024 .f32) (x0 : Vec Ideal S2048x512 .bf16) (x1 : Vec Ideal S2048x1024 .bf16)
    (r : Fin 512) (q : Fin 1024) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x512_S2048x1024_S512x1024_0_0_1_1_n_n_wf x0 x1 acc r q

/-- The blocks of the two factors at grid point `t`. -/
def lblk (c : Dev nD) (t : Fin cfg0.N) : Vec Ideal S2048x512 .bf16 := iblk m c 0 t
def rblk (c : Dev nD) (t : Fin cfg0.N) : Vec Ideal S2048x1024 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 512 := (j 0).isLt
  have h1 : (j 1).val < 1024 := (j 1).isLt
  have hN : cfg0.N = 4 := N_0
  have hr : Value.run2Of j = 0 := by
    show 1 * ((j 0).val / 512 - 0) + 1 * ((j 1).val / 1024 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (j 0).val % 512 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (j 1).val % 1024 = (j 1).val
      omega

/-- On the same factors the kernel and the reference end with the same entries. -/
theorem algebraic : algebraic_Kernel13Ideal_Reference13Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference13Ideal.defs _ _).mono (fun r h c => ?_) (Reference13Ideal.Value.run m' g')
    refine ⟨(h c).1.trans ?_, (h c).2⟩
    rw [(hm c).1, (hm c).2]
    exact right_ref Reference13Ideal.Facts₀.dot_S8192x1024_S8192x512_S1024x512_0_0_1_1_n_n_wf
      Reference13Ideal.Facts₀.bitsLt_bf16_f32 Reference13Ideal.Facts₀.transposes_S1024x512_S512x1024_1_0 _ _

end Cert.Mm.WRwkv

end
-- ==== Proof.Mm.DGlu.lean ====
/- The gradient of the gated linear unit's input: blocks of 512 rows against one product. -/
module

public import proofs.«01_k».proof.Defs
public import proofs.«01_k».proof.Proof.Gen.Kernel14Ideal.Value
public import proofs.«01_k».proof.Proof.Gen.Reference14Ideal.Run
public import proofs.«01_k».proof.Proof.Mm.Nt
public import Idealize.ShloMosaic.Lib.Pipeline.ValueKit
public import Idealize.ShloMosaic.Lib.Claim

@[expose] public section

set_option maxRecDepth 16384

noncomputable section

namespace Cert.Mm.DGlu

open Cert.Kernel14Ideal Cert.Kernel14Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

theorem idx : ∀ t : Fin cfg0.N, win0_2.index t = ![t.val, 0] ∧ win0_0.index t = ![t.val, 0] ∧ win0_1.index t = ![0, 0] :=
  (by decide +kernel : ∀ t : Fin grid0.N, win0_2.index t = ![t.val, 0] ∧ win0_0.index t = ![t.val, 0] ∧ win0_1.index t = ![0, 0])

/-- One block's product, entry by entry. -/
theorem out_apply (x0 : Vec Ideal S512x2048 .bf16) (x1 : Vec Ideal S512x2048 .bf16) (r : Fin 512) (q : Fin 512) :
    out0_2 x0 x1 (ValueIdx.ix2 r q) = ∑ k : Fin 2048, x0 (ValueIdx.ix2 r k) * x1 (ValueIdx.ix2 q k) := by
  unfold out0_2
  rw [View.canon_unit_zero (S := S512x512) hz]
  simp only [View.ld_unit_zero (S := S512x2048) hz, View.ld_unit_zero (S := S512x2048) hz]
  exact nt_block x0 x1 r q

/-- The result array after the run. -/
theorem final (c : Dev nD) : (dats m 0 c).arrAt 2 cfg0.N
    = left (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = left _ _ (((cfg0.win 2).blk t).view.emb y)
    let r : Fin 512 := ⟨(y 0).val, (y 0).isLt⟩
    let q : Fin 512 := ⟨(y 1).val, (y 1).isLt⟩
    have hx : ((cfg0.win 2).xinj (grid0.coords t) y : S512x512.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val * 512 + (y 0).val = win0_2.index t 0 * 512 + 1 * (y 0).val
      rw [e2]; show _ = t.val * 512 + 1 * (y 0).val; omega
    · blk_ext [iblk, V, e2, e0, e1]
      show (y 1).val = win0_2.index t 1 * 512 + 1 * (y 1).val
      rw [e2]; show _ = 0 * 512 + 1 * (y 1).val; omega
  · have h0 : (i 0).val < 8192 := (i 0).isLt
    have h1 : (i 1).val < 512 := (i 1).isLt
    have hN : cfg0.N = 16 := N_0
    have ht : (i 0).val / 512 < cfg0.N := by rw [hN]; omega
    refine ⟨⟨(i 0).val / 512, ht⟩, flush0_2 _, ?_⟩
    show i ∈ ((View.whole main_v0).slice (win0_2.rect ⟨(i 0).val / 512, ht⟩)).set
    rw [View.set_slice_whole, Rect.mem_set_unit]
    have e := (idx ⟨(i 0).val / 512, ht⟩).1
    intro a
    match a with
    | ⟨0, _⟩ =>
      show win0_2.index _ 0 * 512 ≤ (i 0).val ∧ (i 0).val < win0_2.index _ 0 * 512 + 512
      rw [congrFun e 0]; show (i 0).val / 512 * 512 ≤ _ ∧ _ < (i 0).val / 512 * 512 + 512; omega
    | ⟨1, _⟩ =>
      show win0_2.index _ 1 * 512 ≤ (i 1).val ∧ (i 1).val < win0_2.index _ 1 * 512 + 512
      rw [congrFun e 1]; show 0 * 512 ≤ _ ∧ _ < 0 * 512 + 512; omega

/-- On the same factors the kernel and the reference end with the same entries. -/
theorem algebraic : algebraic_Kernel14Ideal_Reference14Ideal := by
  intro m g m' g' _ hm
  refine ⟨fun c => left (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference14Ideal.defs _ _).mono (fun r h c => ?_) (Reference14Ideal.Value.run m' g')
    refine ⟨(h c).1.trans ?_, (h c).2⟩
    rw [(hm c).1, (hm c).2]
    exact left_ref _ _ Reference14Ideal.Facts₀.bitsLt_bf16_f32

end Cert.Mm.DGlu

end
-- ==== Proof.Mm.WGlu.lean ====
/- The gradient of the gated linear unit's weights. -/
module

public import proofs.«01_k».proof.Defs
public import proofs.«01_k».proof.Proof.Gen.Kernel15Ideal.Value
public import proofs.«01_k».proof.Proof.Gen.Reference15Ideal.Run
public import proofs.«01_k».proof.Proof.Mm.Tn
public import Idealize.ShloMosaic.Lib.Pipeline.ValueKit
public import Idealize.ShloMosaic.Lib.Claim

@[expose] public section

set_option maxRecDepth 16384

noncomputable section

namespace Cert.Mm.WGlu

open Cert.Kernel15Ideal Cert.Kernel15Ideal.Gen
open Idealize.ShloMosaic Idealize.ShloMosaic.TcCoe
open Idealize.SL.Sem
open scoped BigOperators

variable (m : (ℓ : Loc nD τ sig) → Buf (Elt Ideal) ℓ)

/-- Which blocks grid point `t` reads of the two factors. -/
theorem idx : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

/-- One block's addend, entry by entry. -/
theorem pay_apply (acc : Vec Ideal S512x1024 .f32) (x0 : Vec Ideal S2048x512 .bf16) (x1 : Vec Ideal S2048x1024 .bf16)
    (r : Fin 512) (q : Fin 1024) :
    k0_pay2 acc x0 x1 (ValueIdx.ix2 r q)
      = acc (ValueIdx.ix2 r q) + ∑ k : Fin 2048, x0 (ValueIdx.ix2 k r) * x1 (ValueIdx.ix2 k q) := by
  unfold k0_pay2
  simp only [shapeCast_self]
  exact tn_step Facts₀.dot_S2048x512_S2048x1024_S512x1024_0_0_1_1_n_n_wf x0 x1 acc r q

/-- The blocks of the two factors at grid point `t`. -/
def lblk (c : Dev nD) (t : Fin cfg0.N) : Vec Ideal S2048x512 .bf16 := iblk m c 0 t
def rblk (c : Dev nD) (t : Fin cfg0.N) : Vec Ideal S2048x1024 .bf16 := iblk m c 1 t

/-- What the run writes: every entry is the sum over all the rows. -/
theorem G_eq (c : Dev nD) : Value.G2 m c
    = right (m ((c : Thread nD τ).loc main_arg0)) (m ((c : Thread nD τ).loc main_arg1)) := by
  funext j
  have h0 : (j 0).val < 512 := (j 0).isLt
  have h1 : (j 1).val < 2048 := (j 1).isLt
  have hN : cfg0.N = 8 := N_0
  have hr : Value.run2Of j = (j 1).val / 1024 := by
    show 2 * ((j 0).val / 512 - 0) + 1 * ((j 1).val / 1024 - 0) = _
    omega
  unfold Value.G2
  rw [dif_pos (by rw [hr, hN]; omega), ValueIdx.eq_ix2 (Value.loc2Of j)]
  refine acc_tn (Value.reset2 m c) (Value.step2 m c) (lblk m c) (rblk m c)
    (fun n h p q => (pay_apply _ _ _ p q).trans (congrArg (· + _) Ideal.ofBits_zero_f32))
    (fun n h acc p q => pay_apply acc _ _ p q) _ _ _ _ rfl _ _ (j 0) (j 1) ?_ ?_
  · intro s k hs hx hse
    obtain ⟨e0, e1⟩ := idx ⟨4 * Value.run2Of j + s, hs⟩
    unfold lblk
    blk_ext [iblk, V, e0]
    · show (4 * Value.run2Of j + s) % 4 * 2048 + k.val = s * 2048 + k.val
      omega
    · show (j 0).val % 512 = (j 0).val
      omega
  · intro s k hs hx hse
    obtain ⟨e0, e1⟩ := idx ⟨4 * Value.run2Of j + s, hs⟩
    unfold rblk
    blk_ext [iblk, V, e1]
    · show (4 * Value.run2Of j + s) % 4 * 2048 + k.val = s * 2048 + k.val
      omega
    · show (4 * Value.run2Of j + s) / 4 * 1024 + (j 1).val % 1024 = (j 1).val
      omega

/-- On the same factors the kernel and the reference end with the same entries. -/
theorem algebraic : algebraic_Kernel15Ideal_Reference15Ideal := by
  intro m g m' g' _ hm
  refine ⟨fun c => right (m ((c : Thread nD τ).loc main_arg0)) (m ((c : Thread nD τ).loc main_arg1)), ?_, ?_⟩
  · refine (θ_run defs _ _).mono (fun r h c => ?_) (Value.run m g)
    exact ⟨(h c).1.trans (G_eq m c), (h c).2⟩
  · refine (θ_run Reference15Ideal.defs _ _).mono (fun r h c => ?_) (Reference15Ideal.Value.run m' g')
    refine ⟨(h c).1.trans ?_, (h c).2⟩
    rw [(hm c).1, (hm c).2]
    exact right_ref Reference15Ideal.Facts₀.dot_S8192x2048_S8192x512_S2048x512_0_0_1_1_n_n_wf
      Reference15Ideal.Facts₀.bitsLt_bf16_f32 Reference15Ideal.Facts₀.transposes_S2048x512_S512x2048_1_0 _ _

end Cert.Mm.WGlu

end
-- ==== Proof.Mm.Nn.lean ====
/- The plain product of two matrices, in the kernel's blocks and in the reference. -/
module

public import Idealize.ShloMosaic.Lib.MatmulPlain
public import Idealize.ShloMosaic.Lib.Pipeline.ValueKit

@[expose] public section

set_option maxRecDepth 16384

noncomputable section

namespace Cert.Mm

open Idealize.ShloMosaic
open scoped BigOperators

/-- The product of two matrices: row `r` of `a` against column `j` of `w`. -/
def times {M K N : ℕ} (a : FVec Ideal ⟨2, ![M, K]⟩ .bf16) (w : FVec Ideal ⟨2, ![K, N]⟩ .bf16) : FVec Ideal ⟨2, ![M, N]⟩ .f32 :=
  fun j => ∑ k : Fin K, a (ValueIdx.ix2 (j 0) k) * w (ValueIdx.ix2 k (j 1))

/-- One block's product into zeros, entry by entry. -/
theorem nn_block {M K N : ℕ} (a : FVec Ideal ⟨2, ![M, K]⟩ .bf16) (w : FVec Ideal ⟨2, ![K, N]⟩ .bf16) (r : Fin M) (q : Fin N) :
    matmul (DotDims.plain M K N) none a w (constant ⟨2, ![M, N]⟩ .f32 0x00000000#32) (ValueIdx.ix2 r q)
      = ∑ k : Fin K, a (ValueIdx.ix2 r k) * w (ValueIdx.ix2 k q) := by
  refine (Ideal.matmul_plain_apply none a w _ r q).trans ?_
  show Ideal.ofBits .f32 0x00000000#32 + _ = _
  rw [Ideal.ofBits_zero_f32, zero_add]

/-- The reference's product of the widened factors. -/
theorem times_ref {M K N : ℕ} (a : FVec Ideal ⟨2, ![M, K]⟩ .bf16) (w : FVec Ideal ⟨2, ![K, N]⟩ .bf16)
    (hb : FTy.bits .bf16 < FTy.bits .f32) :
    (Host.dotGeneral (DotDims.plain M K N) none (extf .f32 a hb) (extf .f32 w hb) : FVec Ideal ⟨2, ![M, N]⟩ .f32) = times a w := by
  funext j
  obtain ⟨r, q, rfl⟩ : ∃ (r : Fin M) (q : Fin N), j = ValueIdx.ix2 r q := ⟨j 0, j 1, ValueIdx.eq_ix2 j⟩
  have e := Ideal.matmul_plain_apply (φ₁ := .f32) (φ₂ := .f32) none (extf .f32 a hb) (extf .f32 w hb) (fun _ => 0) r q
  rw [zero_add] at e
  refine Eq.trans ?_ e
  simp only [Host.dotGeneral]
  rw [Ideal.dotGeneral_apply]
  exact (zero_add _).symm

end Cert.Mm

end
-- ==== Proof.Mm.FRwkv.lean ====
/- The RWKV-7 branch's output product. -/
module

public import proofs.«01_k».proof.Defs
public import proofs.«01_k».proof.Proof.Gen.Kernel25Ideal.Value
public import proofs.«01_k».proof.Proof.Gen.Reference25Ideal.Run
public import proofs.«01_k».proof.Proof.Mm.Nn
public import Idealize.ShloMosaic.Lib.Pipeline.ValueKit
public import Idealize.ShloMosaic.Lib.Claim

@[expose] public section

set_option maxRecDepth 16384

noncomputable section

namespace Cert.Mm.FRwkv

open Cert.Kernel25Ideal Cert.Kernel25Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_2.index t = ![t.val / 1, t.val % 1] ∧ win0_0.index t = ![t.val / 1, 0]
    ∧ win0_1.index t = ![0, t.val % 1] :=
  (by decide +kernel : ∀ t : Fin grid0.N, win0_2.index t = ![t.val / 1, t.val % 1] ∧ win0_0.index t = ![t.val / 1, 0]
    ∧ win0_1.index t = ![0, t.val % 1])

/-- One block's product, entry by entry. -/
theorem out_apply (x0 : Vec Ideal S1024x512 .bf16) (x1 : Vec Ideal S512x1024 .bf16) (r : Fin 1024) (q : Fin 1024) :
    out0_2 x0 x1 (ValueIdx.ix2 r q) = ∑ k : Fin 512, x0 (ValueIdx.ix2 r k) * x1 (ValueIdx.ix2 k q) := by
  unfold out0_2
  rw [View.canon_unit_zero (S := S1024x1024) hz]
  simp only [View.ld_unit_zero (S := S1024x512) hz, View.ld_unit_zero (S := S512x1024) hz]
  exact nn_block x0 x1 r q

/-- The result array after the run. -/
theorem final (c : Dev nD) : (dats m 0 c).arrAt 2 cfg0.N
    = times (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = times _ _ (((cfg0.win 2).blk t).view.emb y)
    let r : Fin 1024 := ⟨(y 0).val, (y 0).isLt⟩
    let q : Fin 1024 := ⟨(y 1).val, (y 1).isLt⟩
    have hx : ((cfg0.win 2).xinj (grid0.coords t) y : S1024x1024.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val / 1 * 1024 + (y 0).val = win0_2.index t 0 * 1024 + 1 * (y 0).val
      rw [e2]; show _ = t.val / 1 * 1024 + 1 * (y 0).val; omega
    · blk_ext [iblk, V, e2, e0, e1]
      show t.val % 1 * 1024 + (y 1).val = win0_2.index t 1 * 1024 + 1 * (y 1).val
      rw [e2]; show _ = t.val % 1 * 1024 + 1 * (y 1).val; omega
  · have h0 : (i 0).val < 8192 := (i 0).isLt
    have h1 : (i 1).val < 1024 := (i 1).isLt
    have hN : cfg0.N = 8 := N_0
    have ht : (i 0).val / 1024 * 1 + (i 1).val / 1024 < cfg0.N := by rw [hN]; omega
    refine ⟨⟨_, ht⟩, flush0_2 _, ?_⟩
    show i ∈ ((View.whole main_v0).slice (win0_2.rect ⟨_, ht⟩)).set
    rw [View.set_slice_whole, Rect.mem_set_unit]
    have e := (idx ⟨_, ht⟩).1
    intro a
    match a with
    | ⟨0, _⟩ =>
      show win0_2.index _ 0 * 1024 ≤ (i 0).val ∧ (i 0).val < win0_2.index _ 0 * 1024 + 1024
      rw [congrFun e 0]
      show ((i 0).val / 1024 * 1 + (i 1).val / 1024) / 1 * 1024 ≤ _ ∧ _ < ((i 0).val / 1024 * 1 + (i 1).val / 1024) / 1 * 1024 + 1024
      omega
    | ⟨1, _⟩ =>
      show win0_2.index _ 1 * 1024 ≤ (i 1).val ∧ (i 1).val < win0_2.index _ 1 * 1024 + 1024
      rw [congrFun e 1]
      show ((i 0).val / 1024 * 1 + (i 1).val / 1024) % 1 * 1024 ≤ _ ∧ _ < ((i 0).val / 1024 * 1 + (i 1).val / 1024) % 1 * 1024 + 1024
      omega

/-- On the same factors the kernel and the reference end with the same entries. -/
theorem algebraic : algebraic_Kernel25Ideal_Reference25Ideal := by
  intro m g m' g' _ hm
  refine ⟨fun c => times (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference25Ideal.defs _ _).mono (fun r h c => ?_) (Reference25Ideal.Value.run m' g')
    refine ⟨(h c).1.trans ?_, (h c).2⟩
    rw [(hm c).1, (hm c).2]
    exact times_ref _ _ Reference25Ideal.Facts₀.bitsLt_bf16_f32

end Cert.Mm.FRwkv

end
-- ==== Proof.Mm.FGlu.lean ====
/- The product of the S5 branch's gated linear unit. -/
module

public import proofs.«01_k».proof.Defs
public import proofs.«01_k».proof.Proof.Gen.Kernel26Ideal.Value
public import proofs.«01_k».proof.Proof.Gen.Reference26Ideal.Run
public import proofs.«01_k».proof.Proof.Mm.Nn
public import Idealize.ShloMosaic.Lib.Pipeline.ValueKit
public import Idealize.ShloMosaic.Lib.Claim

@[expose] public section

set_option maxRecDepth 16384

noncomputable section

namespace Cert.Mm.FGlu

open Cert.Kernel26Ideal Cert.Kernel26Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_2.index t = ![t.val / 2, t.val % 2] ∧ win0_0.index t = ![t.val / 2, 0]
    ∧ win0_1.index t = ![0, t.val % 2] :=
  (by decide +kernel : ∀ t : Fin grid0.N, win0_2.index t = ![t.val / 2, t.val % 2] ∧ win0_0.index t = ![t.val / 2, 0]
    ∧ win0_1.index t = ![0, t.val % 2])

/-- One block's product, entry by entry. -/
theorem out_apply (x0 : Vec Ideal S1024x512 .bf16) (x1 : Vec Ideal S512x1024 .bf16) (r : Fin 1024) (q : Fin 1024) :
    out0_2 x0 x1 (ValueIdx.ix2 r q) = ∑ k : Fin 512, x0 (ValueIdx.ix2 r k) * x1 (ValueIdx.ix2 k q) := by
  unfold out0_2
  rw [View.canon_unit_zero (S := S1024x1024) hz]
  simp only [View.ld_unit_zero (S := S1024x512) hz, View.ld_unit_zero (S := S512x1024) hz]
  exact nn_block x0 x1 r q

/-- The result array after the run. -/
theorem final (c : Dev nD) : (dats m 0 c).arrAt 2 cfg0.N
    = times (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = times _ _ (((cfg0.win 2).blk t).view.emb y)
    let r : Fin 1024 := ⟨(y 0).val, (y 0).isLt⟩
    let q : Fin 1024 := ⟨(y 1).val, (y 1).isLt⟩
    have hx : ((cfg0.win 2).xinj (grid0.coords t) y : S1024x1024.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val / 2 * 1024 + (y 0).val = win0_2.index t 0 * 1024 + 1 * (y 0).val
      rw [e2]; show _ = t.val / 2 * 1024 + 1 * (y 0).val; omega
    · blk_ext [iblk, V, e2, e0, e1]
      show t.val % 2 * 1024 + (y 1).val = win0_2.index t 1 * 1024 + 1 * (y 1).val
      rw [e2]; show _ = t.val % 2 * 1024 + 1 * (y 1).val; omega
  · have h0 : (i 0).val < 8192 := (i 0).isLt
    have h1 : (i 1).val < 2048 := (i 1).isLt
    have hN : cfg0.N = 16 := N_0
    have ht : (i 0).val / 1024 * 2 + (i 1).val / 1024 < cfg0.N := by rw [hN]; omega
    refine ⟨⟨_, ht⟩, flush0_2 _, ?_⟩
    show i ∈ ((View.whole main_v0).slice (win0_2.rect ⟨_, ht⟩)).set
    rw [View.set_slice_whole, Rect.mem_set_unit]
    have e := (idx ⟨_, ht⟩).1
    intro a
    match a with
    | ⟨0, _⟩ =>
      show win0_2.index _ 0 * 1024 ≤ (i 0).val ∧ (i 0).val < win0_2.index _ 0 * 1024 + 1024
      rw [congrFun e 0]
      show ((i 0).val / 1024 * 2 + (i 1).val / 1024) / 2 * 1024 ≤ _ ∧ _ < ((i 0).val / 1024 * 2 + (i 1).val / 1024) / 2 * 1024 + 1024
      omega
    | ⟨1, _⟩ =>
      show win0_2.index _ 1 * 1024 ≤ (i 1).val ∧ (i 1).val < win0_2.index _ 1 * 1024 + 1024
      rw [congrFun e 1]
      show ((i 0).val / 1024 * 2 + (i 1).val / 1024) % 2 * 1024 ≤ _ ∧ _ < ((i 0).val / 1024 * 2 + (i 1).val / 1024) % 2 * 1024 + 1024
      omega

/-- On the same factors the kernel and the reference end with the same entries. -/
theorem algebraic : algebraic_Kernel26Ideal_Reference26Ideal := by
  intro m g m' g' _ hm
  refine ⟨fun c => times (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference26Ideal.defs _ _).mono (fun r h c => ?_) (Reference26Ideal.Value.run m' g')
    refine ⟨(h c).1.trans ?_, (h c).2⟩
    rw [(hm c).1, (hm c).2]
    exact times_ref _ _ Reference26Ideal.Facts₀.bitsLt_bf16_f32

end Cert.Mm.FGlu

end
-- ==== Proof.Mm.FOut.lean ====
/- The block's output product. -/
module

public import proofs.«01_k».proof.Defs
public import proofs.«01_k».proof.Proof.Gen.Kernel27Ideal.Value
public import proofs.«01_k».proof.Proof.Gen.Reference27Ideal.Run
public import proofs.«01_k».proof.Proof.Mm.Nn
public import Idealize.ShloMosaic.Lib.Pipeline.ValueKit
public import Idealize.ShloMosaic.Lib.Claim

@[expose] public section

set_option maxRecDepth 16384

noncomputable section

namespace Cert.Mm.FOut

open Cert.Kernel27Ideal Cert.Kernel27Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_2.index t = ![t.val / 1, t.val % 1] ∧ win0_0.index t = ![t.val / 1, 0]
    ∧ win0_1.index t = ![0, t.val % 1] :=
  (by decide +kernel : ∀ t : Fin grid0.N, win0_2.index t = ![t.val / 1, t.val % 1] ∧ win0_0.index t = ![t.val / 1, 0]
    ∧ win0_1.index t = ![0, t.val % 1])

/-- One block's product, entry by entry. -/
theorem out_apply (x0 : Vec Ideal S1024x1024 .bf16) (x1 : Vec Ideal S1024x1024 .bf16) (r : Fin 1024) (q : Fin 1024) :
    out0_2 x0 x1 (ValueIdx.ix2 r q) = ∑ k : Fin 1024, x0 (ValueIdx.ix2 r k) * x1 (ValueIdx.ix2 k q) := by
  unfold out0_2
  rw [View.canon_unit_zero (S := S1024x1024) hz]
  simp only [View.ld_unit_zero (S := S1024x1024) hz, View.ld_unit_zero (S := S1024x1024) hz]
  exact nn_block x0 x1 r q

/-- The result array after the run. -/
theorem final (c : Dev nD) : (dats m 0 c).arrAt 2 cfg0.N
    = times (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = times _ _ (((cfg0.win 2).blk t).view.emb y)
    let r : Fin 1024 := ⟨(y 0).val, (y 0).isLt⟩
    let q : Fin 1024 := ⟨(y 1).val, (y 1).isLt⟩
    have hx : ((cfg0.win 2).xinj (grid0.coords t) y : S1024x1024.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val / 1 * 1024 + (y 0).val = win0_2.index t 0 * 1024 + 1 * (y 0).val
      rw [e2]; show _ = t.val / 1 * 1024 + 1 * (y 0).val; omega
    · blk_ext [iblk, V, e2, e0, e1]
      show t.val % 1 * 1024 + (y 1).val = win0_2.index t 1 * 1024 + 1 * (y 1).val
      rw [e2]; show _ = t.val % 1 * 1024 + 1 * (y 1).val; omega
  · have h0 : (i 0).val < 8192 := (i 0).isLt
    have h1 : (i 1).val < 1024 := (i 1).isLt
    have hN : cfg0.N = 8 := N_0
    have ht : (i 0).val / 1024 * 1 + (i 1).val / 1024 < cfg0.N := by rw [hN]; omega
    refine ⟨⟨_, ht⟩, flush0_2 _, ?_⟩
    show i ∈ ((View.whole main_v0).slice (win0_2.rect ⟨_, ht⟩)).set
    rw [View.set_slice_whole, Rect.mem_set_unit]
    have e := (idx ⟨_, ht⟩).1
    intro a
    match a with
    | ⟨0, _⟩ =>
      show win0_2.index _ 0 * 1024 ≤ (i 0).val ∧ (i 0).val < win0_2.index _ 0 * 1024 + 1024
      rw [congrFun e 0]
      show ((i 0).val / 1024 * 1 + (i 1).val / 1024) / 1 * 1024 ≤ _ ∧ _ < ((i 0).val / 1024 * 1 + (i 1).val / 1024) / 1 * 1024 + 1024
      omega
    | ⟨1, _⟩ =>
      show win0_2.index _ 1 * 1024 ≤ (i 1).val ∧ (i 1).val < win0_2.index _ 1 * 1024 + 1024
      rw [congrFun e 1]
      show ((i 0).val / 1024 * 1 + (i 1).val / 1024) % 1 * 1024 ≤ _ ∧ _ < ((i 0).val / 1024 * 1 + (i 1).val / 1024) % 1 * 1024 + 1024
      omega

/-- On the same factors the kernel and the reference end with the same entries. -/
theorem algebraic : algebraic_Kernel27Ideal_Reference27Ideal := by
  intro m g m' g' _ hm
  refine ⟨fun c => times (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference27Ideal.defs _ _).mono (fun r h c => ?_) (Reference27Ideal.Value.run m' g')
    refine ⟨(h c).1.trans ?_, (h c).2⟩
    rw [(hm c).1, (hm c).2]
    exact times_ref _ _ Reference27Ideal.Facts₀.bitsLt_bf16_f32

end Cert.Mm.FOut

end
-- ==== Proof.Mm.FUp.lean ====
/- The feed-forward's first product. -/
module

public import proofs.«01_k».proof.Defs
public import proofs.«01_k».proof.Proof.Gen.Kernel28Ideal.Value
public import proofs.«01_k».proof.Proof.Gen.Reference28Ideal.Run
public import proofs.«01_k».proof.Proof.Mm.Nn
public import Idealize.ShloMosaic.Lib.Pipeline.ValueKit
public import Idealize.ShloMosaic.Lib.Claim

@[expose] public section

set_option maxRecDepth 16384

noncomputable section

namespace Cert.Mm.FUp

open Cert.Kernel28Ideal Cert.Kernel28Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_2.index t = ![t.val / 4, t.val % 4] ∧ win0_0.index t = ![t.val / 4, 0]
    ∧ win0_1.index t = ![0, t.val % 4] :=
  (by decide +kernel : ∀ t : Fin grid0.N, win0_2.index t = ![t.val / 4, t.val % 4] ∧ win0_0.index t = ![t.val / 4, 0]
    ∧ win0_1.index t = ![0, t.val % 4])

/-- One block's product, entry by entry. -/
theorem out_apply (x0 : Vec Ideal S1024x1024 .bf16) (x1 : Vec Ideal S1024x1408 .bf16) (r : Fin 1024) (q : Fin 1408) :
    out0_2 x0 x1 (ValueIdx.ix2 r q) = ∑ k : Fin 1024, x0 (ValueIdx.ix2 r k) * x1 (ValueIdx.ix2 k q) := by
  unfold out0_2
  rw [View.canon_unit_zero (S := S1024x1408) hz]
  simp only [View.ld_unit_zero (S := S1024x1024) hz, View.ld_unit_zero (S := S1024x1408) hz]
  exact nn_block x0 x1 r q

/-- The result array after the run. -/
theorem final (c : Dev nD) : (dats m 0 c).arrAt 2 cfg0.N
    = times (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = times _ _ (((cfg0.win 2).blk t).view.emb y)
    let r : Fin 1024 := ⟨(y 0).val, (y 0).isLt⟩
    let q : Fin 1408 := ⟨(y 1).val, (y 1).isLt⟩
    have hx : ((cfg0.win 2).xinj (grid0.coords t) y : S1024x1408.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val / 4 * 1024 + (y 0).val = win0_2.index t 0 * 1024 + 1 * (y 0).val
      rw [e2]; show _ = t.val / 4 * 1024 + 1 * (y 0).val; omega
    · blk_ext [iblk, V, e2, e0, e1]
      show t.val % 4 * 1408 + (y 1).val = win0_2.index t 1 * 1408 + 1 * (y 1).val
      rw [e2]; show _ = t.val % 4 * 1408 + 1 * (y 1).val; omega
  · have h0 : (i 0).val < 8192 := (i 0).isLt
    have h1 : (i 1).val < 5632 := (i 1).isLt
    have hN : cfg0.N = 32 := N_0
    have ht : (i 0).val / 1024 * 4 + (i 1).val / 1408 < cfg0.N := by rw [hN]; omega
    refine ⟨⟨_, ht⟩, flush0_2 _, ?_⟩
    show i ∈ ((View.whole main_v0).slice (win0_2.rect ⟨_, ht⟩)).set
    rw [View.set_slice_whole, Rect.mem_set_unit]
    have e := (idx ⟨_, ht⟩).1
    intro a
    match a with
    | ⟨0, _⟩ =>
      show win0_2.index _ 0 * 1024 ≤ (i 0).val ∧ (i 0).val < win0_2.index _ 0 * 1024 + 1024
      rw [congrFun e 0]
      show ((i 0).val / 1024 * 4 + (i 1).val / 1408) / 4 * 1024 ≤ _ ∧ _ < ((i 0).val / 1024 * 4 + (i 1).val / 1408) / 4 * 1024 + 1024
      omega
    | ⟨1, _⟩ =>
      show win0_2.index _ 1 * 1408 ≤ (i 1).val ∧ (i 1).val < win0_2.index _ 1 * 1408 + 1408
      rw [congrFun e 1]
      show ((i 0).val / 1024 * 4 + (i 1).val / 1408) % 4 * 1408 ≤ _ ∧ _ < ((i 0).val / 1024 * 4 + (i 1).val / 1408) % 4 * 1408 + 1408
      omega

/-- On the same factors the kernel and the reference end with the same entries. -/
theorem algebraic : algebraic_Kernel28Ideal_Reference28Ideal := by
  intro m g m' g' _ hm
  refine ⟨fun c => times (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference28Ideal.defs _ _).mono (fun r h c => ?_) (Reference28Ideal.Value.run m' g')
    refine ⟨(h c).1.trans ?_, (h c).2⟩
    rw [(hm c).1, (hm c).2]
    exact times_ref _ _ Reference28Ideal.Facts₀.bitsLt_bf16_f32

end Cert.Mm.FUp

end
-- ==== Proof.Mm.FDown.lean ====
/- The feed-forward's second product. -/
module

public import proofs.«01_k».proof.Defs
public import proofs.«01_k».proof.Proof.Gen.Kernel29Ideal.Value
public import proofs.«01_k».proof.Proof.Gen.Reference29Ideal.Run
public import proofs.«01_k».proof.Proof.Mm.Nn
public import Idealize.ShloMosaic.Lib.Pipeline.ValueKit
public import Idealize.ShloMosaic.Lib.Claim

@[expose] public section

set_option maxRecDepth 16384

noncomputable section

namespace Cert.Mm.FDown

open Cert.Kernel29Ideal Cert.Kernel29Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- Which blocks grid point `t` reads and writes. -/
theorem idx : ∀ t : Fin cfg0.N, win0_2.index t = ![t.val / 1, t.val % 1] ∧ win0_0.index t = ![t.val / 1, 0]
    ∧ win0_1.index t = ![0, t.val % 1] :=
  (by decide +kernel : ∀ t : Fin grid0.N, win0_2.index t = ![t.val / 1, t.val % 1] ∧ win0_0.index t = ![t.val / 1, 0]
    ∧ win0_1.index t = ![0, t.val % 1])

/-- One block's product, entry by entry. -/
theorem out_apply (x0 : Vec Ideal S512x2816 .bf16) (x1 : Vec Ideal S2816x1024 .bf16) (r : Fin 512) (q : Fin 1024) :
    out0_2 x0 x1 (ValueIdx.ix2 r q) = ∑ k : Fin 2816, x0 (ValueIdx.ix2 r k) * x1 (ValueIdx.ix2 k q) := by
  unfold out0_2
  rw [View.canon_unit_zero (S := S512x1024) hz]
  simp only [View.ld_unit_zero (S := S512x2816) hz, View.ld_unit_zero (S := S2816x1024) hz]
  exact nn_block x0 x1 r q

/-- The result array after the run. -/
theorem final (c : Dev nD) : (dats m 0 c).arrAt 2 cfg0.N
    = times (m ((c : Thread nD τ).loc main_arg0)) (m ((c : Thread nD τ).loc main_arg1)) := by
  refine (dats m 0 c).arrAt_eq_of_cover 2 _ (fun t _ => ?_) (fun i => ?_)
  · rw [Value.flushed2]
    funext y
    obtain ⟨e2, e0, e1⟩ := idx t
    show out0_2 (iblk m c 0 t) (iblk m c 1 t) ((cfg0.win 2).xinj (grid0.coords t) y)
      = times _ _ (((cfg0.win 2).blk t).view.emb y)
    let r : Fin 512 := ⟨(y 0).val, (y 0).isLt⟩
    let q : Fin 1024 := ⟨(y 1).val, (y 1).isLt⟩
    have hx : ((cfg0.win 2).xinj (grid0.coords t) y : S512x1024.Idx) = ValueIdx.ix2 r q := by
      funext a
      match a with
      | ⟨0, _⟩ => rfl
      | ⟨1, _⟩ => rfl
    rw [hx]
    refine (out_apply _ _ r q).trans ?_
    refine Finset.sum_congr rfl fun k _ => congrArg₂ (· * ·) ?_ ?_
    · blk_ext [iblk, V, e2, e0, e1]
      show t.val / 1 * 512 + (y 0).val = win0_2.index t 0 * 512 + 1 * (y 0).val
      rw [e2]; show _ = t.val / 1 * 512 + 1 * (y 0).val; omega
    · blk_ext [iblk, V, e2, e0, e1]
      show t.val % 1 * 1024 + (y 1).val = win0_2.index t 1 * 1024 + 1 * (y 1).val
      rw [e2]; show _ = t.val % 1 * 1024 + 1 * (y 1).val; omega
  · have h0 : (i 0).val < 8192 := (i 0).isLt
    have h1 : (i 1).val < 1024 := (i 1).isLt
    have hN : cfg0.N = 16 := N_0
    have ht : (i 0).val / 512 * 1 + (i 1).val / 1024 < cfg0.N := by rw [hN]; omega
    refine ⟨⟨_, ht⟩, flush0_2 _, ?_⟩
    show i ∈ ((View.whole main_v0).slice (win0_2.rect ⟨_, ht⟩)).set
    rw [View.set_slice_whole, Rect.mem_set_unit]
    have e := (idx ⟨_, ht⟩).1
    intro a
    match a with
    | ⟨0, _⟩ =>
      show win0_2.index _ 0 * 512 ≤ (i 0).val ∧ (i 0).val < win0_2.index _ 0 * 512 + 512
      rw [congrFun e 0]
      show ((i 0).val / 512 * 1 + (i 1).val / 1024) / 1 * 512 ≤ _ ∧ _ < ((i 0).val / 512 * 1 + (i 1).val / 1024) / 1 * 512 + 512
      omega
    | ⟨1, _⟩ =>
      show win0_2.index _ 1 * 1024 ≤ (i 1).val ∧ (i 1).val < win0_2.index _ 1 * 1024 + 1024
      rw [congrFun e 1]
      show ((i 0).val / 512 * 1 + (i 1).val / 1024) % 1 * 1024 ≤ _ ∧ _ < ((i 0).val / 512 * 1 + (i 1).val / 1024) % 1 * 1024 + 1024
      omega

/-- On the same factors the kernel and the reference end with the same entries. -/
theorem algebraic : algebraic_Kernel29Ideal_Reference29Ideal := by
  intro m g m' g' _ hm
  refine ⟨fun c => times (m ((c : Thread nD τ).loc main_arg0)) (m ((c : Thread nD τ).loc main_arg1)), ?_, ?_⟩
  · refine (θ_run defs _ _).mono (fun r h c => ?_) (Value.run_blocks m g)
    exact ⟨(h c).1.trans (final m c), (h c).2⟩
  · refine (θ_run Reference29Ideal.defs _ _).mono (fun r h c => ?_) (Reference29Ideal.Value.run m' g')
    refine ⟨(h c).1.trans ?_, (h c).2⟩
    rw [(hm c).1, (hm c).2]
    exact times_ref _ _ Reference29Ideal.Facts₀.bitsLt_bf16_f32

end Cert.Mm.FDown

end
-- ==== Proof.Mm.Proj.lean ====
/- The block's input product: one product against the whole weight, its columns kept in three bands. -/
module

public import proofs.«01_k».proof.Defs
public import proofs.«01_k».proof.Proof.Gen.Kernel30Ideal.Value
public import proofs.«01_k».proof.Proof.Gen.Reference30Ideal.Run
public import proofs.«01_k».proof.Proof.Mm.Nn
public import Idealize.ShloMosaic.Lib.Pipeline.ValueKit
public import Idealize.ShloMosaic.Lib.Claim

@[expose] public section

set_option maxRecDepth 16384

noncomputable section

namespace Cert.Mm.Proj

open Cert.Kernel30Ideal Cert.Kernel30Ideal.Gen
open Idealize.ShloMosaic Idealize.ShloMosaic.TcCoe
open Idealize.SL.Sem
open scoped BigOperators

variable (m : (ℓ : Loc nD τ sig) → Buf (Elt Ideal) ℓ)

theorem hz : (![0, 0] : Fin 2 → Nat) = fun _ => 0 := funext fun a => by fin_cases a <;> rfl

/-- `N'` columns of the product, from column `o` on. -/
def band {M K N : ℕ} (N' o : ℕ) (h : o + N' ≤ N) (a : FVec Ideal ⟨2, ![M, K]⟩ .bf16) (w : FVec Ideal ⟨2, ![K, N]⟩ .bf16) :
    FVec Ideal ⟨2, ![M, N']⟩ .f32 :=
  fun j => ∑ k : Fin K, a (ValueIdx.ix2 (j 0) k) * w (ValueIdx.ix2 k ⟨o + (j 1).val, by have : (j 1).val < N' := (j 1).isLt; omega⟩)

/-- A block against a band of the weight's columns, entry by entry. -/
theorem band_block {M K N N' o : ℕ} (h : o + N' ≤ N) (a : FVec Ideal ⟨2, ![M, K]⟩ .bf16) (w : Vec Ideal ⟨2, ![K, N]⟩ .bf16)
    (inb : ∀ d, (![0, o] : Fin 2 → ℕ) d + (![K, N'] : Fin 2 → ℕ) d ≤ (⟨2, ![K, N]⟩ : Shape).size d) (j : (⟨2, ![M, N']⟩ : Shape).Idx) :
    matmul (φ₂ := .bf16) (DotDims.plain M K N') none a (View.ld w (Rect.unit (s := ⟨2, ![K, N]⟩) ![0, o] ![K, N'] inb) : FVec Ideal ⟨2, ![K, N']⟩ .bf16)
      (constant ⟨2, ![M, N']⟩ .f32 0x00000000#32) j = band N' o h a w j := by
  obtain ⟨r, q, rfl⟩ : ∃ (r : Fin M) (q : Fin N'), j = ValueIdx.ix2 r q := ⟨j 0, j 1, ValueIdx.eq_ix2 j⟩
  rw [nn_block]
  refine Finset.sum_congr rfl fun k _ => congrArg₂ (· * ·) rfl ?_
  refine View.ld_unit_apply_of (S := ⟨2, ![K, N]⟩) w _ _ inb _ _ fun d => ?_
  match d with
  | ⟨0, _⟩ => exact (Nat.zero_add _).symm
  | ⟨1, _⟩ => rfl

/-- A band of the reference's product. -/
theorem band_ref {M K N N' o : ℕ} (h : o + N' ≤ N) (a : FVec Ideal ⟨2, ![M, K]⟩ .bf16) (w : FVec Ideal ⟨2, ![K, N]⟩ .bf16)
    (hb : FTy.bits .bf16 < FTy.bits .f32) (hs : (⟨2, ![M, N]⟩ : Shape).Slices ![0, o] ⟨2, ![M, N']⟩) :
    extractStridedSlice ⟨2, ![M, N']⟩ ![0, o] (Host.dotGeneral (DotDims.plain M K N) none (extf .f32 a hb) (extf .f32 w hb)) hs
      = band N' o h a w := by
  rw [times_ref]
  funext j
  have hj : o + (j 1).val < N := by have : (j 1).val < N' := (j 1).isLt; omega
  refine extractStridedSlice_apply _ _ _ j (ValueIdx.ix2 (j 0) ⟨o + (j 1).val, hj⟩) fun d => ?_
  match d with
  | ⟨0, _⟩ => exact (Nat.zero_add _).symm
  | ⟨1, _⟩ => rfl

/-- Which blocks grid point `t` reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0])

/-- A band of a block's product is the band of the whole product at the block's rows. -/
theorem band_iblk (c : Dev nD) (t : Fin cfg0.N) {N' o : ℕ} (h : o + N' ≤ 4352) (j : (⟨2, ![512, N']⟩ : Shape).Idx)
    (i : (⟨2, ![8192, N']⟩ : Shape).Idx) (h0 : (i 0).val = t.val * 512 + (j 0).val) (h1 : (i 1).val = (j 1).val) :
    band N' o h (iblk m c 0 t : FVec Ideal S512x1024 .bf16) (iblk m c 1 t : FVec Ideal S1024x4352 .bf16) j
      = band N' o h (m ((c : Thread nD τ).loc main_arg0)) (m ((c : Thread nD τ).loc main_arg1)) i := by
  obtain ⟨e0, e1, -⟩ := idx t
  unfold band
  refine Finset.sum_congr rfl fun k _ => congrArg₂ (· * ·) ?_ ?_
  · blk_ext [iblk, V, e0, e1]
    exact h0.symm
  · blk_ext [iblk, V, e0, e1]

/-- Result array 1 after the run. -/
theorem final2 (c : Dev nD) : (dats m 0 c).arrAt 2 cfg0.N
    = band 1792 0 (by decide : 0 + 1792 ≤ 4352) (m ((c : Thread nD τ).loc main_arg0)) (m ((c : Thread nD τ).loc main_arg1)) := by
  refine (dats m 0 c).arrAt_eq_of_cover 2 _ (fun t _ => ?_) (fun i => ?_)
  · rw [Value.flushed2]
    funext y
    have e := (idx t).2.2.1
    show out0_2 (iblk m c 0 t) (iblk m c 1 t) ((cfg0.win 2).xinj (grid0.coords t) y)
      = band 1792 0 (by decide : 0 + 1792 ≤ 4352) _ _ (((cfg0.win 2).blk t).view.emb y)
    unfold out0_2
    rw [View.canon_unit_zero (S := S512x1792) hz, View.ld_unit_zero (S := S512x1024) hz]
    refine (band_block (by decide : 0 + 1792 ≤ 4352) _ _ _ _).trans (band_iblk m c t _ _ _ ?_ ?_)
    · show win0_2.index t 0 * 512 + 1 * (y 0).val = t.val * 512 + (y 0).val
      rw [e]; show t.val * 512 + 1 * (y 0).val = _; omega
    · show win0_2.index t 1 * 1792 + 1 * (y 1).val = (y 1).val
      rw [e]; show 0 * 1792 + 1 * (y 1).val = _; omega
  · have h0 : (i 0).val < 8192 := (i 0).isLt
    have h1 : (i 1).val < 1792 := (i 1).isLt
    have hN : cfg0.N = 16 := N_0
    have ht : (i 0).val / 512 < cfg0.N := by rw [hN]; omega
    refine ⟨⟨_, ht⟩, flush0_2 _, ?_⟩
    show i ∈ ((View.whole main_v0_0).slice (win0_2.rect ⟨_, ht⟩)).set
    rw [View.set_slice_whole, Rect.mem_set_unit]
    have e := (idx ⟨_, ht⟩).2.2.1
    intro a
    match a with
    | ⟨0, _⟩ =>
      show win0_2.index _ 0 * 512 ≤ (i 0).val ∧ (i 0).val < win0_2.index _ 0 * 512 + 512
      rw [congrFun e 0]
      show (i 0).val / 512 * 512 ≤ _ ∧ _ < (i 0).val / 512 * 512 + 512
      omega
    | ⟨1, _⟩ =>
      show win0_2.index _ 1 * 1792 ≤ (i 1).val ∧ (i 1).val < win0_2.index _ 1 * 1792 + 1792
      rw [congrFun e 1]
      show 0 * 1792 ≤ (i 1).val ∧ (i 1).val < 0 * 1792 + 1792
      omega

/-- Result array 2 after the run. -/
theorem final3 (c : Dev nD) : (dats m 0 c).arrAt 3 cfg0.N
    = band 512 1792 (by decide : 1792 + 512 ≤ 4352) (m ((c : Thread nD τ).loc main_arg0)) (m ((c : Thread nD τ).loc main_arg1)) := by
  refine (dats m 0 c).arrAt_eq_of_cover 3 _ (fun t _ => ?_) (fun i => ?_)
  · rw [Value.flushed3]
    funext y
    have e := (idx t).2.2.2.1
    show out0_3 (iblk m c 0 t) (iblk m c 1 t) ((cfg0.win 3).xinj (grid0.coords t) y)
      = band 512 1792 (by decide : 1792 + 512 ≤ 4352) _ _ (((cfg0.win 3).blk t).view.emb y)
    unfold out0_3
    rw [View.canon_unit_zero (S := S512x512) hz, View.ld_unit_zero (S := S512x1024) hz]
    refine (band_block (by decide : 1792 + 512 ≤ 4352) _ _ _ _).trans (band_iblk m c t _ _ _ ?_ ?_)
    · show win0_3.index t 0 * 512 + 1 * (y 0).val = t.val * 512 + (y 0).val
      rw [e]; show t.val * 512 + 1 * (y 0).val = _; omega
    · show win0_3.index t 1 * 512 + 1 * (y 1).val = (y 1).val
      rw [e]; show 0 * 512 + 1 * (y 1).val = _; omega
  · have h0 : (i 0).val < 8192 := (i 0).isLt
    have h1 : (i 1).val < 512 := (i 1).isLt
    have hN : cfg0.N = 16 := N_0
    have ht : (i 0).val / 512 < cfg0.N := by rw [hN]; omega
    refine ⟨⟨_, ht⟩, flush0_3 _, ?_⟩
    show i ∈ ((View.whole main_v0_1).slice (win0_3.rect ⟨_, ht⟩)).set
    rw [View.set_slice_whole, Rect.mem_set_unit]
    have e := (idx ⟨_, ht⟩).2.2.2.1
    intro a
    match a with
    | ⟨0, _⟩ =>
      show win0_3.index _ 0 * 512 ≤ (i 0).val ∧ (i 0).val < win0_3.index _ 0 * 512 + 512
      rw [congrFun e 0]
      show (i 0).val / 512 * 512 ≤ _ ∧ _ < (i 0).val / 512 * 512 + 512
      omega
    | ⟨1, _⟩ =>
      show win0_3.index _ 1 * 512 ≤ (i 1).val ∧ (i 1).val < win0_3.index _ 1 * 512 + 512
      rw [congrFun e 1]
      show 0 * 512 ≤ (i 1).val ∧ (i 1).val < 0 * 512 + 512
      omega

/-- Result array 3 after the run. -/
theorem final4 (c : Dev nD) : (dats m 0 c).arrAt 4 cfg0.N
    = band 2048 2304 (by decide : 2304 + 2048 ≤ 4352) (m ((c : Thread nD τ).loc main_arg0)) (m ((c : Thread nD τ).loc main_arg1)) := by
  refine (dats m 0 c).arrAt_eq_of_cover 4 _ (fun t _ => ?_) (fun i => ?_)
  · rw [Value.flushed4]
    funext y
    have e := (idx t).2.2.2.2
    show out0_4 (iblk m c 0 t) (iblk m c 1 t) ((cfg0.win 4).xinj (grid0.coords t) y)
      = band 2048 2304 (by decide : 2304 + 2048 ≤ 4352) _ _ (((cfg0.win 4).blk t).view.emb y)
    unfold out0_4
    rw [View.canon_unit_zero (S := S512x2048) hz, View.ld_unit_zero (S := S512x1024) hz]
    refine (band_block (by decide : 2304 + 2048 ≤ 4352) _ _ _ _).trans (band_iblk m c t _ _ _ ?_ ?_)
    · show win0_4.index t 0 * 512 + 1 * (y 0).val = t.val * 512 + (y 0).val
      rw [e]; show t.val * 512 + 1 * (y 0).val = _; omega
    · show win0_4.index t 1 * 2048 + 1 * (y 1).val = (y 1).val
      rw [e]; show 0 * 2048 + 1 * (y 1).val = _; omega
  · have h0 : (i 0).val < 8192 := (i 0).isLt
    have h1 : (i 1).val < 2048 := (i 1).isLt
    have hN : cfg0.N = 16 := N_0
    have ht : (i 0).val / 512 < cfg0.N := by rw [hN]; omega
    refine ⟨⟨_, ht⟩, flush0_4 _, ?_⟩
    show i ∈ ((View.whole main_v0_2).slice (win0_4.rect ⟨_, ht⟩)).set
    rw [View.set_slice_whole, Rect.mem_set_unit]
    have e := (idx ⟨_, ht⟩).2.2.2.2
    intro a
    match a with
    | ⟨0, _⟩ =>
      show win0_4.index _ 0 * 512 ≤ (i 0).val ∧ (i 0).val < win0_4.index _ 0 * 512 + 512
      rw [congrFun e 0]
      show (i 0).val / 512 * 512 ≤ _ ∧ _ < (i 0).val / 512 * 512 + 512
      omega
    | ⟨1, _⟩ =>
      show win0_4.index _ 1 * 2048 ≤ (i 1).val ∧ (i 1).val < win0_4.index _ 1 * 2048 + 2048
      rw [congrFun e 1]
      show 0 * 2048 ≤ (i 1).val ∧ (i 1).val < 0 * 2048 + 2048
      omega

/-- On the same factors the kernel and the reference end with the same three bands. -/
theorem algebraic : algebraic_Kernel30Ideal_Reference30Ideal := by
  intro m g m' g' _ hm
  refine ⟨fun c => band 1792 0 (by decide : 0 + 1792 ≤ 4352) (m ((c : Thread nD τ).loc main_arg0)) (m ((c : Thread nD τ).loc main_arg1)),
    fun c => band 512 1792 (by decide : 1792 + 512 ≤ 4352) (m ((c : Thread nD τ).loc main_arg0)) (m ((c : Thread nD τ).loc main_arg1)),
    fun c => band 2048 2304 (by decide : 2304 + 2048 ≤ 4352) (m ((c : Thread nD τ).loc main_arg0)) (m ((c : Thread nD τ).loc main_arg1)), ?_, ?_⟩
  · refine (θ_run defs _ _).mono (fun r h c => ?_) (Value.run_blocks m g)
    exact ⟨(h c).1.trans (final2 m c), (h c).2.1.trans (final3 m c), (h c).2.2.1.trans (final4 m c), (h c).2.2.2⟩
  · refine (θ_run Reference30Ideal.defs _ _).mono (fun r h c => ?_) (Reference30Ideal.Value.run m' g')
    refine ⟨(h c).1.trans ?_, (h c).2.1.trans ?_, (h c).2.2.1.trans ?_, (h c).2.2.2⟩
    · rw [(hm c).1, (hm c).2]
      exact band_ref _ _ _ Reference30Ideal.Facts₀.bitsLt_bf16_f32 Reference30Ideal.Facts₀.slices_S8192x4352_S8192x1792_0_0
    · rw [(hm c).1, (hm c).2]
      exact band_ref _ _ _ Reference30Ideal.Facts₀.bitsLt_bf16_f32 Reference30Ideal.Facts₀.slices_S8192x4352_S8192x512_0_1792
    · rw [(hm c).1, (hm c).2]
      exact band_ref _ _ _ Reference30Ideal.Facts₀.bitsLt_bf16_f32 Reference30Ideal.Facts₀.slices_S8192x4352_S8192x2048_0_2304

end Cert.Mm.Proj

end
-- ==== Proof.Opt.Adamw.lean ====
/- The optimiser's update: the kernel's blocks of rows, entry by entry, against the update written on whole arrays. -/
module

public import proofs.«01_k».proof.Defs
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel16Ideal.Value
public import proofs.«01_k».proof.Proof.Gen.Reference16Ideal.Run
public import Idealize.ShloMosaic.Lib.Claim

@[expose] public section

set_option maxRecDepth 16384

noncomputable section

namespace Cert.Opt

open Idealize.ShloMosaic Idealize.ShloMosaic.TcCoe
open Idealize.SL.Sem

variable {S : Shape}

/-- The running mean of the gradient after the update. -/
def mean (g m1 : FVec Ideal S .f32) : FVec Ideal S .f32 := fun i =>
  FloatOps.addf (FloatOps.mulf (Scalar.ofBits .f32 0x3F666666#32) (m1 i)) (FloatOps.mulf (Scalar.ofBits .f32 0x3DCCCCCD#32) (g i))

/-- The running mean of the squared gradient after the update. -/
def square (g v : FVec Ideal S .f32) : FVec Ideal S .f32 := fun i =>
  FloatOps.addf (FloatOps.mulf (Scalar.ofBits .f32 0x3F7FBE77#32) (v i))
    (FloatOps.mulf (Scalar.ofBits .f32 0x3A83126F#32) (FloatOps.mulf (g i) (g i)))

/-- The change of the weights: the corrected mean over the root of the corrected square, plus the decay, times the
    negated rate. -/
def delta (g m1 v p : FVec Ideal S .f32) : FVec Ideal S .f32 := fun i =>
  FloatOps.mulf (Scalar.ofBits .f32 0xBA83126F#32)
    (FloatOps.addf
      (FloatOps.divf (FloatOps.divf (mean g m1 i) (Scalar.ofBits .f32 0x3F26BD02#32))
        (FloatOps.addf (FloatOps.sqrt (FloatOps.divf (square g v i) (Scalar.ofBits .f32 0x3C231ACC#32))) (Scalar.ofBits .f32 0x322BCC77#32)))
      (FloatOps.mulf (Scalar.ofBits .f32 0x3C23D70A#32) (p i)))

/-- The number every entry of a splat array holds. -/
abbrev splat (hb : Shape.BroadcastsInDim (⟨0, ![]⟩ : Shape) S (![] : Fin 0 → Fin S.rank)) (b : BitVec 32) : FVec Ideal S .f32 :=
  broadcastInDim S ![] hb (constant ⟨0, ![]⟩ .f32 b)

/-- The reference's running mean. -/
theorem mean_ref (hb : Shape.BroadcastsInDim (⟨0, ![]⟩ : Shape) S (![] : Fin 0 → Fin S.rank)) (g m1 : FVec Ideal S .f32) :
    addf (mulf (splat hb 0x3F666666#32) m1) (mulf (splat hb 0x3DCCCCCD#32) g) = mean g m1 := rfl

/-- The reference's running mean of squares. -/
theorem square_ref (hb : Shape.BroadcastsInDim (⟨0, ![]⟩ : Shape) S (![] : Fin 0 → Fin S.rank)) (g v : FVec Ideal S .f32) :
    addf (mulf (splat hb 0x3F7FBE77#32) v) (mulf (splat hb 0x3A83126F#32) (mulf g g)) = square g v := rfl

/-- The reference's change of the weights. -/
theorem delta_ref (hb : Shape.BroadcastsInDim (⟨0, ![]⟩ : Shape) S (![] : Fin 0 → Fin S.rank)) (g m1 v p : FVec Ideal S .f32) :
    mulf (splat hb 0xBA83126F#32)
      (addf
        (Host.divf (Host.divf (addf (mulf (splat hb 0x3F666666#32) m1) (mulf (splat hb 0x3DCCCCCD#32) g)) (splat hb 0x3F26BD02#32))
          (addf (Host.sqrt (Host.divf (addf (mulf (splat hb 0x3F7FBE77#32) v) (mulf (splat hb 0x3A83126F#32) (mulf g g))) (splat hb 0x3C231ACC#32)))
            (splat hb 0x322BCC77#32)))
        (mulf (splat hb 0x3C23D70A#32) p)) = delta g m1 v p := rfl

/-- On the same gradient, means and weights the kernel and the reference update alike: the modulation's weights. -/
theorem w_ada : Cert.algebraic_Kernel18Ideal_Reference18Ideal := by
  intro m g m' g' _ hm
  refine ⟨fun c => delta (m ((c : Thread Cert.Kernel18Ideal.nD Cert.Kernel18Ideal.τ).loc Cert.Kernel18Ideal.main_arg1)) (m ((c : Thread Cert.Kernel18Ideal.nD Cert.Kernel18Ideal.τ).loc Cert.Kernel18Ideal.main_arg2)) (m ((c : Thread Cert.Kernel18Ideal.nD Cert.Kernel18Ideal.τ).loc Cert.Kernel18Ideal.main_arg3)) (m ((c : Thread Cert.Kernel18Ideal.nD Cert.Kernel18Ideal.τ).loc Cert.Kernel18Ideal.main_arg0)),
    fun c => mean (m ((c : Thread Cert.Kernel18Ideal.nD Cert.Kernel18Ideal.τ).loc Cert.Kernel18Ideal.main_arg1)) (m ((c : Thread Cert.Kernel18Ideal.nD Cert.Kernel18Ideal.τ).loc Cert.Kernel18Ideal.main_arg2)), fun c => square (m ((c : Thread Cert.Kernel18Ideal.nD Cert.Kernel18Ideal.τ).loc Cert.Kernel18Ideal.main_arg1)) (m ((c : Thread Cert.Kernel18Ideal.nD Cert.Kernel18Ideal.τ).loc Cert.Kernel18Ideal.main_arg3)), Cert.Kernel18Ideal.Value.run m g, ?_⟩
  refine (θ_run Cert.Reference18Ideal.defs _ _).mono (fun r h c => ?_) (Cert.Reference18Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference18Ideal.Gen.bcast_S_S1024x1536 _ _ _ _
  · rw [e1, e2]; exact mean_ref Cert.Reference18Ideal.Gen.bcast_S_S1024x1536 _ _
  · rw [e1, e3]; exact square_ref Cert.Reference18Ideal.Gen.bcast_S_S1024x1536 _ _

/-- On the same gradient, means and weights the kernel and the reference update alike: the input projection's weights. -/
theorem w_in : Cert.algebraic_Kernel19Ideal_Reference19Ideal := by
  intro m g m' g' _ hm
  refine ⟨fun c => delta (m ((c : Thread Cert.Kernel19Ideal.nD Cert.Kernel19Ideal.τ).loc Cert.Kernel19Ideal.main_arg1)) (m ((c : Thread Cert.Kernel19Ideal.nD Cert.Kernel19Ideal.τ).loc Cert.Kernel19Ideal.main_arg2)) (m ((c : Thread Cert.Kernel19Ideal.nD Cert.Kernel19Ideal.τ).loc Cert.Kernel19Ideal.main_arg3)) (m ((c : Thread Cert.Kernel19Ideal.nD Cert.Kernel19Ideal.τ).loc Cert.Kernel19Ideal.main_arg0)),
    fun c => mean (m ((c : Thread Cert.Kernel19Ideal.nD Cert.Kernel19Ideal.τ).loc Cert.Kernel19Ideal.main_arg1)) (m ((c : Thread Cert.Kernel19Ideal.nD Cert.Kernel19Ideal.τ).loc Cert.Kernel19Ideal.main_arg2)), fun c => square (m ((c : Thread Cert.Kernel19Ideal.nD Cert.Kernel19Ideal.τ).loc Cert.Kernel19Ideal.main_arg1)) (m ((c : Thread Cert.Kernel19Ideal.nD Cert.Kernel19Ideal.τ).loc Cert.Kernel19Ideal.main_arg3)), Cert.Kernel19Ideal.Value.run m g, ?_⟩
  refine (θ_run Cert.Reference19Ideal.defs _ _).mono (fun r h c => ?_) (Cert.Reference19Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference19Ideal.Gen.bcast_S_S1024x1088 _ _ _ _
  · rw [e1, e2]; exact mean_ref Cert.Reference19Ideal.Gen.bcast_S_S1024x1088 _ _
  · rw [e1, e3]; exact square_ref Cert.Reference19Ideal.Gen.bcast_S_S1024x1088 _ _

/-- On the same gradient, means and weights the kernel and the reference update alike: the recurrent branch's output weights. -/
theorem w_out_rwkv : Cert.algebraic_Kernel20Ideal_Reference20Ideal := by
  intro m g m' g' _ hm
  refine ⟨fun c => delta (m ((c : Thread Cert.Kernel20Ideal.nD Cert.Kernel20Ideal.τ).loc Cert.Kernel20Ideal.main_arg1)) (m ((c : Thread Cert.Kernel20Ideal.nD Cert.Kernel20Ideal.τ).loc Cert.Kernel20Ideal.main_arg2)) (m ((c : Thread Cert.Kernel20Ideal.nD Cert.Kernel20Ideal.τ).loc Cert.Kernel20Ideal.main_arg3)) (m ((c : Thread Cert.Kernel20Ideal.nD Cert.Kernel20Ideal.τ).loc Cert.Kernel20Ideal.main_arg0)),
    fun c => mean (m ((c : Thread Cert.Kernel20Ideal.nD Cert.Kernel20Ideal.τ).loc Cert.Kernel20Ideal.main_arg1)) (m ((c : Thread Cert.Kernel20Ideal.nD Cert.Kernel20Ideal.τ).loc Cert.Kernel20Ideal.main_arg2)), fun c => square (m ((c : Thread Cert.Kernel20Ideal.nD Cert.Kernel20Ideal.τ).loc Cert.Kernel20Ideal.main_arg1)) (m ((c : Thread Cert.Kernel20Ideal.nD Cert.Kernel20Ideal.τ).loc Cert.Kernel20Ideal.main_arg3)), Cert.Kernel20Ideal.Value.run m g, ?_⟩
  refine (θ_run Cert.Reference20Ideal.defs _ _).mono (fun r h c => ?_) (Cert.Reference20Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference20Ideal.Gen.bcast_S_S512x256 _ _ _ _
  · rw [e1, e2]; exact mean_ref Cert.Reference20Ideal.Gen.bcast_S_S512x256 _ _
  · rw [e1, e3]; exact square_ref Cert.Reference20Ideal.Gen.bcast_S_S512x256 _ _

/-- On the same gradient, means and weights the kernel and the reference update alike: the gated linear unit's weights. -/
theorem w_glu : Cert.algebraic_Kernel21Ideal_Reference21Ideal := by
  intro m g m' g' _ hm
  refine ⟨fun c => delta (m ((c : Thread Cert.Kernel21Ideal.nD Cert.Kernel21Ideal.τ).loc Cert.Kernel21Ideal.main_arg1)) (m ((c : Thread Cert.Kernel21Ideal.nD Cert.Kernel21Ideal.τ).loc Cert.Kernel21Ideal.main_arg2)) (m ((c : Thread Cert.Kernel21Ideal.nD Cert.Kernel21Ideal.τ).loc Cert.Kernel21Ideal.main_arg3)) (m ((c : Thread Cert.Kernel21Ideal.nD Cert.Kernel21Ideal.τ).loc Cert.Kernel21Ideal.main_arg0)),
    fun c => mean (m ((c : Thread Cert.Kernel21Ideal.nD Cert.Kernel21Ideal.τ).loc Cert.Kernel21Ideal.main_arg1)) (m ((c : Thread Cert.Kernel21Ideal.nD Cert.Kernel21Ideal.τ).loc Cert.Kernel21Ideal.main_arg2)), fun c => square (m ((c : Thread Cert.Kernel21Ideal.nD Cert.Kernel21Ideal.τ).loc Cert.Kernel21Ideal.main_arg1)) (m ((c : Thread Cert.Kernel21Ideal.nD Cert.Kernel21Ideal.τ).loc Cert.Kernel21Ideal.main_arg3)), Cert.Kernel21Ideal.Value.run m g, ?_⟩
  refine (θ_run Cert.Reference21Ideal.defs _ _).mono (fun r h c => ?_) (Cert.Reference21Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference21Ideal.Gen.bcast_S_S512x512 _ _ _ _
  · rw [e1, e2]; exact mean_ref Cert.Reference21Ideal.Gen.bcast_S_S512x512 _ _
  · rw [e1, e3]; exact square_ref Cert.Reference21Ideal.Gen.bcast_S_S512x512 _ _

/-- On the same gradient, means and weights the kernel and the reference update alike: the block's output weights. -/
theorem w_out : Cert.algebraic_Kernel22Ideal_Reference22Ideal := by
  intro m g m' g' _ hm
  refine ⟨fun c => delta (m ((c : Thread Cert.Kernel22Ideal.nD Cert.Kernel22Ideal.τ).loc Cert.Kernel22Ideal.main_arg1)) (m ((c : Thread Cert.Kernel22Ideal.nD Cert.Kernel22Ideal.τ).loc Cert.Kernel22Ideal.main_arg2)) (m ((c : Thread Cert.Kernel22Ideal.nD Cert.Kernel22Ideal.τ).loc Cert.Kernel22Ideal.main_arg3)) (m ((c : Thread Cert.Kernel22Ideal.nD Cert.Kernel22Ideal.τ).loc Cert.Kernel22Ideal.main_arg0)),
    fun c => mean (m ((c : Thread Cert.Kernel22Ideal.nD Cert.Kernel22Ideal.τ).loc Cert.Kernel22Ideal.main_arg1)) (m ((c : Thread Cert.Kernel22Ideal.nD Cert.Kernel22Ideal.τ).loc Cert.Kernel22Ideal.main_arg2)), fun c => square (m ((c : Thread Cert.Kernel22Ideal.nD Cert.Kernel22Ideal.τ).loc Cert.Kernel22Ideal.main_arg1)) (m ((c : Thread Cert.Kernel22Ideal.nD Cert.Kernel22Ideal.τ).loc Cert.Kernel22Ideal.main_arg3)), Cert.Kernel22Ideal.Value.run m g, ?_⟩
  refine (θ_run Cert.Reference22Ideal.defs _ _).mono (fun r h c => ?_) (Cert.Reference22Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference22Ideal.Gen.bcast_S_S256x1024 _ _ _ _
  · rw [e1, e2]; exact mean_ref Cert.Reference22Ideal.Gen.bcast_S_S256x1024 _ _
  · rw [e1, e3]; exact square_ref Cert.Reference22Ideal.Gen.bcast_S_S256x1024 _ _

/-- On the same gradient, means and weights the kernel and the reference update alike: the gated network's first weights. -/
theorem w_ffn_up : Cert.algebraic_Kernel23Ideal_Reference23Ideal := by
  intro m g m' g' _ hm
  refine ⟨fun c => delta (m ((c : Thread Cert.Kernel23Ideal.nD Cert.Kernel23Ideal.τ).loc Cert.Kernel23Ideal.main_arg1)) (m ((c : Thread Cert.Kernel23Ideal.nD Cert.Kernel23Ideal.τ).loc Cert.Kernel23Ideal.main_arg2)) (m ((c : Thread Cert.Kernel23Ideal.nD Cert.Kernel23Ideal.τ).loc Cert.Kernel23Ideal.main_arg3)) (m ((c : Thread Cert.Kernel23Ideal.nD Cert.Kernel23Ideal.τ).loc Cert.Kernel23Ideal.main_arg0)),
    fun c => mean (m ((c : Thread Cert.Kernel23Ideal.nD Cert.Kernel23Ideal.τ).loc Cert.Kernel23Ideal.main_arg1)) (m ((c : Thread Cert.Kernel23Ideal.nD Cert.Kernel23Ideal.τ).loc Cert.Kernel23Ideal.main_arg2)), fun c => square (m ((c : Thread Cert.Kernel23Ideal.nD Cert.Kernel23Ideal.τ).loc Cert.Kernel23Ideal.main_arg1)) (m ((c : Thread Cert.Kernel23Ideal.nD Cert.Kernel23Ideal.τ).loc Cert.Kernel23Ideal.main_arg3)), Cert.Kernel23Ideal.Value.run m g, ?_⟩
  refine (θ_run Cert.Reference23Ideal.defs _ _).mono (fun r h c => ?_) (Cert.Reference23Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference23Ideal.Gen.bcast_S_S1024x1408 _ _ _ _
  · rw [e1, e2]; exact mean_ref Cert.Reference23Ideal.Gen.bcast_S_S1024x1408 _ _
  · rw [e1, e3]; exact square_ref Cert.Reference23Ideal.Gen.bcast_S_S1024x1408 _ _

/-- On the same gradient, means and weights the kernel and the reference update alike: the gated network's second weights. -/
theorem w_ffn_down : Cert.algebraic_Kernel24Ideal_Reference24Ideal := by
  intro m g m' g' _ hm
  refine ⟨fun c => delta (m ((c : Thread Cert.Kernel24Ideal.nD Cert.Kernel24Ideal.τ).loc Cert.Kernel24Ideal.main_arg1)) (m ((c : Thread Cert.Kernel24Ideal.nD Cert.Kernel24Ideal.τ).loc Cert.Kernel24Ideal.main_arg2)) (m ((c : Thread Cert.Kernel24Ideal.nD Cert.Kernel24Ideal.τ).loc Cert.Kernel24Ideal.main_arg3)) (m ((c : Thread Cert.Kernel24Ideal.nD Cert.Kernel24Ideal.τ).loc Cert.Kernel24Ideal.main_arg0)),
    fun c => mean (m ((c : Thread Cert.Kernel24Ideal.nD Cert.Kernel24Ideal.τ).loc Cert.Kernel24Ideal.main_arg1)) (m ((c : Thread Cert.Kernel24Ideal.nD Cert.Kernel24Ideal.τ).loc Cert.Kernel24Ideal.main_arg2)), fun c => square (m ((c : Thread Cert.Kernel24Ideal.nD Cert.Kernel24Ideal.τ).loc Cert.Kernel24Ideal.main_arg1)) (m ((c : Thread Cert.Kernel24Ideal.nD Cert.Kernel24Ideal.τ).loc Cert.Kernel24Ideal.main_arg3)), Cert.Kernel24Ideal.Value.run m g, ?_⟩
  refine (θ_run Cert.Reference24Ideal.defs _ _).mono (fun r h c => ?_) (Cert.Reference24Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference24Ideal.Gen.bcast_S_S704x1024 _ _ _ _
  · rw [e1, e2]; exact mean_ref Cert.Reference24Ideal.Gen.bcast_S_S704x1024 _ _
  · rw [e1, e3]; exact square_ref Cert.Reference24Ideal.Gen.bcast_S_S704x1024 _ _

/-- On the same gradient, means and weights the kernel and the reference update alike: the small weights, packed in one array. -/
theorem small : Cert.algebraic_Kernel16Ideal_Reference16Ideal := by
  intro m g m' g' _ hm
  refine ⟨fun c => delta (m ((c : Thread Cert.Kernel16Ideal.nD Cert.Kernel16Ideal.τ).loc Cert.Kernel16Ideal.main_arg1)) (m ((c : Thread Cert.Kernel16Ideal.nD Cert.Kernel16Ideal.τ).loc Cert.Kernel16Ideal.main_arg2)) (m ((c : Thread Cert.Kernel16Ideal.nD Cert.Kernel16Ideal.τ).loc Cert.Kernel16Ideal.main_arg3)) (m ((c : Thread Cert.Kernel16Ideal.nD Cert.Kernel16Ideal.τ).loc Cert.Kernel16Ideal.main_arg0)),
    fun c => mean (m ((c : Thread Cert.Kernel16Ideal.nD Cert.Kernel16Ideal.τ).loc Cert.Kernel16Ideal.main_arg1)) (m ((c : Thread Cert.Kernel16Ideal.nD Cert.Kernel16Ideal.τ).loc Cert.Kernel16Ideal.main_arg2)), fun c => square (m ((c : Thread Cert.Kernel16Ideal.nD Cert.Kernel16Ideal.τ).loc Cert.Kernel16Ideal.main_arg1)) (m ((c : Thread Cert.Kernel16Ideal.nD Cert.Kernel16Ideal.τ).loc Cert.Kernel16Ideal.main_arg3)), Cert.Kernel16Ideal.Value.run m g, ?_⟩
  refine (θ_run Cert.Reference16Ideal.defs _ _).mono (fun r h c => ?_) (Cert.Reference16Ideal.Value.run m' g')
  obtain ⟨e0, e1, e2, e3⟩ := hm c
  refine ⟨(h c).1.trans ?_, (h c).2.1.trans ?_, (h c).2.2.1.trans ?_, (h c).2.2.2⟩
  · rw [e0, e1, e2, e3]; exact delta_ref Cert.Reference16Ideal.Gen.bcast_S_S192x1024 _ _ _ _
  · rw [e1, e2]; exact mean_ref Cert.Reference16Ideal.Gen.bcast_S_S192x1024 _ _
  · rw [e1, e3]; exact square_ref Cert.Reference16Ideal.Gen.bcast_S_S192x1024 _ _

end Cert.Opt

end
-- ==== Proof.Row.Sigmoid.lean ====
/- The logistic function written with the hyperbolic tangent, as the kernels write it. -/
module

public import proofs.«01_k».proof.Defs
public import Idealize.ShloMosaic.Lib.IdealHost

@[expose] public section

noncomputable section

namespace Cert.Row

open Idealize.ShloMosaic

/-- The kernels' constant one half. -/
theorem half : Ideal.ofBits .f32 0x3F000000#32 = (((1 : ℝ) / 2 : ℝ) : EReal) := by
  simp [Ideal.ofBits, Ideal.ieee, -EReal.coe_mul]; norm_num

/-- Half the hyperbolic tangent of half the argument, plus one half, is the logistic function, at infinite arguments too. -/
theorem sigmoid (x : EReal) :
    (((1 : ℝ) / 2 : ℝ) : EReal) * Ideal.tanh ((((1 : ℝ) / 2 : ℝ) : EReal) * x) + (((1 : ℝ) / 2 : ℝ) : EReal) = Ideal.logistic x := by
  have hp : (0 : ℝ) < 1 / 2 := by norm_num
  induction x with
  | bot =>
    rw [EReal.coe_mul_bot_of_pos hp, Ideal.tanh_bot, Ideal.logistic_bot]
    rw [mul_neg, mul_one, ← EReal.coe_neg, ← EReal.coe_add]
    norm_num
  | top =>
    rw [EReal.coe_mul_top_of_pos hp, Ideal.tanh_top, Ideal.logistic_top]
    rw [mul_one, ← EReal.coe_add]
    norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have e : Real.exp (-r) = Real.exp (-(1 / 2 * r)) * Real.exp (-(1 / 2 * r)) := by
      rw [← Real.exp_add]; congr 1; ring
    have i : Real.exp (1 / 2 * r) * Real.exp (-(1 / 2 * r)) = 1 := by
      rw [← Real.exp_add]; simp
    have a := Real.exp_pos (1 / 2 * r)
    have b := Real.exp_pos (-(1 / 2 * r))
    rw [e]
    have h1 : Real.exp (1 / 2 * r) + Real.exp (-(1 / 2 * r)) ≠ 0 := by positivity
    have h2 : 1 + Real.exp (-(1 / 2 * r)) * Real.exp (-(1 / 2 * r)) ≠ 0 := by positivity
    generalize Real.exp (1 / 2 * r) = u at *
    generalize Real.exp (-(1 / 2 * r)) = v at *
    field_simp
    linear_combination (2 * v) * i
end Cert.Row

end
-- ==== Proof.Row.Ada.lean ====
/- The gradients of the modulation's weights and bias. -/
module

public import proofs.«01_k».proof.Defs
public import proofs.«01_k».proof.Proof.Gen.Kernel17Ideal.Value
public import proofs.«01_k».proof.Proof.Gen.Reference17Ideal.Run
public import proofs.«01_k».proof.Proof.Mm.Tn
public import proofs.«01_k».proof.Proof.Row.Sigmoid
public import Idealize.ShloMosaic.Lib.Pointwise
public import Idealize.ShloMosaic.Lib.Claim

@[expose] public section

set_option maxRecDepth 16384

noncomputable section

namespace Cert.Row.Ada

open Cert.Kernel17Ideal Cert.Kernel17Ideal.Gen
open Idealize.ShloMosaic Idealize.ShloMosaic.TcCoe
open Idealize.SL.Sem
open scoped BigOperators

/-- The activation, entry by entry: the argument times its logistic function. -/
theorem silu (x : EReal) :
    x * (Ideal.ofBits .f32 0x3F000000#32 * Ideal.tanh (Ideal.ofBits .f32 0x3F000000#32 * x) + Ideal.ofBits .f32 0x3F000000#32)
      = x * Ideal.div (Ideal.ofBits .f32 0x3F800000#32) (Ideal.ofBits .f32 0x3F800000#32 + Ideal.exp (-x)) := by
  rw [half, sigmoid, Ideal.ofBits_one_f32, Ideal.logistic]

/-- The weights' gradient: the kernel's product over the rows is the reference's, transposed. -/
theorem weights (x : FVec Ideal S32x1024 .f32) (d : FVec Ideal S32x1536 .f32) (t : FVec Ideal S32x6144 .f32) :
    transpose Reference17Ideal.S1024x1536 [1, 0] (Host.dotGeneral (F := Ideal) Reference17Ideal.dot_S32x1536_S32x1024_S1536x1024_0_0_1_1_n_n none d
      (mulf x (Host.divf (broadcastInDim Reference17Ideal.S32x1024 ![] Reference17Ideal.Gen.bcast_S_S32x1024 (constant Reference17Ideal.S_ .f32 0x3F800000#32))
        (addf (broadcastInDim Reference17Ideal.S32x1024 ![] Reference17Ideal.Gen.bcast_S_S32x1024 (constant Reference17Ideal.S_ .f32 0x3F800000#32)) (Host.exp (Host.negf x))))))
      Reference17Ideal.Gen.transposes_S1536x1024_S1024x1536_1_0 = (Value.G3 (F := Ideal) x d t : FVec Ideal S1024x1536 .f32) := by
  funext j
  obtain ⟨r, q, rfl⟩ : ∃ (r : Fin 1024) (q : Fin 1536), j = ValueIdx.ix2 r q := ⟨j 0, j 1, ValueIdx.eq_ix2 j⟩
  refine (ValueIdx.transpose_ix2_apply _ _ r q).trans ((Mm.tn_dot (φ₁ := .f32) (φ₂ := .f32) (φ₃ := .f32)
    Reference17Ideal.Facts₀.dot_S32x1536_S32x1024_S1536x1024_0_0_1_1_n_n_wf none d _ q r).trans ?_)
  refine Eq.symm ((Mm.tn_matmul Facts₀.dot_S32x1024_S32x1536_S1024x1536_0_0_1_1_n_n_wf none _ _ _ r q).trans ?_)
  show Ideal.ofBits .f32 0x00000000#32 + _ = _
  rw [Ideal.ofBits_zero_f32, zero_add]
  refine Finset.sum_congr rfl fun k _ => (mul_comm _ _).trans (congrArg (d (ValueIdx.ix2 k q) * ·) ?_)
  exact silu (x (ValueIdx.ix2 k r))

/-- The bias's gradient: both sum over the rows. -/
theorem bias (x : FVec Ideal S32x1024 .f32) (d : FVec Ideal S32x1536 .f32) (t : FVec Ideal S32x6144 .f32) :
    broadcastInDim Reference17Ideal.S1x6144 ![1] Reference17Ideal.Gen.bcast_S6144_S1x6144_1 (Host.reduceAdd (F := Ideal) (shapeCast _ (Host.reduceAdd t (constant Reference17Ideal.S_ .f32 0x00000000#32)
      Reference17Ideal.Gen.reducesTo_S32x6144_S6144_d0 Reference17Ideal.Gen.h_S_) Reference17Ideal.Gen.shapeCasts_S6144_S1x6144) (constant Reference17Ideal.S_ .f32 0x00000000#32)
      Reference17Ideal.Gen.reducesTo_S1x6144_S6144_d0 Reference17Ideal.Gen.h_S_) = (Value.G4 (F := Ideal) x d t : FVec Ideal S1x6144 .f32) := by
  funext j
  obtain ⟨r, q, rfl⟩ : ∃ (r : Fin 1) (q : Fin 6144), j = ValueIdx.ix2 r q := ⟨j 0, j 1, ValueIdx.eq_ix2 j⟩
  simp only [Value.G4]
  unfold k0_pay2
  pointwise
  exact Fin.sum_univ_one _

/-- On the same arguments the kernel and the reference end with the same gradients. -/
theorem algebraic : algebraic_Kernel17Ideal_Reference17Ideal := by
  intro m g m' g' _ hm
  refine ⟨fun c => Value.G3 (m ((c : Thread nD τ).loc main_arg0)) (m ((c : Thread nD τ).loc main_arg1)) (m ((c : Thread nD τ).loc main_arg2)),
    fun c => Value.G4 (m ((c : Thread nD τ).loc main_arg0)) (m ((c : Thread nD τ).loc main_arg1)) (m ((c : Thread nD τ).loc main_arg2)),
    Value.run m g, ?_⟩
  refine (θ_run Reference17Ideal.defs _ _).mono (fun r h c => ?_) (Reference17Ideal.Value.run m' g')
  obtain ⟨e0, e1, e2⟩ := hm c
  refine ⟨(h c).1.trans ?_, (h c).2.1.trans ?_, (h c).2.2⟩
  · rw [e0, e1]; exact weights _ _ _
  · rw [e2]; exact bias _ _ _

end Cert.Row.Ada

end
-- ==== Proof.Row.Norm.lean ====
/- The root mean square norm of one row of 1024 entries, its modulation, and their gradients. -/
module

public import Idealize.ShloMosaic.PureOps.Ideal
public import Idealize.ShloMosaic.Lib.Pointwise.Index
public import Idealize.ShloMosaic.Lib.Pointwise.Reduce

@[expose] public section

noncomputable section

namespace Cert.Row.Norm

open Idealize.ShloMosaic
open scoped BigOperators

variable (x d sc g : Fin 1024 → EReal)

/-- The mean square of a row, with the small constant added. -/
def ms : EReal := Ideal.div (∑ k, x k * x k) (Ideal.ofBits .f32 0x44800000#32) + Ideal.ofBits .f32 0x358637BD#32

/-- What a row is multiplied by to norm it. -/
def rs : EReal := Ideal.rsqrt (ms x)

/-- The cotangent of a row through its modulation by `1 + sc`. -/
def scaled (j : Fin 1024) : EReal := d j * (1 + sc j)

/-- What the mean square's share of the gradient multiplies the row by. -/
def share : EReal :=
  Ideal.div ((∑ k, x k * d k) * (Ideal.ofBits .f32 0xBF000000#32 * Ideal.div (rs x) (ms x))) (Ideal.ofBits .f32 0x44800000#32)

/-- The gradient of a normed row at the cotangent `d`. -/
def back (j : Fin 1024) : EReal := d j * rs x + x j * share x d + share x d * x j

/-- The gradient of a row through its norm, the gain `g` and the modulation. -/
def grad : Fin 1024 → EReal := back x fun k => scaled d sc k * g k

/-- A row's term of the gain's gradient. -/
def gain (j : Fin 1024) : EReal := x j * rs x * scaled d sc j

/-- A row's term of the scale's gradient. -/
def scale (j : Fin 1024) : EReal := x j * rs x * g j * d j

/-- Row `l` of batch entry `b` among all the rows. -/
def pos (b : Fin 4) (l : Fin 2048) : Fin 8192 := ⟨b.val * 2048 + l.val, by omega⟩

/-- The batch entry of a row. -/
def entry (p : Fin 8192) : Fin 4 := ⟨p.val / 2048, by omega⟩

/-- A row's batch entry and its number there name the row. -/
theorem pos_entry (p : Fin 8192) : pos (entry p) ⟨p.val % 2048, Nat.mod_lt _ (by decide)⟩ = p :=
  Fin.ext (Nat.div_add_mod' p.val 2048)

/-- The batch entry of a batch entry's row. -/
theorem entry_pos (b : Fin 4) (l : Fin 2048) : entry (pos b l) = b := Fin.ext (by
  show (b.val * 2048 + l.val) / 2048 = b.val
  omega)

/-- A row of a matrix. -/
def line {n : ℕ} (a : FVec Ideal ⟨2, ![n, 1024]⟩ .f32) (p : Fin n) (k : Fin 1024) : EReal := a (ix2 p k)

/-- The modulation row of a batch entry that starts at column `o`. -/
def band (s : FVec Ideal ⟨3, ![4, 1, 6144]⟩ .f32) (o : ℕ) (ho : o + 1024 ≤ 6144) (b : Fin 4) (k : Fin 1024) : EReal :=
  s (ix3 b 0 ⟨o + k.val, by omega⟩)

section Arrays
variable (a c e : FVec Ideal ⟨2, ![8192, 1024]⟩ .f32) (q : FVec Ideal ⟨3, ![4, 1, 6144]⟩ .f32) (w : FVec Ideal ⟨2, ![1, 1024]⟩ .f32)
variable (o : ℕ) (ho : o + 1024 ≤ 6144)

/-- The gradient of the norm's input, added to another cotangent. -/
def grads : FVec Ideal ⟨2, ![8192, 1024]⟩ .f32 :=
  fun j => e j + grad (line a (j 0)) (line c (j 0)) (band q o ho (entry (j 0))) (line w 0) (j 1)

/-- The gradient of the scale: the rows of each batch entry summed. -/
def scales : FVec Ideal ⟨3, ![4, 1, 1024]⟩ .f32 :=
  fun j => ∑ l : Fin 2048, scale (line a (pos (j 0) l)) (line c (pos (j 0) l)) (line w 0) (j 2)

/-- The gradient of the shift: the cotangent's rows of each batch entry summed. -/
def shifts : FVec Ideal ⟨3, ![4, 1, 1024]⟩ .f32 := fun j => ∑ l : Fin 2048, line c (pos (j 0) l) (j 2)

/-- The gradient of the gain: all the rows summed. -/
def gains : FVec Ideal ⟨2, ![1, 1024]⟩ .f32 :=
  fun j => ∑ b : Fin 4, ∑ l : Fin 2048, gain (line a (pos b l)) (line c (pos b l)) (band q o ho b) (j 1)

/-- The cotangent `y` of a gated residual's sum, times the gate at column `o`. -/
def gated (y : FVec Ideal ⟨2, ![8192, 1024]⟩ .f32) : FVec Ideal ⟨2, ![8192, 1024]⟩ .bf16 :=
  fun j => y j * band q o ho (entry (j 0)) (j 1)

/-- The gradient of a gate: the cotangent `y` times the gated rows, summed over each batch entry. -/
def gates (y : FVec Ideal ⟨2, ![8192, 1024]⟩ .f32) : FVec Ideal ⟨3, ![4, 1, 1024]⟩ .f32 :=
  fun j => ∑ l : Fin 2048, line y (pos (j 0) l) (j 2) * line a (pos (j 0) l) (j 2)

end Arrays

/-- A sum over the first two of three axes. -/
theorem sum01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ b : Fin n0, ∑ l : Fin n1, v (ix3 b l j) := by
  refine congrArg (init + ·) ((Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v).trans
      (Fintype.sum_prod_type (f := fun k : Fin n0 × Fin n1 => v (ix3 k.1 k.2 j))))
  · funext a; apply Fin.ext
    match a with
    | ⟨0, _⟩ => rfl
    | ⟨1, _⟩ => rfl
    | ⟨2, _⟩ => exact (congrArg Fin.val (congrFun e ⟨0, Nat.zero_lt_one⟩)).symm
  · rintro ⟨k, rfl⟩
    funext b; apply Fin.ext
    match b with
    | ⟨0, _⟩ => rfl

end Cert.Row.Norm

end
-- ==== Proof.Row.Norm1Ref.lean ====
/- The reference of the first norm's gradients, entry by entry. -/
module

public import proofs.«01_k».proof.Defs
public import proofs.«01_k».proof.Proof.Gen.Reference31Ideal.Run
public import proofs.«01_k».proof.Proof.Row.Norm
public import Idealize.ShloMosaic.Lib.Pointwise
public import Idealize.ShloMosaic.Lib.Claim
public import Idealize.ShloMosaic.Lib.Pipeline.ValueKit

@[expose] public section

set_option maxRecDepth 16384

noncomputable section

namespace Cert.Row.Norm1.Ref

open Cert.Reference31Ideal Cert.Reference31Ideal.Gen
open Idealize.ShloMosaic Idealize.ShloMosaic.TcCoe
open Idealize.SL.Sem
open scoped BigOperators

variable (x d e : FVec Ideal S8192x1024 .f32) (s : FVec Ideal S4x1x6144 .f32) (g : FVec Ideal S1x1024 .f32)
variable (v u : FVec Ideal S4x2048x1024 .f32) (o : ℕ) (ho : o + 1024 ≤ 6144) (hs : S4x1x6144.Slices ![0, 0, o] S4x1x1024)

/-- The rows by batch entry. -/
def deep : FVec Ideal S4x2048x1024 .f32 := shapeCast _ x shapeCasts_S8192x1024_S4x2048x1024

/-- The rows' mean squares and factors. -/
def ms : FVec Ideal S4x2048x1 .f32 :=
  addf (Host.divf (broadcastInDim S4x2048x1 ![0, 1] bcast_S4x2048_S4x2048x1_0_1 (Host.reduceAdd (mulf v v) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
def rs : FVec Ideal S4x2048x1 .f32 := Host.rsqrt (ms v)

/-- The normed rows. -/
def normed : FVec Ideal S4x2048x1024 .f32 :=
  mulf v (broadcastInDim S4x2048x1024 ![0, 1, 2] bcast_S4x2048x1_S4x2048x1024_0_1_2 (rs v))

/-- The gain, for every row. -/
def wide (w : FVec Ideal S1024 .f32) : FVec Ideal S4x2048x1024 .f32 :=
  broadcastInDim S4x2048x1024 ![0, 1, 2] bcast_S1x1x1024_S4x2048x1024_0_1_2 (broadcastInDim S1x1x1024 ![2] bcast_S1024_S1x1x1024_2 w)

/-- The modulation rows that start at column `o`. -/
def part : FVec Ideal S4x1x1024 .f32 := extractStridedSlice S4x1x1024 ![0, 0, o] s hs

/-- The cotangent through the modulation. -/
def scaled : FVec Ideal S4x2048x1024 .f32 :=
  mulf (deep d) (broadcastInDim S4x2048x1024 ![0, 1, 2] bcast_S4x1x1024_S4x2048x1024_0_1_2 (addf (broadcastInDim S4x1x1024 ![] bcast_S_S4x1x1024 (constant S_ .f32 0x3F800000#32)) (part s o hs)))

/-- The mean square's share of the gradient, for the cotangent `u` of the normed rows. -/
def share : FVec Ideal S4x2048x1024 .f32 :=
  broadcastInDim S4x2048x1024 ![0, 1] bcast_S4x2048_S4x2048x1024_0_1 (Host.reduceAdd (Host.divf (mulf (shapeCast _ (Host.reduceAdd (mulf v u) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (rs v) (ms v)))) (broadcastInDim S4x2048x1 ![] bcast_S_S4x2048x1 (constant S_ .f32 0x44800000#32))) (constant S_ .f32 0x00000000#32) reducesTo_S4x2048x1_S4x2048_d2 h_S_)

/-- The gradient of the rows, for the cotangent `u` of the normed rows. -/
def back : FVec Ideal S4x2048x1024 .f32 :=
  addf (addf (mulf u (broadcastInDim S4x2048x1024 ![0, 1, 2] bcast_S4x2048x1_S4x2048x1024_0_1_2 (rs v))) (mulf v (share v u))) (mulf (share v u) v)

variable (b : Fin 4) (l : Fin 2048) (j : Fin 1024)

theorem deep_apply : deep x (ix3 b l j) = Norm.line x (Norm.pos b l) j := by
  pointwise [deep]
  rfl

theorem deep_row : (fun k => deep x (ix3 b l k)) = Norm.line x (Norm.pos b l) := funext fun k => deep_apply x b l k

theorem ms_apply : ms v (ix3 b l 0) = Norm.ms fun k => v (ix3 b l k) := by
  pointwise [ms]
  rfl

theorem rs_apply : rs v (ix3 b l 0) = Norm.rs fun k => v (ix3 b l k) := by
  pointwise [rs]
  rw [ms_apply]; rfl

theorem normed_apply : normed v (ix3 b l j) = v (ix3 b l j) * Norm.rs fun k => v (ix3 b l k) := by
  pointwise [normed]
  rw [rs_apply]

theorem wide_apply (w : FVec Ideal S1024 .f32) : wide w (ix3 b l j) = w (ix1 j) := by
  pointwise [wide]

/-- The gain as a vector of its entries. -/
theorem flat_apply : shapeCast S1024 g shapeCasts_S1x1024_S1024 (ix1 j) = Norm.line g 0 j := by
  pointwise
  rfl

theorem part_apply : part s o hs (ix3 b 0 j) = Norm.band s o ho b j := by
  refine congrArg s (funext fun a => Fin.ext ?_)
  match a with
  | ⟨0, _⟩ => exact Nat.zero_add _
  | ⟨1, _⟩ => rfl
  | ⟨2, _⟩ => rfl

theorem scaled_apply : scaled d s o hs (ix3 b l j)
    = Norm.scaled (Norm.line d (Norm.pos b l)) (Norm.band s o ho b) j := by
  pointwise [scaled]
  rw [deep_apply, part_apply s o ho]; rfl

theorem share_apply : share v u (ix3 b l j) = Norm.share (fun k => v (ix3 b l k)) (fun k => u (ix3 b l k)) := by
  pointwise [share]
  simp only [rs_apply, ms_apply, Fin.sum_univ_one]; rfl

theorem back_apply : back v u (ix3 b l j) = Norm.back (fun k => v (ix3 b l k)) (fun k => u (ix3 b l k)) j := by
  pointwise [back]
  rw [rs_apply, share_apply]; rfl

/-- The reference's gradient of the rows. -/
theorem grads : addf e (shapeCast _ (back (deep x) (mulf (scaled d s o hs) (wide (shapeCast _ g shapeCasts_S1x1024_S1024)))) shapeCasts_S4x2048x1024_S8192x1024)
    = Norm.grads x d e s g o ho := by
  funext i
  obtain ⟨p, j, rfl⟩ : ∃ (p : Fin 8192) (j : Fin 1024), i = ix2 p j := ⟨i 0, i 1, eq_ix2 i⟩
  have h : shapeCast S8192x1024 (back (deep x) (mulf (scaled d s o hs) (wide (shapeCast _ g shapeCasts_S1x1024_S1024)))) shapeCasts_S4x2048x1024_S8192x1024 (ix2 p j)
      = back (deep x) (mulf (scaled d s o hs) (wide (shapeCast _ g shapeCasts_S1x1024_S1024))) (ix3 (Norm.entry p) ⟨p.val % 2048, Nat.mod_lt _ (by decide)⟩ j) := by
    pointwise
    rfl
  refine congrArg (e (ix2 p j) + ·) (h.trans ((back_apply (deep x) _ _ _ j).trans ?_))
  rw [deep_row, Norm.pos_entry]
  refine congrArg (fun u => Norm.back _ u j) (funext fun k => ?_)
  refine congrArg₂ (· * ·) ((scaled_apply d s o ho hs _ _ k).trans ?_) ((wide_apply _ _ k _).trans (flat_apply g k))
  rw [Norm.pos_entry]; rfl

/-- The reference's gradient of the scale. -/
theorem scales : (shapeCast S4x1x1024 (Host.reduceAdd (mulf (mulf (normed (deep x)) (wide (shapeCast _ g shapeCasts_S1x1024_S1024))) (deep d)) (constant S_ .f32 0x00000000#32) reducesTo_S4x2048x1024_S4x1024_d1 h_S_) shapeCasts_S4x1024_S4x1x1024 : FVec Ideal S4x1x1024 .f32)
    = Norm.scales x d g := by
  funext i
  obtain ⟨b, z, j, rfl⟩ : ∃ (b : Fin 4) (z : Fin 1) (j : Fin 1024), i = ix3 b z j := ⟨i 0, i 1, i 2, eq_ix3 i⟩
  pointwise
  simp only [normed_apply, wide_apply, flat_apply, deep_row, deep_apply]; rfl

/-- The reference's gradient of the shift. -/
theorem shifts : (shapeCast S4x1x1024 (Host.reduceAdd (deep d) (constant S_ .f32 0x00000000#32) reducesTo_S4x2048x1024_S4x1024_d1 h_S_) shapeCasts_S4x1024_S4x1x1024 : FVec Ideal S4x1x1024 .f32)
    = Norm.shifts d := by
  funext i
  obtain ⟨b, z, j, rfl⟩ : ∃ (b : Fin 4) (z : Fin 1) (j : Fin 1024), i = ix3 b z j := ⟨i 0, i 1, i 2, eq_ix3 i⟩
  pointwise
  simp only [deep_apply]; rfl

/-- The reference's gradient of the gain. -/
theorem gains : (broadcastInDim S1x1024 ![1] bcast_S1024_S1x1024_1 (Host.reduceAdd (shapeCast S1x1x1024 (Host.reduceAdd (mulf (normed (deep x)) (scaled d s o hs)) (constant S_ .f32 0x00000000#32) reducesTo_S4x2048x1024_S1024_d0_1 h_S_) shapeCasts_S1024_S1x1x1024) (constant S_ .f32 0x00000000#32) reducesTo_S1x1x1024_S1024_d0_1 h_S_) : FVec Ideal S1x1024 .f32)
    = Norm.gains x d s o ho := by
  funext i
  obtain ⟨z, j, rfl⟩ : ∃ (z : Fin 1) (j : Fin 1024), i = ix2 z j := ⟨i 0, i 1, eq_ix2 i⟩
  pointwise
  rw [Norm.sum01]
  pointwise
  rw [Norm.sum01]
  pointwise
  simp only [normed_apply, deep_row, deep_apply, scaled_apply d s o ho hs, Fin.sum_univ_one]
  rfl

end Cert.Row.Norm1.Ref

end
-- ==== Proof.Row.Norm1.lean ====
/- The gradients of the first norm and its modulation. -/
module

public import proofs.«01_k».proof.Defs
public import proofs.«01_k».proof.Proof.Gen.Kernel31Ideal.Value
public import proofs.«01_k».proof.Proof.Row.Norm
public import proofs.«01_k».proof.Proof.Row.Norm1Ref
public import Idealize.ShloMosaic.Lib.Pointwise
public import Idealize.ShloMosaic.Lib.Claim
public import Idealize.ShloMosaic.Lib.Pipeline.ValueKit

@[expose] public section

set_option maxRecDepth 16384

noncomputable section

namespace Cert.Row.Norm1

open Cert.Kernel31Ideal Cert.Kernel31Ideal.Gen
open Idealize.ShloMosaic Idealize.ShloMosaic.TcCoe
open Idealize.SL.Sem
open scoped BigOperators

section Payloads
variable (x d : FVec Ideal S512x1024 .f32) (s : FVec Ideal S1x1x1024 .f32) (g : FVec Ideal S1x1024 .f32)

/-- A row's mean square. -/
theorem ms (r : Fin 512) (l : Fin 1) : k0_pay3 (F := Ideal) x (ix2 r l) = Norm.ms fun k => x (ix2 r k) := by
  pointwise [k0_pay3]
  rfl

/-- A row's factor. -/
theorem rs (r : Fin 512) (l : Fin 1) : k0_pay4 (F := Ideal) x (ix2 r l) = Norm.rs fun k => x (ix2 r k) := by
  pointwise [k0_pay4]
  rw [ms]; rfl

/-- The factor's derivative in the mean square. -/
theorem slope (r : Fin 512) (l : Fin 1) : k0_pay5 (F := Ideal) x (ix2 r l)
    = Ideal.ofBits .f32 0xBF000000#32 * Ideal.div (Norm.rs fun k => x (ix2 r k)) (Norm.ms fun k => x (ix2 r k)) := by
  pointwise [k0_pay5]
  rw [ms, rs]

/-- A normed row. -/
theorem normed (r : Fin 512) (j : Fin 1024) : k0_pay6 (F := Ideal) x (ix2 r j) = x (ix2 r j) * Norm.rs fun k => x (ix2 r k) := by
  pointwise [k0_pay6]
  rw [rs]

/-- The cotangent through the modulation. -/
theorem scaled (r : Fin 512) (j : Fin 1024) : k0_pay10 (F := Ideal) d s (ix2 r j)
    = Norm.scaled (fun k => d (ix2 r k)) (fun k => s (ix3 0 0 k)) j := by
  pointwise [k0_pay10, k0_pay7]
  rfl

/-- The cotangent through the modulation and the gain. -/
theorem gained (r : Fin 512) (j : Fin 1024) : k0_pay12 (F := Ideal) d s g (ix2 r j)
    = Norm.scaled (fun k => d (ix2 r k)) (fun k => s (ix3 0 0 k)) j * g (ix2 0 j) := by
  pointwise [k0_pay12]
  rw [scaled]

/-- The shift's gradient sums the rows. -/
theorem shift (l : Fin 1) (j : Fin 1024) : k0_pay8 (F := Ideal) d (ix2 l j) = ∑ r : Fin 512, d (ix2 r j) := by
  pointwise [k0_pay8]

/-- The scale's gradient sums the rows' terms. -/
theorem scale (l : Fin 1) (j : Fin 1024) : k0_pay9 (F := Ideal) x d g (ix2 l j)
    = ∑ r : Fin 512, Norm.scale (fun k => x (ix2 r k)) (fun k => d (ix2 r k)) (fun k => g (ix2 0 k)) j := by
  pointwise [k0_pay9, k0_pay7]
  simp only [normed]; rfl

/-- The gain's gradient sums the rows' terms. -/
theorem gain (l : Fin 1) (j : Fin 1024) : k0_pay11 (F := Ideal) x d s (ix2 l j)
    = ∑ r : Fin 512, Norm.gain (fun k => x (ix2 r k)) (fun k => d (ix2 r k)) (fun k => s (ix3 0 0 k)) j := by
  pointwise [k0_pay11]
  simp only [normed, scaled]; rfl

/-- The row's own gradient, added to the other cotangent. -/
theorem grad (e : FVec Ideal S512x1024 .f32) (r : Fin 512) (j : Fin 1024) :
    k0_pay14 (F := Ideal) x e (k0_pay4 x) (k0_pay5 x) (k0_pay12 d s g) (k0_pay13 x d s g) (ix2 r j)
      = e (ix2 r j) + Norm.grad (fun k => x (ix2 r k)) (fun k => d (ix2 r k)) (fun k => s (ix3 0 0 k)) (fun k => g (ix2 0 k)) j := by
  pointwise [k0_pay14, k0_pay13]
  simp only [rs, slope, gained]
  simp [Norm.grad, Norm.back, Norm.share]

end Payloads

section Blocks
variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![t.val, 0] ∧ win0_2.index t = ![t.val, 0]
    ∧ win0_3.index t = ![t.val / 4, 0, 1] ∧ win0_5.index t = ![0, 0] ∧ win0_6.index t = ![t.val, 0]
    ∧ win0_7.index t = ![t.val / 4, 0, 0] ∧ win0_8.index t = ![t.val / 4, 0, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![t.val / 4, 0, 1] ∧ win0_5.index t = ![0, 0] ∧ win0_6.index t = ![t.val, 0]
    ∧ win0_7.index t = ![t.val / 4, 0, 0] ∧ win0_8.index t = ![t.val / 4, 0, 0] ∧ win0_9.index t = ![0, 0])

/-- Row `r` of block `t` among all the rows. -/
def row (t : Fin cfg0.N) (r : Fin 512) : Fin 8192 :=
  ⟨t.val * 512 + r.val, by have := t.isLt; have e : cfg0.N = 16 := N_0; have := r.isLt; omega⟩

/-- The batch entry of block `t`. -/
def entry (t : Fin cfg0.N) : Fin 4 := ⟨t.val / 4, by have := t.isLt; have e : cfg0.N = 16 := N_0; omega⟩

theorem iblk0 (t : Fin cfg0.N) (r : Fin 512) (k : Fin 1024) :
    iblk m c 0 t (ix2 r k) = m ((c : Thread nD τ).loc main_arg0) (ix2 (row t r) k) := by
  have e := (idx t).1
  blk_ext [iblk, V, e, row]

theorem iblk1 (t : Fin cfg0.N) (r : Fin 512) (k : Fin 1024) :
    iblk m c 1 t (ix2 r k) = m ((c : Thread nD τ).loc main_arg1) (ix2 (row t r) k) := by
  have e := (idx t).2.1
  blk_ext [iblk, V, e, row]

theorem iblk2 (t : Fin cfg0.N) (r : Fin 512) (k : Fin 1024) :
    iblk m c 2 t (ix2 r k) = m ((c : Thread nD τ).loc main_arg2) (ix2 (row t r) k) := by
  have e := (idx t).2.2.1
  blk_ext [iblk, V, e, row]

theorem iblk3 (t : Fin cfg0.N) (k : Fin 1024) :
    iblk m c 3 t (ix3 0 0 k) = m ((c : Thread nD τ).loc main_arg3) (ix3 (entry t) 0 ⟨1024 + k.val, by omega⟩) := by
  have e := (idx t).2.2.2.1
  blk_ext [iblk, V, e, entry]

theorem iblk5 (t : Fin cfg0.N) (k : Fin 1024) :
    iblk m c 5 t (ix2 0 k) = m ((c : Thread nD τ).loc main_arg4) (ix2 0 k) := by
  have e := (idx t).2.2.2.2.1
  blk_ext [iblk, V, e]

/-- The first norm's input, its cotangent and the other cotangent, by row; the scale, by batch entry; the gain. -/
def xr (p : Fin 8192) (k : Fin 1024) : EReal := m ((c : Thread nD τ).loc main_arg0) (ix2 p k)
def dr (p : Fin 8192) (k : Fin 1024) : EReal := m ((c : Thread nD τ).loc main_arg1) (ix2 p k)
def er (p : Fin 8192) (k : Fin 1024) : EReal := m ((c : Thread nD τ).loc main_arg2) (ix2 p k)
def sr (b : Fin 4) (k : Fin 1024) : EReal := m ((c : Thread nD τ).loc main_arg3) (ix3 b 0 ⟨1024 + k.val, by omega⟩)
def gr (k : Fin 1024) : EReal := m ((c : Thread nD τ).loc main_arg4) (ix2 0 k)

/-- The tile of grid point `t`. -/
theorem tile (t : Fin cfg0.N) (r : Fin 512) (j : Fin 1024) : (outsAt0 m c t.val t.isLt).1 (ix2 r j)
    = er m c (row t r) j + Norm.grad (xr m c (row t r)) (dr m c (row t r)) (sr m c (entry t)) (gr m c) j := by
  have h : (outsAt0 m c t.val t.isLt).1 (ix2 r j) = k0_pay14 (F := Ideal) (iblk m c 0 t) (iblk m c 2 t) (k0_pay4 (iblk m c 0 t)) (k0_pay5 (iblk m c 0 t))
      (k0_pay12 (iblk m c 1 t) (iblk m c 3 t) (iblk m c 5 t)) (k0_pay13 (iblk m c 0 t) (iblk m c 1 t) (iblk m c 3 t) (iblk m c 5 t)) (ix2 r j) := by
    by_cases h0 : t.val % 4 = 0
    · by_cases h2 : t.val % 16 = 0
      · rw [outsAt0_A m c t h0 h0 h2]; frame_out
      · rw [outsAt0_C m c t h0 h0 h2]; frame_out
    · rw [outsAt0_B m c t h0 h0 (by omega)]; frame_out
  rw [h, grad]
  simp only [iblk0, iblk1, iblk2, iblk3, iblk5]
  rfl

theorem add7 (a : FVec Ideal S1x1024 .f32) (v : FVec Ideal S1x1x1024 .f32) (j : S1x1x1024.Idx) :
    k0_pay16 (F := Ideal) a v j = v j + a (ix2 0 (j 2)) := by
  obtain ⟨i, l, k, rfl⟩ : ∃ (i : Fin 1) (l : Fin 1) (k : Fin 1024), j = ix3 i l k := ⟨j 0, j 1, j 2, eq_ix3 j⟩
  obtain rfl : i = 0 := Subsingleton.elim _ _
  obtain rfl : l = 0 := Subsingleton.elim _ _
  pointwise [k0_pay16]

theorem add8 (a : FVec Ideal S1x1024 .f32) (v : FVec Ideal S1x1x1024 .f32) (j : S1x1x1024.Idx) :
    k0_pay18 (F := Ideal) a v j = v j + a (ix2 0 (j 2)) := add7 a v j

theorem add9 (a v : FVec Ideal S1x1024 .f32) (j : S1x1024.Idx) : k0_pay2 (F := Ideal) a v j = v j + a j := by
  obtain ⟨l, k, rfl⟩ : ∃ (l : Fin 1) (k : Fin 1024), j = ix2 l k := ⟨j 0, j 1, eq_ix2 j⟩
  pointwise [k0_pay2]

theorem zero7 (j : S1x1x1024.Idx) : k0_pay15 (F := Ideal) j = 0 := Ideal.ofBits_zero_f32
theorem zero8 (j : S1x1x1024.Idx) : k0_pay17 (F := Ideal) j = 0 := Ideal.ofBits_zero_f32
theorem zero9 (j : S1x1024.Idx) : k0_pay1 (F := Ideal) j = 0 := Ideal.ofBits_zero_f32

/-- The scale's gradient after the last block of a batch entry. -/
theorem acc7 (t : Fin cfg0.N) (hf : (cfg0.win 7).flush t = true) (j : S1x1x1024.Idx) : (outsAt0 m c t.val t.isLt).2.1 j
    = ∑ s : Fin 4, ∑ r : Fin 512, Norm.scale (xr m c (row ⟨4 * (t.val / 4) + s.val, Pipeline.run_point_lt_of_flush t ((flush0_7 t).mp hf) s⟩ r))
        (dr m c (row ⟨4 * (t.val / 4) + s.val, Pipeline.run_point_lt_of_flush t ((flush0_7 t).mp hf) s⟩ r)) (gr m c) (j 2) := by
  rw [Pipeline.eq_sum_fin_of_reset_step_apply_of_flush (fun n h => (outsAt0 m c n h).2.1) 4 (fun _ => 0)
    (fun u j => k0_pay9 (F := Ideal) (iblk m c 0 u) (iblk m c 1 u) (iblk m c 5 u) (ix2 0 (j 2)))
    (fun u h j => by
      by_cases h2 : u.val % 16 = 0
      · rw [outsAt0_A m c u h h h2]; frame_out; rw [add7, zero7]
      · rw [outsAt0_C m c u h h h2]; frame_out; rw [add7, zero7])
    (fun u h j => by rw [outsAt0_B m c u h h (by omega)]; frame_out; rw [add7]) t ((flush0_7 t).mp hf) j, zero_add]
  refine Finset.sum_congr rfl fun s _ => (scale _ _ _ 0 (j 2)).trans ?_
  simp only [iblk0, iblk1, iblk5]
  rfl

/-- The shift's gradient after the last block of a batch entry. -/
theorem acc8 (t : Fin cfg0.N) (hf : (cfg0.win 8).flush t = true) (j : S1x1x1024.Idx) : (outsAt0 m c t.val t.isLt).2.2.1 j
    = ∑ s : Fin 4, ∑ r : Fin 512, dr m c (row ⟨4 * (t.val / 4) + s.val, Pipeline.run_point_lt_of_flush t ((flush0_8 t).mp hf) s⟩ r) (j 2) := by
  rw [Pipeline.eq_sum_fin_of_reset_step_apply_of_flush (fun n h => (outsAt0 m c n h).2.2.1) 4 (fun _ => 0)
    (fun u j => k0_pay8 (F := Ideal) (iblk m c 1 u) (ix2 0 (j 2)))
    (fun u h j => by
      by_cases h2 : u.val % 16 = 0
      · rw [outsAt0_A m c u h h h2]; frame_out; rw [add8, zero8]
      · rw [outsAt0_C m c u h h h2]; frame_out; rw [add8, zero8])
    (fun u h j => by rw [outsAt0_B m c u h h (by omega)]; frame_out; rw [add8]) t ((flush0_8 t).mp hf) j, zero_add]
  exact Finset.sum_congr rfl fun s _ => (shift _ 0 (j 2)).trans (Finset.sum_congr rfl fun r _ => iblk1 m c _ r (j 2))

/-- The gain's gradient after the last block. -/
theorem acc9 (t : Fin cfg0.N) (hf : (cfg0.win 9).flush t = true) (l : Fin 1) (j : Fin 1024) : (outsAt0 m c t.val t.isLt).2.2.2 (ix2 l j)
    = ∑ t : Fin cfg0.N, ∑ r : Fin 512, Norm.gain (xr m c (row t r)) (dr m c (row t r)) (sr m c (entry t)) j := by
  have ht : t.val + 1 = cfg0.N := by
    have := (flush0_9 t).mp hf; have e : cfg0.N = 16 := N_0; have := t.isLt; omega
  rw [Pipeline.eq_sum_fin_of_reset_step_apply_last (fun n h => (outsAt0 m c n h).2.2.2) 16 (fun _ => 0)
    (fun u j => k0_pay11 (F := Ideal) (iblk m c 0 u) (iblk m c 1 u) (iblk m c 3 u) j)
    (fun u h j => by rw [outsAt0_A m c u (by omega) (by omega) h]; frame_out; rw [add9, zero9])
    (fun u h j => by
      by_cases h0 : u.val % 4 = 0
      · rw [outsAt0_C m c u h0 h0 h]; frame_out; rw [add9]
      · rw [outsAt0_B m c u h0 h0 h]; frame_out; rw [add9])
    (le_of_eq N_0) t ht (ix2 l j), zero_add]
  simp only [gain, iblk0, iblk1, iblk3]
  rfl

/-- The tiles' array after the run. -/
theorem final6 : (dats m 0 c).arrAt 6 cfg0.N = Norm.grads (m ((c : Thread nD τ).loc main_arg0)) (m ((c : Thread nD τ).loc main_arg1))
    (m ((c : Thread nD τ).loc main_arg2)) (m ((c : Thread nD τ).loc main_arg3)) (m ((c : Thread nD τ).loc main_arg4)) 1024 (by decide) := by
  refine (dats m 0 c).arrAt_eq_of_cover 6 _ (fun t _ => ?_) (fun i => ?_)
  · rw [Value.flushed6]
    funext y
    have e6 := (idx t).2.2.2.2.2.1
    let r : Fin 512 := ⟨(y 0).val, (y 0).isLt⟩
    let j : Fin 1024 := ⟨(y 1).val, (y 1).isLt⟩
    have hx : ((cfg0.win 6).xinj (grid0.coords t) y : S512x1024.Idx) = ix2 r j := by
      funext a
      match a with
      | ⟨0, _⟩ => rfl
      | ⟨1, _⟩ => rfl
    have hy : (((cfg0.win 6).blk t).view.emb y : S8192x1024.Idx) = ix2 (row t r) j := by
      funext a
      match a with
      | ⟨0, _⟩ =>
        refine Fin.ext ?_
        show win0_6.index t 0 * 512 + 1 * (y 0).val = t.val * 512 + (y 0).val
        rw [congrFun e6 0]; show t.val * 512 + 1 * (y 0).val = _; omega
      | ⟨1, _⟩ =>
        refine Fin.ext ?_
        show win0_6.index t 1 * 1024 + 1 * (y 1).val = (y 1).val
        rw [congrFun e6 1]; show 0 * 1024 + 1 * (y 1).val = _; omega
    show (outsAt0 m c t.val t.isLt).1 ((cfg0.win 6).xinj (grid0.coords t) y) = Norm.grads _ _ _ _ _ _ _ (((cfg0.win 6).blk t).view.emb y)
    rw [hx, hy, tile]
    have he : entry t = Norm.entry (row t r) := Fin.ext (by
      have := r.isLt
      show t.val / 4 = (t.val * 512 + r.val) / 2048
      omega)
    rw [he]; rfl
  · have h0 : (i 0).val < 8192 := (i 0).isLt
    have h1 : (i 1).val < 1024 := (i 1).isLt
    have hN : cfg0.N = 16 := N_0
    have ht : (i 0).val / 512 < cfg0.N := by rw [hN]; omega
    refine ⟨⟨_, ht⟩, flush0_6 _, ?_⟩
    show i ∈ ((View.whole main_v0_0).slice (win0_6.rect ⟨_, ht⟩)).set
    rw [View.set_slice_whole, Rect.mem_set_unit]
    have e := (idx ⟨_, ht⟩).2.2.2.2.2.1
    intro a
    match a with
    | ⟨0, _⟩ =>
      show win0_6.index _ 0 * 512 ≤ (i 0).val ∧ (i 0).val < win0_6.index _ 0 * 512 + 512
      rw [congrFun e 0]
      show (i 0).val / 512 * 512 ≤ _ ∧ _ < (i 0).val / 512 * 512 + 512
      omega
    | ⟨1, _⟩ =>
      show win0_6.index _ 1 * 1024 ≤ (i 1).val ∧ (i 1).val < win0_6.index _ 1 * 1024 + 1024
      rw [congrFun e 1]
      show 0 * 1024 ≤ _ ∧ _ < 0 * 1024 + 1024
      omega

/-- Row `r` of block `s` of a batch entry's run of blocks. -/
theorem row_pos (t : Fin cfg0.N) (s : Fin 4) (r : Fin 512) (h : 4 * (t.val / 4) + s.val < cfg0.N) (hl : s.val * 512 + r.val < 2048) :
    row ⟨4 * (t.val / 4) + s.val, h⟩ r = Norm.pos (entry t) ⟨s.val * 512 + r.val, hl⟩ := Fin.ext (by
  show (4 * (t.val / 4) + s.val) * 512 + r.val = t.val / 4 * 2048 + (s.val * 512 + r.val)
  omega)

/-- A block of the scale's gradient lies at its batch entry. -/
theorem place7 (t : Fin cfg0.N) (y) : (((cfg0.win 7).blk t).view.emb y : S4x1x1024.Idx) = ix3 (entry t) 0 ⟨(y 2).val, (y 2).isLt⟩ := by
  have e := (idx t).2.2.2.2.2.2.1
  have l0 : (y 0).val < 1 := (y 0).isLt
  have l1 : (y 1).val < 1 := (y 1).isLt
  funext a
  match a with
  | ⟨0, _⟩ =>
    refine Fin.ext ?_
    show win0_7.index t 0 * 1 + 1 * (y 0).val = t.val / 4
    rw [congrFun e 0]; show t.val / 4 * 1 + 1 * (y 0).val = _; omega
  | ⟨1, _⟩ =>
    refine Fin.ext ?_
    show win0_7.index t 1 * 1 + 1 * (y 1).val = 0
    rw [congrFun e 1]; show 0 * 1 + 1 * (y 1).val = _; omega
  | ⟨2, _⟩ =>
    refine Fin.ext ?_
    show win0_7.index t 2 * 1024 + 1 * (y 2).val = (y 2).val
    rw [congrFun e 2]; show 0 * 1024 + 1 * (y 2).val = _; omega

/-- The shift's gradient's blocks lie as the scale's do. -/
theorem place8 (t : Fin cfg0.N) (y) : (((cfg0.win 8).blk t).view.emb y : S4x1x1024.Idx) = ix3 (entry t) 0 ⟨(y 2).val, (y 2).isLt⟩ := place7 t y

/-- Every entry of the scale's gradient lies in a block that is written back. -/
theorem cover7 (i : S4x1x1024.Idx) : ∃ t, (cfg0.win 7).flush t = true ∧ i ∈ ((cfg0.win 7).blk t).view.set := by
  have h0 : (i 0).val < 4 := (i 0).isLt
  have h1 : (i 1).val < 1 := (i 1).isLt
  have h2 : (i 2).val < 1024 := (i 2).isLt
  have ht : 4 * (i 0).val + 3 < cfg0.N := by rw [show cfg0.N = 16 from N_0]; omega
  refine ⟨⟨_, ht⟩, (flush0_7 _).mpr (by show (4 * (i 0).val + 3) % 4 = 3; omega), ?_⟩
  show i ∈ ((View.whole main_v0_1).slice (win0_7.rect ⟨_, ht⟩)).set
  rw [View.set_slice_whole, Rect.mem_set_unit]
  have e := (idx ⟨_, ht⟩).2.2.2.2.2.2.1
  intro a
  match a with
  | ⟨0, _⟩ =>
    show win0_7.index _ 0 * 1 ≤ (i 0).val ∧ (i 0).val < win0_7.index _ 0 * 1 + 1
    rw [congrFun e 0]
    show (4 * (i 0).val + 3) / 4 * 1 ≤ _ ∧ _ < (4 * (i 0).val + 3) / 4 * 1 + 1
    omega
  | ⟨1, _⟩ =>
    show win0_7.index _ 1 * 1 ≤ (i 1).val ∧ (i 1).val < win0_7.index _ 1 * 1 + 1
    rw [congrFun e 1]
    show 0 * 1 ≤ _ ∧ _ < 0 * 1 + 1
    omega
  | ⟨2, _⟩ =>
    show win0_7.index _ 2 * 1024 ≤ (i 2).val ∧ (i 2).val < win0_7.index _ 2 * 1024 + 1024
    rw [congrFun e 2]
    show 0 * 1024 ≤ _ ∧ _ < 0 * 1024 + 1024
    omega

/-- Every entry of the shift's gradient lies in a block that is written back. -/
theorem cover8 (i : S4x1x1024.Idx) : ∃ t, (cfg0.win 8).flush t = true ∧ i ∈ ((cfg0.win 8).blk t).view.set := by
  obtain ⟨t, hf, hi⟩ := cover7 i
  refine ⟨t, (flush0_8 t).mpr ((flush0_7 t).mp hf), ?_⟩
  have h7 : i ∈ ((View.whole main_v0_1).slice (win0_7.rect t)).set := hi
  rw [View.set_slice_whole] at h7
  show i ∈ ((View.whole main_v0_2).slice (win0_8.rect t)).set
  rw [View.set_slice_whole]
  exact h7

/-- The scale's gradient after the run. -/
theorem final7 : (dats m 0 c).arrAt 7 cfg0.N = Norm.scales (m ((c : Thread nD τ).loc main_arg0)) (m ((c : Thread nD τ).loc main_arg1))
    (m ((c : Thread nD τ).loc main_arg4)) := by
  refine (dats m 0 c).arrAt_eq_of_cover 7 _ (fun t hf => ?_) (fun i => ?_)
  · rw [Value.flushed7]
    funext y
    have hx : ((cfg0.win 7).xinj (grid0.coords t) y : S1x1x1024.Idx) 2 = (⟨(y 2).val, (y 2).isLt⟩ : Fin 1024) := rfl
    show (outsAt0 m c t.val t.isLt).2.1 ((cfg0.win 7).xinj (grid0.coords t) y) = Norm.scales _ _ _ (((cfg0.win 7).blk t).view.emb y)
    rw [acc7 m c t hf, hx, place7]
    refine Fin.sum_mul_add_congr fun s r hl => ?_
    rw [row_pos t s r _ hl]; rfl
  · exact cover7 i

/-- The shift's gradient after the run. -/
theorem final8 : (dats m 0 c).arrAt 8 cfg0.N = Norm.shifts (m ((c : Thread nD τ).loc main_arg1)) := by
  refine (dats m 0 c).arrAt_eq_of_cover 8 _ (fun t hf => ?_) (fun i => ?_)
  · rw [Value.flushed8]
    funext y
    have hx : ((cfg0.win 8).xinj (grid0.coords t) y : S1x1x1024.Idx) 2 = (⟨(y 2).val, (y 2).isLt⟩ : Fin 1024) := rfl
    show (outsAt0 m c t.val t.isLt).2.2.1 ((cfg0.win 8).xinj (grid0.coords t) y) = Norm.shifts _ (((cfg0.win 8).blk t).view.emb y)
    rw [acc8 m c t hf, hx, place8]
    refine Fin.sum_mul_add_congr fun s r hl => ?_
    rw [row_pos t s r _ hl]; rfl
  · exact cover8 i

/-- The gain's gradient after the run. -/
theorem final9 : (dats m 0 c).arrAt 9 cfg0.N = Norm.gains (m ((c : Thread nD τ).loc main_arg0)) (m ((c : Thread nD τ).loc main_arg1))
    (m ((c : Thread nD τ).loc main_arg3)) 1024 (by decide) := by
  refine (dats m 0 c).arrAt_eq_of_cover 9 _ (fun t hf => ?_) (fun i => ?_)
  · rw [Value.flushed9]
    funext y
    have e := (idx t).2.2.2.2.2.2.2.2
    let l : Fin 1 := ⟨(y 0).val, (y 0).isLt⟩
    let j : Fin 1024 := ⟨(y 1).val, (y 1).isLt⟩
    have hx : ((cfg0.win 9).xinj (grid0.coords t) y : S1x1024.Idx) = ix2 l j := by
      funext a
      match a with
      | ⟨0, _⟩ => rfl
      | ⟨1, _⟩ => rfl
    have hy : (((cfg0.win 9).blk t).view.emb y : S1x1024.Idx) = ix2 l j := by
      funext a
      match a with
      | ⟨0, _⟩ =>
        refine Fin.ext ?_
        show win0_9.index t 0 * 1 + 1 * (y 0).val = (y 0).val
        rw [congrFun e 0]; show 0 * 1 + 1 * (y 0).val = _; omega
      | ⟨1, _⟩ =>
        refine Fin.ext ?_
        show win0_9.index t 1 * 1024 + 1 * (y 1).val = (y 1).val
        rw [congrFun e 1]; show 0 * 1024 + 1 * (y 1).val = _; omega
    show (outsAt0 m c t.val t.isLt).2.2.2 ((cfg0.win 9).xinj (grid0.coords t) y) = Norm.gains _ _ _ _ _ (((cfg0.win 9).blk t).view.emb y)
    rw [hx, hy, acc9 m c t hf]
    refine Fin.sum_points_lanes_congr 4 (fun t r ha hl => ?_) N_0 rfl
    have h : row t r = Norm.pos ⟨t.val / 4, ha⟩ ⟨t.val % 4 * 512 + r.val, hl⟩ := Fin.ext (by
      show t.val * 512 + r.val = t.val / 4 * 2048 + (t.val % 4 * 512 + r.val)
      omega)
    rw [h]; rfl
  · have h0 : (i 0).val < 1 := (i 0).isLt
    have h1 : (i 1).val < 1024 := (i 1).isLt
    have ht : 15 < cfg0.N := by rw [show cfg0.N = 16 from N_0]; omega
    refine ⟨⟨15, ht⟩, (flush0_9 _).mpr rfl, ?_⟩
    show i ∈ ((View.whole main_v0_3).slice (win0_9.rect ⟨_, ht⟩)).set
    rw [View.set_slice_whole, Rect.mem_set_unit]
    have e := (idx ⟨_, ht⟩).2.2.2.2.2.2.2.2
    intro a
    match a with
    | ⟨0, _⟩ =>
      show win0_9.index _ 0 * 1 ≤ (i 0).val ∧ (i 0).val < win0_9.index _ 0 * 1 + 1
      rw [congrFun e 0]
      show 0 * 1 ≤ _ ∧ _ < 0 * 1 + 1
      omega
    | ⟨1, _⟩ =>
      show win0_9.index _ 1 * 1024 ≤ (i 1).val ∧ (i 1).val < win0_9.index _ 1 * 1024 + 1024
      rw [congrFun e 1]
      show 0 * 1024 ≤ _ ∧ _ < 0 * 1024 + 1024
      omega

end Blocks

/-- On the same arguments the kernel and the reference end with the same four gradients. -/
theorem algebraic : algebraic_Kernel31Ideal_Reference31Ideal := by
  intro m g m' g' _ hm
  refine ⟨fun c => Norm.grads (m ((c : Thread nD τ).loc main_arg0)) (m ((c : Thread nD τ).loc main_arg1))
      (m ((c : Thread nD τ).loc main_arg2)) (m ((c : Thread nD τ).loc main_arg3)) (m ((c : Thread nD τ).loc main_arg4)) 1024 (by decide),
    fun c => Norm.scales (m ((c : Thread nD τ).loc main_arg0)) (m ((c : Thread nD τ).loc main_arg1)) (m ((c : Thread nD τ).loc main_arg4)),
    fun c => Norm.shifts (m ((c : Thread nD τ).loc main_arg1)),
    fun c => Norm.gains (m ((c : Thread nD τ).loc main_arg0)) (m ((c : Thread nD τ).loc main_arg1)) (m ((c : Thread nD τ).loc main_arg3)) 1024 (by decide),
    ?_, ?_⟩
  · refine (θ_run defs _ _).mono (fun r h c => ?_) (Value.run_blocks m g)
    obtain ⟨h6, h7, h8, h9, h⟩ := h c
    exact ⟨h6.trans (final6 m c), h7.trans (final7 m c), h8.trans (final8 m c), h9.trans (final9 m c), h⟩
  · refine (θ_run Reference31Ideal.defs _ _).mono (fun r h c => ?_) (Reference31Ideal.Value.run m' g')
    obtain ⟨e0, e1, e2, e3, e4⟩ := hm c
    obtain ⟨h6, h7, h8, h9, h⟩ := h c
    refine ⟨h6.trans ((Ref.grads (m' ((c : Thread nD τ).loc Reference31Ideal.main_arg0)) (m' ((c : Thread nD τ).loc Reference31Ideal.main_arg1)) (m' ((c : Thread nD τ).loc Reference31Ideal.main_arg2)) (m' ((c : Thread nD τ).loc Reference31Ideal.main_arg3)) (m' ((c : Thread nD τ).loc Reference31Ideal.main_arg4)) 1024 (by decide) _).trans ?_), h7.trans ((Ref.scales (m' ((c : Thread nD τ).loc Reference31Ideal.main_arg0)) (m' ((c : Thread nD τ).loc Reference31Ideal.main_arg1)) (m' ((c : Thread nD τ).loc Reference31Ideal.main_arg4))).trans ?_),
      h8.trans ((Ref.shifts (m' ((c : Thread nD τ).loc Reference31Ideal.main_arg1))).trans ?_), h9.trans ((Ref.gains (m' ((c : Thread nD τ).loc Reference31Ideal.main_arg0)) (m' ((c : Thread nD τ).loc Reference31Ideal.main_arg1)) (m' ((c : Thread nD τ).loc Reference31Ideal.main_arg3)) 1024 (by decide) _).trans ?_), h⟩ <;>
    simp only [e0, e1, e2, e3, e4]

end Cert.Row.Norm1

end
-- ==== Proof.Row.Norm2Ref.lean ====
/- The reference of the second norm's gradients, entry by entry. -/
module

public import proofs.«01_k».proof.Defs
public import proofs.«01_k».proof.Proof.Gen.Reference32Ideal.Run
public import proofs.«01_k».proof.Proof.Row.Norm1Ref

@[expose] public section

set_option maxRecDepth 16384

noncomputable section

namespace Cert.Row.Norm2.Ref

open Cert.Reference32Ideal Cert.Reference32Ideal.Gen
open Idealize.ShloMosaic Idealize.ShloMosaic.TcCoe
open Idealize.SL.Sem
open Cert.Row.Norm1.Ref (deep scaled wide back part deep_apply deep_row flat_apply scaled_apply wide_apply back_apply part_apply)
open scoped BigOperators

variable (x d e y : FVec Ideal S8192x1024 .f32) (s : FVec Ideal S4x1x6144 .f32) (g : FVec Ideal S1x1024 .f32)
variable (hs : S4x1x6144.Slices ![0, 0, 4096] S4x1x1024) (ht : S4x1x6144.Slices ![0, 0, 2048] S4x1x1024)

/-- The gradient of the residual's sum, by batch entry. -/
def sums : FVec Ideal S4x2048x1024 .f32 := addf (deep e) (back (deep x) (mulf (scaled d s 4096 hs) (wide (shapeCast _ g shapeCasts_S1x1024_S1024))))

/-- The gradient of the residual's sum is that of the norm's input, added to the other cotangent. -/
theorem sums_apply (b : Fin 4) (l : Fin 2048) (j : Fin 1024) :
    sums x d e s g hs (ix3 b l j) = Norm.grads x d e s g 4096 (by decide) (ix2 (Norm.pos b l) j) := by
  refine congrArg₂ (· + ·) (deep_apply e b l j) ((back_apply (deep x) _ b l j).trans ?_)
  rw [deep_row]
  refine congrArg (fun u => Norm.back _ u j) (funext fun k => ?_)
  refine congrArg₂ (· * ·) ((scaled_apply d s 4096 (by decide) hs b l k).trans ?_) ((wide_apply b l k _).trans (flat_apply g k))
  show _ = Norm.scaled _ (Norm.band s 4096 _ (Norm.entry (Norm.pos b l))) k
  rw [Norm.entry_pos]; rfl

/-- Rows by batch entry, laid out one after the other. -/
theorem flat (v : FVec Ideal S4x2048x1024 .f32) (p : Fin 8192) (j : Fin 1024) :
    shapeCast S8192x1024 v shapeCasts_S4x2048x1024_S8192x1024 (ix2 p j)
      = v (ix3 (Norm.entry p) ⟨p.val % 2048, Nat.mod_lt _ (by decide)⟩ j) := by
  pointwise
  rfl

/-- The reference's gradient of the residual's sum. -/
theorem grads : (shapeCast S8192x1024 (sums x d e s g hs) shapeCasts_S4x2048x1024_S8192x1024 : FVec Ideal S8192x1024 .f32)
    = Norm.grads x d e s g 4096 (by decide) := by
  funext i
  obtain ⟨p, j, rfl⟩ : ∃ (p : Fin 8192) (j : Fin 1024), i = ix2 p j := ⟨i 0, i 1, eq_ix2 i⟩
  refine (flat _ p j).trans ((sums_apply x d e s g hs _ _ j).trans ?_)
  rw [Norm.pos_entry]

/-- The gate that starts at column `o`, for every row. -/
def gate (o : ℕ) (ho : S4x1x6144.Slices ![0, 0, o] S4x1x1024) : FVec Ideal S4x2048x1024 .f32 :=
  broadcastInDim S4x2048x1024 ![0, 1, 2] bcast_S4x1x1024_S4x2048x1024_0_1_2 (part s o ho)

theorem gate_apply (o : ℕ) (h : o + 1024 ≤ 6144) (ho : S4x1x6144.Slices ![0, 0, o] S4x1x1024) (b : Fin 4) (l : Fin 2048) (j : Fin 1024) :
    gate s o ho (ix3 b l j) = Norm.band s o h b j := by
  pointwise [gate]
  rw [part_apply]

/-- The reference's gradient of the gated rows. -/
theorem gated : (truncf .bf16 (shapeCast S8192x1024 (mulf (gate s 2048 ht) (sums x d e s g hs)) shapeCasts_S4x2048x1024_S8192x1024) bitsLt_bf16_f32 : FVec Ideal S8192x1024 .bf16)
    = Norm.gated s 2048 (by decide) (Norm.grads x d e s g 4096 (by decide)) := by
  funext i
  obtain ⟨p, j, rfl⟩ : ∃ (p : Fin 8192) (j : Fin 1024), i = ix2 p j := ⟨i 0, i 1, eq_ix2 i⟩
  refine (flat (mulf (gate s 2048 ht) (sums x d e s g hs)) p j).trans ((congrArg₂ (· * ·) (gate_apply s 2048 (by decide) ht _ _ j)
    (sums_apply x d e s g hs _ _ j)).trans ((mul_comm _ _).trans ?_))
  rw [Norm.pos_entry]; rfl

/-- The reference's gradient of the gate. -/
theorem gates : (shapeCast S4x1x1024 (Host.reduceAdd (mulf (sums x d e s g hs) (deep y)) (constant S_ .f32 0x00000000#32) reducesTo_S4x2048x1024_S4x1024_d1 h_S_) shapeCasts_S4x1024_S4x1x1024 : FVec Ideal S4x1x1024 .f32)
    = Norm.gates y (Norm.grads x d e s g 4096 (by decide)) := by
  funext i
  obtain ⟨b, z, j, rfl⟩ : ∃ (b : Fin 4) (z : Fin 1) (j : Fin 1024), i = ix3 b z j := ⟨i 0, i 1, i 2, eq_ix3 i⟩
  pointwise
  simp only [sums_apply, deep_apply]; rfl

end Cert.Row.Norm2.Ref

end
-- ==== Proof.Row.Norm2.lean ====
/- The gradients of the second norm, its modulation and the gated residual before it. -/
module

public import proofs.«01_k».proof.Defs
public import proofs.«01_k».proof.Proof.Gen.Kernel32Ideal.Value
public import proofs.«01_k».proof.Proof.Row.Norm1
public import proofs.«01_k».proof.Proof.Row.Norm2Ref

@[expose] public section

set_option maxRecDepth 16384

noncomputable section

namespace Cert.Row.Norm2

open Cert.Kernel32Ideal Cert.Kernel32Ideal.Gen
open Idealize.ShloMosaic Idealize.ShloMosaic.TcCoe
open Idealize.SL.Sem
open scoped BigOperators

section Payloads
variable (x d e y : FVec Ideal S512x1024 .f32) (q s : FVec Ideal S1x1x1024 .f32) (g : FVec Ideal S1x1024 .f32)

/-- A tile of the gradient of the residual's sum. -/
def tiled : FVec Ideal S512x1024 .f32 := k0_pay18 x e g (k0_pay9 x) (k0_pay10 x) (k0_pay15 d s)

/-- The tile's rows. -/
theorem tiled_apply (r : Fin 512) (j : Fin 1024) : tiled x d e s g (ix2 r j)
    = e (ix2 r j) + Norm.grad (fun k => x (ix2 r k)) (fun k => d (ix2 r k)) (fun k => s (ix3 0 0 k)) (fun k => g (ix2 0 k)) j :=
  Norm1.grad x d s g e r j

/-- The tile times the gate. -/
theorem gated (r : Fin 512) (j : Fin 1024) :
    k0_pay19 (F := Ideal) x e (k0_pay7 q) g (k0_pay9 x) (k0_pay10 x) (k0_pay15 d s) (ix2 r j)
      = tiled x d e s g (ix2 r j) * q (ix3 0 0 j) := by
  pointwise [k0_pay19, k0_pay7]
  rfl

/-- The gate's gradient adds the tile's terms. -/
theorem gate (v : FVec Ideal S1x1x1024 .f32) (j : S1x1x1024.Idx) :
    k0_pay21 (F := Ideal) x e y g (k0_pay9 x) (k0_pay10 x) (k0_pay15 d s) v j
      = v j + ∑ r : Fin 512, tiled x d e s g (ix2 r (j 2)) * y (ix2 r (j 2)) := by
  obtain ⟨i, l, k, rfl⟩ : ∃ (i : Fin 1) (l : Fin 1) (k : Fin 1024), j = ix3 i l k := ⟨j 0, j 1, j 2, eq_ix3 j⟩
  obtain rfl : i = 0 := Subsingleton.elim _ _
  obtain rfl : l = 0 := Subsingleton.elim _ _
  pointwise [k0_pay21]
  rfl

/-- The scale's gradient sums the rows' terms. -/
theorem scale (l : Fin 1) (j : Fin 1024) : k0_pay14 (F := Ideal) x d g (ix2 l j)
    = ∑ r : Fin 512, Norm.scale (fun k => x (ix2 r k)) (fun k => d (ix2 r k)) (fun k => g (ix2 0 k)) j := Norm1.scale x d g l j

/-- The shift's gradient sums the rows. -/
theorem shift (l : Fin 1) (j : Fin 1024) : k0_pay13 (F := Ideal) d (ix2 l j) = ∑ r : Fin 512, d (ix2 r j) := Norm1.shift d l j

/-- The gain's gradient sums the rows' terms. -/
theorem gain (l : Fin 1) (j : Fin 1024) : k0_pay17 (F := Ideal) (k0_pay16 x d s) (ix2 l j)
    = ∑ r : Fin 512, Norm.gain (fun k => x (ix2 r k)) (fun k => d (ix2 r k)) (fun k => s (ix3 0 0 k)) j := Norm1.gain x d s l j

theorem add11 (a : FVec Ideal S1x1024 .f32) (v : FVec Ideal S1x1x1024 .f32) (j : S1x1x1024.Idx) :
    k0_pay2 (F := Ideal) a v j = v j + a (ix2 0 (j 2)) := Norm1.add7 a v j
theorem add12 (a : FVec Ideal S1x1024 .f32) (v : FVec Ideal S1x1x1024 .f32) (j : S1x1x1024.Idx) :
    k0_pay4 (F := Ideal) a v j = v j + a (ix2 0 (j 2)) := Norm1.add7 a v j
theorem add13 (a v : FVec Ideal S1x1024 .f32) (j : S1x1024.Idx) : k0_pay6 (F := Ideal) a v j = v j + a j := Norm1.add9 a v j
theorem zero10 (j : S1x1x1024.Idx) : k0_pay20 (F := Ideal) j = 0 := Ideal.ofBits_zero_f32
theorem zero11 (j : S1x1x1024.Idx) : k0_pay1 (F := Ideal) j = 0 := Ideal.ofBits_zero_f32
theorem zero12 (j : S1x1x1024.Idx) : k0_pay3 (F := Ideal) j = 0 := Ideal.ofBits_zero_f32
theorem zero13 (j : S1x1024.Idx) : k0_pay5 (F := Ideal) j = 0 := Ideal.ofBits_zero_f32

end Payloads

section Blocks
variable (m : (ℓ : Loc nD τ sig) → Buf (Elt Ideal) ℓ) (c : Dev nD)

/-- Which rows grid point `t` reads and writes. -/
theorem idx : ∀ t : Fin cfg0.N, win0_0.index t = ![t.val, 0] ∧ win0_1.index t = ![t.val, 0] ∧ win0_2.index t = ![t.val, 0]
    ∧ win0_3.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_8.index t = ![t.val, 0] ∧ win0_9.index t = ![t.val, 0])

/-- Which batch entry grid point `t` reads and writes. -/
theorem ent : ∀ t : Fin cfg0.N, win0_4.index t = ![t.val / 4, 0, 2] ∧ win0_5.index t = ![t.val / 4, 0, 4] ∧ win0_7.index t = ![0, 0]
    ∧ win0_10.index t = ![t.val / 4, 0, 0] ∧ win0_13.index t = ![0, 0] :=
  (by decide +kernel : ∀ t : Fin grid0.N, win0_4.index t = ![t.val / 4, 0, 2] ∧ win0_5.index t = ![t.val / 4, 0, 4] ∧ win0_7.index t = ![0, 0]
    ∧ win0_10.index t = ![t.val / 4, 0, 0] ∧ win0_13.index t = ![0, 0])

/-- Row `r` of block `t` among all the rows. -/
def row (t : Fin cfg0.N) (r : Fin 512) : Fin 8192 :=
  ⟨t.val * 512 + r.val, by have := t.isLt; have e : cfg0.N = 16 := N_0; have := r.isLt; omega⟩

/-- The batch entry of block `t`. -/
def entry (t : Fin cfg0.N) : Fin 4 := ⟨t.val / 4, by have := t.isLt; have e : cfg0.N = 16 := N_0; omega⟩

/-- A block's batch entry is its rows'. -/
theorem entry_row (t : Fin cfg0.N) (r : Fin 512) : Norm.entry (row t r) = entry t := Fin.ext (by
  have := r.isLt
  show (t.val * 512 + r.val) / 2048 = t.val / 4
  omega)

theorem iblk0 (t : Fin cfg0.N) (r : Fin 512) (k : Fin 1024) :
    iblk m c 0 t (ix2 r k) = m ((c : Thread nD τ).loc main_arg0) (ix2 (row t r) k) := by
  have e := (idx t).1
  blk_ext [iblk, V, e, row]

theorem iblk1 (t : Fin cfg0.N) (r : Fin 512) (k : Fin 1024) :
    iblk m c 1 t (ix2 r k) = m ((c : Thread nD τ).loc main_arg1) (ix2 (row t r) k) := by
  have e := (idx t).2.1
  blk_ext [iblk, V, e, row]

theorem iblk2 (t : Fin cfg0.N) (r : Fin 512) (k : Fin 1024) :
    iblk m c 2 t (ix2 r k) = m ((c : Thread nD τ).loc main_arg2) (ix2 (row t r) k) := by
  have e := (idx t).2.2.1
  blk_ext [iblk, V, e, row]

theorem iblk3 (t : Fin cfg0.N) (r : Fin 512) (k : Fin 1024) :
    iblk m c 3 t (ix2 r k) = m ((c : Thread nD τ).loc main_arg3) (ix2 (row t r) k) := by
  have e := (idx t).2.2.2.1
  blk_ext [iblk, V, e, row]

theorem iblk4 (t : Fin cfg0.N) (k : Fin 1024) :
    iblk m c 4 t (ix3 0 0 k) = m ((c : Thread nD τ).loc main_arg4) (ix3 (entry t) 0 ⟨2048 + k.val, by omega⟩) := by
  have e := (ent t).1
  blk_ext [iblk, V, e, entry]

theorem iblk5 (t : Fin cfg0.N) (k : Fin 1024) :
    iblk m c 5 t (ix3 0 0 k) = m ((c : Thread nD τ).loc main_arg4) (ix3 (entry t) 0 ⟨4096 + k.val, by omega⟩) := by
  have e := (ent t).2.1
  blk_ext [iblk, V, e, entry]

theorem iblk7 (t : Fin cfg0.N) (k : Fin 1024) :
    iblk m c 7 t (ix2 0 k) = m ((c : Thread nD τ).loc main_arg5) (ix2 0 k) := by
  have e := (ent t).2.2.1
  blk_ext [iblk, V, e]

/-- The residual's sum, the modulated norm's cotangent, the sum's own cotangent and the gated rows, by row. -/
def xr (p : Fin 8192) (k : Fin 1024) : EReal := m ((c : Thread nD τ).loc main_arg0) (ix2 p k)
def dr (p : Fin 8192) (k : Fin 1024) : EReal := m ((c : Thread nD τ).loc main_arg1) (ix2 p k)
def er (p : Fin 8192) (k : Fin 1024) : EReal := m ((c : Thread nD τ).loc main_arg2) (ix2 p k)
def yr (p : Fin 8192) (k : Fin 1024) : EReal := m ((c : Thread nD τ).loc main_arg3) (ix2 p k)

/-- The gate and the scale, by batch entry, and the gain. -/
def qr (b : Fin 4) (k : Fin 1024) : EReal := m ((c : Thread nD τ).loc main_arg4) (ix3 b 0 ⟨2048 + k.val, by omega⟩)
def sr (b : Fin 4) (k : Fin 1024) : EReal := m ((c : Thread nD τ).loc main_arg4) (ix3 b 0 ⟨4096 + k.val, by omega⟩)
def gr (k : Fin 1024) : EReal := m ((c : Thread nD τ).loc main_arg5) (ix2 0 k)

/-- The gradient of the residual's sum. -/
def grads : FVec Ideal S8192x1024 .f32 := Norm.grads (m ((c : Thread nD τ).loc main_arg0)) (m ((c : Thread nD τ).loc main_arg1))
    (m ((c : Thread nD τ).loc main_arg2)) (m ((c : Thread nD τ).loc main_arg4)) (m ((c : Thread nD τ).loc main_arg5)) 4096 (by decide)

/-- The gradient's tile at grid point `t`. -/
theorem tile (t : Fin cfg0.N) (r : Fin 512) (j : Fin 1024) :
    tiled (iblk m c 0 t) (iblk m c 1 t) (iblk m c 2 t) (iblk m c 5 t) (iblk m c 7 t) (ix2 r j) = grads m c (ix2 (row t r) j) := by
  rw [tiled_apply]
  simp only [iblk0, iblk1, iblk2, iblk5, iblk7]
  show er m c (row t r) j + Norm.grad (xr m c (row t r)) (dr m c (row t r)) (sr m c (entry t)) (gr m c) j = _
  rw [← entry_row t r]; rfl

/-- What grid point `t` leaves of the gradient. -/
theorem out8 (t : Fin cfg0.N) : (outsAt0 m c t.val t.isLt).1
    = tiled (iblk m c 0 t) (iblk m c 1 t) (iblk m c 2 t) (iblk m c 5 t) (iblk m c 7 t) := by
  by_cases h0 : t.val % 4 = 0
  · by_cases h2 : t.val % 16 = 0
    · rw [outsAt0_A m c t h0 h0 h0 h2]; frame_out; rfl
    · rw [outsAt0_C m c t h0 h0 h0 h2]; frame_out; rfl
  · rw [outsAt0_B m c t h0 h0 h0 (by omega)]; frame_out; rfl

/-- What grid point `t` leaves of the gated gradient. -/
theorem out9 (t : Fin cfg0.N) (r : Fin 512) (j : Fin 1024) : (outsAt0 m c t.val t.isLt).2.1 (ix2 r j)
    = grads m c (ix2 (row t r) j) * qr m c (entry t) j := by
  have h : (outsAt0 m c t.val t.isLt).2.1 = k0_pay19 (F := Ideal) (iblk m c 0 t) (iblk m c 2 t) (k0_pay7 (iblk m c 4 t)) (iblk m c 7 t)
      (k0_pay9 (iblk m c 0 t)) (k0_pay10 (iblk m c 0 t)) (k0_pay15 (iblk m c 1 t) (iblk m c 5 t)) := by
    by_cases h0 : t.val % 4 = 0
    · by_cases h2 : t.val % 16 = 0
      · rw [outsAt0_A m c t h0 h0 h0 h2]; frame_out
      · rw [outsAt0_C m c t h0 h0 h0 h2]; frame_out
    · rw [outsAt0_B m c t h0 h0 h0 (by omega)]; frame_out
  rw [h, gated, tile, iblk4]
  rfl

/-- The gate's gradient after the last block of a batch entry. -/
theorem acc10 (t : Fin cfg0.N) (hf : (cfg0.win 10).flush t = true) (j : S1x1x1024.Idx) : (outsAt0 m c t.val t.isLt).2.2.1 j
    = ∑ s : Fin 4, ∑ r : Fin 512, grads m c (ix2 (row ⟨4 * (t.val / 4) + s.val, Pipeline.run_point_lt_of_flush t ((flush0_10 t).mp hf) s⟩ r) (j 2)) * yr m c (row ⟨4 * (t.val / 4) + s.val, Pipeline.run_point_lt_of_flush t ((flush0_10 t).mp hf) s⟩ r) (j 2) := by
  rw [Pipeline.eq_sum_fin_of_reset_step_apply_of_flush (fun n h => (outsAt0 m c n h).2.2.1) 4 (fun _ => 0)
    (fun u j => ∑ r : Fin 512, tiled (iblk m c 0 u) (iblk m c 1 u) (iblk m c 2 u) (iblk m c 5 u) (iblk m c 7 u) (ix2 r (j 2)) * iblk m c 3 u (ix2 r (j 2)))
    (fun u h j => by
      by_cases h2 : u.val % 16 = 0
      · rw [outsAt0_A m c u h h h h2]; frame_out; rw [gate, zero10]
      · rw [outsAt0_C m c u h h h h2]; frame_out; rw [gate, zero10])
    (fun u h j => by rw [outsAt0_B m c u h h h (by omega)]; frame_out; rw [gate]) t ((flush0_10 t).mp hf) j, zero_add]
  exact Finset.sum_congr rfl fun s _ => Finset.sum_congr rfl fun r _ => congrArg₂ (· * ·) (tile m c _ r (j 2)) (iblk3 m c _ r (j 2))

/-- The scale's gradient after the last block of a batch entry. -/
theorem acc11 (t : Fin cfg0.N) (hf : (cfg0.win 11).flush t = true) (j : S1x1x1024.Idx) : (outsAt0 m c t.val t.isLt).2.2.2.1 j
    = ∑ s : Fin 4, ∑ r : Fin 512, Norm.scale (xr m c (row ⟨4 * (t.val / 4) + s.val, Pipeline.run_point_lt_of_flush t ((flush0_11 t).mp hf) s⟩ r)) (dr m c (row ⟨4 * (t.val / 4) + s.val, Pipeline.run_point_lt_of_flush t ((flush0_11 t).mp hf) s⟩ r)) (gr m c) (j 2) := by
  rw [Pipeline.eq_sum_fin_of_reset_step_apply_of_flush (fun n h => (outsAt0 m c n h).2.2.2.1) 4 (fun _ => 0)
    (fun u j => k0_pay14 (F := Ideal) (iblk m c 0 u) (iblk m c 1 u) (iblk m c 7 u) (ix2 0 (j 2)))
    (fun u h j => by
      by_cases h2 : u.val % 16 = 0
      · rw [outsAt0_A m c u h h h h2]; frame_out; rw [add11, zero11]
      · rw [outsAt0_C m c u h h h h2]; frame_out; rw [add11, zero11])
    (fun u h j => by rw [outsAt0_B m c u h h h (by omega)]; frame_out; rw [add11]) t ((flush0_11 t).mp hf) j, zero_add]
  refine Finset.sum_congr rfl fun s _ => (scale _ _ _ 0 (j 2)).trans ?_
  simp only [iblk0, iblk1, iblk7]
  rfl

/-- The shift's gradient after the last block of a batch entry. -/
theorem acc12 (t : Fin cfg0.N) (hf : (cfg0.win 12).flush t = true) (j : S1x1x1024.Idx) : (outsAt0 m c t.val t.isLt).2.2.2.2.1 j
    = ∑ s : Fin 4, ∑ r : Fin 512, dr m c (row ⟨4 * (t.val / 4) + s.val, Pipeline.run_point_lt_of_flush t ((flush0_12 t).mp hf) s⟩ r) (j 2) := by
  rw [Pipeline.eq_sum_fin_of_reset_step_apply_of_flush (fun n h => (outsAt0 m c n h).2.2.2.2.1) 4 (fun _ => 0)
    (fun u j => k0_pay13 (F := Ideal) (iblk m c 1 u) (ix2 0 (j 2)))
    (fun u h j => by
      by_cases h2 : u.val % 16 = 0
      · rw [outsAt0_A m c u h h h h2]; frame_out; rw [add12, zero12]
      · rw [outsAt0_C m c u h h h h2]; frame_out; rw [add12, zero12])
    (fun u h j => by rw [outsAt0_B m c u h h h (by omega)]; frame_out; rw [add12]) t ((flush0_12 t).mp hf) j, zero_add]
  exact Finset.sum_congr rfl fun s _ => (shift _ 0 (j 2)).trans (Finset.sum_congr rfl fun r _ => iblk1 m c _ r (j 2))

/-- The gain's gradient after the last block. -/
theorem acc13 (t : Fin cfg0.N) (hf : (cfg0.win 13).flush t = true) (l : Fin 1) (j : Fin 1024) : (outsAt0 m c t.val t.isLt).2.2.2.2.2 (ix2 l j)
    = ∑ t : Fin cfg0.N, ∑ r : Fin 512, Norm.gain (xr m c (row t r)) (dr m c (row t r)) (sr m c (entry t)) j := by
  have ht : t.val + 1 = cfg0.N := by
    have := (flush0_13 t).mp hf; have e : cfg0.N = 16 := N_0; have := t.isLt; omega
  rw [Pipeline.eq_sum_fin_of_reset_step_apply_last (fun n h => (outsAt0 m c n h).2.2.2.2.2) 16 (fun _ => 0)
    (fun u j => k0_pay17 (F := Ideal) (k0_pay16 (iblk m c 0 u) (iblk m c 1 u) (iblk m c 5 u)) j)
    (fun u h j => by rw [outsAt0_A m c u (by omega) (by omega) (by omega) h]; frame_out; rw [add13, zero13])
    (fun u h j => by
      by_cases h0 : u.val % 4 = 0
      · rw [outsAt0_C m c u h0 h0 h0 h]; frame_out; rw [add13]
      · rw [outsAt0_B m c u h0 h0 h0 h]; frame_out; rw [add13])
    (le_of_eq N_0) t ht (ix2 l j), zero_add]
  simp only [gain, iblk0, iblk1, iblk5]
  rfl

/-- A block of the gradient lies at its rows. -/
theorem place8 (t : Fin cfg0.N) (y) : (((cfg0.win 8).blk t).view.emb y : S8192x1024.Idx)
    = ix2 (row t ⟨(y 0).val, (y 0).isLt⟩) ⟨(y 1).val, (y 1).isLt⟩ := by
  have e := (idx t).2.2.2.2.1
  funext a
  match a with
  | ⟨0, _⟩ =>
    refine Fin.ext ?_
    show win0_8.index t 0 * 512 + 1 * (y 0).val = t.val * 512 + (y 0).val
    rw [congrFun e 0]; show t.val * 512 + 1 * (y 0).val = _; omega
  | ⟨1, _⟩ =>
    refine Fin.ext ?_
    show win0_8.index t 1 * 1024 + 1 * (y 1).val = (y 1).val
    rw [congrFun e 1]; show 0 * 1024 + 1 * (y 1).val = _; omega

/-- Every entry of the gradient lies in a block that is written back. -/
theorem cover8 (i : S8192x1024.Idx) : ∃ t, (cfg0.win 8).flush t = true ∧ i ∈ ((cfg0.win 8).blk t).view.set := by
  have h0 : (i 0).val < 8192 := (i 0).isLt
  have h1 : (i 1).val < 1024 := (i 1).isLt
  have hN : cfg0.N = 16 := N_0
  have ht : (i 0).val / 512 < cfg0.N := by rw [hN]; omega
  refine ⟨⟨_, ht⟩, flush0_8 _, ?_⟩
  show i ∈ ((View.whole main_v0_0).slice (win0_8.rect ⟨_, ht⟩)).set
  rw [View.set_slice_whole, Rect.mem_set_unit]
  have e := (idx ⟨_, ht⟩).2.2.2.2.1
  intro a
  match a with
  | ⟨0, _⟩ =>
    show win0_8.index _ 0 * 512 ≤ (i 0).val ∧ (i 0).val < win0_8.index _ 0 * 512 + 512
    rw [congrFun e 0]
    show (i 0).val / 512 * 512 ≤ _ ∧ _ < (i 0).val / 512 * 512 + 512
    omega
  | ⟨1, _⟩ =>
    show win0_8.index _ 1 * 1024 ≤ (i 1).val ∧ (i 1).val < win0_8.index _ 1 * 1024 + 1024
    rw [congrFun e 1]
    show 0 * 1024 ≤ _ ∧ _ < 0 * 1024 + 1024
    omega

/-- The gated gradient's blocks lie as the gradient's do. -/
theorem cover9 (i : S8192x1024.Idx) : ∃ t, (cfg0.win 9).flush t = true ∧ i ∈ ((cfg0.win 9).blk t).view.set := by
  obtain ⟨t, _, hi⟩ := cover8 i
  refine ⟨t, flush0_9 t, ?_⟩
  have h8 : i ∈ ((View.whole main_v0_0).slice (win0_8.rect t)).set := hi
  rw [View.set_slice_whole] at h8
  show i ∈ ((View.whole main_v0_1).slice (win0_9.rect t)).set
  rw [View.set_slice_whole]
  exact h8

/-- The gradient after the run. -/
theorem final8 : (dats m 0 c).arrAt 8 cfg0.N = grads m c := by
  refine (dats m 0 c).arrAt_eq_of_cover 8 _ (fun t _ => ?_) (fun i => cover8 i)
  rw [Value.flushed8]
  funext y
  let r : Fin 512 := ⟨(y 0).val, (y 0).isLt⟩
  let j : Fin 1024 := ⟨(y 1).val, (y 1).isLt⟩
  have hx : ((cfg0.win 8).xinj (grid0.coords t) y : S512x1024.Idx) = ix2 r j := by
    funext a
    match a with
    | ⟨0, _⟩ => rfl
    | ⟨1, _⟩ => rfl
  show (outsAt0 m c t.val t.isLt).1 ((cfg0.win 8).xinj (grid0.coords t) y) = grads m c (((cfg0.win 8).blk t).view.emb y)
  rw [out8, hx, tile, place8]
  rfl

/-- The gated gradient after the run. -/
theorem final9 : (dats m 0 c).arrAt 9 cfg0.N = Norm.gated (m ((c : Thread nD τ).loc main_arg4)) 2048 (by decide) (grads m c) := by
  refine (dats m 0 c).arrAt_eq_of_cover 9 _ (fun t _ => ?_) (fun i => cover9 i)
  rw [Value.flushed9]
  funext y
  let r : Fin 512 := ⟨(y 0).val, (y 0).isLt⟩
  let j : Fin 1024 := ⟨(y 1).val, (y 1).isLt⟩
  have hx : ((cfg0.win 9).xinj (grid0.coords t) y : S512x1024.Idx) = ix2 r j := by
    funext a
    match a with
    | ⟨0, _⟩ => rfl
    | ⟨1, _⟩ => rfl
  have hy : (((cfg0.win 9).blk t).view.emb y : S8192x1024.Idx) = ix2 (row t r) j := place8 t y
  show (outsAt0 m c t.val t.isLt).2.1 ((cfg0.win 9).xinj (grid0.coords t) y) = Norm.gated _ _ _ _ (((cfg0.win 9).blk t).view.emb y)
  rw [hx, hy, out9, ← entry_row]
  rfl

/-- Row `r` of block `s` of a batch entry's run of blocks. -/
theorem row_pos (t : Fin cfg0.N) (s : Fin 4) (r : Fin 512) (h : 4 * (t.val / 4) + s.val < cfg0.N) (hl : s.val * 512 + r.val < 2048) :
    row ⟨4 * (t.val / 4) + s.val, h⟩ r = Norm.pos (entry t) ⟨s.val * 512 + r.val, hl⟩ := Fin.ext (by
  show (4 * (t.val / 4) + s.val) * 512 + r.val = t.val / 4 * 2048 + (s.val * 512 + r.val)
  omega)

/-- A block of the gate's gradient lies at its batch entry. -/
theorem place10 (t : Fin cfg0.N) (y) : (((cfg0.win 10).blk t).view.emb y : S4x1x1024.Idx) = ix3 (entry t) 0 ⟨(y 2).val, (y 2).isLt⟩ := by
  have e := (ent t).2.2.2.1
  have l0 : (y 0).val < 1 := (y 0).isLt
  have l1 : (y 1).val < 1 := (y 1).isLt
  funext a
  match a with
  | ⟨0, _⟩ =>
    refine Fin.ext ?_
    show win0_10.index t 0 * 1 + 1 * (y 0).val = t.val / 4
    rw [congrFun e 0]; show t.val / 4 * 1 + 1 * (y 0).val = _; omega
  | ⟨1, _⟩ =>
    refine Fin.ext ?_
    show win0_10.index t 1 * 1 + 1 * (y 1).val = 0
    rw [congrFun e 1]; show 0 * 1 + 1 * (y 1).val = _; omega
  | ⟨2, _⟩ =>
    refine Fin.ext ?_
    show win0_10.index t 2 * 1024 + 1 * (y 2).val = (y 2).val
    rw [congrFun e 2]; show 0 * 1024 + 1 * (y 2).val = _; omega

/-- Every entry of the gate's gradient lies in a block that is written back. -/
theorem cover10 (i : S4x1x1024.Idx) : ∃ t, (cfg0.win 10).flush t = true ∧ i ∈ ((cfg0.win 10).blk t).view.set := by
  have h0 : (i 0).val < 4 := (i 0).isLt
  have h1 : (i 1).val < 1 := (i 1).isLt
  have h2 : (i 2).val < 1024 := (i 2).isLt
  have ht : 4 * (i 0).val + 3 < cfg0.N := by rw [show cfg0.N = 16 from N_0]; omega
  refine ⟨⟨_, ht⟩, (flush0_10 _).mpr (by show (4 * (i 0).val + 3) % 4 = 3; omega), ?_⟩
  show i ∈ ((View.whole main_v0_2).slice (win0_10.rect ⟨_, ht⟩)).set
  rw [View.set_slice_whole, Rect.mem_set_unit]
  have e := (ent ⟨_, ht⟩).2.2.2.1
  intro a
  match a with
  | ⟨0, _⟩ =>
    show win0_10.index _ 0 * 1 ≤ (i 0).val ∧ (i 0).val < win0_10.index _ 0 * 1 + 1
    rw [congrFun e 0]
    show (4 * (i 0).val + 3) / 4 * 1 ≤ _ ∧ _ < (4 * (i 0).val + 3) / 4 * 1 + 1
    omega
  | ⟨1, _⟩ =>
    show win0_10.index _ 1 * 1 ≤ (i 1).val ∧ (i 1).val < win0_10.index _ 1 * 1 + 1
    rw [congrFun e 1]
    show 0 * 1 ≤ _ ∧ _ < 0 * 1 + 1
    omega
  | ⟨2, _⟩ =>
    show win0_10.index _ 2 * 1024 ≤ (i 2).val ∧ (i 2).val < win0_10.index _ 2 * 1024 + 1024
    rw [congrFun e 2]
    show 0 * 1024 ≤ _ ∧ _ < 0 * 1024 + 1024
    omega

/-- Every entry of the scale's gradient lies in a block that is written back. -/
theorem cover11 (i : S4x1x1024.Idx) : ∃ t, (cfg0.win 11).flush t = true ∧ i ∈ ((cfg0.win 11).blk t).view.set := by
  obtain ⟨t, hf, hi⟩ := cover10 i
  refine ⟨t, (flush0_11 t).mpr ((flush0_10 t).mp hf), ?_⟩
  have h10 : i ∈ ((View.whole main_v0_2).slice (win0_10.rect t)).set := hi
  rw [View.set_slice_whole] at h10
  show i ∈ ((View.whole main_v0_3).slice (win0_11.rect t)).set
  rw [View.set_slice_whole]
  exact h10

/-- Every entry of the shift's gradient lies in a block that is written back. -/
theorem cover12 (i : S4x1x1024.Idx) : ∃ t, (cfg0.win 12).flush t = true ∧ i ∈ ((cfg0.win 12).blk t).view.set := by
  obtain ⟨t, hf, hi⟩ := cover10 i
  refine ⟨t, (flush0_12 t).mpr ((flush0_10 t).mp hf), ?_⟩
  have h10 : i ∈ ((View.whole main_v0_2).slice (win0_10.rect t)).set := hi
  rw [View.set_slice_whole] at h10
  show i ∈ ((View.whole main_v0_4).slice (win0_12.rect t)).set
  rw [View.set_slice_whole]
  exact h10

/-- The gate's gradient after the run. -/
theorem final10 : (dats m 0 c).arrAt 10 cfg0.N = Norm.gates (m ((c : Thread nD τ).loc main_arg3)) (grads m c) := by
  refine (dats m 0 c).arrAt_eq_of_cover 10 _ (fun t hf => ?_) (fun i => cover10 i)
  rw [Value.flushed10]
  funext y
  have hx : ((cfg0.win 10).xinj (grid0.coords t) y : S1x1x1024.Idx) 2 = (⟨(y 2).val, (y 2).isLt⟩ : Fin 1024) := rfl
  have hy : (((cfg0.win 10).blk t).view.emb y : S4x1x1024.Idx) = ix3 (entry t) 0 ⟨(y 2).val, (y 2).isLt⟩ := place10 t y
  show (outsAt0 m c t.val t.isLt).2.2.1 ((cfg0.win 10).xinj (grid0.coords t) y) = Norm.gates _ _ (((cfg0.win 10).blk t).view.emb y)
  rw [acc10 m c t hf, hx, hy]
  refine Fin.sum_mul_add_congr fun s r hl => ?_
  rw [row_pos t s r _ hl]; rfl

/-- The scale's gradient after the run. -/
theorem final11 : (dats m 0 c).arrAt 11 cfg0.N = Norm.scales (m ((c : Thread nD τ).loc main_arg0)) (m ((c : Thread nD τ).loc main_arg1)) (m ((c : Thread nD τ).loc main_arg5)) := by
  refine (dats m 0 c).arrAt_eq_of_cover 11 _ (fun t hf => ?_) (fun i => cover11 i)
  rw [Value.flushed11]
  funext y
  have hx : ((cfg0.win 11).xinj (grid0.coords t) y : S1x1x1024.Idx) 2 = (⟨(y 2).val, (y 2).isLt⟩ : Fin 1024) := rfl
  have hy : (((cfg0.win 11).blk t).view.emb y : S4x1x1024.Idx) = ix3 (entry t) 0 ⟨(y 2).val, (y 2).isLt⟩ := place10 t y
  show (outsAt0 m c t.val t.isLt).2.2.2.1 ((cfg0.win 11).xinj (grid0.coords t) y) = Norm.scales _ _ _ (((cfg0.win 11).blk t).view.emb y)
  rw [acc11 m c t hf, hx, hy]
  refine Fin.sum_mul_add_congr fun s r hl => ?_
  rw [row_pos t s r _ hl]; rfl

/-- The shift's gradient after the run. -/
theorem final12 : (dats m 0 c).arrAt 12 cfg0.N = Norm.shifts (m ((c : Thread nD τ).loc main_arg1)) := by
  refine (dats m 0 c).arrAt_eq_of_cover 12 _ (fun t hf => ?_) (fun i => cover12 i)
  rw [Value.flushed12]
  funext y
  have hx : ((cfg0.win 12).xinj (grid0.coords t) y : S1x1x1024.Idx) 2 = (⟨(y 2).val, (y 2).isLt⟩ : Fin 1024) := rfl
  have hy : (((cfg0.win 12).blk t).view.emb y : S4x1x1024.Idx) = ix3 (entry t) 0 ⟨(y 2).val, (y 2).isLt⟩ := place10 t y
  show (outsAt0 m c t.val t.isLt).2.2.2.2.1 ((cfg0.win 12).xinj (grid0.coords t) y) = Norm.shifts _ (((cfg0.win 12).blk t).view.emb y)
  rw [acc12 m c t hf, hx, hy]
  refine Fin.sum_mul_add_congr fun s r hl => ?_
  rw [row_pos t s r _ hl]; rfl

/-- The gain's gradient after the run. -/
theorem final13 : (dats m 0 c).arrAt 13 cfg0.N = Norm.gains (m ((c : Thread nD τ).loc main_arg0)) (m ((c : Thread nD τ).loc main_arg1))
    (m ((c : Thread nD τ).loc main_arg4)) 4096 (by decide) := by
  refine (dats m 0 c).arrAt_eq_of_cover 13 _ (fun t hf => ?_) (fun i => ?_)
  · rw [Value.flushed13]
    funext y
    have e := (ent t).2.2.2.2
    let l : Fin 1 := ⟨(y 0).val, (y 0).isLt⟩
    let j : Fin 1024 := ⟨(y 1).val, (y 1).isLt⟩
    have hx : ((cfg0.win 13).xinj (grid0.coords t) y : S1x1024.Idx) = ix2 l j := by
      funext a
      match a with
      | ⟨0, _⟩ => rfl
      | ⟨1, _⟩ => rfl
    have hy : (((cfg0.win 13).blk t).view.emb y : S1x1024.Idx) = ix2 l j := by
      funext a
      match a with
      | ⟨0, _⟩ =>
        refine Fin.ext ?_
        show win0_13.index t 0 * 1 + 1 * (y 0).val = (y 0).val
        rw [congrFun e 0]; show 0 * 1 + 1 * (y 0).val = _; omega
      | ⟨1, _⟩ =>
        refine Fin.ext ?_
        show win0_13.index t 1 * 1024 + 1 * (y 1).val = (y 1).val
        rw [congrFun e 1]; show 0 * 1024 + 1 * (y 1).val = _; omega
    show (outsAt0 m c t.val t.isLt).2.2.2.2.2 ((cfg0.win 13).xinj (grid0.coords t) y) = Norm.gains _ _ _ _ _ (((cfg0.win 13).blk t).view.emb y)
    rw [hx, hy, acc13 m c t hf]
    refine Fin.sum_points_lanes_congr 4 (fun t r ha hl => ?_) N_0 rfl
    have h : row t r = Norm.pos ⟨t.val / 4, ha⟩ ⟨t.val % 4 * 512 + r.val, hl⟩ := Fin.ext (by
      show t.val * 512 + r.val = t.val / 4 * 2048 + (t.val % 4 * 512 + r.val)
      omega)
    rw [h]; rfl
  · have h0 : (i 0).val < 1 := (i 0).isLt
    have h1 : (i 1).val < 1024 := (i 1).isLt
    have ht : 15 < cfg0.N := by rw [show cfg0.N = 16 from N_0]; omega
    refine ⟨⟨15, ht⟩, (flush0_13 _).mpr rfl, ?_⟩
    show i ∈ ((View.whole main_v0_5).slice (win0_13.rect ⟨_, ht⟩)).set
    rw [View.set_slice_whole, Rect.mem_set_unit]
    have e := (ent ⟨_, ht⟩).2.2.2.2
    intro a
    match a with
    | ⟨0, _⟩ =>
      show win0_13.index _ 0 * 1 ≤ (i 0).val ∧ (i 0).val < win0_13.index _ 0 * 1 + 1
      rw [congrFun e 0]
      show 0 * 1 ≤ _ ∧ _ < 0 * 1 + 1
      omega
    | ⟨1, _⟩ =>
      show win0_13.index _ 1 * 1024 ≤ (i 1).val ∧ (i 1).val < win0_13.index _ 1 * 1024 + 1024
      rw [congrFun e 1]
      show 0 * 1024 ≤ _ ∧ _ < 0 * 1024 + 1024
      omega

end Blocks

/-- On the same arguments the kernel and the reference end with the same six gradients. -/
theorem algebraic : algebraic_Kernel32Ideal_Reference32Ideal := by
  intro m g m' g' _ hm
  refine ⟨fun c => grads m c, fun c => Norm.gated (m ((c : Thread nD τ).loc main_arg4)) 2048 (by decide) (grads m c), fun c => Norm.gates (m ((c : Thread nD τ).loc main_arg3)) (grads m c),
    fun c => Norm.scales (m ((c : Thread nD τ).loc main_arg0)) (m ((c : Thread nD τ).loc main_arg1)) (m ((c : Thread nD τ).loc main_arg5)), fun c => Norm.shifts (m ((c : Thread nD τ).loc main_arg1)), fun c => Norm.gains (m ((c : Thread nD τ).loc main_arg0)) (m ((c : Thread nD τ).loc main_arg1)) (m ((c : Thread nD τ).loc main_arg4)) 4096 (by decide), ?_, ?_⟩
  · refine (θ_run defs _ _).mono (fun r h c => ?_) (Value.run_blocks m g)
    obtain ⟨h8, h9, h10, h11, h12, h13, h⟩ := h c
    exact ⟨h8.trans (final8 m c), h9.trans (final9 m c), h10.trans (final10 m c), h11.trans (final11 m c), h12.trans (final12 m c),
      h13.trans (final13 m c), h⟩
  · refine (θ_run Reference32Ideal.defs _ _).mono (fun r h c => ?_) (Reference32Ideal.Value.run m' g')
    obtain ⟨e0, e1, e2, e3, e4, e5⟩ := hm c
    obtain ⟨h8, h9, h10, h11, h12, h13, h⟩ := h c
    refine ⟨h8.trans ((Ref.grads (m' ((c : Thread nD τ).loc Reference32Ideal.main_arg0)) (m' ((c : Thread nD τ).loc Reference32Ideal.main_arg1)) (m' ((c : Thread nD τ).loc Reference32Ideal.main_arg2)) (m' ((c : Thread nD τ).loc Reference32Ideal.main_arg4)) (m' ((c : Thread nD τ).loc Reference32Ideal.main_arg5)) _).trans ?_),
      h9.trans ((Ref.gated (m' ((c : Thread nD τ).loc Reference32Ideal.main_arg0)) (m' ((c : Thread nD τ).loc Reference32Ideal.main_arg1)) (m' ((c : Thread nD τ).loc Reference32Ideal.main_arg2)) (m' ((c : Thread nD τ).loc Reference32Ideal.main_arg4)) (m' ((c : Thread nD τ).loc Reference32Ideal.main_arg5)) _ _).trans ?_),
      h10.trans ((Ref.gates (m' ((c : Thread nD τ).loc Reference32Ideal.main_arg0)) (m' ((c : Thread nD τ).loc Reference32Ideal.main_arg1)) (m' ((c : Thread nD τ).loc Reference32Ideal.main_arg2)) (m' ((c : Thread nD τ).loc Reference32Ideal.main_arg3)) (m' ((c : Thread nD τ).loc Reference32Ideal.main_arg4)) (m' ((c : Thread nD τ).loc Reference32Ideal.main_arg5)) _).trans ?_),
      h11.trans ((Norm1.Ref.scales (m' ((c : Thread nD τ).loc Reference32Ideal.main_arg0)) (m' ((c : Thread nD τ).loc Reference32Ideal.main_arg1)) (m' ((c : Thread nD τ).loc Reference32Ideal.main_arg5))).trans ?_), h12.trans ((Norm1.Ref.shifts (m' ((c : Thread nD τ).loc Reference32Ideal.main_arg1))).trans ?_),
      h13.trans ((Norm1.Ref.gains (m' ((c : Thread nD τ).loc Reference32Ideal.main_arg0)) (m' ((c : Thread nD τ).loc Reference32Ideal.main_arg1)) (m' ((c : Thread nD τ).loc Reference32Ideal.main_arg4)) 4096 (by decide) _).trans ?_), h⟩ <;>
    simp only [e0, e1, e2, e3, e4, e5, grads]

end Cert.Row.Norm2

end
-- ==== Proof.Row.HeadRef.lean ====
/- The reference of the loss's gradients, entry by entry. -/
module

public import proofs.«01_k».proof.Defs
public import proofs.«01_k».proof.Proof.Gen.Reference33Ideal.Run
public import proofs.«01_k».proof.Proof.Row.Norm2Ref
public import proofs.«01_k».proof.Proof.Row.Sigmoid

@[expose] public section

set_option maxRecDepth 16384

noncomputable section

namespace Cert.Row.Head

open Cert.Reference33Ideal Cert.Reference33Ideal.Gen
open Idealize.ShloMosaic Idealize.ShloMosaic.TcCoe
open Idealize.SL.Sem
open Cert.Row.Norm1.Ref (deep wide normed back deep_apply deep_row wide_apply normed_apply back_apply)
open Cert.Row.Norm2.Ref (gate gate_apply flat)
open scoped BigOperators

section Rows
variable (x g t : Fin 1024 → EReal)

/-- The error of a normed row, times the gain, against its target. -/
def err (j : Fin 1024) : EReal := x j * Norm.rs x * g j - t j

/-- The loss's cotangent of the row times the gain: the error over the number of columns. -/
def cot (j : Fin 1024) : EReal := err x g t j * Ideal.ofBits .f32 0x3A800000#32

/-- The loss's gradient of the row. -/
def grad : Fin 1024 → EReal := Norm.back x fun k => cot x g t k * g k

/-- A row's term of the gain's gradient. -/
def gain (j : Fin 1024) : EReal := x j * Norm.rs x * cot x g t j

/-- A row's squared errors, summed. -/
def square : EReal := ∑ k, err x g t k * err x g t k

end Rows

variable (x f t : FVec Ideal S8192x1024 .f32) (q : FVec Ideal S4x1x6144 .f32) (w : FVec Ideal S1024 .f32)
variable (hs : S4x1x6144.Slices ![0, 0, 5120] S4x1x1024)

/-- A row of the last residual's sum: the row of the residual, and the gate times the feed-forward's row. -/
def sum (p : Fin 8192) (k : Fin 1024) : EReal := Norm.line x p k + Norm.band q 5120 (by decide) (Norm.entry p) k * Norm.line f p k

/-- The loss's gradient of the last residual's sum. -/
def grads : FVec Ideal S8192x1024 .f32 := fun j => grad (sum x f q (j 0)) (fun k => w (ix1 k)) (Norm.line t (j 0)) (j 1)

/-- The loss's gradient of the gain. -/
def gains : FVec Ideal S1x1024 .f32 :=
  fun j => ∑ b : Fin 4, ∑ l : Fin 2048, gain (sum x f q (Norm.pos b l)) (fun k => w (ix1 k)) (Norm.line t (Norm.pos b l)) (j 1)

/-- All squared errors, summed, in every lane. -/
def squares : FVec Ideal S1x128 .f32 :=
  fun _ => ∑ b : Fin 4, ∑ l : Fin 2048, square (sum x f q (Norm.pos b l)) (fun k => w (ix1 k)) (Norm.line t (Norm.pos b l))

namespace Ref

/-- The last residual's sum. -/
def sums : FVec Ideal S4x2048x1024 .f32 := addf (deep x) (mulf (gate q 5120 hs) (deep f))

/-- The errors. -/
def errs : FVec Ideal S4x2048x1024 .f32 := subf (mulf (normed (sums x f q hs)) (wide w)) (deep t)

/-- The loss's cotangent of the normed rows times the gain. -/
def cots : FVec Ideal S4x2048x1024 .f32 :=
  mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (errs x f t q w hs))

/-- The gradient of the last residual's sum. -/
def backs : FVec Ideal S4x2048x1024 .f32 := back (sums x f q hs) (mulf (cots x f t q w hs) (wide w))

variable (b : Fin 4) (l : Fin 2048) (j : Fin 1024)

theorem sums_apply : sums x f q hs (ix3 b l j) = sum x f q (Norm.pos b l) j := by
  refine congrArg₂ (· + ·) (deep_apply x b l j) (congrArg₂ (· * ·) ((gate_apply q 5120 (by decide) hs b l j).trans ?_) (deep_apply f b l j))
  rw [Norm.entry_pos]

theorem sums_row : (fun k => sums x f q hs (ix3 b l k)) = sum x f q (Norm.pos b l) := funext fun k => sums_apply x f q hs b l k

theorem errs_apply : errs x f t q w hs (ix3 b l j) = err (sum x f q (Norm.pos b l)) (fun k => w (ix1 k)) (Norm.line t (Norm.pos b l)) j := by
  refine congrArg₂ (· - ·) (congrArg₂ (· * ·) ((normed_apply _ b l j).trans ?_) (wide_apply b l j w)) (deep_apply t b l j)
  rw [sums_row, sums_apply]

/-- Half over the number of columns, times twice the error, is the error over the number of columns. -/
theorem mean (e : EReal) : Ideal.div (Ideal.ofBits .f32 0x3F000000#32) (Ideal.ofBits .f32 0x44800000#32)
    * (Ideal.ofBits .f32 0x40000000#32 * e) = e * Ideal.ofBits .f32 0x3A800000#32 := by
  have h2 : Ideal.ofBits .f32 0x40000000#32 = ((2 : ℝ) : EReal) := by
    simp [Ideal.ofBits, Ideal.ieee, -EReal.coe_mul]; norm_num
  have hn : Ideal.ofBits .f32 0x44800000#32 = ((1024 : ℝ) : EReal) := by
    simp [Ideal.ofBits, Ideal.ieee, -EReal.coe_mul]; norm_num
  have hi : Ideal.ofBits .f32 0x3A800000#32 = ((1 / 1024 : ℝ) : EReal) := by
    simp [Ideal.ofBits, Ideal.ieee, -EReal.coe_mul]; norm_num
  rw [half, h2, hn, hi, Ideal.div_coe (by norm_num), ← mul_assoc, ← EReal.coe_mul, ← EReal.coe_mul, mul_comm]
  norm_num

theorem cots_apply : cots x f t q w hs (ix3 b l j) = cot (sum x f q (Norm.pos b l)) (fun k => w (ix1 k)) (Norm.line t (Norm.pos b l)) j := by
  pointwise [cots]
  rw [errs_apply]
  exact mean _

theorem backs_apply : backs x f t q w hs (ix3 b l j) = grads x f t q w (ix2 (Norm.pos b l) j) := by
  refine (back_apply _ _ b l j).trans ?_
  rw [sums_row]
  show _ = Norm.back (sum x f q (Norm.pos b l)) (fun k => cot (sum x f q (Norm.pos b l)) (fun k => w (ix1 k)) (Norm.line t (Norm.pos b l)) k * w (ix1 k)) j
  refine congrArg (fun u => Norm.back (sum x f q (Norm.pos b l)) u j) (funext fun k => ?_)
  exact congrArg₂ (· * ·) (cots_apply x f t q w hs b l k) (wide_apply b l k w)

/-- The reference's gradient of the last residual's sum. -/
theorem grads : (shapeCast S8192x1024 (backs x f t q w hs) shapeCasts_S4x2048x1024_S8192x1024 : FVec Ideal S8192x1024 .f32)
    = Head.grads x f t q w := by
  funext i
  obtain ⟨p, j, rfl⟩ : ∃ (p : Fin 8192) (j : Fin 1024), i = ix2 p j := ⟨i 0, i 1, eq_ix2 i⟩
  refine (flat _ p j).trans ((backs_apply x f t q w hs _ _ j).trans ?_)
  rw [Norm.pos_entry]

/-- The reference's gradient of the feed-forward's rows. -/
theorem gated : (truncf .bf16 (shapeCast S8192x1024 (mulf (gate q 5120 hs) (backs x f t q w hs)) shapeCasts_S4x2048x1024_S8192x1024) bitsLt_bf16_f32 : FVec Ideal S8192x1024 .bf16)
    = Norm.gated q 5120 (by decide) (Head.grads x f t q w) := by
  funext i
  obtain ⟨p, j, rfl⟩ : ∃ (p : Fin 8192) (j : Fin 1024), i = ix2 p j := ⟨i 0, i 1, eq_ix2 i⟩
  refine (flat (mulf (gate q 5120 hs) (backs x f t q w hs)) p j).trans ((congrArg₂ (· * ·) (gate_apply q 5120 (by decide) hs _ _ j)
    (backs_apply x f t q w hs _ _ j)).trans ((mul_comm _ _).trans ?_))
  rw [Norm.pos_entry]; rfl

/-- The reference's gradient of the gate. -/
theorem gates : (shapeCast S4x1x1024 (Host.reduceAdd (mulf (backs x f t q w hs) (deep f)) (constant S_ .f32 0x00000000#32) reducesTo_S4x2048x1024_S4x1024_d1 h_S_) shapeCasts_S4x1024_S4x1x1024 : FVec Ideal S4x1x1024 .f32)
    = Norm.gates f (Head.grads x f t q w) := by
  funext i
  obtain ⟨b, z, j, rfl⟩ : ∃ (b : Fin 4) (z : Fin 1) (j : Fin 1024), i = ix3 b z j := ⟨i 0, i 1, i 2, eq_ix3 i⟩
  pointwise
  simp only [backs_apply, deep_apply]; rfl

/-- The reference's gradient of the gain. -/
theorem gains : (broadcastInDim S1x1024 ![1] bcast_S1024_S1x1024_1 (Host.reduceAdd (shapeCast S1x1x1024 (Host.reduceAdd (mulf (normed (sums x f q hs)) (cots x f t q w hs)) (constant S_ .f32 0x00000000#32) reducesTo_S4x2048x1024_S1024_d0_1 h_S_) shapeCasts_S1024_S1x1x1024) (constant S_ .f32 0x00000000#32) reducesTo_S1x1x1024_S1024_d0_1 h_S_) : FVec Ideal S1x1024 .f32)
    = Head.gains x f t q w := by
  funext i
  obtain ⟨z, j, rfl⟩ : ∃ (z : Fin 1) (j : Fin 1024), i = ix2 z j := ⟨i 0, i 1, eq_ix2 i⟩
  pointwise
  rw [Norm.sum01]
  pointwise
  rw [Norm.sum01]
  pointwise
  simp only [normed_apply, sums_row, sums_apply, cots_apply, Fin.sum_univ_one]
  rfl

/-- The reference's sum of the squared errors. -/
theorem squares : (broadcastInDim S1x128 ![] bcast_S_S1x128 (Host.reduceAdd (mulf (errs x f t q w hs) (errs x f t q w hs)) (constant S_ .f32 0x00000000#32) reducesTo_S4x2048x1024_S_d0_1_2 h_S_) : FVec Ideal S1x128 .f32)
    = Head.squares x f t q w := by
  funext i
  obtain ⟨z, j, rfl⟩ : ∃ (z : Fin 1) (j : Fin 128), i = ix2 z j := ⟨i 0, i 1, eq_ix2 i⟩
  pointwise
  simp only [errs_apply]
  rfl

end Ref

end Cert.Row.Head

end
-- ==== Proof.Row.Head.lean ====
/- The loss's gradients at the last norm. -/
module

public import proofs.«01_k».proof.Defs
public import proofs.«01_k».proof.Proof.Gen.Kernel33Ideal.Value
public import proofs.«01_k».proof.Proof.Row.Norm1
public import proofs.«01_k».proof.Proof.Row.HeadRef

@[expose] public section

set_option maxRecDepth 16384

noncomputable section

namespace Cert.Row.Head.Run

open Cert.Kernel33Ideal Cert.Kernel33Ideal.Gen
open Idealize.ShloMosaic Idealize.ShloMosaic.TcCoe
open Idealize.SL.Sem
open scoped BigOperators

section Payloads
variable (x f t : FVec Ideal S512x1024 .f32) (q : FVec Ideal S1x1x1024 .f32) (w : FVec Ideal S1x1024 .f32)

/-- A row of a block of the last residual's sum. -/
def sums (r : Fin 512) (k : Fin 1024) : EReal := x (ix2 r k) + q (ix3 0 0 k) * f (ix2 r k)

theorem summed (r : Fin 512) (j : Fin 1024) : k0_pay7 (F := Ideal) x f q (ix2 r j) = sums x f q r j := by
  pointwise [k0_pay7, k0_pay5]
  rfl

/-- The block's rows. -/
theorem rows (r : Fin 512) : (fun k => k0_pay7 (F := Ideal) x f q (ix2 r k)) = sums x f q r := funext fun k => summed x f q r k

/-- A row's mean square. -/
theorem ms (r : Fin 512) (l : Fin 1) : k0_pay8 (F := Ideal) x f q (ix2 r l) = Norm.ms (sums x f q r) :=
  (Norm1.ms (k0_pay7 x f q) r l).trans (congrArg Norm.ms (rows x f q r))

/-- A row's factor. -/
theorem rs (r : Fin 512) (l : Fin 1) : k0_pay9 (F := Ideal) x f q (ix2 r l) = Norm.rs (sums x f q r) :=
  (Norm1.rs (k0_pay7 x f q) r l).trans (congrArg Norm.rs (rows x f q r))

/-- A normed row. -/
theorem normed (r : Fin 512) (j : Fin 1024) : k0_pay10 (F := Ideal) x f q (ix2 r j) = sums x f q r j * Norm.rs (sums x f q r) :=
  (Norm1.normed (k0_pay7 x f q) r j).trans (by rw [rows, summed])

/-- The errors. -/
theorem error (r : Fin 512) (j : Fin 1024) : k0_pay11 (F := Ideal) x f t q w (ix2 r j)
    = err (sums x f q r) (fun k => w (ix2 0 k)) (fun k => t (ix2 r k)) j := by
  pointwise [k0_pay11, k0_pay6]
  rw [normed]; rfl

/-- The loss's cotangent. -/
theorem scaled (r : Fin 512) (j : Fin 1024) : k0_pay12 (F := Ideal) x f t q w (ix2 r j)
    = cot (sums x f q r) (fun k => w (ix2 0 k)) (fun k => t (ix2 r k)) j := by
  pointwise [k0_pay12]
  rw [error]; rfl

/-- The loss's cotangent through the gain. -/
theorem gained (r : Fin 512) (j : Fin 1024) : k0_pay14 (F := Ideal) x f t q w (ix2 r j)
    = cot (sums x f q r) (fun k => w (ix2 0 k)) (fun k => t (ix2 r k)) j * w (ix2 0 j) := by
  pointwise [k0_pay14, k0_pay6]
  rw [scaled]

/-- The gain's gradient sums the rows' terms. -/
theorem gains (l : Fin 1) (j : Fin 1024) : k0_pay13 (F := Ideal) x f t q w (ix2 l j)
    = ∑ r : Fin 512, gain (sums x f q r) (fun k => w (ix2 0 k)) (fun k => t (ix2 r k)) j := by
  pointwise [k0_pay13]
  simp only [normed, scaled]; rfl

/-- The squared errors of a block, summed. -/
theorem squared (l : Fin 1) (j : Fin 128) : k0_pay18 (F := Ideal) (k0_pay11 x f t q w) (ix2 l j)
    = ∑ r : Fin 512, square (sums x f q r) (fun k => w (ix2 0 k)) (fun k => t (ix2 r k)) := by
  pointwise [k0_pay18]
  simp only [error]; rfl

/-- A tile of the gradient of the last residual's sum. -/
def tiled : FVec Ideal S512x1024 .f32 :=
  k0_pay17 (k0_pay7 x f q) (k0_pay15 x f t q w) (k0_pay16 x f t q w) (Scalar.ofBits .f32 0x44800000#32)

/-- The tile's rows. -/
theorem tiled_apply (r : Fin 512) (j : Fin 1024) : tiled x f t q w (ix2 r j)
    = grad (sums x f q r) (fun k => w (ix2 0 k)) (fun k => t (ix2 r k)) j := by
  pointwise [tiled, k0_pay17, k0_pay16, k0_pay15]
  simp only [ms, rs, gained, summed]
  simp [grad, Norm.back, Norm.share]

/-- The tile times the gate. -/
theorem gated (r : Fin 512) (j : Fin 1024) :
    k0_pay19 (F := Ideal) (k0_pay5 q) (k0_pay7 x f q) (k0_pay15 x f t q w) (k0_pay16 x f t q w) (Scalar.ofBits .f32 0x44800000#32) (ix2 r j)
      = tiled x f t q w (ix2 r j) * q (ix3 0 0 j) := by
  pointwise [k0_pay19, k0_pay5]
  rfl

/-- The gate's gradient adds the tile's terms. -/
theorem gate (v : FVec Ideal S1x1x1024 .f32) (j : S1x1x1024.Idx) :
    k0_pay21 (F := Ideal) f (k0_pay7 x f q) (k0_pay15 x f t q w) (k0_pay16 x f t q w) (Scalar.ofBits .f32 0x44800000#32) v j
      = v j + ∑ r : Fin 512, tiled x f t q w (ix2 r (j 2)) * f (ix2 r (j 2)) := by
  obtain ⟨i, l, k, rfl⟩ : ∃ (i : Fin 1) (l : Fin 1) (k : Fin 1024), j = ix3 i l k := ⟨j 0, j 1, j 2, eq_ix3 j⟩
  obtain rfl : i = 0 := Subsingleton.elim _ _
  obtain rfl : l = 0 := Subsingleton.elim _ _
  pointwise [k0_pay21]
  rfl

theorem add8 (a v : FVec Ideal S1x1024 .f32) (j : S1x1024.Idx) : k0_pay2 (F := Ideal) a v j = v j + a j := Norm1.add9 a v j
theorem add9 (a v : FVec Ideal S1x128 .f32) (j : S1x128.Idx) : k0_pay4 (F := Ideal) a v j = v j + a j := by
  obtain ⟨l, k, rfl⟩ : ∃ (l : Fin 1) (k : Fin 128), j = ix2 l k := ⟨j 0, j 1, eq_ix2 j⟩
  pointwise [k0_pay4]
theorem zero7 (j : S1x1x1024.Idx) : k0_pay20 (F := Ideal) j = 0 := Ideal.ofBits_zero_f32
theorem zero8 (j : S1x1024.Idx) : k0_pay1 (F := Ideal) j = 0 := Ideal.ofBits_zero_f32
theorem zero9 (j : S1x128.Idx) : k0_pay3 (F := Ideal) j = 0 := Ideal.ofBits_zero_f32

end Payloads

section Blocks
variable (m : (ℓ : Loc nD τ sig) → Buf (Elt Ideal) ℓ) (c : Dev nD)

/-- Which blocks grid point `t` reads and writes. -/
theorem idx : ∀ t : Fin cfg0.N, win0_0.index t = ![t.val, 0] ∧ win0_1.index t = ![t.val, 0] ∧ win0_2.index t = ![t.val, 0]
    ∧ win0_3.index t = ![t.val / 4, 0, 5] ∧ win0_4.index t = ![0, 0] ∧ win0_5.index t = ![t.val, 0]
    ∧ win0_7.index t = ![t.val / 4, 0, 0] ∧ win0_8.index t = ![0, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![t.val / 4, 0, 5] ∧ win0_4.index t = ![0, 0] ∧ win0_5.index t = ![t.val, 0]
    ∧ win0_7.index t = ![t.val / 4, 0, 0] ∧ win0_8.index t = ![0, 0] ∧ win0_9.index t = ![0, 0])

/-- Row `r` of block `t` among all the rows. -/
def row (t : Fin cfg0.N) (r : Fin 512) : Fin 8192 :=
  ⟨t.val * 512 + r.val, by have := t.isLt; have e : cfg0.N = 16 := N_0; have := r.isLt; omega⟩

/-- The batch entry of block `t`. -/
def entry (t : Fin cfg0.N) : Fin 4 := ⟨t.val / 4, by have := t.isLt; have e : cfg0.N = 16 := N_0; omega⟩

/-- A block's batch entry is its rows'. -/
theorem entry_row (t : Fin cfg0.N) (r : Fin 512) : Norm.entry (row t r) = entry t := Fin.ext (by
  have := r.isLt
  show (t.val * 512 + r.val) / 2048 = t.val / 4
  omega)

theorem iblk0 (t : Fin cfg0.N) (r : Fin 512) (k : Fin 1024) :
    iblk m c 0 t (ix2 r k) = m ((c : Thread nD τ).loc main_arg0) (ix2 (row t r) k) := by
  have e := (idx t).1
  blk_ext [iblk, V, e, row]

theorem iblk1 (t : Fin cfg0.N) (r : Fin 512) (k : Fin 1024) :
    iblk m c 1 t (ix2 r k) = m ((c : Thread nD τ).loc main_arg1) (ix2 (row t r) k) := by
  have e := (idx t).2.1
  blk_ext [iblk, V, e, row]

theorem iblk2 (t : Fin cfg0.N) (r : Fin 512) (k : Fin 1024) :
    iblk m c 2 t (ix2 r k) = m ((c : Thread nD τ).loc main_arg2) (ix2 (row t r) k) := by
  have e := (idx t).2.2.1
  blk_ext [iblk, V, e, row]

theorem iblk3 (t : Fin cfg0.N) (k : Fin 1024) :
    iblk m c 3 t (ix3 0 0 k) = m ((c : Thread nD τ).loc main_arg3) (ix3 (entry t) 0 ⟨5120 + k.val, by omega⟩) := by
  have e := (idx t).2.2.2.1
  blk_ext [iblk, V, e, entry]

/-- The gain as the host has laid it out before the kernel runs. -/
theorem V0 : V m c main_v0 = shapeCast S1x1024 (m ((c : Thread nD τ).loc main_arg4)) Facts₀.shapeCasts_S1024_S1x1024 := by
  show StableHlo.after hostOps0 (fun b => m (c, b)) (Proc.tc.devRef main_v0) = _
  unfold hostOps0
  after_results
  rfl

theorem iblk4 (t : Fin cfg0.N) (k : Fin 1024) :
    iblk m c 4 t (ix2 0 k) = m ((c : Thread nD τ).loc main_arg4) (ix1 k) := by
  have e := (idx t).2.2.2.2.1
  have h : iblk m c 4 t (ix2 0 k) = V m c main_v0 (ix2 0 k) := by
    blk_ext [iblk, e]
  rw [h, V0]
  pointwise

/-- The last residual's sum and the targets, by row, and the gain. -/
def xr (p : Fin 8192) : Fin 1024 → EReal := sum (m ((c : Thread nD τ).loc main_arg0)) (m ((c : Thread nD τ).loc main_arg1)) (m ((c : Thread nD τ).loc main_arg3)) p
def tr (p : Fin 8192) (k : Fin 1024) : EReal := m ((c : Thread nD τ).loc main_arg2) (ix2 p k)
def gr (k : Fin 1024) : EReal := m ((c : Thread nD τ).loc main_arg4) (ix1 k)

/-- The rows that the feed-forward adds, and the gate. -/
def fr (p : Fin 8192) (k : Fin 1024) : EReal := m ((c : Thread nD τ).loc main_arg1) (ix2 p k)
def qr (b : Fin 4) (k : Fin 1024) : EReal := m ((c : Thread nD τ).loc main_arg3) (ix3 b 0 ⟨5120 + k.val, by omega⟩)

/-- The gradient of the last residual's sum. -/
def grads : FVec Ideal S8192x1024 .f32 := Head.grads (m ((c : Thread nD τ).loc main_arg0)) (m ((c : Thread nD τ).loc main_arg1))
    (m ((c : Thread nD τ).loc main_arg2)) (m ((c : Thread nD τ).loc main_arg3)) (m ((c : Thread nD τ).loc main_arg4))

/-- The rows of grid point `t`'s block of the last residual's sum. -/
theorem xrow (t : Fin cfg0.N) (r : Fin 512) : sums (iblk m c 0 t) (iblk m c 1 t) (iblk m c 3 t) r = xr m c (row t r) := by
  funext k
  simp only [sums, iblk0, iblk1, iblk3]
  rw [← entry_row t r]; rfl

/-- The gradient's tile at grid point `t`. -/
theorem tile (t : Fin cfg0.N) (r : Fin 512) (j : Fin 1024) :
    tiled (iblk m c 0 t) (iblk m c 1 t) (iblk m c 2 t) (iblk m c 3 t) (iblk m c 4 t) (ix2 r j) = grads m c (ix2 (row t r) j) := by
  rw [tiled_apply, xrow]
  simp only [iblk2, iblk4]
  rfl

/-- What grid point `t` leaves of the gradient. -/
theorem out5 (t : Fin cfg0.N) : (outsAt0 m c t.val t.isLt).1
    = tiled (iblk m c 0 t) (iblk m c 1 t) (iblk m c 2 t) (iblk m c 3 t) (iblk m c 4 t) := by
  by_cases h0 : t.val % 4 = 0
  · by_cases h2 : t.val % 16 = 0
    · rw [outsAt0_A m c t h0 h2 h2]; frame_out; rfl
    · rw [outsAt0_C m c t h0 h2 h2]; frame_out; rfl
  · rw [outsAt0_B m c t h0 (by omega) (by omega)]; frame_out; rfl

/-- What grid point `t` leaves of the gated gradient. -/
theorem out6 (t : Fin cfg0.N) (r : Fin 512) (j : Fin 1024) : (outsAt0 m c t.val t.isLt).2.1 (ix2 r j)
    = grads m c (ix2 (row t r) j) * qr m c (entry t) j := by
  have h : (outsAt0 m c t.val t.isLt).2.1 = k0_pay19 (F := Ideal) (k0_pay5 (iblk m c 3 t)) (k0_pay7 (iblk m c 0 t) (iblk m c 1 t) (iblk m c 3 t))
      (k0_pay15 (iblk m c 0 t) (iblk m c 1 t) (iblk m c 2 t) (iblk m c 3 t) (iblk m c 4 t))
      (k0_pay16 (iblk m c 0 t) (iblk m c 1 t) (iblk m c 2 t) (iblk m c 3 t) (iblk m c 4 t)) (Scalar.ofBits .f32 0x44800000#32) := by
    by_cases h0 : t.val % 4 = 0
    · by_cases h2 : t.val % 16 = 0
      · rw [outsAt0_A m c t h0 h2 h2]; frame_out
      · rw [outsAt0_C m c t h0 h2 h2]; frame_out
    · rw [outsAt0_B m c t h0 (by omega) (by omega)]; frame_out
  rw [h, gated, tile, iblk3]
  rfl

/-- The gate's gradient after the last block of a batch entry. -/
theorem acc7 (t : Fin cfg0.N) (hf : (cfg0.win 7).flush t = true) (j : S1x1x1024.Idx) : (outsAt0 m c t.val t.isLt).2.2.1 j
    = ∑ s : Fin 4, ∑ r : Fin 512, grads m c (ix2 (row ⟨4 * (t.val / 4) + s.val, Pipeline.run_point_lt_of_flush t ((flush0_7 t).mp hf) s⟩ r) (j 2)) * fr m c (row ⟨4 * (t.val / 4) + s.val, Pipeline.run_point_lt_of_flush t ((flush0_7 t).mp hf) s⟩ r) (j 2) := by
  rw [Pipeline.eq_sum_fin_of_reset_step_apply_of_flush (fun n h => (outsAt0 m c n h).2.2.1) 4 (fun _ => 0)
    (fun u j => ∑ r : Fin 512, tiled (iblk m c 0 u) (iblk m c 1 u) (iblk m c 2 u) (iblk m c 3 u) (iblk m c 4 u) (ix2 r (j 2)) * iblk m c 1 u (ix2 r (j 2)))
    (fun u h j => by
      by_cases h2 : u.val % 16 = 0
      · rw [outsAt0_A m c u h h2 h2]; frame_out; rw [gate, zero7]
      · rw [outsAt0_C m c u h h2 h2]; frame_out; rw [gate, zero7])
    (fun u h j => by rw [outsAt0_B m c u h (by omega) (by omega)]; frame_out; rw [gate]) t ((flush0_7 t).mp hf) j, zero_add]
  exact Finset.sum_congr rfl fun s _ => Finset.sum_congr rfl fun r _ => congrArg₂ (· * ·) (tile m c _ r (j 2)) (iblk1 m c _ r (j 2))

/-- The gain's gradient after the last block. -/
theorem acc8 (t : Fin cfg0.N) (hf : (cfg0.win 8).flush t = true) (l : Fin 1) (j : Fin 1024) : (outsAt0 m c t.val t.isLt).2.2.2.1 (ix2 l j)
    = ∑ t : Fin cfg0.N, ∑ r : Fin 512, gain (xr m c (row t r)) (gr m c) (tr m c (row t r)) j := by
  have ht : t.val + 1 = cfg0.N := by
    have := (flush0_8 t).mp hf; have e : cfg0.N = 16 := N_0; have := t.isLt; omega
  rw [Pipeline.eq_sum_fin_of_reset_step_apply_last (fun n h => (outsAt0 m c n h).2.2.2.1) 16 (fun _ => 0)
    (fun u j => k0_pay13 (F := Ideal) (iblk m c 0 u) (iblk m c 1 u) (iblk m c 2 u) (iblk m c 3 u) (iblk m c 4 u) j)
    (fun u h j => by rw [outsAt0_A m c u (by omega) h h]; frame_out; rw [add8, zero8])
    (fun u h j => by
      by_cases h0 : u.val % 4 = 0
      · rw [outsAt0_C m c u h0 h h]; frame_out; rw [add8]
      · rw [outsAt0_B m c u h0 h h]; frame_out; rw [add8])
    (le_of_eq N_0) t ht (ix2 l j), zero_add]
  simp only [gains, xrow, iblk2, iblk4]
  rfl

/-- The sum of the squared errors after the last block. -/
theorem acc9 (t : Fin cfg0.N) (hf : (cfg0.win 9).flush t = true) (l : Fin 1) (j : Fin 128) : (outsAt0 m c t.val t.isLt).2.2.2.2 (ix2 l j)
    = ∑ t : Fin cfg0.N, ∑ r : Fin 512, square (xr m c (row t r)) (gr m c) (tr m c (row t r)) := by
  have ht : t.val + 1 = cfg0.N := by
    have := (flush0_9 t).mp hf; have e : cfg0.N = 16 := N_0; have := t.isLt; omega
  rw [Pipeline.eq_sum_fin_of_reset_step_apply_last (fun n h => (outsAt0 m c n h).2.2.2.2) 16 (fun _ => 0)
    (fun u j => k0_pay18 (F := Ideal) (k0_pay11 (iblk m c 0 u) (iblk m c 1 u) (iblk m c 2 u) (iblk m c 3 u) (iblk m c 4 u)) j)
    (fun u h j => by rw [outsAt0_A m c u (by omega) h h]; frame_out; rw [add9, zero9])
    (fun u h j => by
      by_cases h0 : u.val % 4 = 0
      · rw [outsAt0_C m c u h0 h h]; frame_out; rw [add9]
      · rw [outsAt0_B m c u h0 h h]; frame_out; rw [add9])
    (le_of_eq N_0) t ht (ix2 l j), zero_add]
  simp only [squared, xrow, iblk2, iblk4]
  rfl

/-- A block of the gradient lies at its rows. -/
theorem place5 (t : Fin cfg0.N) (y) : (((cfg0.win 5).blk t).view.emb y : S8192x1024.Idx)
    = ix2 (row t ⟨(y 0).val, (y 0).isLt⟩) ⟨(y 1).val, (y 1).isLt⟩ := by
  have e := (idx t).2.2.2.2.2.1
  funext a
  match a with
  | ⟨0, _⟩ =>
    refine Fin.ext ?_
    show win0_5.index t 0 * 512 + 1 * (y 0).val = t.val * 512 + (y 0).val
    rw [congrFun e 0]; show t.val * 512 + 1 * (y 0).val = _; omega
  | ⟨1, _⟩ =>
    refine Fin.ext ?_
    show win0_5.index t 1 * 1024 + 1 * (y 1).val = (y 1).val
    rw [congrFun e 1]; show 0 * 1024 + 1 * (y 1).val = _; omega

/-- Every entry of the gradient lies in a block that is written back. -/
theorem cover5 (i : S8192x1024.Idx) : ∃ t, (cfg0.win 5).flush t = true ∧ i ∈ ((cfg0.win 5).blk t).view.set := by
  have h0 : (i 0).val < 8192 := (i 0).isLt
  have h1 : (i 1).val < 1024 := (i 1).isLt
  have hN : cfg0.N = 16 := N_0
  have ht : (i 0).val / 512 < cfg0.N := by rw [hN]; omega
  refine ⟨⟨_, ht⟩, flush0_5 _, ?_⟩
  show i ∈ ((View.whole main_v1_0).slice (win0_5.rect ⟨_, ht⟩)).set
  rw [View.set_slice_whole, Rect.mem_set_unit]
  have e := (idx ⟨_, ht⟩).2.2.2.2.2.1
  intro a
  match a with
  | ⟨0, _⟩ =>
    show win0_5.index _ 0 * 512 ≤ (i 0).val ∧ (i 0).val < win0_5.index _ 0 * 512 + 512
    rw [congrFun e 0]
    show (i 0).val / 512 * 512 ≤ _ ∧ _ < (i 0).val / 512 * 512 + 512
    omega
  | ⟨1, _⟩ =>
    show win0_5.index _ 1 * 1024 ≤ (i 1).val ∧ (i 1).val < win0_5.index _ 1 * 1024 + 1024
    rw [congrFun e 1]
    show 0 * 1024 ≤ _ ∧ _ < 0 * 1024 + 1024
    omega

/-- The gated gradient's blocks lie as the gradient's do. -/
theorem cover6 (i : S8192x1024.Idx) : ∃ t, (cfg0.win 6).flush t = true ∧ i ∈ ((cfg0.win 6).blk t).view.set := by
  obtain ⟨t, _, hi⟩ := cover5 i
  refine ⟨t, flush0_6 t, ?_⟩
  have h5 : i ∈ ((View.whole main_v1_0).slice (win0_5.rect t)).set := hi
  rw [View.set_slice_whole] at h5
  show i ∈ ((View.whole main_v1_1).slice (win0_6.rect t)).set
  rw [View.set_slice_whole]
  exact h5

/-- The gradient after the run. -/
theorem final5 : (dats m 0 c).arrAt 5 cfg0.N = grads m c := by
  refine (dats m 0 c).arrAt_eq_of_cover 5 _ (fun t _ => ?_) (fun i => cover5 i)
  rw [Value.flushed5]
  funext y
  let r : Fin 512 := ⟨(y 0).val, (y 0).isLt⟩
  let j : Fin 1024 := ⟨(y 1).val, (y 1).isLt⟩
  have hx : ((cfg0.win 5).xinj (grid0.coords t) y : S512x1024.Idx) = ix2 r j := by
    funext a
    match a with
    | ⟨0, _⟩ => rfl
    | ⟨1, _⟩ => rfl
  show (outsAt0 m c t.val t.isLt).1 ((cfg0.win 5).xinj (grid0.coords t) y) = grads m c (((cfg0.win 5).blk t).view.emb y)
  rw [out5, hx, tile, place5]
  rfl

/-- The gated gradient after the run. -/
theorem final6 : (dats m 0 c).arrAt 6 cfg0.N = Norm.gated (m ((c : Thread nD τ).loc main_arg3)) 5120 (by decide) (grads m c) := by
  refine (dats m 0 c).arrAt_eq_of_cover 6 _ (fun t _ => ?_) (fun i => cover6 i)
  rw [Value.flushed6]
  funext y
  let r : Fin 512 := ⟨(y 0).val, (y 0).isLt⟩
  let j : Fin 1024 := ⟨(y 1).val, (y 1).isLt⟩
  have hx : ((cfg0.win 6).xinj (grid0.coords t) y : S512x1024.Idx) = ix2 r j := by
    funext a
    match a with
    | ⟨0, _⟩ => rfl
    | ⟨1, _⟩ => rfl
  have hy : (((cfg0.win 6).blk t).view.emb y : S8192x1024.Idx) = ix2 (row t r) j := place5 t y
  show (outsAt0 m c t.val t.isLt).2.1 ((cfg0.win 6).xinj (grid0.coords t) y) = Norm.gated _ _ _ _ (((cfg0.win 6).blk t).view.emb y)
  rw [hx, hy, out6, ← entry_row]
  rfl

/-- Row `r` of block `s` of a batch entry's run of blocks. -/
theorem row_pos (t : Fin cfg0.N) (s : Fin 4) (r : Fin 512) (h : 4 * (t.val / 4) + s.val < cfg0.N) (hl : s.val * 512 + r.val < 2048) :
    row ⟨4 * (t.val / 4) + s.val, h⟩ r = Norm.pos (entry t) ⟨s.val * 512 + r.val, hl⟩ := Fin.ext (by
  show (4 * (t.val / 4) + s.val) * 512 + r.val = t.val / 4 * 2048 + (s.val * 512 + r.val)
  omega)

/-- A block of the gate's gradient lies at its batch entry. -/
theorem place7 (t : Fin cfg0.N) (y) : (((cfg0.win 7).blk t).view.emb y : S4x1x1024.Idx) = ix3 (entry t) 0 ⟨(y 2).val, (y 2).isLt⟩ := by
  have e := (idx t).2.2.2.2.2.2.1
  have l0 : (y 0).val < 1 := (y 0).isLt
  have l1 : (y 1).val < 1 := (y 1).isLt
  funext a
  match a with
  | ⟨0, _⟩ =>
    refine Fin.ext ?_
    show win0_7.index t 0 * 1 + 1 * (y 0).val = t.val / 4
    rw [congrFun e 0]; show t.val / 4 * 1 + 1 * (y 0).val = _; omega
  | ⟨1, _⟩ =>
    refine Fin.ext ?_
    show win0_7.index t 1 * 1 + 1 * (y 1).val = 0
    rw [congrFun e 1]; show 0 * 1 + 1 * (y 1).val = _; omega
  | ⟨2, _⟩ =>
    refine Fin.ext ?_
    show win0_7.index t 2 * 1024 + 1 * (y 2).val = (y 2).val
    rw [congrFun e 2]; show 0 * 1024 + 1 * (y 2).val = _; omega

/-- Every entry of the gate's gradient lies in a block that is written back. -/
theorem cover7 (i : S4x1x1024.Idx) : ∃ t, (cfg0.win 7).flush t = true ∧ i ∈ ((cfg0.win 7).blk t).view.set := by
  have h0 : (i 0).val < 4 := (i 0).isLt
  have h1 : (i 1).val < 1 := (i 1).isLt
  have h2 : (i 2).val < 1024 := (i 2).isLt
  have ht : 4 * (i 0).val + 3 < cfg0.N := by rw [show cfg0.N = 16 from N_0]; omega
  refine ⟨⟨_, ht⟩, (flush0_7 _).mpr (by show (4 * (i 0).val + 3) % 4 = 3; omega), ?_⟩
  show i ∈ ((View.whole main_v1_2).slice (win0_7.rect ⟨_, ht⟩)).set
  rw [View.set_slice_whole, Rect.mem_set_unit]
  have e := (idx ⟨_, ht⟩).2.2.2.2.2.2.1
  intro a
  match a with
  | ⟨0, _⟩ =>
    show win0_7.index _ 0 * 1 ≤ (i 0).val ∧ (i 0).val < win0_7.index _ 0 * 1 + 1
    rw [congrFun e 0]
    show (4 * (i 0).val + 3) / 4 * 1 ≤ _ ∧ _ < (4 * (i 0).val + 3) / 4 * 1 + 1
    omega
  | ⟨1, _⟩ =>
    show win0_7.index _ 1 * 1 ≤ (i 1).val ∧ (i 1).val < win0_7.index _ 1 * 1 + 1
    rw [congrFun e 1]
    show 0 * 1 ≤ _ ∧ _ < 0 * 1 + 1
    omega
  | ⟨2, _⟩ =>
    show win0_7.index _ 2 * 1024 ≤ (i 2).val ∧ (i 2).val < win0_7.index _ 2 * 1024 + 1024
    rw [congrFun e 2]
    show 0 * 1024 ≤ _ ∧ _ < 0 * 1024 + 1024
    omega

/-- The gate's gradient after the run. -/
theorem final7 : (dats m 0 c).arrAt 7 cfg0.N = Norm.gates (m ((c : Thread nD τ).loc main_arg1)) (grads m c) := by
  refine (dats m 0 c).arrAt_eq_of_cover 7 _ (fun t hf => ?_) (fun i => cover7 i)
  rw [Value.flushed7]
  funext y
  have hx : ((cfg0.win 7).xinj (grid0.coords t) y : S1x1x1024.Idx) 2 = (⟨(y 2).val, (y 2).isLt⟩ : Fin 1024) := rfl
  have hy : (((cfg0.win 7).blk t).view.emb y : S4x1x1024.Idx) = ix3 (entry t) 0 ⟨(y 2).val, (y 2).isLt⟩ := place7 t y
  show (outsAt0 m c t.val t.isLt).2.2.1 ((cfg0.win 7).xinj (grid0.coords t) y) = Norm.gates _ _ (((cfg0.win 7).blk t).view.emb y)
  rw [acc7 m c t hf, hx, hy]
  refine Fin.sum_mul_add_congr fun s r hl => ?_
  rw [row_pos t s r _ hl]; rfl

/-- The gain's gradient after the run. -/
theorem final8 : (dats m 0 c).arrAt 8 cfg0.N = Head.gains (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 8 _ (fun t hf => ?_) (fun i => ?_)
  · rw [Value.flushed8]
    funext y
    have e := (idx t).2.2.2.2.2.2.2.1
    let l : Fin 1 := ⟨(y 0).val, (y 0).isLt⟩
    let j : Fin 1024 := ⟨(y 1).val, (y 1).isLt⟩
    have hx : ((cfg0.win 8).xinj (grid0.coords t) y : S1x1024.Idx) = ix2 l j := by
      funext a
      match a with
      | ⟨0, _⟩ => rfl
      | ⟨1, _⟩ => rfl
    have hy : (((cfg0.win 8).blk t).view.emb y : S1x1024.Idx) = ix2 l j := by
      funext a
      match a with
      | ⟨0, _⟩ =>
        refine Fin.ext ?_
        show win0_8.index t 0 * 1 + 1 * (y 0).val = (y 0).val
        rw [congrFun e 0]; show 0 * 1 + 1 * (y 0).val = _; omega
      | ⟨1, _⟩ =>
        refine Fin.ext ?_
        show win0_8.index t 1 * 1024 + 1 * (y 1).val = (y 1).val
        rw [congrFun e 1]; show 0 * 1024 + 1 * (y 1).val = _; omega
    show (outsAt0 m c t.val t.isLt).2.2.2.1 ((cfg0.win 8).xinj (grid0.coords t) y) = Head.gains _ _ _ _ _ (((cfg0.win 8).blk t).view.emb y)
    rw [hx, hy, acc8 m c t hf]
    refine Fin.sum_points_lanes_congr 4 (fun t r ha hl => ?_) N_0 rfl
    have h : row t r = Norm.pos ⟨t.val / 4, ha⟩ ⟨t.val % 4 * 512 + r.val, hl⟩ := Fin.ext (by
      show t.val * 512 + r.val = t.val / 4 * 2048 + (t.val % 4 * 512 + r.val)
      omega)
    rw [h]; rfl
  · have h0 : (i 0).val < 1 := (i 0).isLt
    have h1 : (i 1).val < 1024 := (i 1).isLt
    have ht : 15 < cfg0.N := by rw [show cfg0.N = 16 from N_0]; omega
    refine ⟨⟨15, ht⟩, (flush0_8 _).mpr rfl, ?_⟩
    show i ∈ ((View.whole main_v1_3).slice (win0_8.rect ⟨_, ht⟩)).set
    rw [View.set_slice_whole, Rect.mem_set_unit]
    have e := (idx ⟨_, ht⟩).2.2.2.2.2.2.2.1
    intro a
    match a with
    | ⟨0, _⟩ =>
      show win0_8.index _ 0 * 1 ≤ (i 0).val ∧ (i 0).val < win0_8.index _ 0 * 1 + 1
      rw [congrFun e 0]
      show 0 * 1 ≤ _ ∧ _ < 0 * 1 + 1
      omega
    | ⟨1, _⟩ =>
      show win0_8.index _ 1 * 1024 ≤ (i 1).val ∧ (i 1).val < win0_8.index _ 1 * 1024 + 1024
      rw [congrFun e 1]
      show 0 * 1024 ≤ _ ∧ _ < 0 * 1024 + 1024
      omega

/-- The sum of the squared errors after the run. -/
theorem final9 : (dats m 0 c).arrAt 9 cfg0.N = Head.squares (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 9 _ (fun t hf => ?_) (fun i => ?_)
  · rw [Value.flushed9]
    funext y
    have e := (idx t).2.2.2.2.2.2.2.2
    let l : Fin 1 := ⟨(y 0).val, (y 0).isLt⟩
    let j : Fin 128 := ⟨(y 1).val, (y 1).isLt⟩
    have hx : ((cfg0.win 9).xinj (grid0.coords t) y : S1x128.Idx) = ix2 l j := by
      funext a
      match a with
      | ⟨0, _⟩ => rfl
      | ⟨1, _⟩ => rfl
    have hy : (((cfg0.win 9).blk t).view.emb y : S1x128.Idx) = ix2 l j := by
      funext a
      match a with
      | ⟨0, _⟩ =>
        refine Fin.ext ?_
        show win0_9.index t 0 * 1 + 1 * (y 0).val = (y 0).val
        rw [congrFun e 0]; show 0 * 1 + 1 * (y 0).val = _; omega
      | ⟨1, _⟩ =>
        refine Fin.ext ?_
        show win0_9.index t 1 * 128 + 1 * (y 1).val = (y 1).val
        rw [congrFun e 1]; show 0 * 128 + 1 * (y 1).val = _; omega
    show (outsAt0 m c t.val t.isLt).2.2.2.2 ((cfg0.win 9).xinj (grid0.coords t) y) = Head.squares _ _ _ _ _ (((cfg0.win 9).blk t).view.emb y)
    rw [hx, hy, acc9 m c t hf]
    refine Fin.sum_points_lanes_congr 4 (fun t r ha hl => ?_) N_0 rfl
    have h : row t r = Norm.pos ⟨t.val / 4, ha⟩ ⟨t.val % 4 * 512 + r.val, hl⟩ := Fin.ext (by
      show t.val * 512 + r.val = t.val / 4 * 2048 + (t.val % 4 * 512 + r.val)
      omega)
    rw [h]; rfl
  · have h0 : (i 0).val < 1 := (i 0).isLt
    have h1 : (i 1).val < 128 := (i 1).isLt
    have ht : 15 < cfg0.N := by rw [show cfg0.N = 16 from N_0]; omega
    refine ⟨⟨15, ht⟩, (flush0_9 _).mpr rfl, ?_⟩
    show i ∈ ((View.whole main_v1_4).slice (win0_9.rect ⟨_, ht⟩)).set
    rw [View.set_slice_whole, Rect.mem_set_unit]
    have e := (idx ⟨_, ht⟩).2.2.2.2.2.2.2.2
    intro a
    match a with
    | ⟨0, _⟩ =>
      show win0_9.index _ 0 * 1 ≤ (i 0).val ∧ (i 0).val < win0_9.index _ 0 * 1 + 1
      rw [congrFun e 0]
      show 0 * 1 ≤ _ ∧ _ < 0 * 1 + 1
      omega
    | ⟨1, _⟩ =>
      show win0_9.index _ 1 * 128 ≤ (i 1).val ∧ (i 1).val < win0_9.index _ 1 * 128 + 128
      rw [congrFun e 1]
      show 0 * 128 ≤ _ ∧ _ < 0 * 128 + 128
      omega

end Blocks

/-- On the same arguments the kernel and the reference end with the same four gradients and the same sum of squared errors. -/
theorem algebraic : algebraic_Kernel33Ideal_Reference33Ideal := by
  intro m g m' g' _ hm
  refine ⟨fun c => grads m c, fun c => Norm.gated (m ((c : Thread nD τ).loc main_arg3)) 5120 (by decide) (grads m c), fun c => Norm.gates (m ((c : Thread nD τ).loc main_arg1)) (grads m c),
    fun c => Head.gains (m ((c : Thread nD τ).loc main_arg0)) (m ((c : Thread nD τ).loc main_arg1)) (m ((c : Thread nD τ).loc main_arg2)) (m ((c : Thread nD τ).loc main_arg3)) (m ((c : Thread nD τ).loc main_arg4)),
    fun c => Head.squares (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Value.run_blocks m g)
    obtain ⟨h5, h6, h7, h8, h9, h⟩ := h c
    exact ⟨h5.trans (final5 m c), h6.trans (final6 m c), h7.trans (final7 m c), h8.trans (final8 m c), h9.trans (final9 m c), h⟩
  · refine (θ_run Reference33Ideal.defs _ _).mono (fun r h c => ?_) (Reference33Ideal.Value.run m' g')
    obtain ⟨e0, e1, e2, e3, e4⟩ := hm c
    obtain ⟨h5, h6, h7, h8, h9, h⟩ := h c
    refine ⟨h5.trans ((Ref.grads (m' ((c : Thread nD τ).loc Reference33Ideal.main_arg0)) (m' ((c : Thread nD τ).loc Reference33Ideal.main_arg1)) (m' ((c : Thread nD τ).loc Reference33Ideal.main_arg2)) (m' ((c : Thread nD τ).loc Reference33Ideal.main_arg3)) (m' ((c : Thread nD τ).loc Reference33Ideal.main_arg4)) _).trans ?_), h6.trans ((Ref.gated (m' ((c : Thread nD τ).loc Reference33Ideal.main_arg0)) (m' ((c : Thread nD τ).loc Reference33Ideal.main_arg1)) (m' ((c : Thread nD τ).loc Reference33Ideal.main_arg2)) (m' ((c : Thread nD τ).loc Reference33Ideal.main_arg3)) (m' ((c : Thread nD τ).loc Reference33Ideal.main_arg4)) _).trans ?_),
      h7.trans ((Ref.gates (m' ((c : Thread nD τ).loc Reference33Ideal.main_arg0)) (m' ((c : Thread nD τ).loc Reference33Ideal.main_arg1)) (m' ((c : Thread nD τ).loc Reference33Ideal.main_arg2)) (m' ((c : Thread nD τ).loc Reference33Ideal.main_arg3)) (m' ((c : Thread nD τ).loc Reference33Ideal.main_arg4)) _).trans ?_), h8.trans ((Ref.gains (m' ((c : Thread nD τ).loc Reference33Ideal.main_arg0)) (m' ((c : Thread nD τ).loc Reference33Ideal.main_arg1)) (m' ((c : Thread nD τ).loc Reference33Ideal.main_arg2)) (m' ((c : Thread nD τ).loc Reference33Ideal.main_arg3)) (m' ((c : Thread nD τ).loc Reference33Ideal.main_arg4)) _).trans ?_),
      h9.trans ((Ref.squares (m' ((c : Thread nD τ).loc Reference33Ideal.main_arg0)) (m' ((c : Thread nD τ).loc Reference33Ideal.main_arg1)) (m' ((c : Thread nD τ).loc Reference33Ideal.main_arg2)) (m' ((c : Thread nD τ).loc Reference33Ideal.main_arg3)) (m' ((c : Thread nD τ).loc Reference33Ideal.main_arg4)) _).trans ?_), h⟩ <;>
    simp only [e0, e1, e2, e3, e4, grads]

end Cert.Row.Head.Run

end
-- ==== Proof.Row.DiscRef.lean ====
/- The gradients of the discretisation, as the reference takes them. -/
module

public import proofs.«01_k».proof.Defs
public import proofs.«01_k».proof.Proof.Gen.Reference34Ideal.Run
public import proofs.«01_k».proof.Proof.Row.Norm2Ref
public import Idealize.ShloMosaic.Lib.Claim

@[expose] public section

set_option maxRecDepth 16384

noncomputable section

namespace Cert.Row.Disc

open Cert.Reference34Ideal Cert.Reference34Ideal.Gen
open Idealize.ShloMosaic Idealize.ShloMosaic.TcCoe
open Idealize.SL.Sem
open scoped BigOperators

section States
variable (a b d gr gi p s : FVec Ideal S32x64 .f32)

/-- One in every entry. -/
def one : FVec Ideal S32x64 .f32 := broadcastInDim S32x64 ![] bcast_S_S32x64 (constant S_ .f32 0x3F800000#32)

/-- The discretised state's size, and the cosine and the sine of its angle. -/
def mag : FVec Ideal S32x64 .f32 := Host.exp (mulf a d)
def cosine : FVec Ideal S32x64 .f32 := Host.cos (mulf b d)
def sine : FVec Ideal S32x64 .f32 := Host.sin (mulf b d)

/-- The discretised state's imaginary part, and its real part less one. -/
def im : FVec Ideal S32x64 .f32 := mulf (mag a d) (sine b d)
def less : FVec Ideal S32x64 .f32 := subf (mulf (mag a d) (cosine b d)) one

/-- The quotient's denominator, its two numerators and the square's inverse. -/
def den : FVec Ideal S32x64 .f32 := addf (mulf a a) (mulf b b)
def numRe : FVec Ideal S32x64 .f32 := addf (mulf (less a b d) a) (mulf (im a b d) b)
def numIm : FVec Ideal S32x64 .f32 := subf (mulf (im a b d) a) (mulf (less a b d) b)
def inv : FVec Ideal S32x64 .f32 := Host.divf one (mulf (den a b) (den a b))

/-- The gradient of the denominator. -/
def dDen : FVec Ideal S32x64 .f32 :=
  addf (Host.negf (mulf (mulf p (inv a b)) (numIm a b d))) (Host.negf (mulf (mulf s (inv a b)) (numRe a b d)))

/-- The gradients of the discretised state. -/
def dRe : FVec Ideal S32x64 .f32 := addf (addf gr (mulf (Host.negf (Host.divf p (den a b))) b)) (mulf (Host.divf s (den a b)) a)
def dIm : FVec Ideal S32x64 .f32 := addf (addf gi (mulf (Host.divf p (den a b)) a)) (mulf (Host.divf s (den a b)) b)

/-- The gradients of the angle and of the exponent. -/
def dAngle : FVec Ideal S32x64 .f32 :=
  addf (mulf (mulf (mag a d) (dIm a b gi p s)) (cosine b d)) (mulf (Host.negf (mulf (mag a d) (dRe a b gr p s))) (sine b d))
def dExp : FVec Ideal S32x64 .f32 :=
  mulf (addf (mulf (dIm a b gi p s) (sine b d)) (mulf (dRe a b gr p s) (cosine b d))) (mag a d)

/-- The gradients of the state's real and imaginary part. -/
def real : FVec Ideal S32x64 .f32 :=
  addf (addf (addf (addf (mulf (im a b d) (Host.divf p (den a b))) (mulf (less a b d) (Host.divf s (den a b))))
    (mulf a (dDen a b d p s))) (mulf (dDen a b d p s) a)) (mulf (dExp a b d gr gi p s) d)
def imag : FVec Ideal S32x64 .f32 :=
  addf (addf (addf (addf (mulf (less a b d) (Host.negf (Host.divf p (den a b)))) (mulf (im a b d) (Host.divf s (den a b))))
    (mulf b (dDen a b d p s))) (mulf (dDen a b d p s) b)) (mulf (dAngle a b d gr gi p s) d)

end States

variable (a b : FVec Ideal S32x64 .f32) (l : FVec Ideal S32x1 .f32) (br bi : FVec Ideal S32x1024 .f32)
variable (gr gi : FVec Ideal S32x64 .f32) (hr hi : FVec Ideal S32x1024 .f32)

/-- Column `c` of state `n`'s part of a row, and the state of a column. -/
def col (n : Fin 64) (c : Fin 16) : Fin 1024 := ⟨n.val * 16 + c.val, by omega⟩
def state (k : Fin 1024) : Fin 64 := ⟨k.val / 16, by omega⟩

/-- The steps, one for each state of a row. -/
def steps : FVec Ideal S32x64 .f32 := fun j => Ideal.exp (l (ix2 (j 0) 0))

/-- The gradients of the quotient, summed over each state's columns. -/
def sumIm : FVec Ideal S32x64 .f32 :=
  fun j => ∑ c : Fin 16, (hi (ix2 (j 0) (col (j 1) c)) * br (ix2 (j 0) (col (j 1) c)) + -hr (ix2 (j 0) (col (j 1) c)) * bi (ix2 (j 0) (col (j 1) c)))
def sumRe : FVec Ideal S32x64 .f32 :=
  fun j => ∑ c : Fin 16, (hi (ix2 (j 0) (col (j 1) c)) * bi (ix2 (j 0) (col (j 1) c)) + hr (ix2 (j 0) (col (j 1) c)) * br (ix2 (j 0) (col (j 1) c)))

/-- The five gradients. -/
def gradRe : FVec Ideal S32x64 .f32 := real a b (steps l) gr gi (sumIm br bi hr hi) (sumRe br bi hr hi)
def gradIm : FVec Ideal S32x64 .f32 := imag a b (steps l) gr gi (sumIm br bi hr hi) (sumRe br bi hr hi)
def gradStep : FVec Ideal S32x1 .f32 := fun j =>
  ((∑ n : Fin 64, b (ix2 (j 0) n) * dAngle a b (steps l) gr gi (sumIm br bi hr hi) (sumRe br bi hr hi) (ix2 (j 0) n))
    + ∑ n : Fin 64, a (ix2 (j 0) n) * dExp a b (steps l) gr gi (sumIm br bi hr hi) (sumRe br bi hr hi) (ix2 (j 0) n)) * Ideal.exp (l (ix2 (j 0) 0))
def gradBRe : FVec Ideal S32x1024 .f32 := fun j =>
  Host.divf (numIm a b (steps l)) (den a b) (ix2 (j 0) (state (j 1))) * hi j + Host.divf (numRe a b (steps l)) (den a b) (ix2 (j 0) (state (j 1))) * hr j
def gradBIm : FVec Ideal S32x1024 .f32 := fun j =>
  Host.divf (numRe a b (steps l)) (den a b) (ix2 (j 0) (state (j 1))) * hi j + Host.divf (numIm a b (steps l)) (den a b) (ix2 (j 0) (state (j 1))) * -hr j

namespace Ref

/-- The reference's steps. -/
def flatStep : FVec Ideal S32 .f32 := Host.exp (shapeCast S32 l shapeCasts_S32x1_S32)
def steps : FVec Ideal S32x64 .f32 := broadcastInDim S32x64 ![0, 1] bcast_S32x1_S32x64_0_1 (broadcastInDim S32x1 ![0] bcast_S32_S32x1_0 (flatStep l))

/-- The columns of a row taken apart by state, summed over a state's columns, and the states spread over their columns. -/
def apart (z : FVec Ideal S32x1024 .f32) : FVec Ideal S32x64x16 .f32 := shapeCast S32x64x16 z shapeCasts_S32x1024_S32x64x16
def total (z : FVec Ideal S32x64x16 .f32) : FVec Ideal S32x64 .f32 :=
  Host.reduceAdd (shapeCast S32x64x1 (Host.reduceAdd z (constant S_ .f32 0x00000000#32) reducesTo_S32x64x16_S32x64_d2 h_S_) shapeCasts_S32x64_S32x64x1)
    (constant S_ .f32 0x00000000#32) reducesTo_S32x64x1_S32x64_d2 h_S_
def spread (z : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 z)

/-- The reference's gradients of the quotient. -/
def sumIm : FVec Ideal S32x64 .f32 := addf (total (mulf (apart hi) (apart br))) (total (mulf (Host.negf (apart hr)) (apart bi)))
def sumRe : FVec Ideal S32x64 .f32 := addf (total (mulf (apart hi) (apart bi))) (total (mulf (apart hr) (apart br)))

theorem flatStep_apply (r : Fin 32) : flatStep l (ix1 r) = Ideal.exp (l (ix2 r 0)) := by
  pointwise [flatStep]

theorem steps_eq : steps l = Disc.steps l := by
  funext j
  obtain ⟨r, n, rfl⟩ : ∃ (r : Fin 32) (n : Fin 64), j = ix2 r n := ⟨j 0, j 1, eq_ix2 j⟩
  pointwise [steps]
  rw [flatStep_apply]; rfl

theorem apart_apply (z : FVec Ideal S32x1024 .f32) (r : Fin 32) (n : Fin 64) (c : Fin 16) : apart z (ix3 r n c) = z (ix2 r (col n c)) := by
  pointwise [apart]
  rfl

theorem total_apply (z : FVec Ideal S32x64x16 .f32) (r : Fin 32) (n : Fin 64) : total z (ix2 r n) = ∑ c : Fin 16, z (ix3 r n c) := by
  pointwise [total]
  exact Fin.sum_univ_one _

theorem spread_apply (z : FVec Ideal S32x64 .f32) (r : Fin 32) (n : Fin 64) (c : Fin 16) : spread z (ix3 r n c) = z (ix2 r n) := by
  pointwise [spread]

theorem sumIm_eq : sumIm br bi hr hi = Disc.sumIm br bi hr hi := by
  funext j
  obtain ⟨r, n, rfl⟩ : ∃ (r : Fin 32) (n : Fin 64), j = ix2 r n := ⟨j 0, j 1, eq_ix2 j⟩
  pointwise [sumIm]
  rw [total_apply, total_apply, ← Finset.sum_add_distrib]
  refine Finset.sum_congr rfl fun c _ => ?_
  pointwise
  simp only [apart_apply]

theorem sumRe_eq : sumRe br bi hr hi = Disc.sumRe br bi hr hi := by
  funext j
  obtain ⟨r, n, rfl⟩ : ∃ (r : Fin 32) (n : Fin 64), j = ix2 r n := ⟨j 0, j 1, eq_ix2 j⟩
  pointwise [sumRe]
  rw [total_apply, total_apply, ← Finset.sum_add_distrib]
  refine Finset.sum_congr rfl fun c _ => ?_
  pointwise
  simp only [apart_apply]

/-- The reference's gradients of the state. -/
theorem gradRe : real a b (steps l) gr gi (sumIm br bi hr hi) (sumRe br bi hr hi) = Disc.gradRe a b l br bi gr gi hr hi := by
  rw [steps_eq, sumIm_eq, sumRe_eq]; rfl
theorem gradIm : imag a b (steps l) gr gi (sumIm br bi hr hi) (sumRe br bi hr hi) = Disc.gradIm a b l br bi gr gi hr hi := by
  rw [steps_eq, sumIm_eq, sumRe_eq]; rfl

/-- The reference's gradient of the step's logarithm. -/
theorem gradStep : (broadcastInDim S32x1 ![0] bcast_S32_S32x1_0 (mulf (Host.reduceAdd (addf
      (shapeCast S32x1 (Host.reduceAdd (mulf b (dAngle a b (steps l) gr gi (sumIm br bi hr hi) (sumRe br bi hr hi))) (constant S_ .f32 0x00000000#32) reducesTo_S32x64_S32_d1 h_S_) shapeCasts_S32_S32x1)
      (shapeCast S32x1 (Host.reduceAdd (mulf a (dExp a b (steps l) gr gi (sumIm br bi hr hi) (sumRe br bi hr hi))) (constant S_ .f32 0x00000000#32) reducesTo_S32x64_S32_d1 h_S_) shapeCasts_S32_S32x1))
      (constant S_ .f32 0x00000000#32) reducesTo_S32x1_S32_d1 h_S_) (flatStep l)) : FVec Ideal S32x1 .f32)
    = Disc.gradStep a b l br bi gr gi hr hi := by
  funext j
  obtain ⟨r, z, rfl⟩ : ∃ (r : Fin 32) (z : Fin 1), j = ix2 r z := ⟨j 0, j 1, eq_ix2 j⟩
  pointwise
  rw [steps_eq, sumIm_eq, sumRe_eq, flatStep_apply, Fin.sum_univ_one]
  rfl

theorem joined (z : FVec Ideal S32x64x16 .f32) (r : Fin 32) (k : Fin 1024) :
    shapeCast S32x1024 z shapeCasts_S32x64x16_S32x1024 (ix2 r k) = z (ix3 r (state k) ⟨k.val % 16, Nat.mod_lt _ (by decide)⟩) := by
  pointwise
  rfl

theorem col_state (k : Fin 1024) : col (state k) ⟨k.val % 16, Nat.mod_lt _ (by decide)⟩ = k := Fin.ext (Nat.div_add_mod' _ _)

/-- The reference's gradients of the input matrix. -/
theorem gradBRe : (shapeCast S32x1024 (addf (mulf (spread (Host.divf (numIm a b (steps l)) (den a b))) (apart hi))
      (mulf (spread (Host.divf (numRe a b (steps l)) (den a b))) (apart hr))) shapeCasts_S32x64x16_S32x1024 : FVec Ideal S32x1024 .f32)
    = Disc.gradBRe a b l hr hi := by
  funext j
  obtain ⟨r, k, rfl⟩ : ∃ (r : Fin 32) (k : Fin 1024), j = ix2 r k := ⟨j 0, j 1, eq_ix2 j⟩
  rw [joined, steps_eq]
  show spread _ _ * apart _ _ + spread _ _ * apart _ _ = _
  simp only [spread_apply, apart_apply, col_state]; rfl
theorem gradBIm : (shapeCast S32x1024 (addf (mulf (spread (Host.divf (numRe a b (steps l)) (den a b))) (apart hi))
      (mulf (spread (Host.divf (numIm a b (steps l)) (den a b))) (Host.negf (apart hr)))) shapeCasts_S32x64x16_S32x1024 : FVec Ideal S32x1024 .f32)
    = Disc.gradBIm a b l hr hi := by
  funext j
  obtain ⟨r, k, rfl⟩ : ∃ (r : Fin 32) (k : Fin 1024), j = ix2 r k := ⟨j 0, j 1, eq_ix2 j⟩
  rw [joined, steps_eq]
  show spread _ _ * apart _ _ + spread _ _ * -apart _ _ = _
  simp only [spread_apply, apart_apply, col_state]; rfl

end Ref

end Cert.Row.Disc

end
-- ==== Proof.Row.Disc.lean ====
/- The gradients of the discretisation. -/
module

public import proofs.«01_k».proof.Defs
public import proofs.«01_k».proof.Proof.Gen.Kernel34Ideal.Value
public import proofs.«01_k».proof.Proof.Row.DiscRef
public import Idealize.ShloMosaic.Lib.MatmulPlain

@[expose] public section

set_option maxRecDepth 16384

noncomputable section

namespace Cert.Row.Disc.Run

open Cert.Kernel34Ideal Cert.Kernel34Ideal.Gen
open Idealize.ShloMosaic Idealize.ShloMosaic.TcCoe
open Idealize.SL.Sem
open scoped BigOperators

/-- Zero less a vector is its negation. -/
theorem neg {S : Shape} (x : FVec Ideal S .f32) : subf (broadcast S (Scalar.ofBits .f32 0x00000000#32)) x = Host.negf x := by
  funext i
  show Ideal.ofBits .f32 0x00000000#32 - x i = -x i
  rw [Ideal.ofBits_zero_f32, zero_sub]

/-- A row's terms times the indicator of a state's columns sum to the state's terms. -/
theorem pick (f : Fin 1024 → EReal) (n : Fin 64) : ∑ k, f k * (if state k = n then 1 else 0) = ∑ c, f (col n c) := by
  let e : Fin 64 × Fin 16 ≃ Fin 1024 := finProdFinEquiv
  have he (s : Fin 64) (c : Fin 16) : e (s, c) = col s c := Fin.ext (by show c.val + 16 * s.val = s.val * 16 + c.val; omega)
  have hs (s : Fin 64) (c : Fin 16) : state (col s c) = s := Fin.ext (by show (s.val * 16 + c.val) / 16 = s.val; omega)
  rw [← e.sum_comp, Fintype.sum_prod_type]
  simp only [he, hs, mul_ite, mul_one, mul_zero]
  rw [Finset.sum_comm]
  simp

theorem hz : (![0, 0] : Fin 2 → Nat) = fun _ => 0 := funext fun a => by fin_cases a <;> rfl

section Payloads
variable (a b : FVec Ideal S32x64 .f32) (l : FVec Ideal S32x1 .f32) (br bi : FVec Ideal S32x1024 .f32) (E : FVec Ideal S64x1024 .f32)
variable (gr gi : FVec Ideal S32x64 .f32) (hr hi : FVec Ideal S32x1024 .f32)
variable (hE : ∀ n k, E (ix2 n k) = if state k = n then 1 else 0)

theorem step : broadcastTo S32x64 (k0_pay2 (F := Ideal) l) broadcasts_S32x1_S32x64 = steps l := by
  funext j
  obtain ⟨r, n, rfl⟩ : ∃ (r : Fin 32) (n : Fin 64), j = ix2 r n := ⟨j 0, j 1, eq_ix2 j⟩
  pointwise [k0_pay2]
  rfl

/-- The kernel's forward values. -/
theorem pay3 : k0_pay3 (F := Ideal) b l = mulf b (steps l) := congrArg (mulf b) (step l)
theorem pay4 : k0_pay4 (F := Ideal) a l = mag a (steps l) := congrArg (fun d => exp (mulf a d)) (step l)
theorem pay5 : k0_pay5 (F := Ideal) b l = cosine b (steps l) := congrArg (fun d => cos (mulf b d)) (step l)
theorem pay6 : k0_pay6 (F := Ideal) b l = sine b (steps l) := congrArg (fun d => sin (mulf b d)) (step l)
theorem pay8 : k0_pay8 (F := Ideal) b l = sine b (steps l) := congrArg (fun d => sin (mulf b d)) (step l)
theorem pay9 : k0_pay9 (F := Ideal) b l = cosine b (steps l) := congrArg (fun d => cos (mulf b d)) (step l)
theorem pay10 : k0_pay10 (F := Ideal) a b l = im a b (steps l) := congrArg₂ mulf (pay4 a l) (pay8 b l)
theorem pay11 : k0_pay11 (F := Ideal) a b = den a b := rfl
theorem pay12 : k0_pay12 (F := Ideal) a b l = less a b (steps l) :=
  congrArg (fun x => subf x one) (congrArg₂ mulf (pay4 a l) (pay5 b l))
theorem pay13 : k0_pay13 (F := Ideal) a b l = numRe a b (steps l) :=
  congrArg₂ (fun x y => addf (mulf x a) (mulf y b)) (pay12 a b l) (pay10 a b l)
theorem pay14 : k0_pay14 (F := Ideal) a b = inv a b := rfl
theorem pay15 : k0_pay15 (F := Ideal) a b l = less a b (steps l) := pay12 a b l
theorem pay16 : k0_pay16 (F := Ideal) a b l = numIm a b (steps l) :=
  congrArg₂ (fun x y => subf (mulf x a) (mulf y b)) (pay10 a b l) (pay15 a b l)
theorem pay17 : k0_pay17 (F := Ideal) a b = inv a b := rfl

include hE

theorem pay1 (n : Fin 64) (k : Fin 1024) : k0_pay1 (F := Ideal) E (ix2 n k) = if state k = n then 1 else 0 :=
  (congrFun (shapeCast_self E _) _).trans (hE n k)

/-- The states' values spread over their columns. -/
theorem times (q : FVec Ideal S32x64 .f32) (r : Fin 32) (k : Fin 1024) :
    matmul dot_S32x64_S64x1024_S32x1024_1_0_0_1_n_n (some .fp32) q (k0_pay1 E) (constant S32x1024 .f32 0x00000000#32) (ix2 r k) = q (ix2 r (state k)) := by
  refine (Ideal.matmul_plain_apply (M := 32) (K := 64) (N := 1024) (some .fp32) q (k0_pay1 E) _ r k).trans ?_
  show Ideal.ofBits .f32 0x00000000#32 + _ = _
  rw [Ideal.ofBits_zero_f32, zero_add]
  exact (Finset.sum_congr rfl fun n _ => congrArg (q (ix2 r n) * ·) (pay1 E hE n k)).trans (by simp)

theorem pay18 (r : Fin 32) (k : Fin 1024) : k0_pay18 (F := Ideal) a b l E (ix2 r k) = Host.divf (numRe a b (steps l)) (den a b) (ix2 r (state k)) := by
  refine (times E hE (divf (k0_pay13 a b l) (k0_pay11 a b)) r k).trans ?_
  rw [pay13]; rfl
theorem pay19 (r : Fin 32) (k : Fin 1024) : k0_pay19 (F := Ideal) a b l E (ix2 r k) = Host.divf (numIm a b (steps l)) (den a b) (ix2 r (state k)) := by
  refine (times E hE (divf (k0_pay16 a b l) (k0_pay11 a b)) r k).trans ?_
  rw [pay16]; rfl

/-- A state's columns summed. -/
theorem sums (z : FVec Ideal S32x1024 .f32) (r : Fin 32) (n : Fin 64) :
    matmul dot_S32x1024_S64x1024_S32x64_1_1_0_0_n_n (some .fp32) z (k0_pay1 E) (constant S32x64 .f32 0x00000000#32) (ix2 r n) = ∑ c, z (ix2 r (col n c)) := by
  refine (Ideal.matmul_transposedRhs_apply (M := 32) (K := 1024) (N := 64) (some .fp32) z (k0_pay1 E) _ r n).trans ?_
  show Ideal.ofBits .f32 0x00000000#32 + _ = _
  rw [Ideal.ofBits_zero_f32, zero_add]
  exact (Finset.sum_congr rfl fun k _ => congrArg (z (ix2 r k) * ·) (pay1 E hE n k)).trans (pick (fun k => z (ix2 r k)) n)

theorem pay26 : k0_pay26 (F := Ideal) br bi (k0_pay1 E) hr hi = sumIm br bi hr hi := by
  funext j
  obtain ⟨r, n, rfl⟩ : ∃ (r : Fin 32) (n : Fin 64), j = ix2 r n := ⟨j 0, j 1, eq_ix2 j⟩
  refine (sums E hE _ r n).trans (Finset.sum_congr rfl fun c _ => ?_)
  pointwise [k0_pay21, k0_pay23]
  simp [zero_sub]
theorem pay27 : k0_pay27 (F := Ideal) br bi (k0_pay1 E) hr hi = sumRe br bi hr hi := by
  funext j
  obtain ⟨r, n, rfl⟩ : ∃ (r : Fin 32) (n : Fin 64), j = ix2 r n := ⟨j 0, j 1, eq_ix2 j⟩
  refine (sums E hE _ r n).trans (Finset.sum_congr rfl fun c _ => ?_)
  pointwise [k0_pay20, k0_pay22]

/-- What the kernel's body leaves in its five results. -/
theorem out10 : out0_10 (F := Ideal) a b l br bi E gr gi hr hi = gradRe a b l br bi gr gi hr hi := by
  have h26 := pay26 br bi E hr hi hE
  have h27 := pay27 br bi E hr hi hE
  unfold_out out0_10
  rw [View.canon_unit_zero (S := S32x64) hz]
  simp only [View.ld_unit_zero (S := S32x64) hz, View.ld_unit_zero (S := S32x1) hz, View.ld_unit_zero (S := S32x1024) hz, View.ld_unit_zero (S := S64x1024) hz,
    k0_pay40, k0_pay38, k0_pay36, k0_pay35, k0_pay33, k0_pay32, k0_pay31, k0_pay30, k0_pay29, k0_pay28, h26, h27, neg, step,
    pay4, pay5, pay6, pay8, pay9, pay10, pay11, pay12, pay13, pay14, pay15, pay16, pay17]
  rfl
theorem out11 : out0_11 (F := Ideal) a b l br bi E gr gi hr hi = gradIm a b l br bi gr gi hr hi := by
  have h26 := pay26 br bi E hr hi hE
  have h27 := pay27 br bi E hr hi hE
  unfold_out out0_11
  rw [View.canon_unit_zero (S := S32x64) hz]
  simp only [View.ld_unit_zero (S := S32x64) hz, View.ld_unit_zero (S := S32x1) hz, View.ld_unit_zero (S := S32x1024) hz, View.ld_unit_zero (S := S64x1024) hz,
    k0_pay39, k0_pay37, k0_pay36, k0_pay35, k0_pay34, k0_pay33, k0_pay32, k0_pay30, k0_pay29, k0_pay28, h26, h27, neg, step,
    pay4, pay5, pay6, pay8, pay9, pay10, pay11, pay12, pay13, pay14, pay15, pay16, pay17]
  rfl
theorem out12 : out0_12 (F := Ideal) a b l br bi E gr gi hr hi = gradStep a b l br bi gr gi hr hi := by
  have h26 := pay26 br bi E hr hi hE
  have h27 := pay27 br bi E hr hi hE
  unfold_out out0_12
  rw [View.canon_unit_zero (S := S32x1) hz]
  simp only [View.ld_unit_zero (S := S32x64) hz, View.ld_unit_zero (S := S32x1) hz, View.ld_unit_zero (S := S32x1024) hz, View.ld_unit_zero (S := S64x1024) hz,
    k0_pay38, k0_pay37, k0_pay36, k0_pay35, k0_pay33, k0_pay30, k0_pay29, k0_pay28, h26, h27, neg, step,
    pay4, pay5, pay6, pay8, pay9, pay10, pay11, pay12, pay13, pay14, pay15, pay16, pay17]
  funext j
  obtain ⟨r, z, rfl⟩ : ∃ (r : Fin 32) (z : Fin 1), j = ix2 r z := ⟨j 0, j 1, eq_ix2 j⟩
  obtain rfl : z = 0 := Subsingleton.elim _ _
  unfold k0_pay41 k0_pay38 k0_pay37 k0_pay36
  simp only [neg]
  pointwise [k0_pay2]
  rfl
theorem out13 : out0_13 (F := Ideal) a b l br bi E gr gi hr hi = gradBRe a b l hr hi := by
  unfold_out out0_13
  rw [View.canon_unit_zero (S := S32x1024) hz]
  simp only [View.ld_unit_zero (S := S32x64) hz, View.ld_unit_zero (S := S32x1) hz, View.ld_unit_zero (S := S32x1024) hz, View.ld_unit_zero (S := S64x1024) hz]
  funext j
  obtain ⟨r, k, rfl⟩ : ∃ (r : Fin 32) (k : Fin 1024), j = ix2 r k := ⟨j 0, j 1, eq_ix2 j⟩
  pointwise [k0_pay25, k0_pay21, k0_pay22]
  rw [pay18 a b l E hE, pay19 a b l E hE]; rfl
theorem out14 : out0_14 (F := Ideal) a b l br bi E gr gi hr hi = gradBIm a b l hr hi := by
  unfold_out out0_14
  rw [View.canon_unit_zero (S := S32x1024) hz]
  simp only [View.ld_unit_zero (S := S32x64) hz, View.ld_unit_zero (S := S32x1) hz, View.ld_unit_zero (S := S32x1024) hz, View.ld_unit_zero (S := S64x1024) hz,
    k0_pay24, k0_pay23, neg]
  funext j
  obtain ⟨r, k, rfl⟩ : ∃ (r : Fin 32) (k : Fin 1024), j = ix2 r k := ⟨j 0, j 1, eq_ix2 j⟩
  pointwise [k0_pay20]
  rw [pay18 a b l E hE, pay19 a b l E hE]; rfl

end Payloads

section Blocks
variable (m : (ℓ : Loc nD τ sig) → Buf (Elt Ideal) ℓ) (c : Dev nD)

/-- A window's block is its whole array. -/
theorem iblk0 (t : Fin cfg0.N) : iblk m c 0 t = V m c main_arg0 := by
  funext y
  blk_ext [iblk]
  all_goals first | exact (congrArg (· + _) (Nat.zero_mul _)).trans (Nat.zero_add _) | rfl
theorem iblk1 (t : Fin cfg0.N) : iblk m c 1 t = V m c main_arg1 := by
  funext y
  blk_ext [iblk]
  all_goals first | exact (congrArg (· + _) (Nat.zero_mul _)).trans (Nat.zero_add _) | rfl
theorem iblk2 (t : Fin cfg0.N) : iblk m c 2 t = V m c main_arg2 := by
  funext y
  blk_ext [iblk]
  all_goals first | exact (congrArg (· + _) (Nat.zero_mul _)).trans (Nat.zero_add _) | rfl
theorem iblk3 (t : Fin cfg0.N) : iblk m c 3 t = V m c main_arg3 := by
  funext y
  blk_ext [iblk]
  all_goals first | exact (congrArg (· + _) (Nat.zero_mul _)).trans (Nat.zero_add _) | rfl
theorem iblk4 (t : Fin cfg0.N) : iblk m c 4 t = V m c main_arg4 := by
  funext y
  blk_ext [iblk]
  all_goals first | exact (congrArg (· + _) (Nat.zero_mul _)).trans (Nat.zero_add _) | rfl
theorem iblk5 (t : Fin cfg0.N) : iblk m c 5 t = V m c main_v7 := by
  funext y
  blk_ext [iblk]
  all_goals first | exact (congrArg (· + _) (Nat.zero_mul _)).trans (Nat.zero_add _) | rfl
theorem iblk6 (t : Fin cfg0.N) : iblk m c 6 t = V m c main_arg5 := by
  funext y
  blk_ext [iblk]
  all_goals first | exact (congrArg (· + _) (Nat.zero_mul _)).trans (Nat.zero_add _) | rfl
theorem iblk7 (t : Fin cfg0.N) : iblk m c 7 t = V m c main_arg6 := by
  funext y
  blk_ext [iblk]
  all_goals first | exact (congrArg (· + _) (Nat.zero_mul _)).trans (Nat.zero_add _) | rfl
theorem iblk8 (t : Fin cfg0.N) : iblk m c 8 t = V m c main_arg7 := by
  funext y
  blk_ext [iblk]
  all_goals first | exact (congrArg (· + _) (Nat.zero_mul _)).trans (Nat.zero_add _) | rfl
theorem iblk9 (t : Fin cfg0.N) : iblk m c 9 t = V m c main_arg8 := by
  funext y
  blk_ext [iblk]
  all_goals first | exact (congrArg (· + _) (Nat.zero_mul _)).trans (Nat.zero_add _) | rfl

end Blocks

/-- The indicator of the states' columns, as the host makes it before the kernel runs. -/
def same : FVec Ideal S64x64 .f32 :=
  uitofp .f32 (cmpi .eq (addi (iotaInDim S64x64 32 0) (broadcastInDim S64x64 ![] bcast_S_S64x64 (constantI S_ 32 0#32))) (iotaInDim S64x64 32 1))
def spread : FVec Ideal S64x1x64x16 .f32 := mulf
  (broadcastInDim S64x1x64x16 ![0, 1, 2, 3] bcast_S64x1x64x1_S64x1x64x16_0_1_2_3 (broadcastInDim S64x1x64x1 ![0, 2] bcast_S64x64_S64x1x64x1_0_2 same))
  (broadcastInDim S64x1x64x16 ![0, 1, 2, 3] bcast_S1x1x1x16_S64x1x64x16_0_1_2_3 (broadcastInDim S1x1x1x16 ![1, 3] bcast_S1x16_S1x1x1x16_1_3
    (broadcastInDim S1x16 ![] bcast_S_S1x16 (constant S_ .f32 0x3F800000#32))))
def indicator : FVec Ideal S64x1024 .f32 := shapeCast S64x1024 spread shapeCasts_S64x1x64x16_S64x1024

theorem same_apply (n s : Fin 64) : same (ix2 n s) = if s = n then 1 else 0 := by
  show (((BitVec.ofBool (BitVec.ofNat 32 n.val + 0#32 == BitVec.ofNat 32 s.val)).toNat : ℝ) : EReal) = _
  have h : (BitVec.ofNat 32 n.val + 0#32 == BitVec.ofNat 32 s.val) = decide (s = n) := by revert n s; decide +kernel
  rw [h]
  by_cases e : s = n <;> simp [e]

theorem spread_apply (j : S64x1x64x16.Idx) : spread j = same (ix2 (j 0) (j 2)) := by
  show same _ * Ideal.ofBits .f32 0x3F800000#32 = _
  rw [Ideal.ofBits_one_f32, mul_one]
  refine congrArg same (funext fun a => ?_)
  match a with
  | ⟨0, _⟩ => rfl
  | ⟨1, _⟩ => rfl

theorem indicator_apply (n : Fin 64) (k : Fin 1024) : indicator (ix2 n k) = if state k = n then 1 else 0 := by
  pointwise [indicator]
  rw [spread_apply]
  exact same_apply n (state k)

theorem V7 (m : (ℓ : Loc nD τ sig) → Buf (Elt Ideal) ℓ) (c : Dev nD) : V m c main_v7 = indicator := by
  show StableHlo.after (List.flatten [hostOps0, hostOps0_1]) (fun b => m (c, b)) (Proc.tc.devRef main_v7) = _
  unfold hostOps0 hostOps0_1
  after_results
  rfl

/-- The one point of the grid. -/
def point : Fin cfg0.N := ⟨0, by decide⟩

section Finals
variable (m : (ℓ : Loc nD τ sig) → Buf (Elt Ideal) ℓ) (c : Dev nD)

/-- What the kernel leaves in its five results. -/
theorem final10 : (dats m 0 c).arrAt 10 cfg0.N = gradRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_cover 10 _ (fun t _ => ?_) (fun (i : S32x64.Idx) => ?_)
  · rw [Value.flushed10, iblk0, iblk1, iblk2, iblk3, iblk4, iblk5, iblk6, iblk7, iblk8, iblk9, V7,
      V_main_arg0, V_main_arg1, V_main_arg2, V_main_arg3, V_main_arg4, V_main_arg5, V_main_arg6, V_main_arg7, V_main_arg8, out10 _ _ _ _ _ _ _ _ _ _ indicator_apply]
    funext y
    refine congrArg (gradRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (funext fun a => Fin.ext ?_)
    match a with
    | ⟨0, _⟩ => show (y 0).val = 0 * 32 + 1 * (y 0).val; omega
    | ⟨1, _⟩ => show (y 1).val = 0 * 64 + 1 * (y 1).val; omega
  · refine ⟨point, by decide +kernel, ?_⟩
    show i ∈ ((View.whole main_v8_0).slice (win0_10.rect point)).set
    rw [View.set_slice_whole, Rect.mem_set_unit]
    have h0 : (i 0).val < 32 := (i 0).isLt
    have h1 : (i 1).val < 64 := (i 1).isLt
    intro a
    match a with
    | ⟨0, _⟩ => show 0 * 32 ≤ (i 0).val ∧ (i 0).val < 0 * 32 + 32; omega
    | ⟨1, _⟩ => show 0 * 64 ≤ (i 1).val ∧ (i 1).val < 0 * 64 + 64; omega

theorem final11 : (dats m 0 c).arrAt 11 cfg0.N = gradIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_cover 11 _ (fun t _ => ?_) (fun (i : S32x64.Idx) => ?_)
  · rw [Value.flushed11, iblk0, iblk1, iblk2, iblk3, iblk4, iblk5, iblk6, iblk7, iblk8, iblk9, V7,
      V_main_arg0, V_main_arg1, V_main_arg2, V_main_arg3, V_main_arg4, V_main_arg5, V_main_arg6, V_main_arg7, V_main_arg8, out11 _ _ _ _ _ _ _ _ _ _ indicator_apply]
    funext y
    refine congrArg (gradIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (funext fun a => Fin.ext ?_)
    match a with
    | ⟨0, _⟩ => show (y 0).val = 0 * 32 + 1 * (y 0).val; omega
    | ⟨1, _⟩ => show (y 1).val = 0 * 64 + 1 * (y 1).val; omega
  · refine ⟨point, by decide +kernel, ?_⟩
    show i ∈ ((View.whole main_v8_1).slice (win0_11.rect point)).set
    rw [View.set_slice_whole, Rect.mem_set_unit]
    have h0 : (i 0).val < 32 := (i 0).isLt
    have h1 : (i 1).val < 64 := (i 1).isLt
    intro a
    match a with
    | ⟨0, _⟩ => show 0 * 32 ≤ (i 0).val ∧ (i 0).val < 0 * 32 + 32; omega
    | ⟨1, _⟩ => show 0 * 64 ≤ (i 1).val ∧ (i 1).val < 0 * 64 + 64; omega

theorem final12 : (dats m 0 c).arrAt 12 cfg0.N = gradStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_cover 12 _ (fun t _ => ?_) (fun (i : S32x1.Idx) => ?_)
  · rw [Value.flushed12, iblk0, iblk1, iblk2, iblk3, iblk4, iblk5, iblk6, iblk7, iblk8, iblk9, V7,
      V_main_arg0, V_main_arg1, V_main_arg2, V_main_arg3, V_main_arg4, V_main_arg5, V_main_arg6, V_main_arg7, V_main_arg8, out12 _ _ _ _ _ _ _ _ _ _ indicator_apply]
    funext y
    refine congrArg (gradStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (funext fun a => Fin.ext ?_)
    match a with
    | ⟨0, _⟩ => show (y 0).val = 0 * 32 + 1 * (y 0).val; omega
    | ⟨1, _⟩ => show (y 1).val = 0 * 1 + 1 * (y 1).val; omega
  · refine ⟨point, by decide +kernel, ?_⟩
    show i ∈ ((View.whole main_v8_2).slice (win0_12.rect point)).set
    rw [View.set_slice_whole, Rect.mem_set_unit]
    have h0 : (i 0).val < 32 := (i 0).isLt
    have h1 : (i 1).val < 1 := (i 1).isLt
    intro a
    match a with
    | ⟨0, _⟩ => show 0 * 32 ≤ (i 0).val ∧ (i 0).val < 0 * 32 + 32; omega
    | ⟨1, _⟩ => show 0 * 1 ≤ (i 1).val ∧ (i 1).val < 0 * 1 + 1; omega

theorem final13 : (dats m 0 c).arrAt 13 cfg0.N = gradBRe (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_cover 13 _ (fun t _ => ?_) (fun (i : S32x1024.Idx) => ?_)
  · rw [Value.flushed13, iblk0, iblk1, iblk2, iblk3, iblk4, iblk5, iblk6, iblk7, iblk8, iblk9, V7,
      V_main_arg0, V_main_arg1, V_main_arg2, V_main_arg3, V_main_arg4, V_main_arg5, V_main_arg6, V_main_arg7, V_main_arg8, out13 _ _ _ _ _ _ _ _ _ _ indicator_apply]
    funext y
    refine congrArg (gradBRe (m ((c : Thread nD τ).loc main_arg0)) (m ((c : Thread nD τ).loc main_arg1)) (m ((c : Thread nD τ).loc main_arg2)) (m ((c : Thread nD τ).loc main_arg7)) (m ((c : Thread nD τ).loc main_arg8))) (funext fun a => Fin.ext ?_)
    match a with
    | ⟨0, _⟩ => show (y 0).val = 0 * 32 + 1 * (y 0).val; omega
    | ⟨1, _⟩ => show (y 1).val = 0 * 1024 + 1 * (y 1).val; omega
  · refine ⟨point, by decide +kernel, ?_⟩
    show i ∈ ((View.whole main_v8_3).slice (win0_13.rect point)).set
    rw [View.set_slice_whole, Rect.mem_set_unit]
    have h0 : (i 0).val < 32 := (i 0).isLt
    have h1 : (i 1).val < 1024 := (i 1).isLt
    intro a
    match a with
    | ⟨0, _⟩ => show 0 * 32 ≤ (i 0).val ∧ (i 0).val < 0 * 32 + 32; omega
    | ⟨1, _⟩ => show 0 * 1024 ≤ (i 1).val ∧ (i 1).val < 0 * 1024 + 1024; omega

theorem final14 : (dats m 0 c).arrAt 14 cfg0.N = gradBIm (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_cover 14 _ (fun t _ => ?_) (fun (i : S32x1024.Idx) => ?_)
  · rw [Value.flushed14, iblk0, iblk1, iblk2, iblk3, iblk4, iblk5, iblk6, iblk7, iblk8, iblk9, V7,
      V_main_arg0, V_main_arg1, V_main_arg2, V_main_arg3, V_main_arg4, V_main_arg5, V_main_arg6, V_main_arg7, V_main_arg8, out14 _ _ _ _ _ _ _ _ _ _ indicator_apply]
    funext y
    refine congrArg (gradBIm (m ((c : Thread nD τ).loc main_arg0)) (m ((c : Thread nD τ).loc main_arg1)) (m ((c : Thread nD τ).loc main_arg2)) (m ((c : Thread nD τ).loc main_arg7)) (m ((c : Thread nD τ).loc main_arg8))) (funext fun a => Fin.ext ?_)
    match a with
    | ⟨0, _⟩ => show (y 0).val = 0 * 32 + 1 * (y 0).val; omega
    | ⟨1, _⟩ => show (y 1).val = 0 * 1024 + 1 * (y 1).val; omega
  · refine ⟨point, by decide +kernel, ?_⟩
    show i ∈ ((View.whole main_v8_4).slice (win0_14.rect point)).set
    rw [View.set_slice_whole, Rect.mem_set_unit]
    have h0 : (i 0).val < 32 := (i 0).isLt
    have h1 : (i 1).val < 1024 := (i 1).isLt
    intro a
    match a with
    | ⟨0, _⟩ => show 0 * 32 ≤ (i 0).val ∧ (i 0).val < 0 * 32 + 32; omega
    | ⟨1, _⟩ => show 0 * 1024 ≤ (i 1).val ∧ (i 1).val < 0 * 1024 + 1024; omega

end Finals

theorem algebraic : algebraic_Kernel34Ideal_Reference34Ideal := by
  intro m g m' g' _ hm
  refine ⟨fun c => gradRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
    fun c => gradIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
    fun c => gradStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
    fun c => gradBRe (m ((c : Thread nD τ).loc main_arg0)) (m ((c : Thread nD τ).loc main_arg1)) (m ((c : Thread nD τ).loc main_arg2)) (m ((c : Thread nD τ).loc main_arg7)) (m ((c : Thread nD τ).loc main_arg8)),
    fun c => gradBIm (m ((c : Thread nD τ).loc main_arg0)) (m ((c : Thread nD τ).loc main_arg1)) (m ((c : Thread nD τ).loc main_arg2)) (m ((c : Thread nD τ).loc main_arg7)) (m ((c : Thread nD τ).loc main_arg8)), ?_, ?_⟩
  · refine (θ_run defs _ _).mono (fun r h c => ?_) (Value.run_blocks m g)
    obtain ⟨h10, h11, h12, h13, h14, h⟩ := h c
    exact ⟨h10.trans (final10 m c), h11.trans (final11 m c), h12.trans (final12 m c), h13.trans (final13 m c), h14.trans (final14 m c), h⟩
  · refine (θ_run Reference34Ideal.defs _ _).mono (fun r h c => ?_) (Reference34Ideal.Value.run m' g')
    obtain ⟨e0, e1, e2, e3, e4, e5, e6, e7, e8⟩ := hm c
    obtain ⟨h10, h11, h12, h13, h14, h⟩ := h c
    refine ⟨h10.trans ((Ref.gradRe (m' ((c : Thread nD τ).loc Reference34Ideal.main_arg0)) (m' ((c : Thread nD τ).loc Reference34Ideal.main_arg1)) (m' ((c : Thread nD τ).loc Reference34Ideal.main_arg2)) (m' ((c : Thread nD τ).loc Reference34Ideal.main_arg3)) (m' ((c : Thread nD τ).loc Reference34Ideal.main_arg4)) (m' ((c : Thread nD τ).loc Reference34Ideal.main_arg5)) (m' ((c : Thread nD τ).loc Reference34Ideal.main_arg6)) (m' ((c : Thread nD τ).loc Reference34Ideal.main_arg7)) (m' ((c : Thread nD τ).loc Reference34Ideal.main_arg8))).trans ?_),
      h11.trans ((Ref.gradIm (m' ((c : Thread nD τ).loc Reference34Ideal.main_arg0)) (m' ((c : Thread nD τ).loc Reference34Ideal.main_arg1)) (m' ((c : Thread nD τ).loc Reference34Ideal.main_arg2)) (m' ((c : Thread nD τ).loc Reference34Ideal.main_arg3)) (m' ((c : Thread nD τ).loc Reference34Ideal.main_arg4)) (m' ((c : Thread nD τ).loc Reference34Ideal.main_arg5)) (m' ((c : Thread nD τ).loc Reference34Ideal.main_arg6)) (m' ((c : Thread nD τ).loc Reference34Ideal.main_arg7)) (m' ((c : Thread nD τ).loc Reference34Ideal.main_arg8))).trans ?_),
      h12.trans ((Ref.gradStep (m' ((c : Thread nD τ).loc Reference34Ideal.main_arg0)) (m' ((c : Thread nD τ).loc Reference34Ideal.main_arg1)) (m' ((c : Thread nD τ).loc Reference34Ideal.main_arg2)) (m' ((c : Thread nD τ).loc Reference34Ideal.main_arg3)) (m' ((c : Thread nD τ).loc Reference34Ideal.main_arg4)) (m' ((c : Thread nD τ).loc Reference34Ideal.main_arg5)) (m' ((c : Thread nD τ).loc Reference34Ideal.main_arg6)) (m' ((c : Thread nD τ).loc Reference34Ideal.main_arg7)) (m' ((c : Thread nD τ).loc Reference34Ideal.main_arg8))).trans ?_),
      h13.trans ((Ref.gradBRe (m' ((c : Thread nD τ).loc Reference34Ideal.main_arg0)) (m' ((c : Thread nD τ).loc Reference34Ideal.main_arg1)) (m' ((c : Thread nD τ).loc Reference34Ideal.main_arg2)) (m' ((c : Thread nD τ).loc Reference34Ideal.main_arg7)) (m' ((c : Thread nD τ).loc Reference34Ideal.main_arg8))).trans ?_),
      h14.trans ((Ref.gradBIm (m' ((c : Thread nD τ).loc Reference34Ideal.main_arg0)) (m' ((c : Thread nD τ).loc Reference34Ideal.main_arg1)) (m' ((c : Thread nD τ).loc Reference34Ideal.main_arg2)) (m' ((c : Thread nD τ).loc Reference34Ideal.main_arg7)) (m' ((c : Thread nD τ).loc Reference34Ideal.main_arg8))).trans ?_), h⟩ <;>
    simp only [e0, e1, e2, e3, e4, e5, e6, e7, e8]

end Cert.Row.Disc.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.S5.Frames
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Mm.Dx
public import proofs.«01_k».proof.Proof.Mm.Dw
public import proofs.«01_k».proof.Proof.Mm.Act
public import proofs.«01_k».proof.Proof.Mm.Down
public import proofs.«01_k».proof.Proof.Mm.Parts
public import proofs.«01_k».proof.Proof.Mm.InP
public import proofs.«01_k».proof.Proof.Mm.InU
public import proofs.«01_k».proof.Proof.Mm.InG
public import proofs.«01_k».proof.Proof.Mm.DMix
public import proofs.«01_k».proof.Proof.Mm.WOut
public import proofs.«01_k».proof.Proof.Mm.DRwkv
public import proofs.«01_k».proof.Proof.Mm.WRwkv
public import proofs.«01_k».proof.Proof.Mm.DGlu
public import proofs.«01_k».proof.Proof.Mm.WGlu
public import proofs.«01_k».proof.Proof.Mm.FRwkv
public import proofs.«01_k».proof.Proof.Mm.FGlu
public import proofs.«01_k».proof.Proof.Mm.FOut
public import proofs.«01_k».proof.Proof.Mm.FUp
public import proofs.«01_k».proof.Proof.Mm.FDown
public import proofs.«01_k».proof.Proof.Mm.Proj
public import proofs.«01_k».proof.Proof.Opt.Adamw
public import proofs.«01_k».proof.Proof.Row.Ada
public import proofs.«01_k».proof.Proof.Row.Norm1
public import proofs.«01_k».proof.Proof.Row.Norm2
public import proofs.«01_k».proof.Proof.Row.Head
public import proofs.«01_k».proof.Proof.Row.Disc

@[expose] public section

noncomputable section

namespace Cert.Proof

open Idealize.ShloMosaic Idealize.SL.Sem Cert.Kernel

/-- Reference 2 ends with its arguments unchanged and its counters at zero. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Reference 3 ends with its arguments unchanged and its counters at zero. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- Reference 4 ends with its arguments unchanged and its counters at zero. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- Reference 5 ends with its arguments unchanged and its counters at zero. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- Reference 6 ends with its arguments unchanged and its counters at zero. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- Reference 7 ends with its arguments unchanged and its counters at zero. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- Reference 8 ends with its arguments unchanged and its counters at zero. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- Reference 9 ends with its arguments unchanged and its counters at zero. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- Reference 10 ends with its arguments unchanged and its counters at zero. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- Reference 11 ends with its arguments unchanged and its counters at zero. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- Reference 12 ends with its arguments unchanged and its counters at zero. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- Reference 13 ends with its arguments unchanged and its counters at zero. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- Reference 14 ends with its arguments unchanged and its counters at zero. -/
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- Reference 15 ends with its arguments unchanged and its counters at zero. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

/-- Reference 16 ends with its arguments unchanged and its counters at zero. -/
theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run m ρ)

/-- Reference 17 ends with its arguments unchanged and its counters at zero. -/
theorem frame_reference17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run m ρ)

/-- Reference 18 ends with its arguments unchanged and its counters at zero. -/
theorem frame_reference18 : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run m ρ)

/-- Reference 19 ends with its arguments unchanged and its counters at zero. -/
theorem frame_reference19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run m ρ)

/-- Reference 20 ends with its arguments unchanged and its counters at zero. -/
theorem frame_reference20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run m ρ)

/-- Reference 21 ends with its arguments unchanged and its counters at zero. -/
theorem frame_reference21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run m ρ)

/-- Reference 22 ends with its arguments unchanged and its counters at zero. -/
theorem frame_reference22 : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run m ρ)

/-- Reference 23 ends with its arguments unchanged and its counters at zero. -/
theorem frame_reference23 : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run m ρ)

/-- Reference 24 ends with its arguments unchanged and its counters at zero. -/
theorem frame_reference24 : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run m ρ)

/-- Reference 25 ends with its arguments unchanged and its counters at zero. -/
theorem frame_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run m ρ)

/-- Reference 26 ends with its arguments unchanged and its counters at zero. -/
theorem frame_reference26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run m ρ)

/-- Reference 27 ends with its arguments unchanged and its counters at zero. -/
theorem frame_reference27 : Cert.quiescent_Reference27Ideal := fun m ρ _ =>
  (θ_run Cert.Reference27Ideal.defs _ _).mono (fun r h => ⟨fun c => (h c).2, sem_eq_zero_of_no_sems (by decide) r.2⟩)
    (Cert.Reference27Ideal.Value.run m ρ)

/-- Reference 28 ends with its arguments unchanged and its counters at zero. -/
theorem frame_reference28 : Cert.quiescent_Reference28Ideal := fun m ρ _ =>
  (θ_run Cert.Reference28Ideal.defs _ _).mono (fun r h => ⟨fun c => (h c).2, sem_eq_zero_of_no_sems (by decide) r.2⟩)
    (Cert.Reference28Ideal.Value.run m ρ)

/-- Reference 29 ends with its arguments unchanged and its counters at zero. -/
theorem frame_reference29 : Cert.quiescent_Reference29Ideal := fun m ρ _ =>
  (θ_run Cert.Reference29Ideal.defs _ _).mono (fun r h => ⟨fun c => (h c).2, sem_eq_zero_of_no_sems (by decide) r.2⟩)
    (Cert.Reference29Ideal.Value.run m ρ)

/-- Reference 30 ends with its arguments unchanged and its counters at zero. -/
theorem frame_reference30 : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run m ρ)

/-- Reference 31 ends with its arguments unchanged and its counters at zero. -/
theorem frame_reference31 : Cert.quiescent_Reference31Ideal := fun m ρ _ =>
  (θ_run Cert.Reference31Ideal.defs _ _).mono (fun r h => ⟨fun c => (h c).2.2.2.2, sem_eq_zero_of_no_sems (by decide) r.2⟩)
    (Cert.Reference31Ideal.Value.run m ρ)

/-- Reference 32 ends with its arguments unchanged and its counters at zero. -/
theorem frame_reference32 : Cert.quiescent_Reference32Ideal := fun m ρ _ =>
  (θ_run Cert.Reference32Ideal.defs _ _).mono (fun r h => ⟨fun c => (h c).2.2.2.2.2.2, sem_eq_zero_of_no_sems (by decide) r.2⟩)
    (Cert.Reference32Ideal.Value.run m ρ)

/-- Reference 33 ends with its arguments unchanged and its counters at zero. -/
theorem frame_reference33 : Cert.quiescent_Reference33Ideal := fun m ρ _ =>
  (θ_run Cert.Reference33Ideal.defs _ _).mono (fun r h => ⟨fun c => (h c).2.2.2.2.2, sem_eq_zero_of_no_sems (by decide) r.2⟩)
    (Cert.Reference33Ideal.Value.run m ρ)

/-- Reference 34 ends with its arguments unchanged and its counters at zero. -/
theorem frame_reference34 : Cert.quiescent_Reference34Ideal := fun m ρ _ =>
  (θ_run Cert.Reference34Ideal.defs _ _).mono (fun r h => ⟨fun c => (h c).2.2.2.2.2, sem_eq_zero_of_no_sems (by decide) r.2⟩)
    (Cert.Reference34Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts,
    Cert.S5.frame_kernel, Cert.S5.frame_kernelIdeal, Cert.S5.frame_referenceIdeal,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    fun m ρ _ => Cert.Kernel27.Gen.frame m ρ, fun m ρ _ => Cert.Kernel27Ideal.Gen.frame m ρ, frame_reference27,
    fun m ρ _ => Cert.Kernel28.Gen.frame m ρ, fun m ρ _ => Cert.Kernel28Ideal.Gen.frame m ρ, frame_reference28,
    fun m ρ _ => Cert.Kernel29.Gen.frame m ρ, fun m ρ _ => Cert.Kernel29Ideal.Gen.frame m ρ, frame_reference29,
    fun m ρ _ => Cert.Kernel30.Gen.frame m ρ, fun m ρ _ => Cert.Kernel30Ideal.Gen.frame m ρ, frame_reference30,
    fun m ρ _ => Cert.Kernel31.Gen.frame m ρ, fun m ρ _ => Cert.Kernel31Ideal.Gen.frame m ρ, frame_reference31,
    fun m ρ _ => Cert.Kernel32.Gen.frame m ρ, fun m ρ _ => Cert.Kernel32Ideal.Gen.frame m ρ, frame_reference32,
    fun m ρ _ => Cert.Kernel33.Gen.frame m ρ, fun m ρ _ => Cert.Kernel33Ideal.Gen.frame m ρ, frame_reference33,
    fun m ρ _ => Cert.Kernel34.Gen.frame m ρ, fun m ρ _ => Cert.Kernel34Ideal.Gen.frame m ρ, frame_reference34,
    trivial, trivial, Cert.Mm.Dx.algebraic, trivial, Cert.Mm.Dw.algebraic, trivial, Cert.Mm.Act.algebraic, trivial, Cert.Mm.Down.algebraic, trivial, Cert.Mm.Parts.algebraic, trivial, Cert.Mm.InP.algebraic, trivial, Cert.Mm.InU.algebraic, trivial, Cert.Mm.InG.algebraic, trivial, Cert.Mm.DMix.algebraic, trivial, Cert.Mm.WOut.algebraic, trivial, Cert.Mm.DRwkv.algebraic, trivial, Cert.Mm.WRwkv.algebraic, trivial, Cert.Mm.DGlu.algebraic, trivial, Cert.Mm.WGlu.algebraic, trivial, Cert.Opt.small, trivial, Cert.Row.Ada.algebraic, trivial, Cert.Opt.w_ada, trivial, Cert.Opt.w_in, trivial, Cert.Opt.w_out_rwkv, trivial, Cert.Opt.w_glu, trivial, Cert.Opt.w_out, trivial, Cert.Opt.w_ffn_up, trivial, Cert.Opt.w_ffn_down, trivial, Cert.Mm.FRwkv.algebraic, trivial, Cert.Mm.FGlu.algebraic, trivial, Cert.Mm.FOut.algebraic, trivial, Cert.Mm.FUp.algebraic, trivial, Cert.Mm.FDown.algebraic, trivial, Cert.Mm.Proj.algebraic, trivial, Cert.Row.Norm1.algebraic, trivial, Cert.Row.Norm2.algebraic, trivial, Cert.Row.Head.Run.algebraic, trivial, Cert.Row.Disc.Run.algebraic⟩

end Cert.Proof

end
